-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 2, 128, 8192]⟩ ⟨4, ![2, 2, 4096, 8192]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x2x128x8192 : Shape := ⟨4, ![2, 2, 128, 8192]⟩
abbrev S256x512 : Shape := ⟨2, ![256, 512]⟩
abbrev S2x2x2816x256 : Shape := ⟨4, ![2, 2, 2816, 256]⟩
abbrev S2x2x2880x256 : Shape := ⟨4, ![2, 2, 2880, 256]⟩
abbrev S5x2x128x512 : Shape := ⟨4, ![5, 2, 128, 512]⟩
abbrev S31 : Shape := ⟨1, ![31]⟩
abbrev S5x2 : Shape := ⟨2, ![5, 2]⟩
abbrev S_ : Shape := ⟨0, ![]⟩
abbrev S2x2x128x256 : Shape := ⟨4, ![2, 2, 128, 256]⟩
abbrev S2x2x64x256 : Shape := ⟨4, ![2, 2, 64, 256]⟩
abbrev S256x256 : Shape := ⟨2, ![256, 256]⟩
abbrev S1 : Shape := ⟨1, ![1]⟩
abbrev S1x1x1408x64 : Shape := ⟨4, ![1, 1, 1408, 64]⟩
abbrev S1408x64 : Shape := ⟨2, ![1408, 64]⟩
abbrev S64x64 : Shape := ⟨2, ![64, 64]⟩
abbrev S64x1408 : Shape := ⟨2, ![64, 1408]⟩
abbrev S64 : Shape := ⟨1, ![64]⟩
abbrev S64x1 : Shape := ⟨2, ![64, 1]⟩
abbrev S1x1x1472x64 : Shape := ⟨4, ![1, 1, 1472, 64]⟩
abbrev S1472x64 : Shape := ⟨2, ![1472, 64]⟩
abbrev S64x1472 : Shape := ⟨2, ![64, 1472]⟩
abbrev S128x64 : Shape := ⟨2, ![128, 64]⟩
abbrev S128x256 : Shape := ⟨2, ![128, 256]⟩
abbrev S128x512 : Shape := ⟨2, ![128, 512]⟩
abbrev S1x128x512 : Shape := ⟨3, ![1, 128, 512]⟩
abbrev S1x1x128x512 : Shape := ⟨4, ![1, 1, 128, 512]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x2x128x8192, .i8⟩
  | .hbm, ⟨3, _⟩ => ⟨S256x512, .bf16⟩
  | .hbm, ⟨4, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x2x128x8192, .i8⟩
  | .local _ .vmem, ⟨3, _⟩ => ⟨S256x512, .bf16⟩
  | .local _ .vmem, ⟨4, _⟩ => ⟨S2x128x512, .f32⟩
  | .local _ .vmem, ⟨5, _⟩ => ⟨S2x2x2816x256, .i8⟩
  | .local _ .vmem, ⟨6, _⟩ => ⟨S2x2x2880x256, .bf16⟩
  | .local _ .vmem, ⟨7, _⟩ => ⟨S5x2x128x512, .bf16⟩
  | .local _ .vmem, ⟨8, _⟩ => ⟨S5x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_124 : BitVec 32 := 0#32
  let v128 : BitVec 1 := Scalar.cmpi .eq v2 c0_i32_124
  let c3_i32_125 : BitVec 32 := 3#32
  let v129 : BitVec 32 := Scalar.remsi v2 c3_i32_125
  let c1_i32_126 : BitVec 32 := 1#32
  let v130 : BitVec 1 := Scalar.cmpi .eq v129 c1_i32_126
  let v131 : BitVec 1 := Scalar.ori v128 v130
  let v132 : BitVec 32 := Scalar.extui v131
  let c0_i32_127 : BitVec 32 := 0#32
  let v133 : BitVec 1 := Scalar.cmpi .ne v132 c0_i32_127
  v133

def k0_off1 (d0 : Dev nD) : Fin 4 → Nat :=
  let c0_1773 : Index := 0#32
  let c0_1774 : Index := 0#32
  let c0_1775 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v1825 : BitVec 32 := Scalar.muli v2 c256_i32
  let v1826 : Index := Scalar.indexCast v1825
  ![0, 0, 0, v1826.toNat]
def k0_off2 (d0 : Dev nD) : Fin 4 → Nat :=
  let c0_1786 : Index := 0#32
  let c0_1787 : Index := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1829 : BitVec 32 := Scalar.muli c64_i32 v2
  let c64_i32_1785 : BitVec 32 := 64#32
  let c0_i32_1776 : BitVec 32 := 0#32
  let v1830 : BitVec 1 := Scalar.cmpi .sgt v2 c0_i32_1776
  let v1831 : BitVec 32 := Scalar.extui v1830
  let c1_i32_1777 : BitVec 32 := 1#32
  let v1832 : BitVec 32 := Scalar.addi v2 c1_i32_1777
  let c0_i32_1779 : BitVec 32 := 0#32
  let v1834 : BitVec 1 := Scalar.cmpi .sgt v1832 c0_i32_1779
  let v1835 : BitVec 32 := Scalar.extui v1834
  let c0_i32_1780 : BitVec 32 := 0#32
  let v1836 : BitVec 1 := Scalar.cmpi .slt v1832 c0_i32_1780
  let v1837 : BitVec 32 := Scalar.extui v1836
  let v1838 : BitVec 32 := Scalar.subi v1835 v1837
  let c3_i32_1778 : BitVec 32 := 3#32
  let c0_i32_1781 : BitVec 32 := 0#32
  let v1839 : BitVec 1 := Scalar.cmpi .sgt c3_i32_1778 c0_i32_1781
  let v1840 : BitVec 32 := Scalar.extui v1839
  let c0_i32_1782 : BitVec 32 := 0#32
  let v1841 : BitVec 1 := Scalar.cmpi .slt c3_i32_1778 c0_i32_1782
  let v1842 : BitVec 32 := Scalar.extui v1841
  let v1843 : BitVec 32 := Scalar.subi v1840 v1842
  let v1844 : BitVec 1 := Scalar.cmpi .ne v1838 v1843
  let v1845 : BitVec 32 := Scalar.remsi v1832 c3_i32_1778
  let c0_i32_1783 : BitVec 32 := 0#32
  let v1846 : BitVec 1 := Scalar.cmpi .ne v1845 c0_i32_1783
  let v1847 : BitVec 1 := Scalar.andi v1844 v1846
  let v1833 : BitVec 32 := Scalar.divsi v1832 c3_i32_1778
  let c1_i32_1784 : BitVec 32 := 1#32
  let v1848 : BitVec 32 := Scalar.subi v1833 c1_i32_1784
  let v1849 : BitVec 32 := Scalar.select v1847 v1848 v1833
  let v1850 : BitVec 32 := Scalar.addi v1831 v1849
  let v1851 : BitVec 32 := Scalar.muli c64_i32_1785 v1850
  let v1852 : BitVec 32 := Scalar.addi v1829 v1851
  let v1853 : Index := Scalar.indexCast v1852
  let c0_1788 : Index := 0#32
  ![0, 0, v1853.toNat, 0]
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_128 : BitVec 32 := 3#32
  let v134 : BitVec 32 := Scalar.remsi v2 c3_i32_128
  let c0_i32_129 : BitVec 32 := 0#32
  let v135 : BitVec 1 := Scalar.cmpi .eq v134 c0_i32_129
  let c0_i32_130 : BitVec 32 := 0#32
  let v136 : BitVec 1 := Scalar.cmpi .sgt v2 c0_i32_130
  let v137 : BitVec 1 := Scalar.andi v135 v136
  let v138 : BitVec 32 := Scalar.extui v137
  let c0_i32_131 : BitVec 32 := 0#32
  let v139 : BitVec 1 := Scalar.cmpi .ne v138 c0_i32_131
  v139

def k0_off3 (d0 : Dev nD) : Fin 4 → Nat :=
  let c0_1773 : Index := 0#32
  let c0_1774 : Index := 0#32
  let c0_1775 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v1825 : BitVec 32 := Scalar.muli v2 c256_i32
  let v1826 : Index := Scalar.indexCast v1825
  ![0, 0, 0, v1826.toNat]
def k0_off4 (d0 : Dev nD) : Fin 4 → Nat :=
  let c0_1786 : Index := 0#32
  let c0_1787 : Index := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1829 : BitVec 32 := Scalar.muli c64_i32 v2
  let c64_i32_1785 : BitVec 32 := 64#32
  let c0_i32_1776 : BitVec 32 := 0#32
  let v1830 : BitVec 1 := Scalar.cmpi .sgt v2 c0_i32_1776
  let v1831 : BitVec 32 := Scalar.extui v1830
  let c1_i32_1777 : BitVec 32 := 1#32
  let v1832 : BitVec 32 := Scalar.addi v2 c1_i32_1777
  let c0_i32_1779 : BitVec 32 := 0#32
  let v1834 : BitVec 1 := Scalar.cmpi .sgt v1832 c0_i32_1779
  let v1835 : BitVec 32 := Scalar.extui v1834
  let c0_i32_1780 : BitVec 32 := 0#32
  let v1836 : BitVec 1 := Scalar.cmpi .slt v1832 c0_i32_1780
  let v1837 : BitVec 32 := Scalar.extui v1836
  let v1838 : BitVec 32 := Scalar.subi v1835 v1837
  let c3_i32_1778 : BitVec 32 := 3#32
  let c0_i32_1781 : BitVec 32 := 0#32
  let v1839 : BitVec 1 := Scalar.cmpi .sgt c3_i32_1778 c0_i32_1781
  let v1840 : BitVec 32 := Scalar.extui v1839
  let c0_i32_1782 : BitVec 32 := 0#32
  let v1841 : BitVec 1 := Scalar.cmpi .slt c3_i32_1778 c0_i32_1782
  let v1842 : BitVec 32 := Scalar.extui v1841
  let v1843 : BitVec 32 := Scalar.subi v1840 v1842
  let v1844 : BitVec 1 := Scalar.cmpi .ne v1838 v1843
  let v1845 : BitVec 32 := Scalar.remsi v1832 c3_i32_1778
  let c0_i32_1783 : BitVec 32 := 0#32
  let v1846 : BitVec 1 := Scalar.cmpi .ne v1845 c0_i32_1783
  let v1847 : BitVec 1 := Scalar.andi v1844 v1846
  let v1833 : BitVec 32 := Scalar.divsi v1832 c3_i32_1778
  let c1_i32_1784 : BitVec 32 := 1#32
  let v1848 : BitVec 32 := Scalar.subi v1833 c1_i32_1784
  let v1849 : BitVec 32 := Scalar.select v1847 v1848 v1833
  let v1850 : BitVec 32 := Scalar.addi v1831 v1849
  let v1851 : BitVec 32 := Scalar.muli c64_i32_1785 v1850
  let v1852 : BitVec 32 := Scalar.addi v1829 v1851
  let v1853 : Index := Scalar.indexCast v1852
  let c0_1788 : Index := 0#32
  ![0, 0, v1853.toNat, 0]
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_132 : BitVec 32 := 3#32
  let v140 : BitVec 32 := Scalar.remsi v2 c3_i32_132
  let c2_i32_133 : BitVec 32 := 2#32
  let v141 : BitVec 1 := Scalar.cmpi .eq v140 c2_i32_133
  let v142 : BitVec 32 := Scalar.extui v141
  let c0_i32_134 : BitVec 32 := 0#32
  let v143 : BitVec 1 := Scalar.cmpi .ne v142 c0_i32_134
  v143

def k0_off5 (d0 : Dev nD) : Fin 4 → Nat :=
  let c0_1773 : Index := 0#32
  let c0_1774 : Index := 0#32
  let c64_1775 : Index := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v1825 : BitVec 32 := Scalar.muli v2 c256_i32
  let v1826 : Index := Scalar.indexCast v1825
  ![0, 0, 64, v1826.toNat]
def k0_off6 (d0 : Dev nD) : Fin 4 → Nat :=
  let c0_1786 : Index := 0#32
  let c0_1787 : Index := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1829 : BitVec 32 := Scalar.muli c64_i32 v2
  let c64_i32_1785 : BitVec 32 := 64#32
  let c0_i32_1776 : BitVec 32 := 0#32
  let v1830 : BitVec 1 := Scalar.cmpi .sgt v2 c0_i32_1776
  let v1831 : BitVec 32 := Scalar.extui v1830
  let c1_i32_1777 : BitVec 32 := 1#32
  let v1832 : BitVec 32 := Scalar.addi v2 c1_i32_1777
  let c0_i32_1779 : BitVec 32 := 0#32
  let v1834 : BitVec 1 := Scalar.cmpi .sgt v1832 c0_i32_1779
  let v1835 : BitVec 32 := Scalar.extui v1834
  let c0_i32_1780 : BitVec 32 := 0#32
  let v1836 : BitVec 1 := Scalar.cmpi .slt v1832 c0_i32_1780
  let v1837 : BitVec 32 := Scalar.extui v1836
  let v1838 : BitVec 32 := Scalar.subi v1835 v1837
  let c3_i32_1778 : BitVec 32 := 3#32
  let c0_i32_1781 : BitVec 32 := 0#32
  let v1839 : BitVec 1 := Scalar.cmpi .sgt c3_i32_1778 c0_i32_1781
  let v1840 : BitVec 32 := Scalar.extui v1839
  let c0_i32_1782 : BitVec 32 := 0#32
  let v1841 : BitVec 1 := Scalar.cmpi .slt c3_i32_1778 c0_i32_1782
  let v1842 : BitVec 32 := Scalar.extui v1841
  let v1843 : BitVec 32 := Scalar.subi v1840 v1842
  let v1844 : BitVec 1 := Scalar.cmpi .ne v1838 v1843
  let v1845 : BitVec 32 := Scalar.remsi v1832 c3_i32_1778
  let c0_i32_1783 : BitVec 32 := 0#32
  let v1846 : BitVec 1 := Scalar.cmpi .ne v1845 c0_i32_1783
  let v1847 : BitVec 1 := Scalar.andi v1844 v1846
  let v1833 : BitVec 32 := Scalar.divsi v1832 c3_i32_1778
  let c1_i32_1784 : BitVec 32 := 1#32
  let v1848 : BitVec 32 := Scalar.subi v1833 c1_i32_1784
  let v1849 : BitVec 32 := Scalar.select v1847 v1848 v1833
  let v1850 : BitVec 32 := Scalar.addi v1831 v1849
  let v1851 : BitVec 32 := Scalar.muli c64_i32_1785 v1850
  let v1852 : BitVec 32 := Scalar.addi v1829 v1851
  let v1853 : Index := Scalar.indexCast v1852
  let c0_1788 : Index := 0#32
  ![0, 0, v1853.toNat, 0]
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_140 : BitVec 32 := 0#32
  let v151 : BitVec 1 := Scalar.cmpi .eq v2 c0_i32_140
  let c3_i32_141 : BitVec 32 := 3#32
  let v152 : BitVec 32 := Scalar.remsi v2 c3_i32_141
  let c1_i32_142 : BitVec 32 := 1#32
  let v153 : BitVec 1 := Scalar.cmpi .eq v152 c1_i32_142
  let v154 : BitVec 1 := Scalar.ori v151 v153
  let v155 : BitVec 32 := Scalar.extui v154
  let c0_i32_143 : BitVec 32 := 0#32
  let v156 : BitVec 1 := Scalar.cmpi .ne v155 c0_i32_143
  v156

def k0_off7 (d0 : Dev nD) : Fin 4 → Nat :=
  let c0_i32_1789 : BitVec 32 := 0#32
  let c0_i32_1790 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1791 : BitVec 32 := 0#32
  ![0, 0, v1851.toNat, 0]
def k0_off8 (d0 : Dev nD) (c1_i32_1773 : BitVec 32) : Fin 4 → Nat :=
  let c0_i32_1792 : BitVec 32 := 0#32
  let c0_i32_1793 : BitVec 32 := 0#32
  let c0_i32_1794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 0, v1827.toNat]
def k0_dev32 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1773 : BitVec 32 := 1#32
  let v1825 : BitVec 32 := Scalar.addi v2 c1_i32_1773
  let c32_i32_1774 : BitVec 32 := 32#32
  let v1826 : BitVec 32 := Scalar.remsi v1825 c32_i32_1774
  let c1_i32_1787 : BitVec 32 := 1#32
  let v1852 : BitVec 32 := Scalar.muli v1826 c1_i32_1787
  let v1853 : BitVec 32 := Scalar.addi c0_i32_1788 v1852
  v1853.toNat
def k0_dev33 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1795 : BitVec 32 := 2#32
  let v1860 : BitVec 32 := Scalar.addi v2 c2_i32_1795
  let c32_i32_1796 : BitVec 32 := 32#32
  let v1861 : BitVec 32 := Scalar.remsi v1860 c32_i32_1796
  let c1_i32_1811 : BitVec 32 := 1#32
  let v1887 : BitVec 32 := Scalar.muli v1861 c1_i32_1811
  let v1888 : BitVec 32 := Scalar.addi c0_i32_1812 v1887
  v1888.toNat
def k0_dev34 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1819 : BitVec 32 := 3#32
  let v1895 : BitVec 32 := Scalar.addi v2 c3_i32_1819
  let c32_i32_1820 : BitVec 32 := 32#32
  let v1896 : BitVec 32 := Scalar.remsi v1895 c32_i32_1820
  let c1_i32_1835 : BitVec 32 := 1#32
  let v1922 : BitVec 32 := Scalar.muli v1896 c1_i32_1835
  let v1923 : BitVec 32 := Scalar.addi c0_i32_1836 v1922
  v1923.toNat
def k0_dev35 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1843 : BitVec 32 := 4#32
  let v1930 : BitVec 32 := Scalar.addi v2 c4_i32_1843
  let c32_i32_1844 : BitVec 32 := 32#32
  let v1931 : BitVec 32 := Scalar.remsi v1930 c32_i32_1844
  let c1_i32_1859 : BitVec 32 := 1#32
  let v1957 : BitVec 32 := Scalar.muli v1931 c1_i32_1859
  let v1958 : BitVec 32 := Scalar.addi c0_i32_1860 v1957
  v1958.toNat
def k0_dev36 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1867 : BitVec 32 := 5#32
  let v1965 : BitVec 32 := Scalar.addi v2 c5_i32_1867
  let c32_i32_1868 : BitVec 32 := 32#32
  let v1966 : BitVec 32 := Scalar.remsi v1965 c32_i32_1868
  let c1_i32_1883 : BitVec 32 := 1#32
  let v1992 : BitVec 32 := Scalar.muli v1966 c1_i32_1883
  let v1993 : BitVec 32 := Scalar.addi c0_i32_1884 v1992
  v1993.toNat
def k0_dev37 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1891 : BitVec 32 := 6#32
  let v2000 : BitVec 32 := Scalar.addi v2 c6_i32_1891
  let c32_i32_1892 : BitVec 32 := 32#32
  let v2001 : BitVec 32 := Scalar.remsi v2000 c32_i32_1892
  let c1_i32_1907 : BitVec 32 := 1#32
  let v2027 : BitVec 32 := Scalar.muli v2001 c1_i32_1907
  let v2028 : BitVec 32 := Scalar.addi c0_i32_1908 v2027
  v2028.toNat
def k0_dev38 (d0 : Dev nD) : Nat :=
  let c0_i32_1932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1915 : BitVec 32 := 7#32
  let v2035 : BitVec 32 := Scalar.addi v2 c7_i32_1915
  let c32_i32_1916 : BitVec 32 := 32#32
  let v2036 : BitVec 32 := Scalar.remsi v2035 c32_i32_1916
  let c1_i32_1931 : BitVec 32 := 1#32
  let v2062 : BitVec 32 := Scalar.muli v2036 c1_i32_1931
  let v2063 : BitVec 32 := Scalar.addi c0_i32_1932 v2062
  v2063.toNat
def k0_dev39 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1939 : BitVec 32 := 8#32
  let v2070 : BitVec 32 := Scalar.addi v2 c8_i32_1939
  let c32_i32_1940 : BitVec 32 := 32#32
  let v2071 : BitVec 32 := Scalar.remsi v2070 c32_i32_1940
  let c1_i32_1955 : BitVec 32 := 1#32
  let v2097 : BitVec 32 := Scalar.muli v2071 c1_i32_1955
  let v2098 : BitVec 32 := Scalar.addi c0_i32_1956 v2097
  v2098.toNat
def k0_dev40 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1963 : BitVec 32 := 9#32
  let v2105 : BitVec 32 := Scalar.addi v2 c9_i32_1963
  let c32_i32_1964 : BitVec 32 := 32#32
  let v2106 : BitVec 32 := Scalar.remsi v2105 c32_i32_1964
  let c1_i32_1979 : BitVec 32 := 1#32
  let v2132 : BitVec 32 := Scalar.muli v2106 c1_i32_1979
  let v2133 : BitVec 32 := Scalar.addi c0_i32_1980 v2132
  v2133.toNat
def k0_dev41 (d0 : Dev nD) : Nat :=
  let c0_i32_2004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1987 : BitVec 32 := 10#32
  let v2140 : BitVec 32 := Scalar.addi v2 c10_i32_1987
  let c32_i32_1988 : BitVec 32 := 32#32
  let v2141 : BitVec 32 := Scalar.remsi v2140 c32_i32_1988
  let c1_i32_2003 : BitVec 32 := 1#32
  let v2167 : BitVec 32 := Scalar.muli v2141 c1_i32_2003
  let v2168 : BitVec 32 := Scalar.addi c0_i32_2004 v2167
  v2168.toNat
def k0_dev42 (d0 : Dev nD) : Nat :=
  let c0_i32_2028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2011 : BitVec 32 := 11#32
  let v2175 : BitVec 32 := Scalar.addi v2 c11_i32_2011
  let c32_i32_2012 : BitVec 32 := 32#32
  let v2176 : BitVec 32 := Scalar.remsi v2175 c32_i32_2012
  let c1_i32_2027 : BitVec 32 := 1#32
  let v2202 : BitVec 32 := Scalar.muli v2176 c1_i32_2027
  let v2203 : BitVec 32 := Scalar.addi c0_i32_2028 v2202
  v2203.toNat
def k0_dev43 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2035 : BitVec 32 := 12#32
  let v2210 : BitVec 32 := Scalar.addi v2 c12_i32_2035
  let c32_i32_2036 : BitVec 32 := 32#32
  let v2211 : BitVec 32 := Scalar.remsi v2210 c32_i32_2036
  let c1_i32_2051 : BitVec 32 := 1#32
  let v2237 : BitVec 32 := Scalar.muli v2211 c1_i32_2051
  let v2238 : BitVec 32 := Scalar.addi c0_i32_2052 v2237
  v2238.toNat
def k0_dev44 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2059 : BitVec 32 := 13#32
  let v2245 : BitVec 32 := Scalar.addi v2 c13_i32_2059
  let c32_i32_2060 : BitVec 32 := 32#32
  let v2246 : BitVec 32 := Scalar.remsi v2245 c32_i32_2060
  let c1_i32_2075 : BitVec 32 := 1#32
  let v2272 : BitVec 32 := Scalar.muli v2246 c1_i32_2075
  let v2273 : BitVec 32 := Scalar.addi c0_i32_2076 v2272
  v2273.toNat
def k0_dev45 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2083 : BitVec 32 := 14#32
  let v2280 : BitVec 32 := Scalar.addi v2 c14_i32_2083
  let c32_i32_2084 : BitVec 32 := 32#32
  let v2281 : BitVec 32 := Scalar.remsi v2280 c32_i32_2084
  let c1_i32_2099 : BitVec 32 := 1#32
  let v2307 : BitVec 32 := Scalar.muli v2281 c1_i32_2099
  let v2308 : BitVec 32 := Scalar.addi c0_i32_2100 v2307
  v2308.toNat
def k0_dev46 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2107 : BitVec 32 := 15#32
  let v2315 : BitVec 32 := Scalar.addi v2 c15_i32_2107
  let c32_i32_2108 : BitVec 32 := 32#32
  let v2316 : BitVec 32 := Scalar.remsi v2315 c32_i32_2108
  let c1_i32_2123 : BitVec 32 := 1#32
  let v2342 : BitVec 32 := Scalar.muli v2316 c1_i32_2123
  let v2343 : BitVec 32 := Scalar.addi c0_i32_2124 v2342
  v2343.toNat
def k0_dev47 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2131 : BitVec 32 := 16#32
  let v2350 : BitVec 32 := Scalar.addi v2 c16_i32_2131
  let c32_i32_2132 : BitVec 32 := 32#32
  let v2351 : BitVec 32 := Scalar.remsi v2350 c32_i32_2132
  let c1_i32_2147 : BitVec 32 := 1#32
  let v2377 : BitVec 32 := Scalar.muli v2351 c1_i32_2147
  let v2378 : BitVec 32 := Scalar.addi c0_i32_2148 v2377
  v2378.toNat
def k0_dev48 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2155 : BitVec 32 := 17#32
  let v2385 : BitVec 32 := Scalar.addi v2 c17_i32_2155
  let c32_i32_2156 : BitVec 32 := 32#32
  let v2386 : BitVec 32 := Scalar.remsi v2385 c32_i32_2156
  let c1_i32_2171 : BitVec 32 := 1#32
  let v2412 : BitVec 32 := Scalar.muli v2386 c1_i32_2171
  let v2413 : BitVec 32 := Scalar.addi c0_i32_2172 v2412
  v2413.toNat
def k0_dev49 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2179 : BitVec 32 := 18#32
  let v2420 : BitVec 32 := Scalar.addi v2 c18_i32_2179
  let c32_i32_2180 : BitVec 32 := 32#32
  let v2421 : BitVec 32 := Scalar.remsi v2420 c32_i32_2180
  let c1_i32_2195 : BitVec 32 := 1#32
  let v2447 : BitVec 32 := Scalar.muli v2421 c1_i32_2195
  let v2448 : BitVec 32 := Scalar.addi c0_i32_2196 v2447
  v2448.toNat
def k0_dev50 (d0 : Dev nD) : Nat :=
  let c0_i32_2220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2203 : BitVec 32 := 19#32
  let v2455 : BitVec 32 := Scalar.addi v2 c19_i32_2203
  let c32_i32_2204 : BitVec 32 := 32#32
  let v2456 : BitVec 32 := Scalar.remsi v2455 c32_i32_2204
  let c1_i32_2219 : BitVec 32 := 1#32
  let v2482 : BitVec 32 := Scalar.muli v2456 c1_i32_2219
  let v2483 : BitVec 32 := Scalar.addi c0_i32_2220 v2482
  v2483.toNat
def k0_dev51 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2227 : BitVec 32 := 20#32
  let v2490 : BitVec 32 := Scalar.addi v2 c20_i32_2227
  let c32_i32_2228 : BitVec 32 := 32#32
  let v2491 : BitVec 32 := Scalar.remsi v2490 c32_i32_2228
  let c1_i32_2243 : BitVec 32 := 1#32
  let v2517 : BitVec 32 := Scalar.muli v2491 c1_i32_2243
  let v2518 : BitVec 32 := Scalar.addi c0_i32_2244 v2517
  v2518.toNat
def k0_dev52 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2251 : BitVec 32 := 21#32
  let v2525 : BitVec 32 := Scalar.addi v2 c21_i32_2251
  let c32_i32_2252 : BitVec 32 := 32#32
  let v2526 : BitVec 32 := Scalar.remsi v2525 c32_i32_2252
  let c1_i32_2267 : BitVec 32 := 1#32
  let v2552 : BitVec 32 := Scalar.muli v2526 c1_i32_2267
  let v2553 : BitVec 32 := Scalar.addi c0_i32_2268 v2552
  v2553.toNat
def k0_dev53 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2275 : BitVec 32 := 22#32
  let v2560 : BitVec 32 := Scalar.addi v2 c22_i32_2275
  let c32_i32_2276 : BitVec 32 := 32#32
  let v2561 : BitVec 32 := Scalar.remsi v2560 c32_i32_2276
  let c1_i32_2291 : BitVec 32 := 1#32
  let v2587 : BitVec 32 := Scalar.muli v2561 c1_i32_2291
  let v2588 : BitVec 32 := Scalar.addi c0_i32_2292 v2587
  v2588.toNat
def k0_dev54 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2299 : BitVec 32 := 23#32
  let v2595 : BitVec 32 := Scalar.addi v2 c23_i32_2299
  let c32_i32_2300 : BitVec 32 := 32#32
  let v2596 : BitVec 32 := Scalar.remsi v2595 c32_i32_2300
  let c1_i32_2315 : BitVec 32 := 1#32
  let v2622 : BitVec 32 := Scalar.muli v2596 c1_i32_2315
  let v2623 : BitVec 32 := Scalar.addi c0_i32_2316 v2622
  v2623.toNat
def k0_dev55 (d0 : Dev nD) : Nat :=
  let c0_i32_2340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2323 : BitVec 32 := 24#32
  let v2630 : BitVec 32 := Scalar.addi v2 c24_i32_2323
  let c32_i32_2324 : BitVec 32 := 32#32
  let v2631 : BitVec 32 := Scalar.remsi v2630 c32_i32_2324
  let c1_i32_2339 : BitVec 32 := 1#32
  let v2657 : BitVec 32 := Scalar.muli v2631 c1_i32_2339
  let v2658 : BitVec 32 := Scalar.addi c0_i32_2340 v2657
  v2658.toNat
def k0_dev56 (d0 : Dev nD) : Nat :=
  let c0_i32_2364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2347 : BitVec 32 := 25#32
  let v2665 : BitVec 32 := Scalar.addi v2 c25_i32_2347
  let c32_i32_2348 : BitVec 32 := 32#32
  let v2666 : BitVec 32 := Scalar.remsi v2665 c32_i32_2348
  let c1_i32_2363 : BitVec 32 := 1#32
  let v2692 : BitVec 32 := Scalar.muli v2666 c1_i32_2363
  let v2693 : BitVec 32 := Scalar.addi c0_i32_2364 v2692
  v2693.toNat
def k0_dev57 (d0 : Dev nD) : Nat :=
  let c0_i32_2388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2371 : BitVec 32 := 26#32
  let v2700 : BitVec 32 := Scalar.addi v2 c26_i32_2371
  let c32_i32_2372 : BitVec 32 := 32#32
  let v2701 : BitVec 32 := Scalar.remsi v2700 c32_i32_2372
  let c1_i32_2387 : BitVec 32 := 1#32
  let v2727 : BitVec 32 := Scalar.muli v2701 c1_i32_2387
  let v2728 : BitVec 32 := Scalar.addi c0_i32_2388 v2727
  v2728.toNat
def k0_dev58 (d0 : Dev nD) : Nat :=
  let c0_i32_2412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2395 : BitVec 32 := 27#32
  let v2735 : BitVec 32 := Scalar.addi v2 c27_i32_2395
  let c32_i32_2396 : BitVec 32 := 32#32
  let v2736 : BitVec 32 := Scalar.remsi v2735 c32_i32_2396
  let c1_i32_2411 : BitVec 32 := 1#32
  let v2762 : BitVec 32 := Scalar.muli v2736 c1_i32_2411
  let v2763 : BitVec 32 := Scalar.addi c0_i32_2412 v2762
  v2763.toNat
def k0_dev59 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2419 : BitVec 32 := 28#32
  let v2770 : BitVec 32 := Scalar.addi v2 c28_i32_2419
  let c32_i32_2420 : BitVec 32 := 32#32
  let v2771 : BitVec 32 := Scalar.remsi v2770 c32_i32_2420
  let c1_i32_2435 : BitVec 32 := 1#32
  let v2797 : BitVec 32 := Scalar.muli v2771 c1_i32_2435
  let v2798 : BitVec 32 := Scalar.addi c0_i32_2436 v2797
  v2798.toNat
def k0_dev60 (d0 : Dev nD) : Nat :=
  let c0_i32_2460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2443 : BitVec 32 := 29#32
  let v2805 : BitVec 32 := Scalar.addi v2 c29_i32_2443
  let c32_i32_2444 : BitVec 32 := 32#32
  let v2806 : BitVec 32 := Scalar.remsi v2805 c32_i32_2444
  let c1_i32_2459 : BitVec 32 := 1#32
  let v2832 : BitVec 32 := Scalar.muli v2806 c1_i32_2459
  let v2833 : BitVec 32 := Scalar.addi c0_i32_2460 v2832
  v2833.toNat
def k0_dev61 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2467 : BitVec 32 := 30#32
  let v2840 : BitVec 32 := Scalar.addi v2 c30_i32_2467
  let c32_i32_2468 : BitVec 32 := 32#32
  let v2841 : BitVec 32 := Scalar.remsi v2840 c32_i32_2468
  let c1_i32_2483 : BitVec 32 := 1#32
  let v2867 : BitVec 32 := Scalar.muli v2841 c1_i32_2483
  let v2868 : BitVec 32 := Scalar.addi c0_i32_2484 v2867
  v2868.toNat
def k0_dev62 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2491 : BitVec 32 := 31#32
  let v2875 : BitVec 32 := Scalar.addi v2 c31_i32_2491
  let c32_i32_2492 : BitVec 32 := 32#32
  let v2876 : BitVec 32 := Scalar.remsi v2875 c32_i32_2492
  let c1_i32_2507 : BitVec 32 := 1#32
  let v2902 : BitVec 32 := Scalar.muli v2876 c1_i32_2507
  let v2903 : BitVec 32 := Scalar.addi c0_i32_2508 v2902
  v2903.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_144 : BitVec 32 := 3#32
  let v157 : BitVec 32 := Scalar.remsi v2 c3_i32_144
  let c0_i32_145 : BitVec 32 := 0#32
  let v158 : BitVec 1 := Scalar.cmpi .eq v157 c0_i32_145
  let c0_i32_146 : BitVec 32 := 0#32
  let v159 : BitVec 1 := Scalar.cmpi .sgt v2 c0_i32_146
  let v160 : BitVec 1 := Scalar.andi v158 v159
  let v161 : BitVec 32 := Scalar.extui v160
  let c0_i32_147 : BitVec 32 := 0#32
  let v162 : BitVec 1 := Scalar.cmpi .ne v161 c0_i32_147
  v162

def k0_off9 (d0 : Dev nD) : Fin 4 → Nat :=
  let c0_i32_1789 : BitVec 32 := 0#32
  let c0_i32_1790 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1791 : BitVec 32 := 0#32
  ![0, 0, v1851.toNat, 0]
def k0_off10 (d0 : Dev nD) (c1_i32_1773 : BitVec 32) : Fin 4 → Nat :=
  let c0_i32_1792 : BitVec 32 := 0#32
  let c0_i32_1793 : BitVec 32 := 0#32
  let c0_i32_1794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 0, v1827.toNat]
def k0_dev63 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1773 : BitVec 32 := 1#32
  let v1825 : BitVec 32 := Scalar.addi v2 c1_i32_1773
  let c32_i32_1774 : BitVec 32 := 32#32
  let v1826 : BitVec 32 := Scalar.remsi v1825 c32_i32_1774
  let c1_i32_1787 : BitVec 32 := 1#32
  let v1852 : BitVec 32 := Scalar.muli v1826 c1_i32_1787
  let v1853 : BitVec 32 := Scalar.addi c0_i32_1788 v1852
  v1853.toNat
def k0_dev64 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1795 : BitVec 32 := 2#32
  let v1860 : BitVec 32 := Scalar.addi v2 c2_i32_1795
  let c32_i32_1796 : BitVec 32 := 32#32
  let v1861 : BitVec 32 := Scalar.remsi v1860 c32_i32_1796
  let c1_i32_1811 : BitVec 32 := 1#32
  let v1887 : BitVec 32 := Scalar.muli v1861 c1_i32_1811
  let v1888 : BitVec 32 := Scalar.addi c0_i32_1812 v1887
  v1888.toNat
def k0_dev65 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1819 : BitVec 32 := 3#32
  let v1895 : BitVec 32 := Scalar.addi v2 c3_i32_1819
  let c32_i32_1820 : BitVec 32 := 32#32
  let v1896 : BitVec 32 := Scalar.remsi v1895 c32_i32_1820
  let c1_i32_1835 : BitVec 32 := 1#32
  let v1922 : BitVec 32 := Scalar.muli v1896 c1_i32_1835
  let v1923 : BitVec 32 := Scalar.addi c0_i32_1836 v1922
  v1923.toNat
def k0_dev66 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1843 : BitVec 32 := 4#32
  let v1930 : BitVec 32 := Scalar.addi v2 c4_i32_1843
  let c32_i32_1844 : BitVec 32 := 32#32
  let v1931 : BitVec 32 := Scalar.remsi v1930 c32_i32_1844
  let c1_i32_1859 : BitVec 32 := 1#32
  let v1957 : BitVec 32 := Scalar.muli v1931 c1_i32_1859
  let v1958 : BitVec 32 := Scalar.addi c0_i32_1860 v1957
  v1958.toNat
def k0_dev67 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1867 : BitVec 32 := 5#32
  let v1965 : BitVec 32 := Scalar.addi v2 c5_i32_1867
  let c32_i32_1868 : BitVec 32 := 32#32
  let v1966 : BitVec 32 := Scalar.remsi v1965 c32_i32_1868
  let c1_i32_1883 : BitVec 32 := 1#32
  let v1992 : BitVec 32 := Scalar.muli v1966 c1_i32_1883
  let v1993 : BitVec 32 := Scalar.addi c0_i32_1884 v1992
  v1993.toNat
def k0_dev68 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1891 : BitVec 32 := 6#32
  let v2000 : BitVec 32 := Scalar.addi v2 c6_i32_1891
  let c32_i32_1892 : BitVec 32 := 32#32
  let v2001 : BitVec 32 := Scalar.remsi v2000 c32_i32_1892
  let c1_i32_1907 : BitVec 32 := 1#32
  let v2027 : BitVec 32 := Scalar.muli v2001 c1_i32_1907
  let v2028 : BitVec 32 := Scalar.addi c0_i32_1908 v2027
  v2028.toNat
def k0_dev69 (d0 : Dev nD) : Nat :=
  let c0_i32_1932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1915 : BitVec 32 := 7#32
  let v2035 : BitVec 32 := Scalar.addi v2 c7_i32_1915
  let c32_i32_1916 : BitVec 32 := 32#32
  let v2036 : BitVec 32 := Scalar.remsi v2035 c32_i32_1916
  let c1_i32_1931 : BitVec 32 := 1#32
  let v2062 : BitVec 32 := Scalar.muli v2036 c1_i32_1931
  let v2063 : BitVec 32 := Scalar.addi c0_i32_1932 v2062
  v2063.toNat
def k0_dev70 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1939 : BitVec 32 := 8#32
  let v2070 : BitVec 32 := Scalar.addi v2 c8_i32_1939
  let c32_i32_1940 : BitVec 32 := 32#32
  let v2071 : BitVec 32 := Scalar.remsi v2070 c32_i32_1940
  let c1_i32_1955 : BitVec 32 := 1#32
  let v2097 : BitVec 32 := Scalar.muli v2071 c1_i32_1955
  let v2098 : BitVec 32 := Scalar.addi c0_i32_1956 v2097
  v2098.toNat
def k0_dev71 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1963 : BitVec 32 := 9#32
  let v2105 : BitVec 32 := Scalar.addi v2 c9_i32_1963
  let c32_i32_1964 : BitVec 32 := 32#32
  let v2106 : BitVec 32 := Scalar.remsi v2105 c32_i32_1964
  let c1_i32_1979 : BitVec 32 := 1#32
  let v2132 : BitVec 32 := Scalar.muli v2106 c1_i32_1979
  let v2133 : BitVec 32 := Scalar.addi c0_i32_1980 v2132
  v2133.toNat
def k0_dev72 (d0 : Dev nD) : Nat :=
  let c0_i32_2004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1987 : BitVec 32 := 10#32
  let v2140 : BitVec 32 := Scalar.addi v2 c10_i32_1987
  let c32_i32_1988 : BitVec 32 := 32#32
  let v2141 : BitVec 32 := Scalar.remsi v2140 c32_i32_1988
  let c1_i32_2003 : BitVec 32 := 1#32
  let v2167 : BitVec 32 := Scalar.muli v2141 c1_i32_2003
  let v2168 : BitVec 32 := Scalar.addi c0_i32_2004 v2167
  v2168.toNat
def k0_dev73 (d0 : Dev nD) : Nat :=
  let c0_i32_2028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2011 : BitVec 32 := 11#32
  let v2175 : BitVec 32 := Scalar.addi v2 c11_i32_2011
  let c32_i32_2012 : BitVec 32 := 32#32
  let v2176 : BitVec 32 := Scalar.remsi v2175 c32_i32_2012
  let c1_i32_2027 : BitVec 32 := 1#32
  let v2202 : BitVec 32 := Scalar.muli v2176 c1_i32_2027
  let v2203 : BitVec 32 := Scalar.addi c0_i32_2028 v2202
  v2203.toNat
def k0_dev74 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2035 : BitVec 32 := 12#32
  let v2210 : BitVec 32 := Scalar.addi v2 c12_i32_2035
  let c32_i32_2036 : BitVec 32 := 32#32
  let v2211 : BitVec 32 := Scalar.remsi v2210 c32_i32_2036
  let c1_i32_2051 : BitVec 32 := 1#32
  let v2237 : BitVec 32 := Scalar.muli v2211 c1_i32_2051
  let v2238 : BitVec 32 := Scalar.addi c0_i32_2052 v2237
  v2238.toNat
def k0_dev75 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2059 : BitVec 32 := 13#32
  let v2245 : BitVec 32 := Scalar.addi v2 c13_i32_2059
  let c32_i32_2060 : BitVec 32 := 32#32
  let v2246 : BitVec 32 := Scalar.remsi v2245 c32_i32_2060
  let c1_i32_2075 : BitVec 32 := 1#32
  let v2272 : BitVec 32 := Scalar.muli v2246 c1_i32_2075
  let v2273 : BitVec 32 := Scalar.addi c0_i32_2076 v2272
  v2273.toNat
def k0_dev76 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2083 : BitVec 32 := 14#32
  let v2280 : BitVec 32 := Scalar.addi v2 c14_i32_2083
  let c32_i32_2084 : BitVec 32 := 32#32
  let v2281 : BitVec 32 := Scalar.remsi v2280 c32_i32_2084
  let c1_i32_2099 : BitVec 32 := 1#32
  let v2307 : BitVec 32 := Scalar.muli v2281 c1_i32_2099
  let v2308 : BitVec 32 := Scalar.addi c0_i32_2100 v2307
  v2308.toNat
def k0_dev77 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2107 : BitVec 32 := 15#32
  let v2315 : BitVec 32 := Scalar.addi v2 c15_i32_2107
  let c32_i32_2108 : BitVec 32 := 32#32
  let v2316 : BitVec 32 := Scalar.remsi v2315 c32_i32_2108
  let c1_i32_2123 : BitVec 32 := 1#32
  let v2342 : BitVec 32 := Scalar.muli v2316 c1_i32_2123
  let v2343 : BitVec 32 := Scalar.addi c0_i32_2124 v2342
  v2343.toNat
def k0_dev78 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2131 : BitVec 32 := 16#32
  let v2350 : BitVec 32 := Scalar.addi v2 c16_i32_2131
  let c32_i32_2132 : BitVec 32 := 32#32
  let v2351 : BitVec 32 := Scalar.remsi v2350 c32_i32_2132
  let c1_i32_2147 : BitVec 32 := 1#32
  let v2377 : BitVec 32 := Scalar.muli v2351 c1_i32_2147
  let v2378 : BitVec 32 := Scalar.addi c0_i32_2148 v2377
  v2378.toNat
def k0_dev79 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2155 : BitVec 32 := 17#32
  let v2385 : BitVec 32 := Scalar.addi v2 c17_i32_2155
  let c32_i32_2156 : BitVec 32 := 32#32
  let v2386 : BitVec 32 := Scalar.remsi v2385 c32_i32_2156
  let c1_i32_2171 : BitVec 32 := 1#32
  let v2412 : BitVec 32 := Scalar.muli v2386 c1_i32_2171
  let v2413 : BitVec 32 := Scalar.addi c0_i32_2172 v2412
  v2413.toNat
def k0_dev80 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2179 : BitVec 32 := 18#32
  let v2420 : BitVec 32 := Scalar.addi v2 c18_i32_2179
  let c32_i32_2180 : BitVec 32 := 32#32
  let v2421 : BitVec 32 := Scalar.remsi v2420 c32_i32_2180
  let c1_i32_2195 : BitVec 32 := 1#32
  let v2447 : BitVec 32 := Scalar.muli v2421 c1_i32_2195
  let v2448 : BitVec 32 := Scalar.addi c0_i32_2196 v2447
  v2448.toNat
def k0_dev81 (d0 : Dev nD) : Nat :=
  let c0_i32_2220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2203 : BitVec 32 := 19#32
  let v2455 : BitVec 32 := Scalar.addi v2 c19_i32_2203
  let c32_i32_2204 : BitVec 32 := 32#32
  let v2456 : BitVec 32 := Scalar.remsi v2455 c32_i32_2204
  let c1_i32_2219 : BitVec 32 := 1#32
  let v2482 : BitVec 32 := Scalar.muli v2456 c1_i32_2219
  let v2483 : BitVec 32 := Scalar.addi c0_i32_2220 v2482
  v2483.toNat
def k0_dev82 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2227 : BitVec 32 := 20#32
  let v2490 : BitVec 32 := Scalar.addi v2 c20_i32_2227
  let c32_i32_2228 : BitVec 32 := 32#32
  let v2491 : BitVec 32 := Scalar.remsi v2490 c32_i32_2228
  let c1_i32_2243 : BitVec 32 := 1#32
  let v2517 : BitVec 32 := Scalar.muli v2491 c1_i32_2243
  let v2518 : BitVec 32 := Scalar.addi c0_i32_2244 v2517
  v2518.toNat
def k0_dev83 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2251 : BitVec 32 := 21#32
  let v2525 : BitVec 32 := Scalar.addi v2 c21_i32_2251
  let c32_i32_2252 : BitVec 32 := 32#32
  let v2526 : BitVec 32 := Scalar.remsi v2525 c32_i32_2252
  let c1_i32_2267 : BitVec 32 := 1#32
  let v2552 : BitVec 32 := Scalar.muli v2526 c1_i32_2267
  let v2553 : BitVec 32 := Scalar.addi c0_i32_2268 v2552
  v2553.toNat
def k0_dev84 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2275 : BitVec 32 := 22#32
  let v2560 : BitVec 32 := Scalar.addi v2 c22_i32_2275
  let c32_i32_2276 : BitVec 32 := 32#32
  let v2561 : BitVec 32 := Scalar.remsi v2560 c32_i32_2276
  let c1_i32_2291 : BitVec 32 := 1#32
  let v2587 : BitVec 32 := Scalar.muli v2561 c1_i32_2291
  let v2588 : BitVec 32 := Scalar.addi c0_i32_2292 v2587
  v2588.toNat
def k0_dev85 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2299 : BitVec 32 := 23#32
  let v2595 : BitVec 32 := Scalar.addi v2 c23_i32_2299
  let c32_i32_2300 : BitVec 32 := 32#32
  let v2596 : BitVec 32 := Scalar.remsi v2595 c32_i32_2300
  let c1_i32_2315 : BitVec 32 := 1#32
  let v2622 : BitVec 32 := Scalar.muli v2596 c1_i32_2315
  let v2623 : BitVec 32 := Scalar.addi c0_i32_2316 v2622
  v2623.toNat
def k0_dev86 (d0 : Dev nD) : Nat :=
  let c0_i32_2340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2323 : BitVec 32 := 24#32
  let v2630 : BitVec 32 := Scalar.addi v2 c24_i32_2323
  let c32_i32_2324 : BitVec 32 := 32#32
  let v2631 : BitVec 32 := Scalar.remsi v2630 c32_i32_2324
  let c1_i32_2339 : BitVec 32 := 1#32
  let v2657 : BitVec 32 := Scalar.muli v2631 c1_i32_2339
  let v2658 : BitVec 32 := Scalar.addi c0_i32_2340 v2657
  v2658.toNat
def k0_dev87 (d0 : Dev nD) : Nat :=
  let c0_i32_2364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2347 : BitVec 32 := 25#32
  let v2665 : BitVec 32 := Scalar.addi v2 c25_i32_2347
  let c32_i32_2348 : BitVec 32 := 32#32
  let v2666 : BitVec 32 := Scalar.remsi v2665 c32_i32_2348
  let c1_i32_2363 : BitVec 32 := 1#32
  let v2692 : BitVec 32 := Scalar.muli v2666 c1_i32_2363
  let v2693 : BitVec 32 := Scalar.addi c0_i32_2364 v2692
  v2693.toNat
def k0_dev88 (d0 : Dev nD) : Nat :=
  let c0_i32_2388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2371 : BitVec 32 := 26#32
  let v2700 : BitVec 32 := Scalar.addi v2 c26_i32_2371
  let c32_i32_2372 : BitVec 32 := 32#32
  let v2701 : BitVec 32 := Scalar.remsi v2700 c32_i32_2372
  let c1_i32_2387 : BitVec 32 := 1#32
  let v2727 : BitVec 32 := Scalar.muli v2701 c1_i32_2387
  let v2728 : BitVec 32 := Scalar.addi c0_i32_2388 v2727
  v2728.toNat
def k0_dev89 (d0 : Dev nD) : Nat :=
  let c0_i32_2412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2395 : BitVec 32 := 27#32
  let v2735 : BitVec 32 := Scalar.addi v2 c27_i32_2395
  let c32_i32_2396 : BitVec 32 := 32#32
  let v2736 : BitVec 32 := Scalar.remsi v2735 c32_i32_2396
  let c1_i32_2411 : BitVec 32 := 1#32
  let v2762 : BitVec 32 := Scalar.muli v2736 c1_i32_2411
  let v2763 : BitVec 32 := Scalar.addi c0_i32_2412 v2762
  v2763.toNat
def k0_dev90 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2419 : BitVec 32 := 28#32
  let v2770 : BitVec 32 := Scalar.addi v2 c28_i32_2419
  let c32_i32_2420 : BitVec 32 := 32#32
  let v2771 : BitVec 32 := Scalar.remsi v2770 c32_i32_2420
  let c1_i32_2435 : BitVec 32 := 1#32
  let v2797 : BitVec 32 := Scalar.muli v2771 c1_i32_2435
  let v2798 : BitVec 32 := Scalar.addi c0_i32_2436 v2797
  v2798.toNat
def k0_dev91 (d0 : Dev nD) : Nat :=
  let c0_i32_2460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2443 : BitVec 32 := 29#32
  let v2805 : BitVec 32 := Scalar.addi v2 c29_i32_2443
  let c32_i32_2444 : BitVec 32 := 32#32
  let v2806 : BitVec 32 := Scalar.remsi v2805 c32_i32_2444
  let c1_i32_2459 : BitVec 32 := 1#32
  let v2832 : BitVec 32 := Scalar.muli v2806 c1_i32_2459
  let v2833 : BitVec 32 := Scalar.addi c0_i32_2460 v2832
  v2833.toNat
def k0_dev92 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2467 : BitVec 32 := 30#32
  let v2840 : BitVec 32 := Scalar.addi v2 c30_i32_2467
  let c32_i32_2468 : BitVec 32 := 32#32
  let v2841 : BitVec 32 := Scalar.remsi v2840 c32_i32_2468
  let c1_i32_2483 : BitVec 32 := 1#32
  let v2867 : BitVec 32 := Scalar.muli v2841 c1_i32_2483
  let v2868 : BitVec 32 := Scalar.addi c0_i32_2484 v2867
  v2868.toNat
def k0_dev93 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2491 : BitVec 32 := 31#32
  let v2875 : BitVec 32 := Scalar.addi v2 c31_i32_2491
  let c32_i32_2492 : BitVec 32 := 32#32
  let v2876 : BitVec 32 := Scalar.remsi v2875 c32_i32_2492
  let c1_i32_2507 : BitVec 32 := 1#32
  let v2902 : BitVec 32 := Scalar.muli v2876 c1_i32_2507
  let v2903 : BitVec 32 := Scalar.addi c0_i32_2508 v2902
  v2903.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_148 : BitVec 32 := 3#32
  let v163 : BitVec 32 := Scalar.remsi v2 c3_i32_148
  let c2_i32_149 : BitVec 32 := 2#32
  let v164 : BitVec 1 := Scalar.cmpi .eq v163 c2_i32_149
  let v165 : BitVec 32 := Scalar.extui v164
  let c0_i32_150 : BitVec 32 := 0#32
  let v166 : BitVec 1 := Scalar.cmpi .ne v165 c0_i32_150
  v166

def k0_off11 (d0 : Dev nD) : Fin 4 → Nat :=
  let c0_i32_1789 : BitVec 32 := 0#32
  let c0_i32_1790 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1791 : BitVec 32 := 0#32
  ![0, 0, v1851.toNat, 0]
def k0_off12 (d0 : Dev nD) (c1_i32_1773 : BitVec 32) : Fin 4 → Nat :=
  let c0_i32_1792 : BitVec 32 := 0#32
  let c0_i32_1793 : BitVec 32 := 0#32
  let c64_i32_1794 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 64, v1827.toNat]
def k0_dev94 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1773 : BitVec 32 := 1#32
  let v1825 : BitVec 32 := Scalar.addi v2 c1_i32_1773
  let c32_i32_1774 : BitVec 32 := 32#32
  let v1826 : BitVec 32 := Scalar.remsi v1825 c32_i32_1774
  let c1_i32_1787 : BitVec 32 := 1#32
  let v1852 : BitVec 32 := Scalar.muli v1826 c1_i32_1787
  let v1853 : BitVec 32 := Scalar.addi c0_i32_1788 v1852
  v1853.toNat
def k0_dev95 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1795 : BitVec 32 := 2#32
  let v1860 : BitVec 32 := Scalar.addi v2 c2_i32_1795
  let c32_i32_1796 : BitVec 32 := 32#32
  let v1861 : BitVec 32 := Scalar.remsi v1860 c32_i32_1796
  let c1_i32_1811 : BitVec 32 := 1#32
  let v1887 : BitVec 32 := Scalar.muli v1861 c1_i32_1811
  let v1888 : BitVec 32 := Scalar.addi c0_i32_1812 v1887
  v1888.toNat
def k0_dev96 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1819 : BitVec 32 := 3#32
  let v1895 : BitVec 32 := Scalar.addi v2 c3_i32_1819
  let c32_i32_1820 : BitVec 32 := 32#32
  let v1896 : BitVec 32 := Scalar.remsi v1895 c32_i32_1820
  let c1_i32_1835 : BitVec 32 := 1#32
  let v1922 : BitVec 32 := Scalar.muli v1896 c1_i32_1835
  let v1923 : BitVec 32 := Scalar.addi c0_i32_1836 v1922
  v1923.toNat
def k0_dev97 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1843 : BitVec 32 := 4#32
  let v1930 : BitVec 32 := Scalar.addi v2 c4_i32_1843
  let c32_i32_1844 : BitVec 32 := 32#32
  let v1931 : BitVec 32 := Scalar.remsi v1930 c32_i32_1844
  let c1_i32_1859 : BitVec 32 := 1#32
  let v1957 : BitVec 32 := Scalar.muli v1931 c1_i32_1859
  let v1958 : BitVec 32 := Scalar.addi c0_i32_1860 v1957
  v1958.toNat
def k0_dev98 (d0 : Dev nD) : Nat :=
  let c0_i32_1884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1867 : BitVec 32 := 5#32
  let v1965 : BitVec 32 := Scalar.addi v2 c5_i32_1867
  let c32_i32_1868 : BitVec 32 := 32#32
  let v1966 : BitVec 32 := Scalar.remsi v1965 c32_i32_1868
  let c1_i32_1883 : BitVec 32 := 1#32
  let v1992 : BitVec 32 := Scalar.muli v1966 c1_i32_1883
  let v1993 : BitVec 32 := Scalar.addi c0_i32_1884 v1992
  v1993.toNat
def k0_dev99 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1891 : BitVec 32 := 6#32
  let v2000 : BitVec 32 := Scalar.addi v2 c6_i32_1891
  let c32_i32_1892 : BitVec 32 := 32#32
  let v2001 : BitVec 32 := Scalar.remsi v2000 c32_i32_1892
  let c1_i32_1907 : BitVec 32 := 1#32
  let v2027 : BitVec 32 := Scalar.muli v2001 c1_i32_1907
  let v2028 : BitVec 32 := Scalar.addi c0_i32_1908 v2027
  v2028.toNat
def k0_dev100 (d0 : Dev nD) : Nat :=
  let c0_i32_1932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1915 : BitVec 32 := 7#32
  let v2035 : BitVec 32 := Scalar.addi v2 c7_i32_1915
  let c32_i32_1916 : BitVec 32 := 32#32
  let v2036 : BitVec 32 := Scalar.remsi v2035 c32_i32_1916
  let c1_i32_1931 : BitVec 32 := 1#32
  let v2062 : BitVec 32 := Scalar.muli v2036 c1_i32_1931
  let v2063 : BitVec 32 := Scalar.addi c0_i32_1932 v2062
  v2063.toNat
def k0_dev101 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1939 : BitVec 32 := 8#32
  let v2070 : BitVec 32 := Scalar.addi v2 c8_i32_1939
  let c32_i32_1940 : BitVec 32 := 32#32
  let v2071 : BitVec 32 := Scalar.remsi v2070 c32_i32_1940
  let c1_i32_1955 : BitVec 32 := 1#32
  let v2097 : BitVec 32 := Scalar.muli v2071 c1_i32_1955
  let v2098 : BitVec 32 := Scalar.addi c0_i32_1956 v2097
  v2098.toNat
def k0_dev102 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1963 : BitVec 32 := 9#32
  let v2105 : BitVec 32 := Scalar.addi v2 c9_i32_1963
  let c32_i32_1964 : BitVec 32 := 32#32
  let v2106 : BitVec 32 := Scalar.remsi v2105 c32_i32_1964
  let c1_i32_1979 : BitVec 32 := 1#32
  let v2132 : BitVec 32 := Scalar.muli v2106 c1_i32_1979
  let v2133 : BitVec 32 := Scalar.addi c0_i32_1980 v2132
  v2133.toNat
def k0_dev103 (d0 : Dev nD) : Nat :=
  let c0_i32_2004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1987 : BitVec 32 := 10#32
  let v2140 : BitVec 32 := Scalar.addi v2 c10_i32_1987
  let c32_i32_1988 : BitVec 32 := 32#32
  let v2141 : BitVec 32 := Scalar.remsi v2140 c32_i32_1988
  let c1_i32_2003 : BitVec 32 := 1#32
  let v2167 : BitVec 32 := Scalar.muli v2141 c1_i32_2003
  let v2168 : BitVec 32 := Scalar.addi c0_i32_2004 v2167
  v2168.toNat
def k0_dev104 (d0 : Dev nD) : Nat :=
  let c0_i32_2028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2011 : BitVec 32 := 11#32
  let v2175 : BitVec 32 := Scalar.addi v2 c11_i32_2011
  let c32_i32_2012 : BitVec 32 := 32#32
  let v2176 : BitVec 32 := Scalar.remsi v2175 c32_i32_2012
  let c1_i32_2027 : BitVec 32 := 1#32
  let v2202 : BitVec 32 := Scalar.muli v2176 c1_i32_2027
  let v2203 : BitVec 32 := Scalar.addi c0_i32_2028 v2202
  v2203.toNat
def k0_dev105 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2035 : BitVec 32 := 12#32
  let v2210 : BitVec 32 := Scalar.addi v2 c12_i32_2035
  let c32_i32_2036 : BitVec 32 := 32#32
  let v2211 : BitVec 32 := Scalar.remsi v2210 c32_i32_2036
  let c1_i32_2051 : BitVec 32 := 1#32
  let v2237 : BitVec 32 := Scalar.muli v2211 c1_i32_2051
  let v2238 : BitVec 32 := Scalar.addi c0_i32_2052 v2237
  v2238.toNat
def k0_dev106 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2059 : BitVec 32 := 13#32
  let v2245 : BitVec 32 := Scalar.addi v2 c13_i32_2059
  let c32_i32_2060 : BitVec 32 := 32#32
  let v2246 : BitVec 32 := Scalar.remsi v2245 c32_i32_2060
  let c1_i32_2075 : BitVec 32 := 1#32
  let v2272 : BitVec 32 := Scalar.muli v2246 c1_i32_2075
  let v2273 : BitVec 32 := Scalar.addi c0_i32_2076 v2272
  v2273.toNat
def k0_dev107 (d0 : Dev nD) : Nat :=
  let c0_i32_2100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2083 : BitVec 32 := 14#32
  let v2280 : BitVec 32 := Scalar.addi v2 c14_i32_2083
  let c32_i32_2084 : BitVec 32 := 32#32
  let v2281 : BitVec 32 := Scalar.remsi v2280 c32_i32_2084
  let c1_i32_2099 : BitVec 32 := 1#32
  let v2307 : BitVec 32 := Scalar.muli v2281 c1_i32_2099
  let v2308 : BitVec 32 := Scalar.addi c0_i32_2100 v2307
  v2308.toNat
def k0_dev108 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2107 : BitVec 32 := 15#32
  let v2315 : BitVec 32 := Scalar.addi v2 c15_i32_2107
  let c32_i32_2108 : BitVec 32 := 32#32
  let v2316 : BitVec 32 := Scalar.remsi v2315 c32_i32_2108
  let c1_i32_2123 : BitVec 32 := 1#32
  let v2342 : BitVec 32 := Scalar.muli v2316 c1_i32_2123
  let v2343 : BitVec 32 := Scalar.addi c0_i32_2124 v2342
  v2343.toNat
def k0_dev109 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2131 : BitVec 32 := 16#32
  let v2350 : BitVec 32 := Scalar.addi v2 c16_i32_2131
  let c32_i32_2132 : BitVec 32 := 32#32
  let v2351 : BitVec 32 := Scalar.remsi v2350 c32_i32_2132
  let c1_i32_2147 : BitVec 32 := 1#32
  let v2377 : BitVec 32 := Scalar.muli v2351 c1_i32_2147
  let v2378 : BitVec 32 := Scalar.addi c0_i32_2148 v2377
  v2378.toNat
def k0_dev110 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2155 : BitVec 32 := 17#32
  let v2385 : BitVec 32 := Scalar.addi v2 c17_i32_2155
  let c32_i32_2156 : BitVec 32 := 32#32
  let v2386 : BitVec 32 := Scalar.remsi v2385 c32_i32_2156
  let c1_i32_2171 : BitVec 32 := 1#32
  let v2412 : BitVec 32 := Scalar.muli v2386 c1_i32_2171
  let v2413 : BitVec 32 := Scalar.addi c0_i32_2172 v2412
  v2413.toNat
def k0_dev111 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2179 : BitVec 32 := 18#32
  let v2420 : BitVec 32 := Scalar.addi v2 c18_i32_2179
  let c32_i32_2180 : BitVec 32 := 32#32
  let v2421 : BitVec 32 := Scalar.remsi v2420 c32_i32_2180
  let c1_i32_2195 : BitVec 32 := 1#32
  let v2447 : BitVec 32 := Scalar.muli v2421 c1_i32_2195
  let v2448 : BitVec 32 := Scalar.addi c0_i32_2196 v2447
  v2448.toNat
def k0_dev112 (d0 : Dev nD) : Nat :=
  let c0_i32_2220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2203 : BitVec 32 := 19#32
  let v2455 : BitVec 32 := Scalar.addi v2 c19_i32_2203
  let c32_i32_2204 : BitVec 32 := 32#32
  let v2456 : BitVec 32 := Scalar.remsi v2455 c32_i32_2204
  let c1_i32_2219 : BitVec 32 := 1#32
  let v2482 : BitVec 32 := Scalar.muli v2456 c1_i32_2219
  let v2483 : BitVec 32 := Scalar.addi c0_i32_2220 v2482
  v2483.toNat
def k0_dev113 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2227 : BitVec 32 := 20#32
  let v2490 : BitVec 32 := Scalar.addi v2 c20_i32_2227
  let c32_i32_2228 : BitVec 32 := 32#32
  let v2491 : BitVec 32 := Scalar.remsi v2490 c32_i32_2228
  let c1_i32_2243 : BitVec 32 := 1#32
  let v2517 : BitVec 32 := Scalar.muli v2491 c1_i32_2243
  let v2518 : BitVec 32 := Scalar.addi c0_i32_2244 v2517
  v2518.toNat
def k0_dev114 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2251 : BitVec 32 := 21#32
  let v2525 : BitVec 32 := Scalar.addi v2 c21_i32_2251
  let c32_i32_2252 : BitVec 32 := 32#32
  let v2526 : BitVec 32 := Scalar.remsi v2525 c32_i32_2252
  let c1_i32_2267 : BitVec 32 := 1#32
  let v2552 : BitVec 32 := Scalar.muli v2526 c1_i32_2267
  let v2553 : BitVec 32 := Scalar.addi c0_i32_2268 v2552
  v2553.toNat
def k0_dev115 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2275 : BitVec 32 := 22#32
  let v2560 : BitVec 32 := Scalar.addi v2 c22_i32_2275
  let c32_i32_2276 : BitVec 32 := 32#32
  let v2561 : BitVec 32 := Scalar.remsi v2560 c32_i32_2276
  let c1_i32_2291 : BitVec 32 := 1#32
  let v2587 : BitVec 32 := Scalar.muli v2561 c1_i32_2291
  let v2588 : BitVec 32 := Scalar.addi c0_i32_2292 v2587
  v2588.toNat
def k0_dev116 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2299 : BitVec 32 := 23#32
  let v2595 : BitVec 32 := Scalar.addi v2 c23_i32_2299
  let c32_i32_2300 : BitVec 32 := 32#32
  let v2596 : BitVec 32 := Scalar.remsi v2595 c32_i32_2300
  let c1_i32_2315 : BitVec 32 := 1#32
  let v2622 : BitVec 32 := Scalar.muli v2596 c1_i32_2315
  let v2623 : BitVec 32 := Scalar.addi c0_i32_2316 v2622
  v2623.toNat
def k0_dev117 (d0 : Dev nD) : Nat :=
  let c0_i32_2340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2323 : BitVec 32 := 24#32
  let v2630 : BitVec 32 := Scalar.addi v2 c24_i32_2323
  let c32_i32_2324 : BitVec 32 := 32#32
  let v2631 : BitVec 32 := Scalar.remsi v2630 c32_i32_2324
  let c1_i32_2339 : BitVec 32 := 1#32
  let v2657 : BitVec 32 := Scalar.muli v2631 c1_i32_2339
  let v2658 : BitVec 32 := Scalar.addi c0_i32_2340 v2657
  v2658.toNat
def k0_dev118 (d0 : Dev nD) : Nat :=
  let c0_i32_2364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2347 : BitVec 32 := 25#32
  let v2665 : BitVec 32 := Scalar.addi v2 c25_i32_2347
  let c32_i32_2348 : BitVec 32 := 32#32
  let v2666 : BitVec 32 := Scalar.remsi v2665 c32_i32_2348
  let c1_i32_2363 : BitVec 32 := 1#32
  let v2692 : BitVec 32 := Scalar.muli v2666 c1_i32_2363
  let v2693 : BitVec 32 := Scalar.addi c0_i32_2364 v2692
  v2693.toNat
def k0_dev119 (d0 : Dev nD) : Nat :=
  let c0_i32_2388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2371 : BitVec 32 := 26#32
  let v2700 : BitVec 32 := Scalar.addi v2 c26_i32_2371
  let c32_i32_2372 : BitVec 32 := 32#32
  let v2701 : BitVec 32 := Scalar.remsi v2700 c32_i32_2372
  let c1_i32_2387 : BitVec 32 := 1#32
  let v2727 : BitVec 32 := Scalar.muli v2701 c1_i32_2387
  let v2728 : BitVec 32 := Scalar.addi c0_i32_2388 v2727
  v2728.toNat
def k0_dev120 (d0 : Dev nD) : Nat :=
  let c0_i32_2412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2395 : BitVec 32 := 27#32
  let v2735 : BitVec 32 := Scalar.addi v2 c27_i32_2395
  let c32_i32_2396 : BitVec 32 := 32#32
  let v2736 : BitVec 32 := Scalar.remsi v2735 c32_i32_2396
  let c1_i32_2411 : BitVec 32 := 1#32
  let v2762 : BitVec 32 := Scalar.muli v2736 c1_i32_2411
  let v2763 : BitVec 32 := Scalar.addi c0_i32_2412 v2762
  v2763.toNat
def k0_dev121 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2419 : BitVec 32 := 28#32
  let v2770 : BitVec 32 := Scalar.addi v2 c28_i32_2419
  let c32_i32_2420 : BitVec 32 := 32#32
  let v2771 : BitVec 32 := Scalar.remsi v2770 c32_i32_2420
  let c1_i32_2435 : BitVec 32 := 1#32
  let v2797 : BitVec 32 := Scalar.muli v2771 c1_i32_2435
  let v2798 : BitVec 32 := Scalar.addi c0_i32_2436 v2797
  v2798.toNat
def k0_dev122 (d0 : Dev nD) : Nat :=
  let c0_i32_2460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2443 : BitVec 32 := 29#32
  let v2805 : BitVec 32 := Scalar.addi v2 c29_i32_2443
  let c32_i32_2444 : BitVec 32 := 32#32
  let v2806 : BitVec 32 := Scalar.remsi v2805 c32_i32_2444
  let c1_i32_2459 : BitVec 32 := 1#32
  let v2832 : BitVec 32 := Scalar.muli v2806 c1_i32_2459
  let v2833 : BitVec 32 := Scalar.addi c0_i32_2460 v2832
  v2833.toNat
def k0_dev123 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2467 : BitVec 32 := 30#32
  let v2840 : BitVec 32 := Scalar.addi v2 c30_i32_2467
  let c32_i32_2468 : BitVec 32 := 32#32
  let v2841 : BitVec 32 := Scalar.remsi v2840 c32_i32_2468
  let c1_i32_2483 : BitVec 32 := 1#32
  let v2867 : BitVec 32 := Scalar.muli v2841 c1_i32_2483
  let v2868 : BitVec 32 := Scalar.addi c0_i32_2484 v2867
  v2868.toNat
def k0_dev124 (d0 : Dev nD) : Nat :=
  let c0_i32_2508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2491 : BitVec 32 := 31#32
  let v2875 : BitVec 32 := Scalar.addi v2 c31_i32_2491
  let c32_i32_2492 : BitVec 32 := 32#32
  let v2876 : BitVec 32 := Scalar.remsi v2875 c32_i32_2492
  let c1_i32_2507 : BitVec 32 := 1#32
  let v2902 : BitVec 32 := Scalar.muli v2876 c1_i32_2507
  let v2903 : BitVec 32 := Scalar.addi c0_i32_2508 v2902
  v2903.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let c0_i32_154 : BitVec 32 := 0#32
  let v170 : BitVec 1 := Scalar.cmpi .eq v169 c0_i32_154
  let c3_i32_155 : BitVec 32 := 3#32
  let v171 : BitVec 32 := Scalar.remsi v169 c3_i32_155
  let c1_i32_156 : BitVec 32 := 1#32
  let v172 : BitVec 1 := Scalar.cmpi .eq v171 c1_i32_156
  let v173 : BitVec 1 := Scalar.ori v170 v172
  let v174 : BitVec 32 := Scalar.extui v173
  let c0_i32_157 : BitVec 32 := 0#32
  let v175 : BitVec 1 := Scalar.cmpi .ne v174 c0_i32_157
  v175

def k0_off13 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let v1825 : BitVec 32 := Scalar.muli c64_i32 v169
  let c64_i32_1782 : BitVec 32 := 64#32
  let c0_i32_1773 : BitVec 32 := 0#32
  let v1826 : BitVec 1 := Scalar.cmpi .sgt v169 c0_i32_1773
  let v1827 : BitVec 32 := Scalar.extui v1826
  let c1_i32_1774 : BitVec 32 := 1#32
  let v1828 : BitVec 32 := Scalar.addi v169 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let c3_i32_158 : BitVec 32 := 3#32
  let v176 : BitVec 32 := Scalar.remsi v169 c3_i32_158
  let c0_i32_159 : BitVec 32 := 0#32
  let v177 : BitVec 1 := Scalar.cmpi .eq v176 c0_i32_159
  let c0_i32_160 : BitVec 32 := 0#32
  let v178 : BitVec 1 := Scalar.cmpi .sgt v169 c0_i32_160
  let v179 : BitVec 1 := Scalar.andi v177 v178
  let v180 : BitVec 32 := Scalar.extui v179
  let c0_i32_161 : BitVec 32 := 0#32
  let v181 : BitVec 1 := Scalar.cmpi .ne v180 c0_i32_161
  v181

def k0_off14 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let v1825 : BitVec 32 := Scalar.muli c64_i32 v169
  let c64_i32_1782 : BitVec 32 := 64#32
  let c0_i32_1773 : BitVec 32 := 0#32
  let v1826 : BitVec 1 := Scalar.cmpi .sgt v169 c0_i32_1773
  let v1827 : BitVec 32 := Scalar.extui v1826
  let c1_i32_1774 : BitVec 32 := 1#32
  let v1828 : BitVec 32 := Scalar.addi v169 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let c3_i32_162 : BitVec 32 := 3#32
  let v182 : BitVec 32 := Scalar.remsi v169 c3_i32_162
  let c2_i32_163 : BitVec 32 := 2#32
  let v183 : BitVec 1 := Scalar.cmpi .eq v182 c2_i32_163
  let v184 : BitVec 32 := Scalar.extui v183
  let c0_i32_164 : BitVec 32 := 0#32
  let v185 : BitVec 1 := Scalar.cmpi .ne v184 c0_i32_164
  v185

def k0_off15 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_151 : BitVec 32 := 32#32
  let v167 : BitVec 32 := Scalar.addi v2 c32_i32_151
  let c1_i32_152 : BitVec 32 := 1#32
  let v168 : BitVec 32 := Scalar.subi v167 c1_i32_152
  let c32_i32_153 : BitVec 32 := 32#32
  let v169 : BitVec 32 := Scalar.remsi v168 c32_i32_153
  let v1825 : BitVec 32 := Scalar.muli c64_i32 v169
  let c64_i32_1782 : BitVec 32 := 64#32
  let c0_i32_1773 : BitVec 32 := 0#32
  let v1826 : BitVec 1 := Scalar.cmpi .sgt v169 c0_i32_1773
  let v1827 : BitVec 32 := Scalar.extui v1826
  let c1_i32_1774 : BitVec 32 := 1#32
  let v1828 : BitVec 32 := Scalar.addi v169 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let c0_i32_168 : BitVec 32 := 0#32
  let v189 : BitVec 1 := Scalar.cmpi .eq v188 c0_i32_168
  let c3_i32_169 : BitVec 32 := 3#32
  let v190 : BitVec 32 := Scalar.remsi v188 c3_i32_169
  let c1_i32_170 : BitVec 32 := 1#32
  let v191 : BitVec 1 := Scalar.cmpi .eq v190 c1_i32_170
  let v192 : BitVec 1 := Scalar.ori v189 v191
  let v193 : BitVec 32 := Scalar.extui v192
  let c0_i32_171 : BitVec 32 := 0#32
  let v194 : BitVec 1 := Scalar.cmpi .ne v193 c0_i32_171
  v194

def k0_off16 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let v1825 : BitVec 32 := Scalar.muli c64_i32 v188
  let c64_i32_1782 : BitVec 32 := 64#32
  let c0_i32_1773 : BitVec 32 := 0#32
  let v1826 : BitVec 1 := Scalar.cmpi .sgt v188 c0_i32_1773
  let v1827 : BitVec 32 := Scalar.extui v1826
  let c1_i32_1774 : BitVec 32 := 1#32
  let v1828 : BitVec 32 := Scalar.addi v188 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let c3_i32_172 : BitVec 32 := 3#32
  let v195 : BitVec 32 := Scalar.remsi v188 c3_i32_172
  let c0_i32_173 : BitVec 32 := 0#32
  let v196 : BitVec 1 := Scalar.cmpi .eq v195 c0_i32_173
  let c0_i32_174 : BitVec 32 := 0#32
  let v197 : BitVec 1 := Scalar.cmpi .sgt v188 c0_i32_174
  let v198 : BitVec 1 := Scalar.andi v196 v197
  let v199 : BitVec 32 := Scalar.extui v198
  let c0_i32_175 : BitVec 32 := 0#32
  let v200 : BitVec 1 := Scalar.cmpi .ne v199 c0_i32_175
  v200

def k0_off17 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let v1825 : BitVec 32 := Scalar.muli c64_i32 v188
  let c64_i32_1782 : BitVec 32 := 64#32
  let c0_i32_1773 : BitVec 32 := 0#32
  let v1826 : BitVec 1 := Scalar.cmpi .sgt v188 c0_i32_1773
  let v1827 : BitVec 32 := Scalar.extui v1826
  let c1_i32_1774 : BitVec 32 := 1#32
  let v1828 : BitVec 32 := Scalar.addi v188 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let c3_i32_176 : BitVec 32 := 3#32
  let v201 : BitVec 32 := Scalar.remsi v188 c3_i32_176
  let c2_i32_177 : BitVec 32 := 2#32
  let v202 : BitVec 1 := Scalar.cmpi .eq v201 c2_i32_177
  let v203 : BitVec 32 := Scalar.extui v202
  let c0_i32_178 : BitVec 32 := 0#32
  let v204 : BitVec 1 := Scalar.cmpi .ne v203 c0_i32_178
  v204

def k0_off18 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v186 : BitVec 32 := Scalar.addi v2 c32_i32_165
  let c2_i32_166 : BitVec 32 := 2#32
  let v187 : BitVec 32 := Scalar.subi v186 c2_i32_166
  let c32_i32_167 : BitVec 32 := 32#32
  let v188 : BitVec 32 := Scalar.remsi v187 c32_i32_167
  let v1825 : BitVec 32 := Scalar.muli c64_i32 v188
  let c64_i32_1782 : BitVec 32 := 64#32
  let c0_i32_1773 : BitVec 32 := 0#32
  let v1826 : BitVec 1 := Scalar.cmpi .sgt v188 c0_i32_1773
  let v1827 : BitVec 32 := Scalar.extui v1826
  let c1_i32_1774 : BitVec 32 := 1#32
  let v1828 : BitVec 32 := Scalar.addi v188 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let c0_i32_182 : BitVec 32 := 0#32
  let v208 : BitVec 1 := Scalar.cmpi .eq v207 c0_i32_182
  let c3_i32_183 : BitVec 32 := 3#32
  let v209 : BitVec 32 := Scalar.remsi v207 c3_i32_183
  let c1_i32_184 : BitVec 32 := 1#32
  let v210 : BitVec 1 := Scalar.cmpi .eq v209 c1_i32_184
  let v211 : BitVec 1 := Scalar.ori v208 v210
  let v212 : BitVec 32 := Scalar.extui v211
  let c0_i32_185 : BitVec 32 := 0#32
  let v213 : BitVec 1 := Scalar.cmpi .ne v212 c0_i32_185
  v213

def k0_off19 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let v1825 : BitVec 32 := Scalar.muli c64_i32 v207
  let c64_i32_1782 : BitVec 32 := 64#32
  let c0_i32_1773 : BitVec 32 := 0#32
  let v1826 : BitVec 1 := Scalar.cmpi .sgt v207 c0_i32_1773
  let v1827 : BitVec 32 := Scalar.extui v1826
  let c1_i32_1774 : BitVec 32 := 1#32
  let v1828 : BitVec 32 := Scalar.addi v207 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let c3_i32_186 : BitVec 32 := 3#32
  let v214 : BitVec 32 := Scalar.remsi v207 c3_i32_186
  let c0_i32_187 : BitVec 32 := 0#32
  let v215 : BitVec 1 := Scalar.cmpi .eq v214 c0_i32_187
  let c0_i32_188 : BitVec 32 := 0#32
  let v216 : BitVec 1 := Scalar.cmpi .sgt v207 c0_i32_188
  let v217 : BitVec 1 := Scalar.andi v215 v216
  let v218 : BitVec 32 := Scalar.extui v217
  let c0_i32_189 : BitVec 32 := 0#32
  let v219 : BitVec 1 := Scalar.cmpi .ne v218 c0_i32_189
  v219

def k0_off20 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let v1825 : BitVec 32 := Scalar.muli c64_i32 v207
  let c64_i32_1782 : BitVec 32 := 64#32
  let c0_i32_1773 : BitVec 32 := 0#32
  let v1826 : BitVec 1 := Scalar.cmpi .sgt v207 c0_i32_1773
  let v1827 : BitVec 32 := Scalar.extui v1826
  let c1_i32_1774 : BitVec 32 := 1#32
  let v1828 : BitVec 32 := Scalar.addi v207 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let c3_i32_190 : BitVec 32 := 3#32
  let v220 : BitVec 32 := Scalar.remsi v207 c3_i32_190
  let c2_i32_191 : BitVec 32 := 2#32
  let v221 : BitVec 1 := Scalar.cmpi .eq v220 c2_i32_191
  let v222 : BitVec 32 := Scalar.extui v221
  let c0_i32_192 : BitVec 32 := 0#32
  let v223 : BitVec 1 := Scalar.cmpi .ne v222 c0_i32_192
  v223

def k0_off21 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_179 : BitVec 32 := 32#32
  let v205 : BitVec 32 := Scalar.addi v2 c32_i32_179
  let c3_i32_180 : BitVec 32 := 3#32
  let v206 : BitVec 32 := Scalar.subi v205 c3_i32_180
  let c32_i32_181 : BitVec 32 := 32#32
  let v207 : BitVec 32 := Scalar.remsi v206 c32_i32_181
  let v1825 : BitVec 32 := Scalar.muli c64_i32 v207
  let c64_i32_1782 : BitVec 32 := 64#32
  let c0_i32_1773 : BitVec 32 := 0#32
  let v1826 : BitVec 1 := Scalar.cmpi .sgt v207 c0_i32_1773
  let v1827 : BitVec 32 := Scalar.extui v1826
  let c1_i32_1774 : BitVec 32 := 1#32
  let v1828 : BitVec 32 := Scalar.addi v207 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let c0_i32_196 : BitVec 32 := 0#32
  let v227 : BitVec 1 := Scalar.cmpi .eq v226 c0_i32_196
  let c3_i32_197 : BitVec 32 := 3#32
  let v228 : BitVec 32 := Scalar.remsi v226 c3_i32_197
  let c1_i32_198 : BitVec 32 := 1#32
  let v229 : BitVec 1 := Scalar.cmpi .eq v228 c1_i32_198
  let v230 : BitVec 1 := Scalar.ori v227 v229
  let v231 : BitVec 32 := Scalar.extui v230
  let c0_i32_199 : BitVec 32 := 0#32
  let v232 : BitVec 1 := Scalar.cmpi .ne v231 c0_i32_199
  v232

def k0_off22 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let v1825 : BitVec 32 := Scalar.muli c64_i32 v226
  let c64_i32_1782 : BitVec 32 := 64#32
  let c0_i32_1773 : BitVec 32 := 0#32
  let v1826 : BitVec 1 := Scalar.cmpi .sgt v226 c0_i32_1773
  let v1827 : BitVec 32 := Scalar.extui v1826
  let c1_i32_1774 : BitVec 32 := 1#32
  let v1828 : BitVec 32 := Scalar.addi v226 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let c3_i32_200 : BitVec 32 := 3#32
  let v233 : BitVec 32 := Scalar.remsi v226 c3_i32_200
  let c0_i32_201 : BitVec 32 := 0#32
  let v234 : BitVec 1 := Scalar.cmpi .eq v233 c0_i32_201
  let c0_i32_202 : BitVec 32 := 0#32
  let v235 : BitVec 1 := Scalar.cmpi .sgt v226 c0_i32_202
  let v236 : BitVec 1 := Scalar.andi v234 v235
  let v237 : BitVec 32 := Scalar.extui v236
  let c0_i32_203 : BitVec 32 := 0#32
  let v238 : BitVec 1 := Scalar.cmpi .ne v237 c0_i32_203
  v238

def k0_off23 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let v1825 : BitVec 32 := Scalar.muli c64_i32 v226
  let c64_i32_1782 : BitVec 32 := 64#32
  let c0_i32_1773 : BitVec 32 := 0#32
  let v1826 : BitVec 1 := Scalar.cmpi .sgt v226 c0_i32_1773
  let v1827 : BitVec 32 := Scalar.extui v1826
  let c1_i32_1774 : BitVec 32 := 1#32
  let v1828 : BitVec 32 := Scalar.addi v226 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let c3_i32_204 : BitVec 32 := 3#32
  let v239 : BitVec 32 := Scalar.remsi v226 c3_i32_204
  let c2_i32_205 : BitVec 32 := 2#32
  let v240 : BitVec 1 := Scalar.cmpi .eq v239 c2_i32_205
  let v241 : BitVec 32 := Scalar.extui v240
  let c0_i32_206 : BitVec 32 := 0#32
  let v242 : BitVec 1 := Scalar.cmpi .ne v241 c0_i32_206
  v242

def k0_off24 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_193 : BitVec 32 := 32#32
  let v224 : BitVec 32 := Scalar.addi v2 c32_i32_193
  let c4_i32_194 : BitVec 32 := 4#32
  let v225 : BitVec 32 := Scalar.subi v224 c4_i32_194
  let c32_i32_195 : BitVec 32 := 32#32
  let v226 : BitVec 32 := Scalar.remsi v225 c32_i32_195
  let v1825 : BitVec 32 := Scalar.muli c64_i32 v226
  let c64_i32_1782 : BitVec 32 := 64#32
  let c0_i32_1773 : BitVec 32 := 0#32
  let v1826 : BitVec 1 := Scalar.cmpi .sgt v226 c0_i32_1773
  let v1827 : BitVec 32 := Scalar.extui v1826
  let c1_i32_1774 : BitVec 32 := 1#32
  let v1828 : BitVec 32 := Scalar.addi v226 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let c0_i32_210 : BitVec 32 := 0#32
  let v246 : BitVec 1 := Scalar.cmpi .eq v245 c0_i32_210
  let c3_i32_211 : BitVec 32 := 3#32
  let v247 : BitVec 32 := Scalar.remsi v245 c3_i32_211
  let c1_i32_212 : BitVec 32 := 1#32
  let v248 : BitVec 1 := Scalar.cmpi .eq v247 c1_i32_212
  let v249 : BitVec 1 := Scalar.ori v246 v248
  let v250 : BitVec 32 := Scalar.extui v249
  let c0_i32_213 : BitVec 32 := 0#32
  let v251 : BitVec 1 := Scalar.cmpi .ne v250 c0_i32_213
  v251

def k0_off25 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let v1825 : BitVec 32 := Scalar.muli c64_i32 v245
  let c64_i32_1782 : BitVec 32 := 64#32
  let c0_i32_1773 : BitVec 32 := 0#32
  let v1826 : BitVec 1 := Scalar.cmpi .sgt v245 c0_i32_1773
  let v1827 : BitVec 32 := Scalar.extui v1826
  let c1_i32_1774 : BitVec 32 := 1#32
  let v1828 : BitVec 32 := Scalar.addi v245 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let c3_i32_214 : BitVec 32 := 3#32
  let v252 : BitVec 32 := Scalar.remsi v245 c3_i32_214
  let c0_i32_215 : BitVec 32 := 0#32
  let v253 : BitVec 1 := Scalar.cmpi .eq v252 c0_i32_215
  let c0_i32_216 : BitVec 32 := 0#32
  let v254 : BitVec 1 := Scalar.cmpi .sgt v245 c0_i32_216
  let v255 : BitVec 1 := Scalar.andi v253 v254
  let v256 : BitVec 32 := Scalar.extui v255
  let c0_i32_217 : BitVec 32 := 0#32
  let v257 : BitVec 1 := Scalar.cmpi .ne v256 c0_i32_217
  v257

def k0_off26 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let v1825 : BitVec 32 := Scalar.muli c64_i32 v245
  let c64_i32_1782 : BitVec 32 := 64#32
  let c0_i32_1773 : BitVec 32 := 0#32
  let v1826 : BitVec 1 := Scalar.cmpi .sgt v245 c0_i32_1773
  let v1827 : BitVec 32 := Scalar.extui v1826
  let c1_i32_1774 : BitVec 32 := 1#32
  let v1828 : BitVec 32 := Scalar.addi v245 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let c3_i32_218 : BitVec 32 := 3#32
  let v258 : BitVec 32 := Scalar.remsi v245 c3_i32_218
  let c2_i32_219 : BitVec 32 := 2#32
  let v259 : BitVec 1 := Scalar.cmpi .eq v258 c2_i32_219
  let v260 : BitVec 32 := Scalar.extui v259
  let c0_i32_220 : BitVec 32 := 0#32
  let v261 : BitVec 1 := Scalar.cmpi .ne v260 c0_i32_220
  v261

def k0_off27 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_207 : BitVec 32 := 32#32
  let v243 : BitVec 32 := Scalar.addi v2 c32_i32_207
  let c5_i32_208 : BitVec 32 := 5#32
  let v244 : BitVec 32 := Scalar.subi v243 c5_i32_208
  let c32_i32_209 : BitVec 32 := 32#32
  let v245 : BitVec 32 := Scalar.remsi v244 c32_i32_209
  let v1825 : BitVec 32 := Scalar.muli c64_i32 v245
  let c64_i32_1782 : BitVec 32 := 64#32
  let c0_i32_1773 : BitVec 32 := 0#32
  let v1826 : BitVec 1 := Scalar.cmpi .sgt v245 c0_i32_1773
  let v1827 : BitVec 32 := Scalar.extui v1826
  let c1_i32_1774 : BitVec 32 := 1#32
  let v1828 : BitVec 32 := Scalar.addi v245 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let c0_i32_224 : BitVec 32 := 0#32
  let v265 : BitVec 1 := Scalar.cmpi .eq v264 c0_i32_224
  let c3_i32_225 : BitVec 32 := 3#32
  let v266 : BitVec 32 := Scalar.remsi v264 c3_i32_225
  let c1_i32_226 : BitVec 32 := 1#32
  let v267 : BitVec 1 := Scalar.cmpi .eq v266 c1_i32_226
  let v268 : BitVec 1 := Scalar.ori v265 v267
  let v269 : BitVec 32 := Scalar.extui v268
  let c0_i32_227 : BitVec 32 := 0#32
  let v270 : BitVec 1 := Scalar.cmpi .ne v269 c0_i32_227
  v270

def k0_off28 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let v1825 : BitVec 32 := Scalar.muli c64_i32 v264
  let c64_i32_1782 : BitVec 32 := 64#32
  let c0_i32_1773 : BitVec 32 := 0#32
  let v1826 : BitVec 1 := Scalar.cmpi .sgt v264 c0_i32_1773
  let v1827 : BitVec 32 := Scalar.extui v1826
  let c1_i32_1774 : BitVec 32 := 1#32
  let v1828 : BitVec 32 := Scalar.addi v264 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let c3_i32_228 : BitVec 32 := 3#32
  let v271 : BitVec 32 := Scalar.remsi v264 c3_i32_228
  let c0_i32_229 : BitVec 32 := 0#32
  let v272 : BitVec 1 := Scalar.cmpi .eq v271 c0_i32_229
  let c0_i32_230 : BitVec 32 := 0#32
  let v273 : BitVec 1 := Scalar.cmpi .sgt v264 c0_i32_230
  let v274 : BitVec 1 := Scalar.andi v272 v273
  let v275 : BitVec 32 := Scalar.extui v274
  let c0_i32_231 : BitVec 32 := 0#32
  let v276 : BitVec 1 := Scalar.cmpi .ne v275 c0_i32_231
  v276

def k0_off29 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let v1825 : BitVec 32 := Scalar.muli c64_i32 v264
  let c64_i32_1782 : BitVec 32 := 64#32
  let c0_i32_1773 : BitVec 32 := 0#32
  let v1826 : BitVec 1 := Scalar.cmpi .sgt v264 c0_i32_1773
  let v1827 : BitVec 32 := Scalar.extui v1826
  let c1_i32_1774 : BitVec 32 := 1#32
  let v1828 : BitVec 32 := Scalar.addi v264 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let c3_i32_232 : BitVec 32 := 3#32
  let v277 : BitVec 32 := Scalar.remsi v264 c3_i32_232
  let c2_i32_233 : BitVec 32 := 2#32
  let v278 : BitVec 1 := Scalar.cmpi .eq v277 c2_i32_233
  let v279 : BitVec 32 := Scalar.extui v278
  let c0_i32_234 : BitVec 32 := 0#32
  let v280 : BitVec 1 := Scalar.cmpi .ne v279 c0_i32_234
  v280

def k0_off30 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_221 : BitVec 32 := 32#32
  let v262 : BitVec 32 := Scalar.addi v2 c32_i32_221
  let c6_i32_222 : BitVec 32 := 6#32
  let v263 : BitVec 32 := Scalar.subi v262 c6_i32_222
  let c32_i32_223 : BitVec 32 := 32#32
  let v264 : BitVec 32 := Scalar.remsi v263 c32_i32_223
  let v1825 : BitVec 32 := Scalar.muli c64_i32 v264
  let c64_i32_1782 : BitVec 32 := 64#32
  let c0_i32_1773 : BitVec 32 := 0#32
  let v1826 : BitVec 1 := Scalar.cmpi .sgt v264 c0_i32_1773
  let v1827 : BitVec 32 := Scalar.extui v1826
  let c1_i32_1774 : BitVec 32 := 1#32
  let v1828 : BitVec 32 := Scalar.addi v264 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let c0_i32_238 : BitVec 32 := 0#32
  let v284 : BitVec 1 := Scalar.cmpi .eq v283 c0_i32_238
  let c3_i32_239 : BitVec 32 := 3#32
  let v285 : BitVec 32 := Scalar.remsi v283 c3_i32_239
  let c1_i32_240 : BitVec 32 := 1#32
  let v286 : BitVec 1 := Scalar.cmpi .eq v285 c1_i32_240
  let v287 : BitVec 1 := Scalar.ori v284 v286
  let v288 : BitVec 32 := Scalar.extui v287
  let c0_i32_241 : BitVec 32 := 0#32
  let v289 : BitVec 1 := Scalar.cmpi .ne v288 c0_i32_241
  v289

def k0_off31 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let v1825 : BitVec 32 := Scalar.muli c64_i32 v283
  let c64_i32_1782 : BitVec 32 := 64#32
  let c0_i32_1773 : BitVec 32 := 0#32
  let v1826 : BitVec 1 := Scalar.cmpi .sgt v283 c0_i32_1773
  let v1827 : BitVec 32 := Scalar.extui v1826
  let c1_i32_1774 : BitVec 32 := 1#32
  let v1828 : BitVec 32 := Scalar.addi v283 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let c3_i32_242 : BitVec 32 := 3#32
  let v290 : BitVec 32 := Scalar.remsi v283 c3_i32_242
  let c0_i32_243 : BitVec 32 := 0#32
  let v291 : BitVec 1 := Scalar.cmpi .eq v290 c0_i32_243
  let c0_i32_244 : BitVec 32 := 0#32
  let v292 : BitVec 1 := Scalar.cmpi .sgt v283 c0_i32_244
  let v293 : BitVec 1 := Scalar.andi v291 v292
  let v294 : BitVec 32 := Scalar.extui v293
  let c0_i32_245 : BitVec 32 := 0#32
  let v295 : BitVec 1 := Scalar.cmpi .ne v294 c0_i32_245
  v295

def k0_off32 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let v1825 : BitVec 32 := Scalar.muli c64_i32 v283
  let c64_i32_1782 : BitVec 32 := 64#32
  let c0_i32_1773 : BitVec 32 := 0#32
  let v1826 : BitVec 1 := Scalar.cmpi .sgt v283 c0_i32_1773
  let v1827 : BitVec 32 := Scalar.extui v1826
  let c1_i32_1774 : BitVec 32 := 1#32
  let v1828 : BitVec 32 := Scalar.addi v283 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let c3_i32_246 : BitVec 32 := 3#32
  let v296 : BitVec 32 := Scalar.remsi v283 c3_i32_246
  let c2_i32_247 : BitVec 32 := 2#32
  let v297 : BitVec 1 := Scalar.cmpi .eq v296 c2_i32_247
  let v298 : BitVec 32 := Scalar.extui v297
  let c0_i32_248 : BitVec 32 := 0#32
  let v299 : BitVec 1 := Scalar.cmpi .ne v298 c0_i32_248
  v299

def k0_off33 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_235 : BitVec 32 := 32#32
  let v281 : BitVec 32 := Scalar.addi v2 c32_i32_235
  let c7_i32_236 : BitVec 32 := 7#32
  let v282 : BitVec 32 := Scalar.subi v281 c7_i32_236
  let c32_i32_237 : BitVec 32 := 32#32
  let v283 : BitVec 32 := Scalar.remsi v282 c32_i32_237
  let v1825 : BitVec 32 := Scalar.muli c64_i32 v283
  let c64_i32_1782 : BitVec 32 := 64#32
  let c0_i32_1773 : BitVec 32 := 0#32
  let v1826 : BitVec 1 := Scalar.cmpi .sgt v283 c0_i32_1773
  let v1827 : BitVec 32 := Scalar.extui v1826
  let c1_i32_1774 : BitVec 32 := 1#32
  let v1828 : BitVec 32 := Scalar.addi v283 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let c0_i32_252 : BitVec 32 := 0#32
  let v303 : BitVec 1 := Scalar.cmpi .eq v302 c0_i32_252
  let c3_i32_253 : BitVec 32 := 3#32
  let v304 : BitVec 32 := Scalar.remsi v302 c3_i32_253
  let c1_i32_254 : BitVec 32 := 1#32
  let v305 : BitVec 1 := Scalar.cmpi .eq v304 c1_i32_254
  let v306 : BitVec 1 := Scalar.ori v303 v305
  let v307 : BitVec 32 := Scalar.extui v306
  let c0_i32_255 : BitVec 32 := 0#32
  let v308 : BitVec 1 := Scalar.cmpi .ne v307 c0_i32_255
  v308

def k0_off34 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let v1825 : BitVec 32 := Scalar.muli c64_i32 v302
  let c64_i32_1782 : BitVec 32 := 64#32
  let c0_i32_1773 : BitVec 32 := 0#32
  let v1826 : BitVec 1 := Scalar.cmpi .sgt v302 c0_i32_1773
  let v1827 : BitVec 32 := Scalar.extui v1826
  let c1_i32_1774 : BitVec 32 := 1#32
  let v1828 : BitVec 32 := Scalar.addi v302 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let c3_i32_256 : BitVec 32 := 3#32
  let v309 : BitVec 32 := Scalar.remsi v302 c3_i32_256
  let c0_i32_257 : BitVec 32 := 0#32
  let v310 : BitVec 1 := Scalar.cmpi .eq v309 c0_i32_257
  let c0_i32_258 : BitVec 32 := 0#32
  let v311 : BitVec 1 := Scalar.cmpi .sgt v302 c0_i32_258
  let v312 : BitVec 1 := Scalar.andi v310 v311
  let v313 : BitVec 32 := Scalar.extui v312
  let c0_i32_259 : BitVec 32 := 0#32
  let v314 : BitVec 1 := Scalar.cmpi .ne v313 c0_i32_259
  v314

def k0_off35 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let v1825 : BitVec 32 := Scalar.muli c64_i32 v302
  let c64_i32_1782 : BitVec 32 := 64#32
  let c0_i32_1773 : BitVec 32 := 0#32
  let v1826 : BitVec 1 := Scalar.cmpi .sgt v302 c0_i32_1773
  let v1827 : BitVec 32 := Scalar.extui v1826
  let c1_i32_1774 : BitVec 32 := 1#32
  let v1828 : BitVec 32 := Scalar.addi v302 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let c3_i32_260 : BitVec 32 := 3#32
  let v315 : BitVec 32 := Scalar.remsi v302 c3_i32_260
  let c2_i32_261 : BitVec 32 := 2#32
  let v316 : BitVec 1 := Scalar.cmpi .eq v315 c2_i32_261
  let v317 : BitVec 32 := Scalar.extui v316
  let c0_i32_262 : BitVec 32 := 0#32
  let v318 : BitVec 1 := Scalar.cmpi .ne v317 c0_i32_262
  v318

def k0_off36 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_249 : BitVec 32 := 32#32
  let v300 : BitVec 32 := Scalar.addi v2 c32_i32_249
  let c8_i32_250 : BitVec 32 := 8#32
  let v301 : BitVec 32 := Scalar.subi v300 c8_i32_250
  let c32_i32_251 : BitVec 32 := 32#32
  let v302 : BitVec 32 := Scalar.remsi v301 c32_i32_251
  let v1825 : BitVec 32 := Scalar.muli c64_i32 v302
  let c64_i32_1782 : BitVec 32 := 64#32
  let c0_i32_1773 : BitVec 32 := 0#32
  let v1826 : BitVec 1 := Scalar.cmpi .sgt v302 c0_i32_1773
  let v1827 : BitVec 32 := Scalar.extui v1826
  let c1_i32_1774 : BitVec 32 := 1#32
  let v1828 : BitVec 32 := Scalar.addi v302 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let c0_i32_266 : BitVec 32 := 0#32
  let v322 : BitVec 1 := Scalar.cmpi .eq v321 c0_i32_266
  let c3_i32_267 : BitVec 32 := 3#32
  let v323 : BitVec 32 := Scalar.remsi v321 c3_i32_267
  let c1_i32_268 : BitVec 32 := 1#32
  let v324 : BitVec 1 := Scalar.cmpi .eq v323 c1_i32_268
  let v325 : BitVec 1 := Scalar.ori v322 v324
  let v326 : BitVec 32 := Scalar.extui v325
  let c0_i32_269 : BitVec 32 := 0#32
  let v327 : BitVec 1 := Scalar.cmpi .ne v326 c0_i32_269
  v327

def k0_off37 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let v1825 : BitVec 32 := Scalar.muli c64_i32 v321
  let c64_i32_1782 : BitVec 32 := 64#32
  let c0_i32_1773 : BitVec 32 := 0#32
  let v1826 : BitVec 1 := Scalar.cmpi .sgt v321 c0_i32_1773
  let v1827 : BitVec 32 := Scalar.extui v1826
  let c1_i32_1774 : BitVec 32 := 1#32
  let v1828 : BitVec 32 := Scalar.addi v321 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let c3_i32_270 : BitVec 32 := 3#32
  let v328 : BitVec 32 := Scalar.remsi v321 c3_i32_270
  let c0_i32_271 : BitVec 32 := 0#32
  let v329 : BitVec 1 := Scalar.cmpi .eq v328 c0_i32_271
  let c0_i32_272 : BitVec 32 := 0#32
  let v330 : BitVec 1 := Scalar.cmpi .sgt v321 c0_i32_272
  let v331 : BitVec 1 := Scalar.andi v329 v330
  let v332 : BitVec 32 := Scalar.extui v331
  let c0_i32_273 : BitVec 32 := 0#32
  let v333 : BitVec 1 := Scalar.cmpi .ne v332 c0_i32_273
  v333

def k0_off38 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let v1825 : BitVec 32 := Scalar.muli c64_i32 v321
  let c64_i32_1782 : BitVec 32 := 64#32
  let c0_i32_1773 : BitVec 32 := 0#32
  let v1826 : BitVec 1 := Scalar.cmpi .sgt v321 c0_i32_1773
  let v1827 : BitVec 32 := Scalar.extui v1826
  let c1_i32_1774 : BitVec 32 := 1#32
  let v1828 : BitVec 32 := Scalar.addi v321 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let c3_i32_274 : BitVec 32 := 3#32
  let v334 : BitVec 32 := Scalar.remsi v321 c3_i32_274
  let c2_i32_275 : BitVec 32 := 2#32
  let v335 : BitVec 1 := Scalar.cmpi .eq v334 c2_i32_275
  let v336 : BitVec 32 := Scalar.extui v335
  let c0_i32_276 : BitVec 32 := 0#32
  let v337 : BitVec 1 := Scalar.cmpi .ne v336 c0_i32_276
  v337

def k0_off39 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_263 : BitVec 32 := 32#32
  let v319 : BitVec 32 := Scalar.addi v2 c32_i32_263
  let c9_i32_264 : BitVec 32 := 9#32
  let v320 : BitVec 32 := Scalar.subi v319 c9_i32_264
  let c32_i32_265 : BitVec 32 := 32#32
  let v321 : BitVec 32 := Scalar.remsi v320 c32_i32_265
  let v1825 : BitVec 32 := Scalar.muli c64_i32 v321
  let c64_i32_1782 : BitVec 32 := 64#32
  let c0_i32_1773 : BitVec 32 := 0#32
  let v1826 : BitVec 1 := Scalar.cmpi .sgt v321 c0_i32_1773
  let v1827 : BitVec 32 := Scalar.extui v1826
  let c1_i32_1774 : BitVec 32 := 1#32
  let v1828 : BitVec 32 := Scalar.addi v321 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let c0_i32_280 : BitVec 32 := 0#32
  let v341 : BitVec 1 := Scalar.cmpi .eq v340 c0_i32_280
  let c3_i32_281 : BitVec 32 := 3#32
  let v342 : BitVec 32 := Scalar.remsi v340 c3_i32_281
  let c1_i32_282 : BitVec 32 := 1#32
  let v343 : BitVec 1 := Scalar.cmpi .eq v342 c1_i32_282
  let v344 : BitVec 1 := Scalar.ori v341 v343
  let v345 : BitVec 32 := Scalar.extui v344
  let c0_i32_283 : BitVec 32 := 0#32
  let v346 : BitVec 1 := Scalar.cmpi .ne v345 c0_i32_283
  v346

def k0_off40 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let v1825 : BitVec 32 := Scalar.muli c64_i32 v340
  let c64_i32_1782 : BitVec 32 := 64#32
  let c0_i32_1773 : BitVec 32 := 0#32
  let v1826 : BitVec 1 := Scalar.cmpi .sgt v340 c0_i32_1773
  let v1827 : BitVec 32 := Scalar.extui v1826
  let c1_i32_1774 : BitVec 32 := 1#32
  let v1828 : BitVec 32 := Scalar.addi v340 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let c3_i32_284 : BitVec 32 := 3#32
  let v347 : BitVec 32 := Scalar.remsi v340 c3_i32_284
  let c0_i32_285 : BitVec 32 := 0#32
  let v348 : BitVec 1 := Scalar.cmpi .eq v347 c0_i32_285
  let c0_i32_286 : BitVec 32 := 0#32
  let v349 : BitVec 1 := Scalar.cmpi .sgt v340 c0_i32_286
  let v350 : BitVec 1 := Scalar.andi v348 v349
  let v351 : BitVec 32 := Scalar.extui v350
  let c0_i32_287 : BitVec 32 := 0#32
  let v352 : BitVec 1 := Scalar.cmpi .ne v351 c0_i32_287
  v352

def k0_off41 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let v1825 : BitVec 32 := Scalar.muli c64_i32 v340
  let c64_i32_1782 : BitVec 32 := 64#32
  let c0_i32_1773 : BitVec 32 := 0#32
  let v1826 : BitVec 1 := Scalar.cmpi .sgt v340 c0_i32_1773
  let v1827 : BitVec 32 := Scalar.extui v1826
  let c1_i32_1774 : BitVec 32 := 1#32
  let v1828 : BitVec 32 := Scalar.addi v340 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let c3_i32_288 : BitVec 32 := 3#32
  let v353 : BitVec 32 := Scalar.remsi v340 c3_i32_288
  let c2_i32_289 : BitVec 32 := 2#32
  let v354 : BitVec 1 := Scalar.cmpi .eq v353 c2_i32_289
  let v355 : BitVec 32 := Scalar.extui v354
  let c0_i32_290 : BitVec 32 := 0#32
  let v356 : BitVec 1 := Scalar.cmpi .ne v355 c0_i32_290
  v356

def k0_off42 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_277 : BitVec 32 := 32#32
  let v338 : BitVec 32 := Scalar.addi v2 c32_i32_277
  let c10_i32_278 : BitVec 32 := 10#32
  let v339 : BitVec 32 := Scalar.subi v338 c10_i32_278
  let c32_i32_279 : BitVec 32 := 32#32
  let v340 : BitVec 32 := Scalar.remsi v339 c32_i32_279
  let v1825 : BitVec 32 := Scalar.muli c64_i32 v340
  let c64_i32_1782 : BitVec 32 := 64#32
  let c0_i32_1773 : BitVec 32 := 0#32
  let v1826 : BitVec 1 := Scalar.cmpi .sgt v340 c0_i32_1773
  let v1827 : BitVec 32 := Scalar.extui v1826
  let c1_i32_1774 : BitVec 32 := 1#32
  let v1828 : BitVec 32 := Scalar.addi v340 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let c0_i32_294 : BitVec 32 := 0#32
  let v360 : BitVec 1 := Scalar.cmpi .eq v359 c0_i32_294
  let c3_i32_295 : BitVec 32 := 3#32
  let v361 : BitVec 32 := Scalar.remsi v359 c3_i32_295
  let c1_i32_296 : BitVec 32 := 1#32
  let v362 : BitVec 1 := Scalar.cmpi .eq v361 c1_i32_296
  let v363 : BitVec 1 := Scalar.ori v360 v362
  let v364 : BitVec 32 := Scalar.extui v363
  let c0_i32_297 : BitVec 32 := 0#32
  let v365 : BitVec 1 := Scalar.cmpi .ne v364 c0_i32_297
  v365

def k0_off43 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let v1825 : BitVec 32 := Scalar.muli c64_i32 v359
  let c64_i32_1782 : BitVec 32 := 64#32
  let c0_i32_1773 : BitVec 32 := 0#32
  let v1826 : BitVec 1 := Scalar.cmpi .sgt v359 c0_i32_1773
  let v1827 : BitVec 32 := Scalar.extui v1826
  let c1_i32_1774 : BitVec 32 := 1#32
  let v1828 : BitVec 32 := Scalar.addi v359 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let c3_i32_298 : BitVec 32 := 3#32
  let v366 : BitVec 32 := Scalar.remsi v359 c3_i32_298
  let c0_i32_299 : BitVec 32 := 0#32
  let v367 : BitVec 1 := Scalar.cmpi .eq v366 c0_i32_299
  let c0_i32_300 : BitVec 32 := 0#32
  let v368 : BitVec 1 := Scalar.cmpi .sgt v359 c0_i32_300
  let v369 : BitVec 1 := Scalar.andi v367 v368
  let v370 : BitVec 32 := Scalar.extui v369
  let c0_i32_301 : BitVec 32 := 0#32
  let v371 : BitVec 1 := Scalar.cmpi .ne v370 c0_i32_301
  v371

def k0_off44 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let v1825 : BitVec 32 := Scalar.muli c64_i32 v359
  let c64_i32_1782 : BitVec 32 := 64#32
  let c0_i32_1773 : BitVec 32 := 0#32
  let v1826 : BitVec 1 := Scalar.cmpi .sgt v359 c0_i32_1773
  let v1827 : BitVec 32 := Scalar.extui v1826
  let c1_i32_1774 : BitVec 32 := 1#32
  let v1828 : BitVec 32 := Scalar.addi v359 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let c3_i32_302 : BitVec 32 := 3#32
  let v372 : BitVec 32 := Scalar.remsi v359 c3_i32_302
  let c2_i32_303 : BitVec 32 := 2#32
  let v373 : BitVec 1 := Scalar.cmpi .eq v372 c2_i32_303
  let v374 : BitVec 32 := Scalar.extui v373
  let c0_i32_304 : BitVec 32 := 0#32
  let v375 : BitVec 1 := Scalar.cmpi .ne v374 c0_i32_304
  v375

def k0_off45 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_291 : BitVec 32 := 32#32
  let v357 : BitVec 32 := Scalar.addi v2 c32_i32_291
  let c11_i32_292 : BitVec 32 := 11#32
  let v358 : BitVec 32 := Scalar.subi v357 c11_i32_292
  let c32_i32_293 : BitVec 32 := 32#32
  let v359 : BitVec 32 := Scalar.remsi v358 c32_i32_293
  let v1825 : BitVec 32 := Scalar.muli c64_i32 v359
  let c64_i32_1782 : BitVec 32 := 64#32
  let c0_i32_1773 : BitVec 32 := 0#32
  let v1826 : BitVec 1 := Scalar.cmpi .sgt v359 c0_i32_1773
  let v1827 : BitVec 32 := Scalar.extui v1826
  let c1_i32_1774 : BitVec 32 := 1#32
  let v1828 : BitVec 32 := Scalar.addi v359 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let c0_i32_308 : BitVec 32 := 0#32
  let v379 : BitVec 1 := Scalar.cmpi .eq v378 c0_i32_308
  let c3_i32_309 : BitVec 32 := 3#32
  let v380 : BitVec 32 := Scalar.remsi v378 c3_i32_309
  let c1_i32_310 : BitVec 32 := 1#32
  let v381 : BitVec 1 := Scalar.cmpi .eq v380 c1_i32_310
  let v382 : BitVec 1 := Scalar.ori v379 v381
  let v383 : BitVec 32 := Scalar.extui v382
  let c0_i32_311 : BitVec 32 := 0#32
  let v384 : BitVec 1 := Scalar.cmpi .ne v383 c0_i32_311
  v384

def k0_off46 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let v1825 : BitVec 32 := Scalar.muli c64_i32 v378
  let c64_i32_1782 : BitVec 32 := 64#32
  let c0_i32_1773 : BitVec 32 := 0#32
  let v1826 : BitVec 1 := Scalar.cmpi .sgt v378 c0_i32_1773
  let v1827 : BitVec 32 := Scalar.extui v1826
  let c1_i32_1774 : BitVec 32 := 1#32
  let v1828 : BitVec 32 := Scalar.addi v378 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let c3_i32_312 : BitVec 32 := 3#32
  let v385 : BitVec 32 := Scalar.remsi v378 c3_i32_312
  let c0_i32_313 : BitVec 32 := 0#32
  let v386 : BitVec 1 := Scalar.cmpi .eq v385 c0_i32_313
  let c0_i32_314 : BitVec 32 := 0#32
  let v387 : BitVec 1 := Scalar.cmpi .sgt v378 c0_i32_314
  let v388 : BitVec 1 := Scalar.andi v386 v387
  let v389 : BitVec 32 := Scalar.extui v388
  let c0_i32_315 : BitVec 32 := 0#32
  let v390 : BitVec 1 := Scalar.cmpi .ne v389 c0_i32_315
  v390

def k0_off47 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let v1825 : BitVec 32 := Scalar.muli c64_i32 v378
  let c64_i32_1782 : BitVec 32 := 64#32
  let c0_i32_1773 : BitVec 32 := 0#32
  let v1826 : BitVec 1 := Scalar.cmpi .sgt v378 c0_i32_1773
  let v1827 : BitVec 32 := Scalar.extui v1826
  let c1_i32_1774 : BitVec 32 := 1#32
  let v1828 : BitVec 32 := Scalar.addi v378 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let c3_i32_316 : BitVec 32 := 3#32
  let v391 : BitVec 32 := Scalar.remsi v378 c3_i32_316
  let c2_i32_317 : BitVec 32 := 2#32
  let v392 : BitVec 1 := Scalar.cmpi .eq v391 c2_i32_317
  let v393 : BitVec 32 := Scalar.extui v392
  let c0_i32_318 : BitVec 32 := 0#32
  let v394 : BitVec 1 := Scalar.cmpi .ne v393 c0_i32_318
  v394

def k0_off48 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_305 : BitVec 32 := 32#32
  let v376 : BitVec 32 := Scalar.addi v2 c32_i32_305
  let c12_i32_306 : BitVec 32 := 12#32
  let v377 : BitVec 32 := Scalar.subi v376 c12_i32_306
  let c32_i32_307 : BitVec 32 := 32#32
  let v378 : BitVec 32 := Scalar.remsi v377 c32_i32_307
  let v1825 : BitVec 32 := Scalar.muli c64_i32 v378
  let c64_i32_1782 : BitVec 32 := 64#32
  let c0_i32_1773 : BitVec 32 := 0#32
  let v1826 : BitVec 1 := Scalar.cmpi .sgt v378 c0_i32_1773
  let v1827 : BitVec 32 := Scalar.extui v1826
  let c1_i32_1774 : BitVec 32 := 1#32
  let v1828 : BitVec 32 := Scalar.addi v378 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let c0_i32_322 : BitVec 32 := 0#32
  let v398 : BitVec 1 := Scalar.cmpi .eq v397 c0_i32_322
  let c3_i32_323 : BitVec 32 := 3#32
  let v399 : BitVec 32 := Scalar.remsi v397 c3_i32_323
  let c1_i32_324 : BitVec 32 := 1#32
  let v400 : BitVec 1 := Scalar.cmpi .eq v399 c1_i32_324
  let v401 : BitVec 1 := Scalar.ori v398 v400
  let v402 : BitVec 32 := Scalar.extui v401
  let c0_i32_325 : BitVec 32 := 0#32
  let v403 : BitVec 1 := Scalar.cmpi .ne v402 c0_i32_325
  v403

def k0_off49 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let v1825 : BitVec 32 := Scalar.muli c64_i32 v397
  let c64_i32_1782 : BitVec 32 := 64#32
  let c0_i32_1773 : BitVec 32 := 0#32
  let v1826 : BitVec 1 := Scalar.cmpi .sgt v397 c0_i32_1773
  let v1827 : BitVec 32 := Scalar.extui v1826
  let c1_i32_1774 : BitVec 32 := 1#32
  let v1828 : BitVec 32 := Scalar.addi v397 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let c3_i32_326 : BitVec 32 := 3#32
  let v404 : BitVec 32 := Scalar.remsi v397 c3_i32_326
  let c0_i32_327 : BitVec 32 := 0#32
  let v405 : BitVec 1 := Scalar.cmpi .eq v404 c0_i32_327
  let c0_i32_328 : BitVec 32 := 0#32
  let v406 : BitVec 1 := Scalar.cmpi .sgt v397 c0_i32_328
  let v407 : BitVec 1 := Scalar.andi v405 v406
  let v408 : BitVec 32 := Scalar.extui v407
  let c0_i32_329 : BitVec 32 := 0#32
  let v409 : BitVec 1 := Scalar.cmpi .ne v408 c0_i32_329
  v409

def k0_off50 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let v1825 : BitVec 32 := Scalar.muli c64_i32 v397
  let c64_i32_1782 : BitVec 32 := 64#32
  let c0_i32_1773 : BitVec 32 := 0#32
  let v1826 : BitVec 1 := Scalar.cmpi .sgt v397 c0_i32_1773
  let v1827 : BitVec 32 := Scalar.extui v1826
  let c1_i32_1774 : BitVec 32 := 1#32
  let v1828 : BitVec 32 := Scalar.addi v397 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let c3_i32_330 : BitVec 32 := 3#32
  let v410 : BitVec 32 := Scalar.remsi v397 c3_i32_330
  let c2_i32_331 : BitVec 32 := 2#32
  let v411 : BitVec 1 := Scalar.cmpi .eq v410 c2_i32_331
  let v412 : BitVec 32 := Scalar.extui v411
  let c0_i32_332 : BitVec 32 := 0#32
  let v413 : BitVec 1 := Scalar.cmpi .ne v412 c0_i32_332
  v413

def k0_off51 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_319 : BitVec 32 := 32#32
  let v395 : BitVec 32 := Scalar.addi v2 c32_i32_319
  let c13_i32_320 : BitVec 32 := 13#32
  let v396 : BitVec 32 := Scalar.subi v395 c13_i32_320
  let c32_i32_321 : BitVec 32 := 32#32
  let v397 : BitVec 32 := Scalar.remsi v396 c32_i32_321
  let v1825 : BitVec 32 := Scalar.muli c64_i32 v397
  let c64_i32_1782 : BitVec 32 := 64#32
  let c0_i32_1773 : BitVec 32 := 0#32
  let v1826 : BitVec 1 := Scalar.cmpi .sgt v397 c0_i32_1773
  let v1827 : BitVec 32 := Scalar.extui v1826
  let c1_i32_1774 : BitVec 32 := 1#32
  let v1828 : BitVec 32 := Scalar.addi v397 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let c0_i32_336 : BitVec 32 := 0#32
  let v417 : BitVec 1 := Scalar.cmpi .eq v416 c0_i32_336
  let c3_i32_337 : BitVec 32 := 3#32
  let v418 : BitVec 32 := Scalar.remsi v416 c3_i32_337
  let c1_i32_338 : BitVec 32 := 1#32
  let v419 : BitVec 1 := Scalar.cmpi .eq v418 c1_i32_338
  let v420 : BitVec 1 := Scalar.ori v417 v419
  let v421 : BitVec 32 := Scalar.extui v420
  let c0_i32_339 : BitVec 32 := 0#32
  let v422 : BitVec 1 := Scalar.cmpi .ne v421 c0_i32_339
  v422

def k0_off52 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let v1825 : BitVec 32 := Scalar.muli c64_i32 v416
  let c64_i32_1782 : BitVec 32 := 64#32
  let c0_i32_1773 : BitVec 32 := 0#32
  let v1826 : BitVec 1 := Scalar.cmpi .sgt v416 c0_i32_1773
  let v1827 : BitVec 32 := Scalar.extui v1826
  let c1_i32_1774 : BitVec 32 := 1#32
  let v1828 : BitVec 32 := Scalar.addi v416 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let c3_i32_340 : BitVec 32 := 3#32
  let v423 : BitVec 32 := Scalar.remsi v416 c3_i32_340
  let c0_i32_341 : BitVec 32 := 0#32
  let v424 : BitVec 1 := Scalar.cmpi .eq v423 c0_i32_341
  let c0_i32_342 : BitVec 32 := 0#32
  let v425 : BitVec 1 := Scalar.cmpi .sgt v416 c0_i32_342
  let v426 : BitVec 1 := Scalar.andi v424 v425
  let v427 : BitVec 32 := Scalar.extui v426
  let c0_i32_343 : BitVec 32 := 0#32
  let v428 : BitVec 1 := Scalar.cmpi .ne v427 c0_i32_343
  v428

def k0_off53 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let v1825 : BitVec 32 := Scalar.muli c64_i32 v416
  let c64_i32_1782 : BitVec 32 := 64#32
  let c0_i32_1773 : BitVec 32 := 0#32
  let v1826 : BitVec 1 := Scalar.cmpi .sgt v416 c0_i32_1773
  let v1827 : BitVec 32 := Scalar.extui v1826
  let c1_i32_1774 : BitVec 32 := 1#32
  let v1828 : BitVec 32 := Scalar.addi v416 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let c3_i32_344 : BitVec 32 := 3#32
  let v429 : BitVec 32 := Scalar.remsi v416 c3_i32_344
  let c2_i32_345 : BitVec 32 := 2#32
  let v430 : BitVec 1 := Scalar.cmpi .eq v429 c2_i32_345
  let v431 : BitVec 32 := Scalar.extui v430
  let c0_i32_346 : BitVec 32 := 0#32
  let v432 : BitVec 1 := Scalar.cmpi .ne v431 c0_i32_346
  v432

def k0_off54 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_333 : BitVec 32 := 32#32
  let v414 : BitVec 32 := Scalar.addi v2 c32_i32_333
  let c14_i32_334 : BitVec 32 := 14#32
  let v415 : BitVec 32 := Scalar.subi v414 c14_i32_334
  let c32_i32_335 : BitVec 32 := 32#32
  let v416 : BitVec 32 := Scalar.remsi v415 c32_i32_335
  let v1825 : BitVec 32 := Scalar.muli c64_i32 v416
  let c64_i32_1782 : BitVec 32 := 64#32
  let c0_i32_1773 : BitVec 32 := 0#32
  let v1826 : BitVec 1 := Scalar.cmpi .sgt v416 c0_i32_1773
  let v1827 : BitVec 32 := Scalar.extui v1826
  let c1_i32_1774 : BitVec 32 := 1#32
  let v1828 : BitVec 32 := Scalar.addi v416 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let c0_i32_350 : BitVec 32 := 0#32
  let v436 : BitVec 1 := Scalar.cmpi .eq v435 c0_i32_350
  let c3_i32_351 : BitVec 32 := 3#32
  let v437 : BitVec 32 := Scalar.remsi v435 c3_i32_351
  let c1_i32_352 : BitVec 32 := 1#32
  let v438 : BitVec 1 := Scalar.cmpi .eq v437 c1_i32_352
  let v439 : BitVec 1 := Scalar.ori v436 v438
  let v440 : BitVec 32 := Scalar.extui v439
  let c0_i32_353 : BitVec 32 := 0#32
  let v441 : BitVec 1 := Scalar.cmpi .ne v440 c0_i32_353
  v441

def k0_off55 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let v1825 : BitVec 32 := Scalar.muli c64_i32 v435
  let c64_i32_1782 : BitVec 32 := 64#32
  let c0_i32_1773 : BitVec 32 := 0#32
  let v1826 : BitVec 1 := Scalar.cmpi .sgt v435 c0_i32_1773
  let v1827 : BitVec 32 := Scalar.extui v1826
  let c1_i32_1774 : BitVec 32 := 1#32
  let v1828 : BitVec 32 := Scalar.addi v435 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let c3_i32_354 : BitVec 32 := 3#32
  let v442 : BitVec 32 := Scalar.remsi v435 c3_i32_354
  let c0_i32_355 : BitVec 32 := 0#32
  let v443 : BitVec 1 := Scalar.cmpi .eq v442 c0_i32_355
  let c0_i32_356 : BitVec 32 := 0#32
  let v444 : BitVec 1 := Scalar.cmpi .sgt v435 c0_i32_356
  let v445 : BitVec 1 := Scalar.andi v443 v444
  let v446 : BitVec 32 := Scalar.extui v445
  let c0_i32_357 : BitVec 32 := 0#32
  let v447 : BitVec 1 := Scalar.cmpi .ne v446 c0_i32_357
  v447

def k0_off56 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let v1825 : BitVec 32 := Scalar.muli c64_i32 v435
  let c64_i32_1782 : BitVec 32 := 64#32
  let c0_i32_1773 : BitVec 32 := 0#32
  let v1826 : BitVec 1 := Scalar.cmpi .sgt v435 c0_i32_1773
  let v1827 : BitVec 32 := Scalar.extui v1826
  let c1_i32_1774 : BitVec 32 := 1#32
  let v1828 : BitVec 32 := Scalar.addi v435 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let c3_i32_358 : BitVec 32 := 3#32
  let v448 : BitVec 32 := Scalar.remsi v435 c3_i32_358
  let c2_i32_359 : BitVec 32 := 2#32
  let v449 : BitVec 1 := Scalar.cmpi .eq v448 c2_i32_359
  let v450 : BitVec 32 := Scalar.extui v449
  let c0_i32_360 : BitVec 32 := 0#32
  let v451 : BitVec 1 := Scalar.cmpi .ne v450 c0_i32_360
  v451

def k0_off57 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v433 : BitVec 32 := Scalar.addi v2 c32_i32_347
  let c15_i32_348 : BitVec 32 := 15#32
  let v434 : BitVec 32 := Scalar.subi v433 c15_i32_348
  let c32_i32_349 : BitVec 32 := 32#32
  let v435 : BitVec 32 := Scalar.remsi v434 c32_i32_349
  let v1825 : BitVec 32 := Scalar.muli c64_i32 v435
  let c64_i32_1782 : BitVec 32 := 64#32
  let c0_i32_1773 : BitVec 32 := 0#32
  let v1826 : BitVec 1 := Scalar.cmpi .sgt v435 c0_i32_1773
  let v1827 : BitVec 32 := Scalar.extui v1826
  let c1_i32_1774 : BitVec 32 := 1#32
  let v1828 : BitVec 32 := Scalar.addi v435 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let c0_i32_364 : BitVec 32 := 0#32
  let v455 : BitVec 1 := Scalar.cmpi .eq v454 c0_i32_364
  let c3_i32_365 : BitVec 32 := 3#32
  let v456 : BitVec 32 := Scalar.remsi v454 c3_i32_365
  let c1_i32_366 : BitVec 32 := 1#32
  let v457 : BitVec 1 := Scalar.cmpi .eq v456 c1_i32_366
  let v458 : BitVec 1 := Scalar.ori v455 v457
  let v459 : BitVec 32 := Scalar.extui v458
  let c0_i32_367 : BitVec 32 := 0#32
  let v460 : BitVec 1 := Scalar.cmpi .ne v459 c0_i32_367
  v460

def k0_off58 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let v1825 : BitVec 32 := Scalar.muli c64_i32 v454
  let c64_i32_1782 : BitVec 32 := 64#32
  let c0_i32_1773 : BitVec 32 := 0#32
  let v1826 : BitVec 1 := Scalar.cmpi .sgt v454 c0_i32_1773
  let v1827 : BitVec 32 := Scalar.extui v1826
  let c1_i32_1774 : BitVec 32 := 1#32
  let v1828 : BitVec 32 := Scalar.addi v454 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let c3_i32_368 : BitVec 32 := 3#32
  let v461 : BitVec 32 := Scalar.remsi v454 c3_i32_368
  let c0_i32_369 : BitVec 32 := 0#32
  let v462 : BitVec 1 := Scalar.cmpi .eq v461 c0_i32_369
  let c0_i32_370 : BitVec 32 := 0#32
  let v463 : BitVec 1 := Scalar.cmpi .sgt v454 c0_i32_370
  let v464 : BitVec 1 := Scalar.andi v462 v463
  let v465 : BitVec 32 := Scalar.extui v464
  let c0_i32_371 : BitVec 32 := 0#32
  let v466 : BitVec 1 := Scalar.cmpi .ne v465 c0_i32_371
  v466

def k0_off59 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let v1825 : BitVec 32 := Scalar.muli c64_i32 v454
  let c64_i32_1782 : BitVec 32 := 64#32
  let c0_i32_1773 : BitVec 32 := 0#32
  let v1826 : BitVec 1 := Scalar.cmpi .sgt v454 c0_i32_1773
  let v1827 : BitVec 32 := Scalar.extui v1826
  let c1_i32_1774 : BitVec 32 := 1#32
  let v1828 : BitVec 32 := Scalar.addi v454 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let c3_i32_372 : BitVec 32 := 3#32
  let v467 : BitVec 32 := Scalar.remsi v454 c3_i32_372
  let c2_i32_373 : BitVec 32 := 2#32
  let v468 : BitVec 1 := Scalar.cmpi .eq v467 c2_i32_373
  let v469 : BitVec 32 := Scalar.extui v468
  let c0_i32_374 : BitVec 32 := 0#32
  let v470 : BitVec 1 := Scalar.cmpi .ne v469 c0_i32_374
  v470

def k0_off60 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v452 : BitVec 32 := Scalar.addi v2 c32_i32_361
  let c16_i32_362 : BitVec 32 := 16#32
  let v453 : BitVec 32 := Scalar.subi v452 c16_i32_362
  let c32_i32_363 : BitVec 32 := 32#32
  let v454 : BitVec 32 := Scalar.remsi v453 c32_i32_363
  let v1825 : BitVec 32 := Scalar.muli c64_i32 v454
  let c64_i32_1782 : BitVec 32 := 64#32
  let c0_i32_1773 : BitVec 32 := 0#32
  let v1826 : BitVec 1 := Scalar.cmpi .sgt v454 c0_i32_1773
  let v1827 : BitVec 32 := Scalar.extui v1826
  let c1_i32_1774 : BitVec 32 := 1#32
  let v1828 : BitVec 32 := Scalar.addi v454 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let c0_i32_378 : BitVec 32 := 0#32
  let v474 : BitVec 1 := Scalar.cmpi .eq v473 c0_i32_378
  let c3_i32_379 : BitVec 32 := 3#32
  let v475 : BitVec 32 := Scalar.remsi v473 c3_i32_379
  let c1_i32_380 : BitVec 32 := 1#32
  let v476 : BitVec 1 := Scalar.cmpi .eq v475 c1_i32_380
  let v477 : BitVec 1 := Scalar.ori v474 v476
  let v478 : BitVec 32 := Scalar.extui v477
  let c0_i32_381 : BitVec 32 := 0#32
  let v479 : BitVec 1 := Scalar.cmpi .ne v478 c0_i32_381
  v479

def k0_off61 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let v1825 : BitVec 32 := Scalar.muli c64_i32 v473
  let c64_i32_1782 : BitVec 32 := 64#32
  let c0_i32_1773 : BitVec 32 := 0#32
  let v1826 : BitVec 1 := Scalar.cmpi .sgt v473 c0_i32_1773
  let v1827 : BitVec 32 := Scalar.extui v1826
  let c1_i32_1774 : BitVec 32 := 1#32
  let v1828 : BitVec 32 := Scalar.addi v473 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let c3_i32_382 : BitVec 32 := 3#32
  let v480 : BitVec 32 := Scalar.remsi v473 c3_i32_382
  let c0_i32_383 : BitVec 32 := 0#32
  let v481 : BitVec 1 := Scalar.cmpi .eq v480 c0_i32_383
  let c0_i32_384 : BitVec 32 := 0#32
  let v482 : BitVec 1 := Scalar.cmpi .sgt v473 c0_i32_384
  let v483 : BitVec 1 := Scalar.andi v481 v482
  let v484 : BitVec 32 := Scalar.extui v483
  let c0_i32_385 : BitVec 32 := 0#32
  let v485 : BitVec 1 := Scalar.cmpi .ne v484 c0_i32_385
  v485

def k0_off62 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let v1825 : BitVec 32 := Scalar.muli c64_i32 v473
  let c64_i32_1782 : BitVec 32 := 64#32
  let c0_i32_1773 : BitVec 32 := 0#32
  let v1826 : BitVec 1 := Scalar.cmpi .sgt v473 c0_i32_1773
  let v1827 : BitVec 32 := Scalar.extui v1826
  let c1_i32_1774 : BitVec 32 := 1#32
  let v1828 : BitVec 32 := Scalar.addi v473 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let c3_i32_386 : BitVec 32 := 3#32
  let v486 : BitVec 32 := Scalar.remsi v473 c3_i32_386
  let c2_i32_387 : BitVec 32 := 2#32
  let v487 : BitVec 1 := Scalar.cmpi .eq v486 c2_i32_387
  let v488 : BitVec 32 := Scalar.extui v487
  let c0_i32_388 : BitVec 32 := 0#32
  let v489 : BitVec 1 := Scalar.cmpi .ne v488 c0_i32_388
  v489

def k0_off63 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_375 : BitVec 32 := 32#32
  let v471 : BitVec 32 := Scalar.addi v2 c32_i32_375
  let c17_i32_376 : BitVec 32 := 17#32
  let v472 : BitVec 32 := Scalar.subi v471 c17_i32_376
  let c32_i32_377 : BitVec 32 := 32#32
  let v473 : BitVec 32 := Scalar.remsi v472 c32_i32_377
  let v1825 : BitVec 32 := Scalar.muli c64_i32 v473
  let c64_i32_1782 : BitVec 32 := 64#32
  let c0_i32_1773 : BitVec 32 := 0#32
  let v1826 : BitVec 1 := Scalar.cmpi .sgt v473 c0_i32_1773
  let v1827 : BitVec 32 := Scalar.extui v1826
  let c1_i32_1774 : BitVec 32 := 1#32
  let v1828 : BitVec 32 := Scalar.addi v473 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let c0_i32_392 : BitVec 32 := 0#32
  let v493 : BitVec 1 := Scalar.cmpi .eq v492 c0_i32_392
  let c3_i32_393 : BitVec 32 := 3#32
  let v494 : BitVec 32 := Scalar.remsi v492 c3_i32_393
  let c1_i32_394 : BitVec 32 := 1#32
  let v495 : BitVec 1 := Scalar.cmpi .eq v494 c1_i32_394
  let v496 : BitVec 1 := Scalar.ori v493 v495
  let v497 : BitVec 32 := Scalar.extui v496
  let c0_i32_395 : BitVec 32 := 0#32
  let v498 : BitVec 1 := Scalar.cmpi .ne v497 c0_i32_395
  v498

def k0_off64 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let v1825 : BitVec 32 := Scalar.muli c64_i32 v492
  let c64_i32_1782 : BitVec 32 := 64#32
  let c0_i32_1773 : BitVec 32 := 0#32
  let v1826 : BitVec 1 := Scalar.cmpi .sgt v492 c0_i32_1773
  let v1827 : BitVec 32 := Scalar.extui v1826
  let c1_i32_1774 : BitVec 32 := 1#32
  let v1828 : BitVec 32 := Scalar.addi v492 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let c3_i32_396 : BitVec 32 := 3#32
  let v499 : BitVec 32 := Scalar.remsi v492 c3_i32_396
  let c0_i32_397 : BitVec 32 := 0#32
  let v500 : BitVec 1 := Scalar.cmpi .eq v499 c0_i32_397
  let c0_i32_398 : BitVec 32 := 0#32
  let v501 : BitVec 1 := Scalar.cmpi .sgt v492 c0_i32_398
  let v502 : BitVec 1 := Scalar.andi v500 v501
  let v503 : BitVec 32 := Scalar.extui v502
  let c0_i32_399 : BitVec 32 := 0#32
  let v504 : BitVec 1 := Scalar.cmpi .ne v503 c0_i32_399
  v504

def k0_off65 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let v1825 : BitVec 32 := Scalar.muli c64_i32 v492
  let c64_i32_1782 : BitVec 32 := 64#32
  let c0_i32_1773 : BitVec 32 := 0#32
  let v1826 : BitVec 1 := Scalar.cmpi .sgt v492 c0_i32_1773
  let v1827 : BitVec 32 := Scalar.extui v1826
  let c1_i32_1774 : BitVec 32 := 1#32
  let v1828 : BitVec 32 := Scalar.addi v492 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let c3_i32_400 : BitVec 32 := 3#32
  let v505 : BitVec 32 := Scalar.remsi v492 c3_i32_400
  let c2_i32_401 : BitVec 32 := 2#32
  let v506 : BitVec 1 := Scalar.cmpi .eq v505 c2_i32_401
  let v507 : BitVec 32 := Scalar.extui v506
  let c0_i32_402 : BitVec 32 := 0#32
  let v508 : BitVec 1 := Scalar.cmpi .ne v507 c0_i32_402
  v508

def k0_off66 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_389 : BitVec 32 := 32#32
  let v490 : BitVec 32 := Scalar.addi v2 c32_i32_389
  let c18_i32_390 : BitVec 32 := 18#32
  let v491 : BitVec 32 := Scalar.subi v490 c18_i32_390
  let c32_i32_391 : BitVec 32 := 32#32
  let v492 : BitVec 32 := Scalar.remsi v491 c32_i32_391
  let v1825 : BitVec 32 := Scalar.muli c64_i32 v492
  let c64_i32_1782 : BitVec 32 := 64#32
  let c0_i32_1773 : BitVec 32 := 0#32
  let v1826 : BitVec 1 := Scalar.cmpi .sgt v492 c0_i32_1773
  let v1827 : BitVec 32 := Scalar.extui v1826
  let c1_i32_1774 : BitVec 32 := 1#32
  let v1828 : BitVec 32 := Scalar.addi v492 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let c0_i32_406 : BitVec 32 := 0#32
  let v512 : BitVec 1 := Scalar.cmpi .eq v511 c0_i32_406
  let c3_i32_407 : BitVec 32 := 3#32
  let v513 : BitVec 32 := Scalar.remsi v511 c3_i32_407
  let c1_i32_408 : BitVec 32 := 1#32
  let v514 : BitVec 1 := Scalar.cmpi .eq v513 c1_i32_408
  let v515 : BitVec 1 := Scalar.ori v512 v514
  let v516 : BitVec 32 := Scalar.extui v515
  let c0_i32_409 : BitVec 32 := 0#32
  let v517 : BitVec 1 := Scalar.cmpi .ne v516 c0_i32_409
  v517

def k0_off67 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let v1825 : BitVec 32 := Scalar.muli c64_i32 v511
  let c64_i32_1782 : BitVec 32 := 64#32
  let c0_i32_1773 : BitVec 32 := 0#32
  let v1826 : BitVec 1 := Scalar.cmpi .sgt v511 c0_i32_1773
  let v1827 : BitVec 32 := Scalar.extui v1826
  let c1_i32_1774 : BitVec 32 := 1#32
  let v1828 : BitVec 32 := Scalar.addi v511 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let c3_i32_410 : BitVec 32 := 3#32
  let v518 : BitVec 32 := Scalar.remsi v511 c3_i32_410
  let c0_i32_411 : BitVec 32 := 0#32
  let v519 : BitVec 1 := Scalar.cmpi .eq v518 c0_i32_411
  let c0_i32_412 : BitVec 32 := 0#32
  let v520 : BitVec 1 := Scalar.cmpi .sgt v511 c0_i32_412
  let v521 : BitVec 1 := Scalar.andi v519 v520
  let v522 : BitVec 32 := Scalar.extui v521
  let c0_i32_413 : BitVec 32 := 0#32
  let v523 : BitVec 1 := Scalar.cmpi .ne v522 c0_i32_413
  v523

def k0_off68 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let v1825 : BitVec 32 := Scalar.muli c64_i32 v511
  let c64_i32_1782 : BitVec 32 := 64#32
  let c0_i32_1773 : BitVec 32 := 0#32
  let v1826 : BitVec 1 := Scalar.cmpi .sgt v511 c0_i32_1773
  let v1827 : BitVec 32 := Scalar.extui v1826
  let c1_i32_1774 : BitVec 32 := 1#32
  let v1828 : BitVec 32 := Scalar.addi v511 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let c3_i32_414 : BitVec 32 := 3#32
  let v524 : BitVec 32 := Scalar.remsi v511 c3_i32_414
  let c2_i32_415 : BitVec 32 := 2#32
  let v525 : BitVec 1 := Scalar.cmpi .eq v524 c2_i32_415
  let v526 : BitVec 32 := Scalar.extui v525
  let c0_i32_416 : BitVec 32 := 0#32
  let v527 : BitVec 1 := Scalar.cmpi .ne v526 c0_i32_416
  v527

def k0_off69 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_403 : BitVec 32 := 32#32
  let v509 : BitVec 32 := Scalar.addi v2 c32_i32_403
  let c19_i32_404 : BitVec 32 := 19#32
  let v510 : BitVec 32 := Scalar.subi v509 c19_i32_404
  let c32_i32_405 : BitVec 32 := 32#32
  let v511 : BitVec 32 := Scalar.remsi v510 c32_i32_405
  let v1825 : BitVec 32 := Scalar.muli c64_i32 v511
  let c64_i32_1782 : BitVec 32 := 64#32
  let c0_i32_1773 : BitVec 32 := 0#32
  let v1826 : BitVec 1 := Scalar.cmpi .sgt v511 c0_i32_1773
  let v1827 : BitVec 32 := Scalar.extui v1826
  let c1_i32_1774 : BitVec 32 := 1#32
  let v1828 : BitVec 32 := Scalar.addi v511 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let c0_i32_420 : BitVec 32 := 0#32
  let v531 : BitVec 1 := Scalar.cmpi .eq v530 c0_i32_420
  let c3_i32_421 : BitVec 32 := 3#32
  let v532 : BitVec 32 := Scalar.remsi v530 c3_i32_421
  let c1_i32_422 : BitVec 32 := 1#32
  let v533 : BitVec 1 := Scalar.cmpi .eq v532 c1_i32_422
  let v534 : BitVec 1 := Scalar.ori v531 v533
  let v535 : BitVec 32 := Scalar.extui v534
  let c0_i32_423 : BitVec 32 := 0#32
  let v536 : BitVec 1 := Scalar.cmpi .ne v535 c0_i32_423
  v536

def k0_off70 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let v1825 : BitVec 32 := Scalar.muli c64_i32 v530
  let c64_i32_1782 : BitVec 32 := 64#32
  let c0_i32_1773 : BitVec 32 := 0#32
  let v1826 : BitVec 1 := Scalar.cmpi .sgt v530 c0_i32_1773
  let v1827 : BitVec 32 := Scalar.extui v1826
  let c1_i32_1774 : BitVec 32 := 1#32
  let v1828 : BitVec 32 := Scalar.addi v530 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let c3_i32_424 : BitVec 32 := 3#32
  let v537 : BitVec 32 := Scalar.remsi v530 c3_i32_424
  let c0_i32_425 : BitVec 32 := 0#32
  let v538 : BitVec 1 := Scalar.cmpi .eq v537 c0_i32_425
  let c0_i32_426 : BitVec 32 := 0#32
  let v539 : BitVec 1 := Scalar.cmpi .sgt v530 c0_i32_426
  let v540 : BitVec 1 := Scalar.andi v538 v539
  let v541 : BitVec 32 := Scalar.extui v540
  let c0_i32_427 : BitVec 32 := 0#32
  let v542 : BitVec 1 := Scalar.cmpi .ne v541 c0_i32_427
  v542

def k0_off71 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let v1825 : BitVec 32 := Scalar.muli c64_i32 v530
  let c64_i32_1782 : BitVec 32 := 64#32
  let c0_i32_1773 : BitVec 32 := 0#32
  let v1826 : BitVec 1 := Scalar.cmpi .sgt v530 c0_i32_1773
  let v1827 : BitVec 32 := Scalar.extui v1826
  let c1_i32_1774 : BitVec 32 := 1#32
  let v1828 : BitVec 32 := Scalar.addi v530 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let c3_i32_428 : BitVec 32 := 3#32
  let v543 : BitVec 32 := Scalar.remsi v530 c3_i32_428
  let c2_i32_429 : BitVec 32 := 2#32
  let v544 : BitVec 1 := Scalar.cmpi .eq v543 c2_i32_429
  let v545 : BitVec 32 := Scalar.extui v544
  let c0_i32_430 : BitVec 32 := 0#32
  let v546 : BitVec 1 := Scalar.cmpi .ne v545 c0_i32_430
  v546

def k0_off72 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v528 : BitVec 32 := Scalar.addi v2 c32_i32_417
  let c20_i32_418 : BitVec 32 := 20#32
  let v529 : BitVec 32 := Scalar.subi v528 c20_i32_418
  let c32_i32_419 : BitVec 32 := 32#32
  let v530 : BitVec 32 := Scalar.remsi v529 c32_i32_419
  let v1825 : BitVec 32 := Scalar.muli c64_i32 v530
  let c64_i32_1782 : BitVec 32 := 64#32
  let c0_i32_1773 : BitVec 32 := 0#32
  let v1826 : BitVec 1 := Scalar.cmpi .sgt v530 c0_i32_1773
  let v1827 : BitVec 32 := Scalar.extui v1826
  let c1_i32_1774 : BitVec 32 := 1#32
  let v1828 : BitVec 32 := Scalar.addi v530 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let c0_i32_434 : BitVec 32 := 0#32
  let v550 : BitVec 1 := Scalar.cmpi .eq v549 c0_i32_434
  let c3_i32_435 : BitVec 32 := 3#32
  let v551 : BitVec 32 := Scalar.remsi v549 c3_i32_435
  let c1_i32_436 : BitVec 32 := 1#32
  let v552 : BitVec 1 := Scalar.cmpi .eq v551 c1_i32_436
  let v553 : BitVec 1 := Scalar.ori v550 v552
  let v554 : BitVec 32 := Scalar.extui v553
  let c0_i32_437 : BitVec 32 := 0#32
  let v555 : BitVec 1 := Scalar.cmpi .ne v554 c0_i32_437
  v555

def k0_off73 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let v1825 : BitVec 32 := Scalar.muli c64_i32 v549
  let c64_i32_1782 : BitVec 32 := 64#32
  let c0_i32_1773 : BitVec 32 := 0#32
  let v1826 : BitVec 1 := Scalar.cmpi .sgt v549 c0_i32_1773
  let v1827 : BitVec 32 := Scalar.extui v1826
  let c1_i32_1774 : BitVec 32 := 1#32
  let v1828 : BitVec 32 := Scalar.addi v549 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let c3_i32_438 : BitVec 32 := 3#32
  let v556 : BitVec 32 := Scalar.remsi v549 c3_i32_438
  let c0_i32_439 : BitVec 32 := 0#32
  let v557 : BitVec 1 := Scalar.cmpi .eq v556 c0_i32_439
  let c0_i32_440 : BitVec 32 := 0#32
  let v558 : BitVec 1 := Scalar.cmpi .sgt v549 c0_i32_440
  let v559 : BitVec 1 := Scalar.andi v557 v558
  let v560 : BitVec 32 := Scalar.extui v559
  let c0_i32_441 : BitVec 32 := 0#32
  let v561 : BitVec 1 := Scalar.cmpi .ne v560 c0_i32_441
  v561

def k0_off74 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let v1825 : BitVec 32 := Scalar.muli c64_i32 v549
  let c64_i32_1782 : BitVec 32 := 64#32
  let c0_i32_1773 : BitVec 32 := 0#32
  let v1826 : BitVec 1 := Scalar.cmpi .sgt v549 c0_i32_1773
  let v1827 : BitVec 32 := Scalar.extui v1826
  let c1_i32_1774 : BitVec 32 := 1#32
  let v1828 : BitVec 32 := Scalar.addi v549 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let c3_i32_442 : BitVec 32 := 3#32
  let v562 : BitVec 32 := Scalar.remsi v549 c3_i32_442
  let c2_i32_443 : BitVec 32 := 2#32
  let v563 : BitVec 1 := Scalar.cmpi .eq v562 c2_i32_443
  let v564 : BitVec 32 := Scalar.extui v563
  let c0_i32_444 : BitVec 32 := 0#32
  let v565 : BitVec 1 := Scalar.cmpi .ne v564 c0_i32_444
  v565

def k0_off75 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v547 : BitVec 32 := Scalar.addi v2 c32_i32_431
  let c21_i32_432 : BitVec 32 := 21#32
  let v548 : BitVec 32 := Scalar.subi v547 c21_i32_432
  let c32_i32_433 : BitVec 32 := 32#32
  let v549 : BitVec 32 := Scalar.remsi v548 c32_i32_433
  let v1825 : BitVec 32 := Scalar.muli c64_i32 v549
  let c64_i32_1782 : BitVec 32 := 64#32
  let c0_i32_1773 : BitVec 32 := 0#32
  let v1826 : BitVec 1 := Scalar.cmpi .sgt v549 c0_i32_1773
  let v1827 : BitVec 32 := Scalar.extui v1826
  let c1_i32_1774 : BitVec 32 := 1#32
  let v1828 : BitVec 32 := Scalar.addi v549 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let c0_i32_448 : BitVec 32 := 0#32
  let v569 : BitVec 1 := Scalar.cmpi .eq v568 c0_i32_448
  let c3_i32_449 : BitVec 32 := 3#32
  let v570 : BitVec 32 := Scalar.remsi v568 c3_i32_449
  let c1_i32_450 : BitVec 32 := 1#32
  let v571 : BitVec 1 := Scalar.cmpi .eq v570 c1_i32_450
  let v572 : BitVec 1 := Scalar.ori v569 v571
  let v573 : BitVec 32 := Scalar.extui v572
  let c0_i32_451 : BitVec 32 := 0#32
  let v574 : BitVec 1 := Scalar.cmpi .ne v573 c0_i32_451
  v574

def k0_off76 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let v1825 : BitVec 32 := Scalar.muli c64_i32 v568
  let c64_i32_1782 : BitVec 32 := 64#32
  let c0_i32_1773 : BitVec 32 := 0#32
  let v1826 : BitVec 1 := Scalar.cmpi .sgt v568 c0_i32_1773
  let v1827 : BitVec 32 := Scalar.extui v1826
  let c1_i32_1774 : BitVec 32 := 1#32
  let v1828 : BitVec 32 := Scalar.addi v568 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let c3_i32_452 : BitVec 32 := 3#32
  let v575 : BitVec 32 := Scalar.remsi v568 c3_i32_452
  let c0_i32_453 : BitVec 32 := 0#32
  let v576 : BitVec 1 := Scalar.cmpi .eq v575 c0_i32_453
  let c0_i32_454 : BitVec 32 := 0#32
  let v577 : BitVec 1 := Scalar.cmpi .sgt v568 c0_i32_454
  let v578 : BitVec 1 := Scalar.andi v576 v577
  let v579 : BitVec 32 := Scalar.extui v578
  let c0_i32_455 : BitVec 32 := 0#32
  let v580 : BitVec 1 := Scalar.cmpi .ne v579 c0_i32_455
  v580

def k0_off77 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let v1825 : BitVec 32 := Scalar.muli c64_i32 v568
  let c64_i32_1782 : BitVec 32 := 64#32
  let c0_i32_1773 : BitVec 32 := 0#32
  let v1826 : BitVec 1 := Scalar.cmpi .sgt v568 c0_i32_1773
  let v1827 : BitVec 32 := Scalar.extui v1826
  let c1_i32_1774 : BitVec 32 := 1#32
  let v1828 : BitVec 32 := Scalar.addi v568 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let c3_i32_456 : BitVec 32 := 3#32
  let v581 : BitVec 32 := Scalar.remsi v568 c3_i32_456
  let c2_i32_457 : BitVec 32 := 2#32
  let v582 : BitVec 1 := Scalar.cmpi .eq v581 c2_i32_457
  let v583 : BitVec 32 := Scalar.extui v582
  let c0_i32_458 : BitVec 32 := 0#32
  let v584 : BitVec 1 := Scalar.cmpi .ne v583 c0_i32_458
  v584

def k0_off78 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_445 : BitVec 32 := 32#32
  let v566 : BitVec 32 := Scalar.addi v2 c32_i32_445
  let c22_i32_446 : BitVec 32 := 22#32
  let v567 : BitVec 32 := Scalar.subi v566 c22_i32_446
  let c32_i32_447 : BitVec 32 := 32#32
  let v568 : BitVec 32 := Scalar.remsi v567 c32_i32_447
  let v1825 : BitVec 32 := Scalar.muli c64_i32 v568
  let c64_i32_1782 : BitVec 32 := 64#32
  let c0_i32_1773 : BitVec 32 := 0#32
  let v1826 : BitVec 1 := Scalar.cmpi .sgt v568 c0_i32_1773
  let v1827 : BitVec 32 := Scalar.extui v1826
  let c1_i32_1774 : BitVec 32 := 1#32
  let v1828 : BitVec 32 := Scalar.addi v568 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let c0_i32_462 : BitVec 32 := 0#32
  let v588 : BitVec 1 := Scalar.cmpi .eq v587 c0_i32_462
  let c3_i32_463 : BitVec 32 := 3#32
  let v589 : BitVec 32 := Scalar.remsi v587 c3_i32_463
  let c1_i32_464 : BitVec 32 := 1#32
  let v590 : BitVec 1 := Scalar.cmpi .eq v589 c1_i32_464
  let v591 : BitVec 1 := Scalar.ori v588 v590
  let v592 : BitVec 32 := Scalar.extui v591
  let c0_i32_465 : BitVec 32 := 0#32
  let v593 : BitVec 1 := Scalar.cmpi .ne v592 c0_i32_465
  v593

def k0_off79 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let v1825 : BitVec 32 := Scalar.muli c64_i32 v587
  let c64_i32_1782 : BitVec 32 := 64#32
  let c0_i32_1773 : BitVec 32 := 0#32
  let v1826 : BitVec 1 := Scalar.cmpi .sgt v587 c0_i32_1773
  let v1827 : BitVec 32 := Scalar.extui v1826
  let c1_i32_1774 : BitVec 32 := 1#32
  let v1828 : BitVec 32 := Scalar.addi v587 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let c3_i32_466 : BitVec 32 := 3#32
  let v594 : BitVec 32 := Scalar.remsi v587 c3_i32_466
  let c0_i32_467 : BitVec 32 := 0#32
  let v595 : BitVec 1 := Scalar.cmpi .eq v594 c0_i32_467
  let c0_i32_468 : BitVec 32 := 0#32
  let v596 : BitVec 1 := Scalar.cmpi .sgt v587 c0_i32_468
  let v597 : BitVec 1 := Scalar.andi v595 v596
  let v598 : BitVec 32 := Scalar.extui v597
  let c0_i32_469 : BitVec 32 := 0#32
  let v599 : BitVec 1 := Scalar.cmpi .ne v598 c0_i32_469
  v599

def k0_off80 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let v1825 : BitVec 32 := Scalar.muli c64_i32 v587
  let c64_i32_1782 : BitVec 32 := 64#32
  let c0_i32_1773 : BitVec 32 := 0#32
  let v1826 : BitVec 1 := Scalar.cmpi .sgt v587 c0_i32_1773
  let v1827 : BitVec 32 := Scalar.extui v1826
  let c1_i32_1774 : BitVec 32 := 1#32
  let v1828 : BitVec 32 := Scalar.addi v587 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let c3_i32_470 : BitVec 32 := 3#32
  let v600 : BitVec 32 := Scalar.remsi v587 c3_i32_470
  let c2_i32_471 : BitVec 32 := 2#32
  let v601 : BitVec 1 := Scalar.cmpi .eq v600 c2_i32_471
  let v602 : BitVec 32 := Scalar.extui v601
  let c0_i32_472 : BitVec 32 := 0#32
  let v603 : BitVec 1 := Scalar.cmpi .ne v602 c0_i32_472
  v603

def k0_off81 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_459 : BitVec 32 := 32#32
  let v585 : BitVec 32 := Scalar.addi v2 c32_i32_459
  let c23_i32_460 : BitVec 32 := 23#32
  let v586 : BitVec 32 := Scalar.subi v585 c23_i32_460
  let c32_i32_461 : BitVec 32 := 32#32
  let v587 : BitVec 32 := Scalar.remsi v586 c32_i32_461
  let v1825 : BitVec 32 := Scalar.muli c64_i32 v587
  let c64_i32_1782 : BitVec 32 := 64#32
  let c0_i32_1773 : BitVec 32 := 0#32
  let v1826 : BitVec 1 := Scalar.cmpi .sgt v587 c0_i32_1773
  let v1827 : BitVec 32 := Scalar.extui v1826
  let c1_i32_1774 : BitVec 32 := 1#32
  let v1828 : BitVec 32 := Scalar.addi v587 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let c0_i32_476 : BitVec 32 := 0#32
  let v607 : BitVec 1 := Scalar.cmpi .eq v606 c0_i32_476
  let c3_i32_477 : BitVec 32 := 3#32
  let v608 : BitVec 32 := Scalar.remsi v606 c3_i32_477
  let c1_i32_478 : BitVec 32 := 1#32
  let v609 : BitVec 1 := Scalar.cmpi .eq v608 c1_i32_478
  let v610 : BitVec 1 := Scalar.ori v607 v609
  let v611 : BitVec 32 := Scalar.extui v610
  let c0_i32_479 : BitVec 32 := 0#32
  let v612 : BitVec 1 := Scalar.cmpi .ne v611 c0_i32_479
  v612

def k0_off82 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let v1825 : BitVec 32 := Scalar.muli c64_i32 v606
  let c64_i32_1782 : BitVec 32 := 64#32
  let c0_i32_1773 : BitVec 32 := 0#32
  let v1826 : BitVec 1 := Scalar.cmpi .sgt v606 c0_i32_1773
  let v1827 : BitVec 32 := Scalar.extui v1826
  let c1_i32_1774 : BitVec 32 := 1#32
  let v1828 : BitVec 32 := Scalar.addi v606 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let c3_i32_480 : BitVec 32 := 3#32
  let v613 : BitVec 32 := Scalar.remsi v606 c3_i32_480
  let c0_i32_481 : BitVec 32 := 0#32
  let v614 : BitVec 1 := Scalar.cmpi .eq v613 c0_i32_481
  let c0_i32_482 : BitVec 32 := 0#32
  let v615 : BitVec 1 := Scalar.cmpi .sgt v606 c0_i32_482
  let v616 : BitVec 1 := Scalar.andi v614 v615
  let v617 : BitVec 32 := Scalar.extui v616
  let c0_i32_483 : BitVec 32 := 0#32
  let v618 : BitVec 1 := Scalar.cmpi .ne v617 c0_i32_483
  v618

def k0_off83 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let v1825 : BitVec 32 := Scalar.muli c64_i32 v606
  let c64_i32_1782 : BitVec 32 := 64#32
  let c0_i32_1773 : BitVec 32 := 0#32
  let v1826 : BitVec 1 := Scalar.cmpi .sgt v606 c0_i32_1773
  let v1827 : BitVec 32 := Scalar.extui v1826
  let c1_i32_1774 : BitVec 32 := 1#32
  let v1828 : BitVec 32 := Scalar.addi v606 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let c3_i32_484 : BitVec 32 := 3#32
  let v619 : BitVec 32 := Scalar.remsi v606 c3_i32_484
  let c2_i32_485 : BitVec 32 := 2#32
  let v620 : BitVec 1 := Scalar.cmpi .eq v619 c2_i32_485
  let v621 : BitVec 32 := Scalar.extui v620
  let c0_i32_486 : BitVec 32 := 0#32
  let v622 : BitVec 1 := Scalar.cmpi .ne v621 c0_i32_486
  v622

def k0_off84 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_473 : BitVec 32 := 32#32
  let v604 : BitVec 32 := Scalar.addi v2 c32_i32_473
  let c24_i32_474 : BitVec 32 := 24#32
  let v605 : BitVec 32 := Scalar.subi v604 c24_i32_474
  let c32_i32_475 : BitVec 32 := 32#32
  let v606 : BitVec 32 := Scalar.remsi v605 c32_i32_475
  let v1825 : BitVec 32 := Scalar.muli c64_i32 v606
  let c64_i32_1782 : BitVec 32 := 64#32
  let c0_i32_1773 : BitVec 32 := 0#32
  let v1826 : BitVec 1 := Scalar.cmpi .sgt v606 c0_i32_1773
  let v1827 : BitVec 32 := Scalar.extui v1826
  let c1_i32_1774 : BitVec 32 := 1#32
  let v1828 : BitVec 32 := Scalar.addi v606 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let c0_i32_490 : BitVec 32 := 0#32
  let v626 : BitVec 1 := Scalar.cmpi .eq v625 c0_i32_490
  let c3_i32_491 : BitVec 32 := 3#32
  let v627 : BitVec 32 := Scalar.remsi v625 c3_i32_491
  let c1_i32_492 : BitVec 32 := 1#32
  let v628 : BitVec 1 := Scalar.cmpi .eq v627 c1_i32_492
  let v629 : BitVec 1 := Scalar.ori v626 v628
  let v630 : BitVec 32 := Scalar.extui v629
  let c0_i32_493 : BitVec 32 := 0#32
  let v631 : BitVec 1 := Scalar.cmpi .ne v630 c0_i32_493
  v631

def k0_off85 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let v1825 : BitVec 32 := Scalar.muli c64_i32 v625
  let c64_i32_1782 : BitVec 32 := 64#32
  let c0_i32_1773 : BitVec 32 := 0#32
  let v1826 : BitVec 1 := Scalar.cmpi .sgt v625 c0_i32_1773
  let v1827 : BitVec 32 := Scalar.extui v1826
  let c1_i32_1774 : BitVec 32 := 1#32
  let v1828 : BitVec 32 := Scalar.addi v625 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let c3_i32_494 : BitVec 32 := 3#32
  let v632 : BitVec 32 := Scalar.remsi v625 c3_i32_494
  let c0_i32_495 : BitVec 32 := 0#32
  let v633 : BitVec 1 := Scalar.cmpi .eq v632 c0_i32_495
  let c0_i32_496 : BitVec 32 := 0#32
  let v634 : BitVec 1 := Scalar.cmpi .sgt v625 c0_i32_496
  let v635 : BitVec 1 := Scalar.andi v633 v634
  let v636 : BitVec 32 := Scalar.extui v635
  let c0_i32_497 : BitVec 32 := 0#32
  let v637 : BitVec 1 := Scalar.cmpi .ne v636 c0_i32_497
  v637

def k0_off86 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let v1825 : BitVec 32 := Scalar.muli c64_i32 v625
  let c64_i32_1782 : BitVec 32 := 64#32
  let c0_i32_1773 : BitVec 32 := 0#32
  let v1826 : BitVec 1 := Scalar.cmpi .sgt v625 c0_i32_1773
  let v1827 : BitVec 32 := Scalar.extui v1826
  let c1_i32_1774 : BitVec 32 := 1#32
  let v1828 : BitVec 32 := Scalar.addi v625 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let c3_i32_498 : BitVec 32 := 3#32
  let v638 : BitVec 32 := Scalar.remsi v625 c3_i32_498
  let c2_i32_499 : BitVec 32 := 2#32
  let v639 : BitVec 1 := Scalar.cmpi .eq v638 c2_i32_499
  let v640 : BitVec 32 := Scalar.extui v639
  let c0_i32_500 : BitVec 32 := 0#32
  let v641 : BitVec 1 := Scalar.cmpi .ne v640 c0_i32_500
  v641

def k0_off87 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_487 : BitVec 32 := 32#32
  let v623 : BitVec 32 := Scalar.addi v2 c32_i32_487
  let c25_i32_488 : BitVec 32 := 25#32
  let v624 : BitVec 32 := Scalar.subi v623 c25_i32_488
  let c32_i32_489 : BitVec 32 := 32#32
  let v625 : BitVec 32 := Scalar.remsi v624 c32_i32_489
  let v1825 : BitVec 32 := Scalar.muli c64_i32 v625
  let c64_i32_1782 : BitVec 32 := 64#32
  let c0_i32_1773 : BitVec 32 := 0#32
  let v1826 : BitVec 1 := Scalar.cmpi .sgt v625 c0_i32_1773
  let v1827 : BitVec 32 := Scalar.extui v1826
  let c1_i32_1774 : BitVec 32 := 1#32
  let v1828 : BitVec 32 := Scalar.addi v625 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let c0_i32_504 : BitVec 32 := 0#32
  let v645 : BitVec 1 := Scalar.cmpi .eq v644 c0_i32_504
  let c3_i32_505 : BitVec 32 := 3#32
  let v646 : BitVec 32 := Scalar.remsi v644 c3_i32_505
  let c1_i32_506 : BitVec 32 := 1#32
  let v647 : BitVec 1 := Scalar.cmpi .eq v646 c1_i32_506
  let v648 : BitVec 1 := Scalar.ori v645 v647
  let v649 : BitVec 32 := Scalar.extui v648
  let c0_i32_507 : BitVec 32 := 0#32
  let v650 : BitVec 1 := Scalar.cmpi .ne v649 c0_i32_507
  v650

def k0_off88 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let v1825 : BitVec 32 := Scalar.muli c64_i32 v644
  let c64_i32_1782 : BitVec 32 := 64#32
  let c0_i32_1773 : BitVec 32 := 0#32
  let v1826 : BitVec 1 := Scalar.cmpi .sgt v644 c0_i32_1773
  let v1827 : BitVec 32 := Scalar.extui v1826
  let c1_i32_1774 : BitVec 32 := 1#32
  let v1828 : BitVec 32 := Scalar.addi v644 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let c3_i32_508 : BitVec 32 := 3#32
  let v651 : BitVec 32 := Scalar.remsi v644 c3_i32_508
  let c0_i32_509 : BitVec 32 := 0#32
  let v652 : BitVec 1 := Scalar.cmpi .eq v651 c0_i32_509
  let c0_i32_510 : BitVec 32 := 0#32
  let v653 : BitVec 1 := Scalar.cmpi .sgt v644 c0_i32_510
  let v654 : BitVec 1 := Scalar.andi v652 v653
  let v655 : BitVec 32 := Scalar.extui v654
  let c0_i32_511 : BitVec 32 := 0#32
  let v656 : BitVec 1 := Scalar.cmpi .ne v655 c0_i32_511
  v656

def k0_off89 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let v1825 : BitVec 32 := Scalar.muli c64_i32 v644
  let c64_i32_1782 : BitVec 32 := 64#32
  let c0_i32_1773 : BitVec 32 := 0#32
  let v1826 : BitVec 1 := Scalar.cmpi .sgt v644 c0_i32_1773
  let v1827 : BitVec 32 := Scalar.extui v1826
  let c1_i32_1774 : BitVec 32 := 1#32
  let v1828 : BitVec 32 := Scalar.addi v644 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let c3_i32_512 : BitVec 32 := 3#32
  let v657 : BitVec 32 := Scalar.remsi v644 c3_i32_512
  let c2_i32_513 : BitVec 32 := 2#32
  let v658 : BitVec 1 := Scalar.cmpi .eq v657 c2_i32_513
  let v659 : BitVec 32 := Scalar.extui v658
  let c0_i32_514 : BitVec 32 := 0#32
  let v660 : BitVec 1 := Scalar.cmpi .ne v659 c0_i32_514
  v660

def k0_off90 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_501 : BitVec 32 := 32#32
  let v642 : BitVec 32 := Scalar.addi v2 c32_i32_501
  let c26_i32_502 : BitVec 32 := 26#32
  let v643 : BitVec 32 := Scalar.subi v642 c26_i32_502
  let c32_i32_503 : BitVec 32 := 32#32
  let v644 : BitVec 32 := Scalar.remsi v643 c32_i32_503
  let v1825 : BitVec 32 := Scalar.muli c64_i32 v644
  let c64_i32_1782 : BitVec 32 := 64#32
  let c0_i32_1773 : BitVec 32 := 0#32
  let v1826 : BitVec 1 := Scalar.cmpi .sgt v644 c0_i32_1773
  let v1827 : BitVec 32 := Scalar.extui v1826
  let c1_i32_1774 : BitVec 32 := 1#32
  let v1828 : BitVec 32 := Scalar.addi v644 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let c0_i32_518 : BitVec 32 := 0#32
  let v664 : BitVec 1 := Scalar.cmpi .eq v663 c0_i32_518
  let c3_i32_519 : BitVec 32 := 3#32
  let v665 : BitVec 32 := Scalar.remsi v663 c3_i32_519
  let c1_i32_520 : BitVec 32 := 1#32
  let v666 : BitVec 1 := Scalar.cmpi .eq v665 c1_i32_520
  let v667 : BitVec 1 := Scalar.ori v664 v666
  let v668 : BitVec 32 := Scalar.extui v667
  let c0_i32_521 : BitVec 32 := 0#32
  let v669 : BitVec 1 := Scalar.cmpi .ne v668 c0_i32_521
  v669

def k0_off91 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let v1825 : BitVec 32 := Scalar.muli c64_i32 v663
  let c64_i32_1782 : BitVec 32 := 64#32
  let c0_i32_1773 : BitVec 32 := 0#32
  let v1826 : BitVec 1 := Scalar.cmpi .sgt v663 c0_i32_1773
  let v1827 : BitVec 32 := Scalar.extui v1826
  let c1_i32_1774 : BitVec 32 := 1#32
  let v1828 : BitVec 32 := Scalar.addi v663 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let c3_i32_522 : BitVec 32 := 3#32
  let v670 : BitVec 32 := Scalar.remsi v663 c3_i32_522
  let c0_i32_523 : BitVec 32 := 0#32
  let v671 : BitVec 1 := Scalar.cmpi .eq v670 c0_i32_523
  let c0_i32_524 : BitVec 32 := 0#32
  let v672 : BitVec 1 := Scalar.cmpi .sgt v663 c0_i32_524
  let v673 : BitVec 1 := Scalar.andi v671 v672
  let v674 : BitVec 32 := Scalar.extui v673
  let c0_i32_525 : BitVec 32 := 0#32
  let v675 : BitVec 1 := Scalar.cmpi .ne v674 c0_i32_525
  v675

def k0_off92 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let v1825 : BitVec 32 := Scalar.muli c64_i32 v663
  let c64_i32_1782 : BitVec 32 := 64#32
  let c0_i32_1773 : BitVec 32 := 0#32
  let v1826 : BitVec 1 := Scalar.cmpi .sgt v663 c0_i32_1773
  let v1827 : BitVec 32 := Scalar.extui v1826
  let c1_i32_1774 : BitVec 32 := 1#32
  let v1828 : BitVec 32 := Scalar.addi v663 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let c3_i32_526 : BitVec 32 := 3#32
  let v676 : BitVec 32 := Scalar.remsi v663 c3_i32_526
  let c2_i32_527 : BitVec 32 := 2#32
  let v677 : BitVec 1 := Scalar.cmpi .eq v676 c2_i32_527
  let v678 : BitVec 32 := Scalar.extui v677
  let c0_i32_528 : BitVec 32 := 0#32
  let v679 : BitVec 1 := Scalar.cmpi .ne v678 c0_i32_528
  v679

def k0_off93 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_515 : BitVec 32 := 32#32
  let v661 : BitVec 32 := Scalar.addi v2 c32_i32_515
  let c27_i32_516 : BitVec 32 := 27#32
  let v662 : BitVec 32 := Scalar.subi v661 c27_i32_516
  let c32_i32_517 : BitVec 32 := 32#32
  let v663 : BitVec 32 := Scalar.remsi v662 c32_i32_517
  let v1825 : BitVec 32 := Scalar.muli c64_i32 v663
  let c64_i32_1782 : BitVec 32 := 64#32
  let c0_i32_1773 : BitVec 32 := 0#32
  let v1826 : BitVec 1 := Scalar.cmpi .sgt v663 c0_i32_1773
  let v1827 : BitVec 32 := Scalar.extui v1826
  let c1_i32_1774 : BitVec 32 := 1#32
  let v1828 : BitVec 32 := Scalar.addi v663 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let c0_i32_532 : BitVec 32 := 0#32
  let v683 : BitVec 1 := Scalar.cmpi .eq v682 c0_i32_532
  let c3_i32_533 : BitVec 32 := 3#32
  let v684 : BitVec 32 := Scalar.remsi v682 c3_i32_533
  let c1_i32_534 : BitVec 32 := 1#32
  let v685 : BitVec 1 := Scalar.cmpi .eq v684 c1_i32_534
  let v686 : BitVec 1 := Scalar.ori v683 v685
  let v687 : BitVec 32 := Scalar.extui v686
  let c0_i32_535 : BitVec 32 := 0#32
  let v688 : BitVec 1 := Scalar.cmpi .ne v687 c0_i32_535
  v688

def k0_off94 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let v1825 : BitVec 32 := Scalar.muli c64_i32 v682
  let c64_i32_1782 : BitVec 32 := 64#32
  let c0_i32_1773 : BitVec 32 := 0#32
  let v1826 : BitVec 1 := Scalar.cmpi .sgt v682 c0_i32_1773
  let v1827 : BitVec 32 := Scalar.extui v1826
  let c1_i32_1774 : BitVec 32 := 1#32
  let v1828 : BitVec 32 := Scalar.addi v682 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let c3_i32_536 : BitVec 32 := 3#32
  let v689 : BitVec 32 := Scalar.remsi v682 c3_i32_536
  let c0_i32_537 : BitVec 32 := 0#32
  let v690 : BitVec 1 := Scalar.cmpi .eq v689 c0_i32_537
  let c0_i32_538 : BitVec 32 := 0#32
  let v691 : BitVec 1 := Scalar.cmpi .sgt v682 c0_i32_538
  let v692 : BitVec 1 := Scalar.andi v690 v691
  let v693 : BitVec 32 := Scalar.extui v692
  let c0_i32_539 : BitVec 32 := 0#32
  let v694 : BitVec 1 := Scalar.cmpi .ne v693 c0_i32_539
  v694

def k0_off95 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let v1825 : BitVec 32 := Scalar.muli c64_i32 v682
  let c64_i32_1782 : BitVec 32 := 64#32
  let c0_i32_1773 : BitVec 32 := 0#32
  let v1826 : BitVec 1 := Scalar.cmpi .sgt v682 c0_i32_1773
  let v1827 : BitVec 32 := Scalar.extui v1826
  let c1_i32_1774 : BitVec 32 := 1#32
  let v1828 : BitVec 32 := Scalar.addi v682 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let c3_i32_540 : BitVec 32 := 3#32
  let v695 : BitVec 32 := Scalar.remsi v682 c3_i32_540
  let c2_i32_541 : BitVec 32 := 2#32
  let v696 : BitVec 1 := Scalar.cmpi .eq v695 c2_i32_541
  let v697 : BitVec 32 := Scalar.extui v696
  let c0_i32_542 : BitVec 32 := 0#32
  let v698 : BitVec 1 := Scalar.cmpi .ne v697 c0_i32_542
  v698

def k0_off96 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_529 : BitVec 32 := 32#32
  let v680 : BitVec 32 := Scalar.addi v2 c32_i32_529
  let c28_i32_530 : BitVec 32 := 28#32
  let v681 : BitVec 32 := Scalar.subi v680 c28_i32_530
  let c32_i32_531 : BitVec 32 := 32#32
  let v682 : BitVec 32 := Scalar.remsi v681 c32_i32_531
  let v1825 : BitVec 32 := Scalar.muli c64_i32 v682
  let c64_i32_1782 : BitVec 32 := 64#32
  let c0_i32_1773 : BitVec 32 := 0#32
  let v1826 : BitVec 1 := Scalar.cmpi .sgt v682 c0_i32_1773
  let v1827 : BitVec 32 := Scalar.extui v1826
  let c1_i32_1774 : BitVec 32 := 1#32
  let v1828 : BitVec 32 := Scalar.addi v682 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let c0_i32_546 : BitVec 32 := 0#32
  let v702 : BitVec 1 := Scalar.cmpi .eq v701 c0_i32_546
  let c3_i32_547 : BitVec 32 := 3#32
  let v703 : BitVec 32 := Scalar.remsi v701 c3_i32_547
  let c1_i32_548 : BitVec 32 := 1#32
  let v704 : BitVec 1 := Scalar.cmpi .eq v703 c1_i32_548
  let v705 : BitVec 1 := Scalar.ori v702 v704
  let v706 : BitVec 32 := Scalar.extui v705
  let c0_i32_549 : BitVec 32 := 0#32
  let v707 : BitVec 1 := Scalar.cmpi .ne v706 c0_i32_549
  v707

def k0_off97 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let v1825 : BitVec 32 := Scalar.muli c64_i32 v701
  let c64_i32_1782 : BitVec 32 := 64#32
  let c0_i32_1773 : BitVec 32 := 0#32
  let v1826 : BitVec 1 := Scalar.cmpi .sgt v701 c0_i32_1773
  let v1827 : BitVec 32 := Scalar.extui v1826
  let c1_i32_1774 : BitVec 32 := 1#32
  let v1828 : BitVec 32 := Scalar.addi v701 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let c3_i32_550 : BitVec 32 := 3#32
  let v708 : BitVec 32 := Scalar.remsi v701 c3_i32_550
  let c0_i32_551 : BitVec 32 := 0#32
  let v709 : BitVec 1 := Scalar.cmpi .eq v708 c0_i32_551
  let c0_i32_552 : BitVec 32 := 0#32
  let v710 : BitVec 1 := Scalar.cmpi .sgt v701 c0_i32_552
  let v711 : BitVec 1 := Scalar.andi v709 v710
  let v712 : BitVec 32 := Scalar.extui v711
  let c0_i32_553 : BitVec 32 := 0#32
  let v713 : BitVec 1 := Scalar.cmpi .ne v712 c0_i32_553
  v713

def k0_off98 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let v1825 : BitVec 32 := Scalar.muli c64_i32 v701
  let c64_i32_1782 : BitVec 32 := 64#32
  let c0_i32_1773 : BitVec 32 := 0#32
  let v1826 : BitVec 1 := Scalar.cmpi .sgt v701 c0_i32_1773
  let v1827 : BitVec 32 := Scalar.extui v1826
  let c1_i32_1774 : BitVec 32 := 1#32
  let v1828 : BitVec 32 := Scalar.addi v701 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let c3_i32_554 : BitVec 32 := 3#32
  let v714 : BitVec 32 := Scalar.remsi v701 c3_i32_554
  let c2_i32_555 : BitVec 32 := 2#32
  let v715 : BitVec 1 := Scalar.cmpi .eq v714 c2_i32_555
  let v716 : BitVec 32 := Scalar.extui v715
  let c0_i32_556 : BitVec 32 := 0#32
  let v717 : BitVec 1 := Scalar.cmpi .ne v716 c0_i32_556
  v717

def k0_off99 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_543 : BitVec 32 := 32#32
  let v699 : BitVec 32 := Scalar.addi v2 c32_i32_543
  let c29_i32_544 : BitVec 32 := 29#32
  let v700 : BitVec 32 := Scalar.subi v699 c29_i32_544
  let c32_i32_545 : BitVec 32 := 32#32
  let v701 : BitVec 32 := Scalar.remsi v700 c32_i32_545
  let v1825 : BitVec 32 := Scalar.muli c64_i32 v701
  let c64_i32_1782 : BitVec 32 := 64#32
  let c0_i32_1773 : BitVec 32 := 0#32
  let v1826 : BitVec 1 := Scalar.cmpi .sgt v701 c0_i32_1773
  let v1827 : BitVec 32 := Scalar.extui v1826
  let c1_i32_1774 : BitVec 32 := 1#32
  let v1828 : BitVec 32 := Scalar.addi v701 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let c0_i32_560 : BitVec 32 := 0#32
  let v721 : BitVec 1 := Scalar.cmpi .eq v720 c0_i32_560
  let c3_i32_561 : BitVec 32 := 3#32
  let v722 : BitVec 32 := Scalar.remsi v720 c3_i32_561
  let c1_i32_562 : BitVec 32 := 1#32
  let v723 : BitVec 1 := Scalar.cmpi .eq v722 c1_i32_562
  let v724 : BitVec 1 := Scalar.ori v721 v723
  let v725 : BitVec 32 := Scalar.extui v724
  let c0_i32_563 : BitVec 32 := 0#32
  let v726 : BitVec 1 := Scalar.cmpi .ne v725 c0_i32_563
  v726

def k0_off100 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let v1825 : BitVec 32 := Scalar.muli c64_i32 v720
  let c64_i32_1782 : BitVec 32 := 64#32
  let c0_i32_1773 : BitVec 32 := 0#32
  let v1826 : BitVec 1 := Scalar.cmpi .sgt v720 c0_i32_1773
  let v1827 : BitVec 32 := Scalar.extui v1826
  let c1_i32_1774 : BitVec 32 := 1#32
  let v1828 : BitVec 32 := Scalar.addi v720 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let c3_i32_564 : BitVec 32 := 3#32
  let v727 : BitVec 32 := Scalar.remsi v720 c3_i32_564
  let c0_i32_565 : BitVec 32 := 0#32
  let v728 : BitVec 1 := Scalar.cmpi .eq v727 c0_i32_565
  let c0_i32_566 : BitVec 32 := 0#32
  let v729 : BitVec 1 := Scalar.cmpi .sgt v720 c0_i32_566
  let v730 : BitVec 1 := Scalar.andi v728 v729
  let v731 : BitVec 32 := Scalar.extui v730
  let c0_i32_567 : BitVec 32 := 0#32
  let v732 : BitVec 1 := Scalar.cmpi .ne v731 c0_i32_567
  v732

def k0_off101 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let v1825 : BitVec 32 := Scalar.muli c64_i32 v720
  let c64_i32_1782 : BitVec 32 := 64#32
  let c0_i32_1773 : BitVec 32 := 0#32
  let v1826 : BitVec 1 := Scalar.cmpi .sgt v720 c0_i32_1773
  let v1827 : BitVec 32 := Scalar.extui v1826
  let c1_i32_1774 : BitVec 32 := 1#32
  let v1828 : BitVec 32 := Scalar.addi v720 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let c3_i32_568 : BitVec 32 := 3#32
  let v733 : BitVec 32 := Scalar.remsi v720 c3_i32_568
  let c2_i32_569 : BitVec 32 := 2#32
  let v734 : BitVec 1 := Scalar.cmpi .eq v733 c2_i32_569
  let v735 : BitVec 32 := Scalar.extui v734
  let c0_i32_570 : BitVec 32 := 0#32
  let v736 : BitVec 1 := Scalar.cmpi .ne v735 c0_i32_570
  v736

def k0_off102 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_557 : BitVec 32 := 32#32
  let v718 : BitVec 32 := Scalar.addi v2 c32_i32_557
  let c30_i32_558 : BitVec 32 := 30#32
  let v719 : BitVec 32 := Scalar.subi v718 c30_i32_558
  let c32_i32_559 : BitVec 32 := 32#32
  let v720 : BitVec 32 := Scalar.remsi v719 c32_i32_559
  let v1825 : BitVec 32 := Scalar.muli c64_i32 v720
  let c64_i32_1782 : BitVec 32 := 64#32
  let c0_i32_1773 : BitVec 32 := 0#32
  let v1826 : BitVec 1 := Scalar.cmpi .sgt v720 c0_i32_1773
  let v1827 : BitVec 32 := Scalar.extui v1826
  let c1_i32_1774 : BitVec 32 := 1#32
  let v1828 : BitVec 32 := Scalar.addi v720 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let c0_i32_574 : BitVec 32 := 0#32
  let v740 : BitVec 1 := Scalar.cmpi .eq v739 c0_i32_574
  let c3_i32_575 : BitVec 32 := 3#32
  let v741 : BitVec 32 := Scalar.remsi v739 c3_i32_575
  let c1_i32_576 : BitVec 32 := 1#32
  let v742 : BitVec 1 := Scalar.cmpi .eq v741 c1_i32_576
  let v743 : BitVec 1 := Scalar.ori v740 v742
  let v744 : BitVec 32 := Scalar.extui v743
  let c0_i32_577 : BitVec 32 := 0#32
  let v745 : BitVec 1 := Scalar.cmpi .ne v744 c0_i32_577
  v745

def k0_off103 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let v1825 : BitVec 32 := Scalar.muli c64_i32 v739
  let c64_i32_1782 : BitVec 32 := 64#32
  let c0_i32_1773 : BitVec 32 := 0#32
  let v1826 : BitVec 1 := Scalar.cmpi .sgt v739 c0_i32_1773
  let v1827 : BitVec 32 := Scalar.extui v1826
  let c1_i32_1774 : BitVec 32 := 1#32
  let v1828 : BitVec 32 := Scalar.addi v739 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let c3_i32_578 : BitVec 32 := 3#32
  let v746 : BitVec 32 := Scalar.remsi v739 c3_i32_578
  let c0_i32_579 : BitVec 32 := 0#32
  let v747 : BitVec 1 := Scalar.cmpi .eq v746 c0_i32_579
  let c0_i32_580 : BitVec 32 := 0#32
  let v748 : BitVec 1 := Scalar.cmpi .sgt v739 c0_i32_580
  let v749 : BitVec 1 := Scalar.andi v747 v748
  let v750 : BitVec 32 := Scalar.extui v749
  let c0_i32_581 : BitVec 32 := 0#32
  let v751 : BitVec 1 := Scalar.cmpi .ne v750 c0_i32_581
  v751

def k0_off104 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let v1825 : BitVec 32 := Scalar.muli c64_i32 v739
  let c64_i32_1782 : BitVec 32 := 64#32
  let c0_i32_1773 : BitVec 32 := 0#32
  let v1826 : BitVec 1 := Scalar.cmpi .sgt v739 c0_i32_1773
  let v1827 : BitVec 32 := Scalar.extui v1826
  let c1_i32_1774 : BitVec 32 := 1#32
  let v1828 : BitVec 32 := Scalar.addi v739 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let c3_i32_582 : BitVec 32 := 3#32
  let v752 : BitVec 32 := Scalar.remsi v739 c3_i32_582
  let c2_i32_583 : BitVec 32 := 2#32
  let v753 : BitVec 1 := Scalar.cmpi .eq v752 c2_i32_583
  let v754 : BitVec 32 := Scalar.extui v753
  let c0_i32_584 : BitVec 32 := 0#32
  let v755 : BitVec 1 := Scalar.cmpi .ne v754 c0_i32_584
  v755

def k0_off105 (d0 : Dev nD) : Fin 4 → Nat :=
  let c0_i32_1787 : BitVec 32 := 0#32
  let c0_i32_1788 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_571 : BitVec 32 := 32#32
  let v737 : BitVec 32 := Scalar.addi v2 c32_i32_571
  let c31_i32_572 : BitVec 32 := 31#32
  let v738 : BitVec 32 := Scalar.subi v737 c31_i32_572
  let c32_i32_573 : BitVec 32 := 32#32
  let v739 : BitVec 32 := Scalar.remsi v738 c32_i32_573
  let v1825 : BitVec 32 := Scalar.muli c64_i32 v739
  let c64_i32_1782 : BitVec 32 := 64#32
  let c0_i32_1773 : BitVec 32 := 0#32
  let v1826 : BitVec 1 := Scalar.cmpi .sgt v739 c0_i32_1773
  let v1827 : BitVec 32 := Scalar.extui v1826
  let c1_i32_1774 : BitVec 32 := 1#32
  let v1828 : BitVec 32 := Scalar.addi v739 c1_i32_1774
  let c0_i32_1776 : BitVec 32 := 0#32
  let v1830 : BitVec 1 := Scalar.cmpi .sgt v1828 c0_i32_1776
  let v1831 : BitVec 32 := Scalar.extui v1830
  let c0_i32_1777 : BitVec 32 := 0#32
  let v1832 : BitVec 1 := Scalar.cmpi .slt v1828 c0_i32_1777
  let v1833 : BitVec 32 := Scalar.extui v1832
  let v1834 : BitVec 32 := Scalar.subi v1831 v1833
  let c3_i32_1775 : BitVec 32 := 3#32
  let c0_i32_1778 : BitVec 32 := 0#32
  let v1835 : BitVec 1 := Scalar.cmpi .sgt c3_i32_1775 c0_i32_1778
  let v1836 : BitVec 32 := Scalar.extui v1835
  let c0_i32_1779 : BitVec 32 := 0#32
  let v1837 : BitVec 1 := Scalar.cmpi .slt c3_i32_1775 c0_i32_1779
  let v1838 : BitVec 32 := Scalar.extui v1837
  let v1839 : BitVec 32 := Scalar.subi v1836 v1838
  let v1840 : BitVec 1 := Scalar.cmpi .ne v1834 v1839
  let v1841 : BitVec 32 := Scalar.remsi v1828 c3_i32_1775
  let c0_i32_1780 : BitVec 32 := 0#32
  let v1842 : BitVec 1 := Scalar.cmpi .ne v1841 c0_i32_1780
  let v1843 : BitVec 1 := Scalar.andi v1840 v1842
  let v1829 : BitVec 32 := Scalar.divsi v1828 c3_i32_1775
  let c1_i32_1781 : BitVec 32 := 1#32
  let v1844 : BitVec 32 := Scalar.subi v1829 c1_i32_1781
  let v1845 : BitVec 32 := Scalar.select v1843 v1844 v1829
  let v1846 : BitVec 32 := Scalar.addi v1827 v1845
  let v1847 : BitVec 32 := Scalar.muli c64_i32_1782 v1846
  let v1848 : BitVec 32 := Scalar.addi v1825 v1847
  let c0_i32_1789 : BitVec 32 := 0#32
  ![0, 0, v1848.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1165 : BitVec 32 := 0#32
  let v1399 : BitVec 1 := Scalar.cmpi .eq v2 c0_i32_1165
  let c3_i32_1166 : BitVec 32 := 3#32
  let v1400 : BitVec 32 := Scalar.remsi v2 c3_i32_1166
  let c1_i32_1167 : BitVec 32 := 1#32
  let v1401 : BitVec 1 := Scalar.cmpi .eq v1400 c1_i32_1167
  let v1402 : BitVec 1 := Scalar.ori v1399 v1401
  let v1403 : BitVec 32 := Scalar.extui v1402
  let c0_i32_1168 : BitVec 32 := 0#32
  let v1404 : BitVec 1 := Scalar.cmpi .ne v1403 c0_i32_1168
  v1404

def k0_off106 (d0 : Dev nD) (c1_i32_1773 : BitVec 32) : Fin 4 → Nat :=
  let c0_i32_1788 : BitVec 32 := 0#32
  let c0_i32_1789 : BitVec 32 := 0#32
  let c0_i32_1790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 0, v1827.toNat]
def k0_off107 (d0 : Dev nD) : Fin 4 → Nat :=
  let c0_i32_1791 : BitVec 32 := 0#32
  let c0_i32_1792 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1793 : BitVec 32 := 0#32
  ![0, 0, v1851.toNat, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1169 : BitVec 32 := 3#32
  let v1405 : BitVec 32 := Scalar.remsi v2 c3_i32_1169
  let c0_i32_1170 : BitVec 32 := 0#32
  let v1406 : BitVec 1 := Scalar.cmpi .eq v1405 c0_i32_1170
  let c0_i32_1171 : BitVec 32 := 0#32
  let v1407 : BitVec 1 := Scalar.cmpi .sgt v2 c0_i32_1171
  let v1408 : BitVec 1 := Scalar.andi v1406 v1407
  let v1409 : BitVec 32 := Scalar.extui v1408
  let c0_i32_1172 : BitVec 32 := 0#32
  let v1410 : BitVec 1 := Scalar.cmpi .ne v1409 c0_i32_1172
  v1410

def k0_off108 (d0 : Dev nD) (c1_i32_1773 : BitVec 32) : Fin 4 → Nat :=
  let c0_i32_1788 : BitVec 32 := 0#32
  let c0_i32_1789 : BitVec 32 := 0#32
  let c0_i32_1790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 0, v1827.toNat]
def k0_off109 (d0 : Dev nD) : Fin 4 → Nat :=
  let c0_i32_1791 : BitVec 32 := 0#32
  let c0_i32_1792 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1793 : BitVec 32 := 0#32
  ![0, 0, v1851.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1173 : BitVec 32 := 3#32
  let v1411 : BitVec 32 := Scalar.remsi v2 c3_i32_1173
  let c2_i32_1174 : BitVec 32 := 2#32
  let v1412 : BitVec 1 := Scalar.cmpi .eq v1411 c2_i32_1174
  let v1413 : BitVec 32 := Scalar.extui v1412
  let c0_i32_1175 : BitVec 32 := 0#32
  let v1414 : BitVec 1 := Scalar.cmpi .ne v1413 c0_i32_1175
  v1414

def k0_off110 (d0 : Dev nD) (c1_i32_1773 : BitVec 32) : Fin 4 → Nat :=
  let c0_i32_1788 : BitVec 32 := 0#32
  let c0_i32_1789 : BitVec 32 := 0#32
  let c64_i32_1790 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1825 : BitVec 32 := Scalar.addi v2 c1_i32_1773
  let c32_i32_1774 : BitVec 32 := 32#32
  let v1826 : BitVec 32 := Scalar.remsi v1825 c32_i32_1774
  let c256_i32 : BitVec 32 := 256#32
  let v1827 : BitVec 32 := Scalar.muli v1826 c256_i32
  ![0, 0, 64, v1827.toNat]
def k0_off111 (d0 : Dev nD) : Fin 4 → Nat :=
  let c0_i32_1791 : BitVec 32 := 0#32
  let c0_i32_1792 : BitVec 32 := 0#32
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1828 : BitVec 32 := Scalar.muli c64_i32 v2
  let c64_i32_1784 : BitVec 32 := 64#32
  let c0_i32_1775 : BitVec 32 := 0#32
  let v1829 : BitVec 1 := Scalar.cmpi .sgt v2 c0_i32_1775
  let v1830 : BitVec 32 := Scalar.extui v1829
  let c1_i32_1776 : BitVec 32 := 1#32
  let v1831 : BitVec 32 := Scalar.addi v2 c1_i32_1776
  let c0_i32_1778 : BitVec 32 := 0#32
  let v1833 : BitVec 1 := Scalar.cmpi .sgt v1831 c0_i32_1778
  let v1834 : BitVec 32 := Scalar.extui v1833
  let c0_i32_1779 : BitVec 32 := 0#32
  let v1835 : BitVec 1 := Scalar.cmpi .slt v1831 c0_i32_1779
  let v1836 : BitVec 32 := Scalar.extui v1835
  let v1837 : BitVec 32 := Scalar.subi v1834 v1836
  let c3_i32_1777 : BitVec 32 := 3#32
  let c0_i32_1780 : BitVec 32 := 0#32
  let v1838 : BitVec 1 := Scalar.cmpi .sgt c3_i32_1777 c0_i32_1780
  let v1839 : BitVec 32 := Scalar.extui v1838
  let c0_i32_1781 : BitVec 32 := 0#32
  let v1840 : BitVec 1 := Scalar.cmpi .slt c3_i32_1777 c0_i32_1781
  let v1841 : BitVec 32 := Scalar.extui v1840
  let v1842 : BitVec 32 := Scalar.subi v1839 v1841
  let v1843 : BitVec 1 := Scalar.cmpi .ne v1837 v1842
  let v1844 : BitVec 32 := Scalar.remsi v1831 c3_i32_1777
  let c0_i32_1782 : BitVec 32 := 0#32
  let v1845 : BitVec 1 := Scalar.cmpi .ne v1844 c0_i32_1782
  let v1846 : BitVec 1 := Scalar.andi v1843 v1845
  let v1832 : BitVec 32 := Scalar.divsi v1831 c3_i32_1777
  let c1_i32_1783 : BitVec 32 := 1#32
  let v1847 : BitVec 32 := Scalar.subi v1832 c1_i32_1783
  let v1848 : BitVec 32 := Scalar.select v1846 v1847 v1832
  let v1849 : BitVec 32 := Scalar.addi v1830 v1848
  let v1850 : BitVec 32 := Scalar.muli c64_i32_1784 v1849
  let v1851 : BitVec 32 := Scalar.addi v1828 v1850
  let c0_i32_1793 : BitVec 32 := 0#32
  ![0, 0, v1851.toNat, 0]
def k0_dev125 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1183 : BitVec 32 := 1#32
  let v1421 : BitVec 32 := Scalar.xori v2 c1_i32_1183
  let c1_i32_1192 : BitVec 32 := 1#32
  let v1422 : BitVec 32 := Scalar.muli v1421 c1_i32_1192
  let v1423 : BitVec 32 := Scalar.addi c0_i32_1193 v1422
  v1423.toNat
def k0_dev126 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1205 : BitVec 32 := 16#32
  let v1438 : BitVec 32 := Scalar.xori v2 c16_i32_1205
  let c1_i32_1214 : BitVec 32 := 1#32
  let v1439 : BitVec 32 := Scalar.muli v1438 c1_i32_1214
  let v1440 : BitVec 32 := Scalar.addi c0_i32_1215 v1439
  v1440.toNat
def k0_dev127 (d0 : Dev nD) : Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1252 : BitVec 32 := 2#32
  let v1473 : BitVec 32 := Scalar.xori v2 c2_i32_1252
  let c1_i32_1261 : BitVec 32 := 1#32
  let v1474 : BitVec 32 := Scalar.muli v1473 c1_i32_1261
  let v1475 : BitVec 32 := Scalar.addi c0_i32_1262 v1474
  v1475.toNat
def k0_dev128 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1299 : BitVec 32 := 8#32
  let v1508 : BitVec 32 := Scalar.xori v2 c8_i32_1299
  let c1_i32_1308 : BitVec 32 := 1#32
  let v1509 : BitVec 32 := Scalar.muli v1508 c1_i32_1308
  let v1510 : BitVec 32 := Scalar.addi c0_i32_1309 v1509
  v1510.toNat
def k0_dev129 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1345 : BitVec 32 := 4#32
  let v1543 : BitVec 32 := Scalar.xori v2 c4_i32_1345
  let c1_i32_1354 : BitVec 32 := 1#32
  let v1544 : BitVec 32 := Scalar.muli v1543 c1_i32_1354
  let v1545 : BitVec 32 := Scalar.addi c0_i32_1355 v1544
  v1545.toNat
def k0_dev130 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1392 : BitVec 32 := 2#32
  let v1578 : BitVec 32 := Scalar.xori v2 c2_i32_1392
  let c1_i32_1401 : BitVec 32 := 1#32
  let v1579 : BitVec 32 := Scalar.muli v1578 c1_i32_1401
  let v1580 : BitVec 32 := Scalar.addi c0_i32_1402 v1579
  v1580.toNat
def k0_dev131 (d0 : Dev nD) : Nat :=
  let c0_i32_1448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1438 : BitVec 32 := 8#32
  let v1613 : BitVec 32 := Scalar.xori v2 c8_i32_1438
  let c1_i32_1447 : BitVec 32 := 1#32
  let v1614 : BitVec 32 := Scalar.muli v1613 c1_i32_1447
  let v1615 : BitVec 32 := Scalar.addi c0_i32_1448 v1614
  v1615.toNat
def k0_dev132 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1485 : BitVec 32 := 1#32
  let v1648 : BitVec 32 := Scalar.xori v2 c1_i32_1485
  let c1_i32_1494 : BitVec 32 := 1#32
  let v1649 : BitVec 32 := Scalar.muli v1648 c1_i32_1494
  let v1650 : BitVec 32 := Scalar.addi c0_i32_1495 v1649
  v1650.toNat
def k0_dev133 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1531 : BitVec 32 := 16#32
  let v1683 : BitVec 32 := Scalar.xori v2 c16_i32_1531
  let c1_i32_1540 : BitVec 32 := 1#32
  let v1684 : BitVec 32 := Scalar.muli v1683 c1_i32_1540
  let v1685 : BitVec 32 := Scalar.addi c0_i32_1541 v1684
  v1685.toNat
def k0_dev134 (d0 : Dev nD) : Nat :=
  let c0_i32_1588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1578 : BitVec 32 := 4#32
  let v1718 : BitVec 32 := Scalar.xori v2 c4_i32_1578
  let c1_i32_1587 : BitVec 32 := 1#32
  let v1719 : BitVec 32 := Scalar.muli v1718 c1_i32_1587
  let v1720 : BitVec 32 := Scalar.addi c0_i32_1588 v1719
  v1720.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x128x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x2x4096x8192 : Shape := ⟨4, ![2, 2, 4096, 8192]⟩
abbrev S8192x512 : Shape := ⟨2, ![8192, 512]⟩
abbrev S_ : Shape := ⟨0, ![]⟩
abbrev S1x2x4096x8192 : Shape := ⟨4, ![1, 2, 4096, 8192]⟩
abbrev S2x4096x8192 : Shape := ⟨3, ![2, 4096, 8192]⟩
abbrev S2x4096x128x64 : Shape := ⟨4, ![2, 4096, 128, 64]⟩
abbrev S2x128x8192 : Shape := ⟨3, ![2, 128, 8192]⟩
abbrev S2x128x128x64 : Shape := ⟨4, ![2, 128, 128, 64]⟩
abbrev S128 : Shape := ⟨1, ![128]⟩
abbrev S128x1 : Shape := ⟨2, ![128, 1]⟩
abbrev S4096 : Shape := ⟨1, ![4096]⟩
abbrev S1x4096 : Shape := ⟨2, ![1, 4096]⟩
abbrev S128x4096 : Shape := ⟨2, ![128, 4096]⟩
abbrev S2x128x128x4096 : Shape := ⟨4, ![2, 128, 128, 4096]⟩
abbrev S1x1x128x4096 : Shape := ⟨4, ![1, 1, 128, 4096]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 138
  | .vmem => 0
  | .smem => 0
  | _ => 0

abbrev hbmTy0_0 (i : Nat) : BufTy := match i % 128 with
  | 0 => ⟨S2x128x512, .bf16⟩
  | 1 => ⟨S512x8192, .bf16⟩
  | 2 => ⟨S2x2x4096x8192, .i8⟩
  | 3 => ⟨S8192x512, .bf16⟩
  | 4 => ⟨S2x2x4096x8192, .i32⟩
  | 5 => ⟨S2x2x4096x8192, .bf16⟩
  | 6 => ⟨S_, .bf16⟩
  | 7 => ⟨S2x2x4096x8192, .bf16⟩
  | 8 => ⟨S2x2x4096x8192, .bf16⟩
  | 9 => ⟨S1x2x4096x8192, .bf16⟩
  | 10 => ⟨S2x4096x8192, .bf16⟩
  | 11 => ⟨S2x4096x128x64, .bf16⟩
  | 12 => ⟨S1x2x4096x8192, .bf16⟩
  | 13 => ⟨S2x4096x8192, .bf16⟩
  | 14 => ⟨S2x4096x128x64, .bf16⟩
  | 15 => ⟨S2x128x8192, .f32⟩
  | 16 => ⟨S2x128x8192, .bf16⟩
  | 17 => ⟨S2x128x128x64, .bf16⟩
  | 18 => ⟨S128, .i32⟩
  | 19 => ⟨S_, .i32⟩
  | 20 => ⟨S_, .i32⟩
  | 21 => ⟨S128, .i32⟩
  | 22 => ⟨S128, .i32⟩
  | 23 => ⟨S128, .i32⟩
  | 24 => ⟨S_, .i32⟩
  | 25 => ⟨S128, .i32⟩
  | 26 => ⟨S128, .i1⟩
  | 27 => ⟨S128, .i32⟩
  | 28 => ⟨S128, .i32⟩
  | 29 => ⟨S_, .i32⟩
  | 30 => ⟨S128, .i32⟩
  | 31 => ⟨S128, .i1⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S4096, .i32⟩
  | 39 => ⟨S_, .i32⟩
  | 40 => ⟨S_, .i32⟩
  | 41 => ⟨S4096, .i32⟩
  | 42 => ⟨S4096, .i32⟩
  | 43 => ⟨S4096, .i32⟩
  | 44 => ⟨S_, .i32⟩
  | 45 => ⟨S4096, .i32⟩
  | 46 => ⟨S4096, .i1⟩
  | 47 => ⟨S4096, .i32⟩
  | 48 => ⟨S4096, .i32⟩
  | 49 => ⟨S_, .i32⟩
  | 50 => ⟨S4096, .i32⟩
  | 51 => ⟨S4096, .i1⟩
  | 52 => ⟨S4096, .i1⟩
  | 53 => ⟨S_, .i32⟩
  | 54 => ⟨S4096, .i32⟩
  | 55 => ⟨S4096, .i32⟩
  | 56 => ⟨S4096, .i32⟩
  | 57 => ⟨S1x4096, .i32⟩
  | 58 => ⟨S128x4096, .i32⟩
  | 59 => ⟨S128x4096, .i32⟩
  | 60 => ⟨S128x4096, .i1⟩
  | 61 => ⟨S_, .i32⟩
  | 62 => ⟨S1x4096, .i32⟩
  | 63 => ⟨S1x4096, .i1⟩
  | 64 => ⟨S128x4096, .i1⟩
  | 65 => ⟨S128x4096, .i1⟩
  | 66 => ⟨S128x4096, .i32⟩
  | 67 => ⟨S128x4096, .i32⟩
  | 68 => ⟨S128x4096, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S128x4096, .i32⟩
  | 76 => ⟨S128x4096, .i32⟩
  | 77 => ⟨S_, .i32⟩
  | 78 => ⟨S128x4096, .i32⟩
  | 79 => ⟨S128x4096, .i1⟩
  | 80 => ⟨S_, .i32⟩
  | 81 => ⟨S128x4096, .i32⟩
  | 82 => ⟨S128x4096, .i1⟩
  | 83 => ⟨S_, .i32⟩
  | 84 => ⟨S_, .i1⟩
  | 85 => ⟨S128x4096, .i1⟩
  | 86 => ⟨S128x4096, .i1⟩
  | 87 => ⟨S128x4096, .i1⟩
  | 88 => ⟨S128x4096, .i32⟩
  | 89 => ⟨S128x4096, .i32⟩
  | 90 => ⟨S128x4096, .i32⟩
  | 91 => ⟨S_, .i32⟩
  | 92 => ⟨S128x4096, .i32⟩
  | 93 => ⟨S128x4096, .i1⟩
  | 94 => ⟨S128x4096, .i1⟩
  | 95 => ⟨S2x128x128x4096, .f32⟩
  | 96 => ⟨S2x128x128x4096, .bf16⟩
  | 97 => ⟨S2x128x128x4096, .f32⟩
  | 98 => ⟨S_, .f32⟩
  | 99 => ⟨S2x128x128x4096, .f32⟩
  | 100 => ⟨S2x128x128x4096, .f32⟩
  | 101 => ⟨S1x1x128x4096, .i1⟩
  | 102 => ⟨S_, .f32⟩
  | 103 => ⟨S_, .f32⟩
  | 104 => ⟨S2x128x128x4096, .i1⟩
  | 105 => ⟨S2x128x128x4096, .f32⟩
  | 106 => ⟨S2x128x128x4096, .f32⟩
  | 107 => ⟨S_, .f32⟩
  | 108 => ⟨S2x128x128, .f32⟩
  | 109 => ⟨S2x128x128x1, .f32⟩
  | 110 => ⟨S2x128x128x4096, .f32⟩
  | 111 => ⟨S2x128x128x4096, .f32⟩
  | 112 => ⟨S2x128x128x4096, .f32⟩
  | 113 => ⟨S_, .i1⟩
  | 114 => ⟨S128, .i1⟩
  | 115 => ⟨S1x1x128x1, .i1⟩
  | 116 => ⟨S_, .f32⟩
  | 117 => ⟨S2x128x128, .f32⟩
  | 118 => ⟨S2x128x128x1, .f32⟩
  | 119 => ⟨S_, .f32⟩
  | 120 => ⟨S_, .f32⟩
  | 121 => ⟨S2x128x128x1, .i1⟩
  | 122 => ⟨S2x128x128x1, .f32⟩
  | 123 => ⟨S2x128x128x1, .f32⟩
  | 124 => ⟨S2x128x128x4096, .f32⟩
  | 125 => ⟨S2x128x128x4096, .f32⟩
  | 126 => ⟨S1x1x128x4096, .i1⟩
  | 127 => ⟨S_, .f32⟩
  | _ => ⟨S2x128x512, .bf16⟩

abbrev hbmTy0_1 (i : Nat) : BufTy := match i % 128 with
  | 0 => ⟨S_, .f32⟩
  | 1 => ⟨S2x128x128x4096, .i1⟩
  | 2 => ⟨S2x128x128x4096, .f32⟩
  | 3 => ⟨S2x128x128x4096, .f32⟩
  | 4 => ⟨S2x4096x128x64, .f32⟩
  | 5 => ⟨S2x128x64x128, .f32⟩
  | 6 => ⟨S2x128x128x64, .f32⟩
  | 7 => ⟨S2x128x8192, .f32⟩
  | 8 => ⟨S8192x512, .f32⟩
  | 9 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_c_2 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v29 : Ref sig .tc := ⟨.hbm, 90, rfl⟩
abbrev main_c_3 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_4 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_5 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v39 : Ref sig .tc := ⟨.hbm, 106, rfl⟩
abbrev main_cst_6 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_c_7 : Ref sig .tc := ⟨.hbm, 113, rfl⟩
abbrev main_v45 : Ref sig .tc := ⟨.hbm, 114, rfl⟩
abbrev main_v46 : Ref sig .tc := ⟨.hbm, 115, rfl⟩
abbrev main_cst_8 : Ref sig .tc := ⟨.hbm, 116, rfl⟩
abbrev main_v47 : Ref sig .tc := ⟨.hbm, 117, rfl⟩
abbrev main_v48 : Ref sig .tc := ⟨.hbm, 118, rfl⟩
abbrev main_cst_9 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_cst_10 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩

abbrev nD : Nat := 1
abbrev τ : Topo := Topo.v7x

variable {F : FTy → Type} [FloatOps F]
-- ==== Proof.KiBase.lean ====
/-
The devices, the blocks and the contents of the kernel's buffers, for a symbolic device: who signals and
sends to whom, which rows of keys go where, and what each buffer holds after each phase.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Ring.FamCut
public import Idealize.ShloMosaic.Lib.Tactic

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The buffers -/

abbrev M0 : Memref sig .tc .vmem S2x128x512 .bf16 := Memref.whole cc0_stg0_0
abbrev M1 : Memref sig .tc .vmem S512x256 .bf16 := Memref.whole cc0_stg1_0
abbrev M2 : Memref sig .tc .vmem S2x2x128x8192 .i8 := Memref.whole cc0_stg2_0
abbrev M3 : Memref sig .tc .vmem S256x512 .bf16 := Memref.whole cc0_stg3_0
abbrev M4 : Memref sig .tc .vmem S2x128x512 .f32 := Memref.whole cc0_stg4_0
abbrev M5 : Memref sig .tc .vmem S2x2x2816x256 .i8 := Memref.whole cc0_scratch0
abbrev M6 : Memref sig .tc .vmem S2x2x2880x256 .bf16 := Memref.whole cc0_scratch1
abbrev M7 : Memref sig .tc .vmem S5x2x128x512 .bf16 := Memref.whole cc0_scratch2
abbrev M8 : Memref sig .tc .vmem S5x2x128x512 .bf16 := Memref.whole cc0_scratch3

/-- What the devices are given: their blocks of the activations, the query weights, the key and value codes and the
    output weights. -/
structure Ins (F : FTy → Type) where
  x : Dev nD → (cc0_stg0_0 : Ref sig .tc).ty.Contents (Elt F)
  wq : Dev nD → (cc0_stg1_0 : Ref sig .tc).ty.Contents (Elt F)
  kv : Dev nD → (cc0_stg2_0 : Ref sig .tc).ty.Contents (Elt F)
  wo : Dev nD → (cc0_stg3_0 : Ref sig .tc).ty.Contents (Elt F)

/-! ## Who talks to whom -/

/-- The device `j + 1` places after `c`: the one `c`'s `j`-th signal and transfer go to. -/
def sh (c : Dev nD) (j : Fin 31) : Dev nD := ⟨(c.val + (j.val + 1)) % 32, Nat.mod_lt _ (Nat.succ_pos _)⟩
/-- The device `j + 1` places before `c`: the one whose `j`-th signal and transfer come to `c`. -/
def un (c : Dev nD) (j : Fin 31) : Dev nD := ⟨(c.val + (31 - j.val)) % 32, Nat.mod_lt _ (Nat.succ_pos _)⟩

theorem sh_un (c : Dev nD) (j : Fin 31) : sh (un c j) j = c := Fin.ext (by
  have hc : c.val < 32 := c.isLt; have := j.isLt; simp only [sh, un]; omega)
theorem un_sh (c : Dev nD) (j : Fin 31) : un (sh c j) j = c := Fin.ext (by
  have hc : c.val < 32 := c.isLt; have := j.isLt; simp only [sh, un]; omega)
theorem un_rev (c : Dev nD) (j : Fin 31) : un c (Fin.rev j) = sh c j := Fin.ext (by
  have hc : c.val < 32 := c.isLt; have := j.isLt; simp only [sh, un, Fin.val_rev]; omega)
theorem sh_ne (c : Dev nD) (j : Fin 31) : sh c j ≠ c := fun h => by
  have h := congrArg Fin.val h; have hc : c.val < 32 := c.isLt; have := j.isLt; simp only [sh] at h; omega
theorem sh_inj (c : Dev nD) : Function.Injective (sh c) := fun j j' h => Fin.ext (by
  have h := congrArg Fin.val h; have hc : c.val < 32 := c.isLt; have := j.isLt; have := j'.isLt; simp only [sh] at h; omega)

/-- The `j`-th shift as a permutation of the devices. -/
def ring (j : Fin 31) : Dev nD ≃ Dev nD := ⟨fun c => sh c j, fun c => un c j, fun c => un_sh c j, fun c => sh_un c j⟩

/-- The distance of exchange `s` of the all-reduce (slot `s = 2 · round + half`). -/
def dist : Fin 10 → ℕ := ![1, 16, 2, 8, 4, 2, 8, 1, 16, 4]
theorem xp_lt : ∀ (c : Dev nD) (s : Fin 10), c.val ^^^ dist s < 32 := by decide +kernel
/-- The partner of `c` in exchange `s`. -/
def xp (c : Dev nD) (s : Fin 10) : Dev nD := ⟨c.val ^^^ dist s, xp_lt c s⟩
theorem xp_xp : ∀ (c : Dev nD) (s : Fin 10), xp (xp c s) s = c := by decide +kernel
theorem xp_ne : ∀ (c : Dev nD) (s : Fin 10), xp c s ≠ c := by decide +kernel
/-- Exchange `s` as a permutation of the devices. -/
def swap (s : Fin 10) : Dev nD ≃ Dev nD := ⟨fun c => xp c s, fun c => xp c s, fun c => xp_xp c s, fun c => xp_xp c s⟩

/-- The signal of `c` that hands its partner of exchange `s` the landing slot `s`. -/
def jy (c : Dev nD) (s : Fin 10) : Fin 31 := ⟨((c.val ^^^ dist s) + 31 - c.val) % 32 % 31, Nat.mod_lt _ (by decide)⟩
theorem sh_jy : ∀ (c : Dev nD) (s : Fin 10), sh c (jy c s) = xp c s := by decide +kernel
/-- The signal that brings `c` the landing slot `s` of its partner. -/
def jx (c : Dev nD) (s : Fin 10) : Fin 31 := jy (xp c s) s
theorem jx_sh (c : Dev nD) (s : Fin 10) (j : Fin 31) : jx (sh c j) s = j ↔ jy c s = j := by
  revert c s j; decide +kernel
theorem un_jx (c : Dev nD) (s : Fin 10) : un c (jx c s) = xp c s := by
  have h := sh_jy (xp c s) s
  rw [xp_xp] at h
  exact (congrArg (fun d => un d (jx c s)) h).symm.trans (un_sh _ _)

/-! ## The blocks of 64 keys -/

/-- The class of a device's keys: 0 both blocks are attended to by some query, 1 the first only, 2 the second only. -/
def cls (d : ℕ) : ℕ := if d = 0 ∨ d % 3 = 1 then 0 else if d % 3 = 0 then 1 else 2
/-- How many blocks of its keys a device sends. -/
def nblk (d : ℕ) : ℕ := if cls d = 0 then 2 else 1
/-- The first block it sends. -/
def rlo (d : ℕ) : ℕ := if cls d = 2 then 1 else 0
/-- Where they land, in blocks. -/
def rb (d : ℕ) : ℕ := d + ((if 0 < d then 1 else 0) + (d + 1) / 3)
/-- The block of keys, of all 64, that lies in block `b` of the 44 gathered. -/
def kbOf (b : ℕ) : ℕ := if b ≤ 1 then b else b + (b - 2) / 2
/-- The gathered block that block `k` of the 45 dequantised comes from. -/
def gBlk (k : ℕ) : ℕ := if k < 22 then (if k = 0 then 0 else 2 * k + 1) else if k = 22 then 0 else if k = 23 then 1 else 2 * k - 46

theorem kbOf_lt : ∀ b : Fin 44, kbOf b.val < 64 := by decide
theorem gBlk_lt : ∀ k : Fin 45, gBlk k.val < 44 := by decide
theorem rb_bound : ∀ d : Dev nD, rb d.val + nblk d.val ≤ 44 := by decide
theorem rlo_bound : ∀ d : Dev nD, rlo d.val + nblk d.val ≤ 2 := by decide
theorem kbOf_dev : ∀ (d : Dev nD) (b : Fin 44), kbOf b.val / 2 = d.val ↔ rb d.val ≤ b.val ∧ b.val < rb d.val + nblk d.val := by decide +kernel
theorem kbOf_mod : ∀ (d : Dev nD) (b : Fin 44), rb d.val ≤ b.val → b.val < rb d.val + nblk d.val →
    kbOf b.val % 2 + rb d.val = rlo d.val + b.val := by decide +kernel

/-! ## The element sets -/

/-- The rows of the gathered codes that device `d`'s keys land in. -/
def rowSet (d : Dev nD) : Finset S2x2x2816x256.Idx :=
  Finset.univ.filter fun i => rb d.val ≤ (i 2).val / 64 ∧ (i 2).val / 64 < rb d.val + nblk d.val
/-- The part of device `c`'s codes that goes to device `p`: the attended rows, at `p`'s heads. -/
def pieceSet (c p : Dev nD) : Finset S2x2x128x8192.Idx :=
  Finset.univ.filter fun i => (rlo c.val ≤ (i 2).val / 64 ∧ (i 2).val / 64 < rlo c.val + nblk c.val) ∧ (i 3).val / 256 = p.val
/-- Slot `s` of an exchange buffer. -/
def slotSet (s : Fin 10) : Finset S5x2x128x512.Idx :=
  Finset.univ.filter fun i => (i 0).val = s.val / 2 ∧ (i 1).val = s.val % 2

theorem devOf_lt (i : S2x2x2816x256.Idx) : kbOf ((i 2).val / 64) / 2 < 32 := by
  have h2 : (i 2).val < 2816 := (i 2).isLt
  have := kbOf_lt ⟨(i 2).val / 64, by omega⟩
  dsimp only at this; omega
/-- The device whose keys land in the row of `i`. -/
def devOf (i : S2x2x2816x256.Idx) : Dev nD := ⟨kbOf ((i 2).val / 64) / 2, devOf_lt i⟩

theorem mem_rowSet (d : Dev nD) (i : S2x2x2816x256.Idx) : i ∈ rowSet d ↔ devOf i = d := by
  have h2 : (i 2).val < 2816 := (i 2).isLt
  unfold rowSet; rw [Finset.mem_filter]
  have := kbOf_dev d ⟨(i 2).val / 64, by omega⟩
  constructor
  · intro h; exact Fin.ext (this.mpr h.2)
  · intro h; exact ⟨Finset.mem_univ _, this.mp (congrArg Fin.val h)⟩

theorem rowSet_disjoint (d d' : Dev nD) (h : d ≠ d') : Disjoint (rowSet d) (rowSet d') := by
  rw [Finset.disjoint_left]; intro i hi hi'
  exact h (((mem_rowSet d i).mp hi).symm.trans ((mem_rowSet d' i).mp hi'))
theorem rowSet_cover : (Finset.univ.biUnion rowSet : Finset S2x2x2816x256.Idx) = Finset.univ := by
  ext i; simp only [Finset.mem_biUnion, Finset.mem_univ, true_and, iff_true]
  exact ⟨devOf i, (mem_rowSet _ i).mpr rfl⟩
theorem pieceSet_disjoint (c p p' : Dev nD) (h : p ≠ p') : Disjoint (pieceSet c p) (pieceSet c p') := by
  rw [Finset.disjoint_left]; intro i hi hi'
  unfold pieceSet at hi hi'; rw [Finset.mem_filter] at hi hi'
  exact h (Fin.ext (hi.2.2.symm.trans hi'.2.2))
theorem slotSet_disjoint (s s' : Fin 10) (h : s ≠ s') : Disjoint (slotSet s) (slotSet s') := by
  rw [Finset.disjoint_left]; intro i hi hi'
  unfold slotSet at hi hi'; rw [Finset.mem_filter] at hi hi'
  exact h (Fin.ext (by omega))
theorem slotSet_cover : (Finset.univ.biUnion slotSet : Finset S5x2x128x512.Idx) = Finset.univ := by
  ext i; simp only [Finset.mem_biUnion, Finset.mem_univ, true_and, iff_true]
  have h0 : (i 0).val < 5 := (i 0).isLt
  have h1 : (i 1).val < 2 := (i 1).isLt
  refine ⟨⟨2 * (i 0).val + (i 1).val, by omega⟩, ?_⟩
  unfold slotSet; rw [Finset.mem_filter]; dsimp only; exact ⟨Finset.mem_univ _, by omega, by omega⟩

theorem set_row (d : Dev nD) (n : ℕ) (hn : nblk d.val = n) (o : Fin 4 → ℕ) (ho : o = ![0, 0, 64 * rb d.val, 0])
    (h : ∀ a, o a + (![2, 2, 64 * n, 256] : Fin 4 → ℕ) a ≤ S2x2x2816x256.size a) :
    (Rect.unit (s := S2x2x2816x256) o ![2, 2, 64 * n, 256] h).set = rowSet d := by
  subst ho hn
  ext i; rw [Rect.mem_set_unit]; unfold rowSet; rw [Finset.mem_filter]
  have h0 : (i 0).val < 2 := (i 0).isLt
  have h1 : (i 1).val < 2 := (i 1).isLt
  have h3 : (i 3).val < 256 := (i 3).isLt
  constructor
  · intro hh; have := hh 2; refine ⟨Finset.mem_univ _, ?_⟩
    change 64 * rb d.val ≤ (i 2).val ∧ (i 2).val < 64 * rb d.val + 64 * nblk d.val at this
    omega
  · rintro ⟨-, hh⟩ a; fin_cases a
    · exact ⟨Nat.zero_le _, by show (i 0).val < 0 + 2; omega⟩
    · exact ⟨Nat.zero_le _, by show (i 1).val < 0 + 2; omega⟩
    · show 64 * rb d.val ≤ (i 2).val ∧ (i 2).val < 64 * rb d.val + 64 * nblk d.val; omega
    · exact ⟨Nat.zero_le _, by show (i 3).val < 0 + 256; omega⟩

theorem set_piece (c p : Dev nD) (n : ℕ) (hn : nblk c.val = n) (o : Fin 4 → ℕ) (ho : o = ![0, 0, 64 * rlo c.val, 256 * p.val])
    (h : ∀ a, o a + (![2, 2, 64 * n, 256] : Fin 4 → ℕ) a ≤ S2x2x128x8192.size a) :
    (Rect.unit (s := S2x2x128x8192) o ![2, 2, 64 * n, 256] h).set = pieceSet c p := by
  subst ho hn
  ext i; rw [Rect.mem_set_unit]; unfold pieceSet; rw [Finset.mem_filter]
  have h0 : (i 0).val < 2 := (i 0).isLt
  have h1 : (i 1).val < 2 := (i 1).isLt
  constructor
  · intro hh; have h2 := hh 2; have h3 := hh 3; refine ⟨Finset.mem_univ _, ?_⟩
    change 64 * rlo c.val ≤ (i 2).val ∧ (i 2).val < 64 * rlo c.val + 64 * nblk c.val at h2
    change 256 * p.val ≤ (i 3).val ∧ (i 3).val < 256 * p.val + 256 at h3
    omega
  · rintro ⟨-, hh⟩ a; fin_cases a
    · exact ⟨Nat.zero_le _, by show (i 0).val < 0 + 2; omega⟩
    · exact ⟨Nat.zero_le _, by show (i 1).val < 0 + 2; omega⟩
    · show 64 * rlo c.val ≤ (i 2).val ∧ (i 2).val < 64 * rlo c.val + 64 * nblk c.val; omega
    · show 256 * p.val ≤ (i 3).val ∧ (i 3).val < 256 * p.val + 256; omega

theorem set_slot (s : Fin 10) (o : Fin 4 → ℕ) (ho : o = ![s.val / 2, s.val % 2, 0, 0]) (h : ∀ a, o a + S1x1x128x512.size a ≤ S5x2x128x512.size a) :
    (Rect.unit (s := S5x2x128x512) o S1x1x128x512.size h).set = slotSet s := by
  subst ho
  ext i; rw [Rect.mem_set_unit]; unfold slotSet; rw [Finset.mem_filter]
  have h2 : (i 2).val < 128 := (i 2).isLt
  have h3 : (i 3).val < 512 := (i 3).isLt
  constructor
  · intro hh; have h0 := hh 0; have h1 := hh 1; refine ⟨Finset.mem_univ _, ?_⟩
    change s.val / 2 ≤ (i 0).val ∧ (i 0).val < s.val / 2 + 1 at h0
    change s.val % 2 ≤ (i 1).val ∧ (i 1).val < s.val % 2 + 1 at h1
    omega
  · rintro ⟨-, hh⟩ a; fin_cases a
    · show s.val / 2 ≤ (i 0).val ∧ (i 0).val < s.val / 2 + 1; omega
    · show s.val % 2 ≤ (i 1).val ∧ (i 1).val < s.val % 2 + 1; omega
    · exact ⟨Nat.zero_le _, by show (i 2).val < 0 + 128; omega⟩
    · exact ⟨Nat.zero_le _, by show (i 3).val < 0 + 512; omega⟩

/-! ## The contents -/

/-- Where element `i` of the codes gathered on device `c` lies in the codes of the device it comes from. -/
def ksIdx (c : Dev nD) (i : S2x2x2816x256.Idx) : S2x2x128x8192.Idx := fun a =>
  ⟨(![(i 0).val, (i 1).val, 64 * (kbOf ((i 2).val / 64) % 2) + (i 2).val % 64, 256 * c.val + (i 3).val] : Fin 4 → ℕ) a, by
    have h0 : (i 0).val < 2 := (i 0).isLt
    have h1 : (i 1).val < 2 := (i 1).isLt
    have h3 : (i 3).val < 256 := (i 3).isLt
    have hc : c.val < 32 := c.isLt
    fin_cases a
    · exact h0
    · exact h1
    · show 64 * (kbOf ((i 2).val / 64) % 2) + (i 2).val % 64 < 128; omega
    · show 256 * c.val + (i 3).val < 8192; omega⟩

/-- The codes gathered on device `c`: all attended keys and values at its heads. -/
def KS (V : Ins F) (c : Dev nD) : (cc0_scratch0 : Ref sig .tc).ty.Contents (Elt F) := fun i => V.kv (devOf i) (ksIdx c i)

/-- Where element `i` of the dequantised keys and values lies among the gathered codes. -/
def kgIdx (i : S2x2x2880x256.Idx) : S2x2x2816x256.Idx := fun a =>
  ⟨(![(i 0).val, (i 1).val, 64 * gBlk ((i 2).val / 64) + (i 2).val % 64, (i 3).val] : Fin 4 → ℕ) a, by
    have h0 : (i 0).val < 2 := (i 0).isLt
    have h1 : (i 1).val < 2 := (i 1).isLt
    have h2 : (i 2).val < 2880 := (i 2).isLt
    have h3 : (i 3).val < 256 := (i 3).isLt
    have := gBlk_lt ⟨(i 2).val / 64, by omega⟩
    dsimp only at this
    fin_cases a
    · exact h0
    · exact h1
    · show 64 * gBlk ((i 2).val / 64) + (i 2).val % 64 < 2816; omega
    · exact h3⟩

/-- One code dequantised. -/
def dq (v : Elt F .i8) : Elt F .bf16 :=
  FloatOps.mulf (F := F) (FloatOps.sitofp (F := F) .bf16 v) (Scalar.ofBits .bf16 0x3D01#16)

/-- The dequantised keys and values of device `c`, in the order the attention reads them. -/
def KG (V : Ins F) (c : Dev nD) : (cc0_scratch1 : Ref sig .tc).ty.Contents (Elt F) := fun i => dq (KS V c (kgIdx i))

end Cert.KernelIdeal.Pf
-- ==== Proof.KiAtt.lean ====
/-
The values of the kernel on one device: its projected queries, the two segments of the attention, its partial output,
and the outputs, send slots and landing slots of the ten exchanges of the all-reduce.
-/
module

public import proofs.«01_k».proof.Proof.KiBase

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The projected queries of device `c`. -/
def qv (V : Ins F) (c : Dev nD) : FVec F S256x256 .bf16 := k0_pay4 (V.x c) (V.wq c)

/-- One block of queries against the 1408 keys of the first segment. -/
def seg0 (q : FVec F S64x64 .bf16) (k v : Vec F S1x1x1408x64 .bf16) : FVec F S64x64 .f32 :=
  have s : FVec F S64x1408 .f32 := mulf (matmul dot_S64x64_S1408x64_S64x1408_1_1_0_0_n_n none q
    (shapeCast S1408x64 k shapeCasts_S1x1x1408x64_S1408x64 : FVec F S1408x64 .bf16) (constant S64x1408 .f32 0x00000000#32))
    (broadcast S64x1408 (Scalar.ofBits .f32 0x3E000000#32))
  have e : FVec F S64x1408 .f32 := exp (subf s (broadcastTo S64x1408 (shapeCast S64x1
    (multiReduction .maximumf [1] S64 s 0xFF800000#32 reduces_S64x1408_S64 (.inl rfl) rfl) shapeCasts_S64_S64x1) broadcasts_S64x1_S64x1408))
  have p : FVec F S64x1408 .f32 := divf e (broadcastTo S64x1408 (shapeCast S64x1
    (multiReduction .add [1] S64 e 0x00000000#32 reduces_S64x1408_S64 (.inl rfl) rfl) shapeCasts_S64_S64x1) broadcasts_S64x1_S64x1408)
  matmul dot_S64x1408_S1408x64_S64x64_1_0_0_1_n_n none (truncf .bf16 p bitsLt_bf16_f32)
    (shapeCast S1408x64 v shapeCasts_S1x1x1408x64_S1408x64 : FVec F S1408x64 .bf16) (constant S64x64 .f32 0x00000000#32)

/-- One block of queries against the 1472 keys of the second segment. -/
def seg1 (q : FVec F S64x64 .bf16) (k v : Vec F S1x1x1472x64 .bf16) : FVec F S64x64 .f32 :=
  have s : FVec F S64x1472 .f32 := mulf (matmul dot_S64x64_S1472x64_S64x1472_1_1_0_0_n_n none q
    (shapeCast S1472x64 k shapeCasts_S1x1x1472x64_S1472x64 : FVec F S1472x64 .bf16) (constant S64x1472 .f32 0x00000000#32))
    (broadcast S64x1472 (Scalar.ofBits .f32 0x3E000000#32))
  have e : FVec F S64x1472 .f32 := exp (subf s (broadcastTo S64x1472 (shapeCast S64x1
    (multiReduction .maximumf [1] S64 s 0xFF800000#32 reduces_S64x1472_S64 (.inl rfl) rfl) shapeCasts_S64_S64x1) broadcasts_S64x1_S64x1472))
  have p : FVec F S64x1472 .f32 := divf e (broadcastTo S64x1472 (shapeCast S64x1
    (multiReduction .add [1] S64 e 0x00000000#32 reduces_S64x1472_S64 (.inl rfl) rfl) shapeCasts_S64_S64x1) broadcasts_S64x1_S64x1472)
  matmul dot_S64x1472_S1472x64_S64x64_1_0_0_1_n_n none (truncf .bf16 p bitsLt_bf16_f32)
    (shapeCast S1472x64 v shapeCasts_S1x1x1472x64_S1472x64 : FVec F S1472x64 .bf16) (constant S64x64 .f32 0x00000000#32)

theorem inb0 (t b h : ℕ) (ht : t < 2) (hb : b < 2) (hh : h < 4) :
    ∀ a, (![t, b, 0, 64 * h] : Fin 4 → ℕ) a + S1x1x1408x64.size a ≤ S2x2x2880x256.size a := fun a => by
  fin_cases a
  · show t + 1 ≤ 2; omega
  · show b + 1 ≤ 2; omega
  · show 0 + 1408 ≤ 2880; omega
  · show 64 * h + 64 ≤ 256; omega
theorem inb1 (t b h : ℕ) (ht : t < 2) (hb : b < 2) (hh : h < 4) :
    ∀ a, (![t, b, 1408, 64 * h] : Fin 4 → ℕ) a + S1x1x1472x64.size a ≤ S2x2x2880x256.size a := fun a => by
  fin_cases a
  · show t + 1 ≤ 2; omega
  · show b + 1 ≤ 2; omega
  · show 1408 + 1472 ≤ 2880; omega
  · show 64 * h + 64 ≤ 256; omega

/-- The keys (`t = 0`) or values (`t = 1`) of batch row `b`, head `h`, first segment. -/
def rd0 (V : Ins F) (c : Dev nD) (t b : Fin 2) (h : Fin 4) : Vec F S1x1x1408x64 .bf16 :=
  M6.view.readAt (Elt F) (Rect.unit (s := S2x2x2880x256) ![t.val, b.val, 0, 64 * h.val] S1x1x1408x64.size
    (inb0 _ _ _ t.isLt b.isLt h.isLt)).toLoadRect (KG V c)
/-- The keys or values of batch row `b`, head `h`, second segment. -/
def rd1 (V : Ins F) (c : Dev nD) (t b : Fin 2) (h : Fin 4) : Vec F S1x1x1472x64 .bf16 :=
  M6.view.readAt (Elt F) (Rect.unit (s := S2x2x2880x256) ![t.val, b.val, 1408, 64 * h.val] S1x1x1472x64.size
    (inb1 _ _ _ t.isLt b.isLt h.isLt)).toLoadRect (KG V c)

/-- The attended values of one head, given its two blocks of queries. -/
def head (V : Ins F) (c : Dev nD) (b : Fin 2) (h : Fin 4) (q0 q1 : FVec F S64x64 .bf16) : FVec F S128x64 .f32 :=
  concatenate S128x64 0 [⟨S64x64, seg0 q0 (rd0 V c 0 b h) (rd0 V c 1 b h)⟩, ⟨S64x64, seg1 q1 (rd1 V c 0 b h) (rd1 V c 1 b h)⟩]
    concatenates_S64x64_S64x64_S128x64_d0

/-- The four heads side by side times the output weights. -/
def proj (wo : Vec F S256x512 .bf16) (h0 h1 h2 h3 : FVec F S128x64 .f32) : FVec F S1x128x512 .f32 :=
  have y : FVec F S128x256 .f32 := concatenate S128x256 1 [⟨S128x64, h0⟩, ⟨S128x64, h1⟩, ⟨S128x64, h2⟩, ⟨S128x64, h3⟩]
    concatenates_S128x64_S128x64_S128x64_S128x64_S128x256_d1
  shapeCast S1x128x512 (matmul dot_S128x256_S256x512_S128x512_1_0_0_1_n_n none (truncf .bf16 y bitsLt_bf16_f32)
    (shapeCast S256x512 wo shapeCasts_S256x512_S256x512 : FVec F S256x512 .bf16) (constant S128x512 .f32 0x00000000#32)) shapeCasts_S128x512_S1x128x512

/-- The partial output of device `c`, batch row 0. -/
def att0 (V : Ins F) (c : Dev nD) : FVec F S1x128x512 .f32 :=
  proj (V.wo c)
    (head V c 0 0 (extractStridedSlice S64x64 ![0, 0] (qv V c) slices_S256x256_o0_0_S64x64) (extractStridedSlice S64x64 ![64, 0] (qv V c) slices_S256x256_o64_0_S64x64))
    (head V c 0 1 (extractStridedSlice S64x64 ![0, 64] (qv V c) slices_S256x256_o0_64_S64x64) (extractStridedSlice S64x64 ![64, 64] (qv V c) slices_S256x256_o64_64_S64x64))
    (head V c 0 2 (extractStridedSlice S64x64 ![0, 128] (qv V c) slices_S256x256_o0_128_S64x64) (extractStridedSlice S64x64 ![64, 128] (qv V c) slices_S256x256_o64_128_S64x64))
    (head V c 0 3 (extractStridedSlice S64x64 ![0, 192] (qv V c) slices_S256x256_o0_192_S64x64) (extractStridedSlice S64x64 ![64, 192] (qv V c) slices_S256x256_o64_192_S64x64))
/-- The partial output of device `c`, batch row 1. -/
def att1 (V : Ins F) (c : Dev nD) : FVec F S1x128x512 .f32 :=
  proj (V.wo c)
    (head V c 1 0 (extractStridedSlice S64x64 ![128, 0] (qv V c) slices_S256x256_o128_0_S64x64) (extractStridedSlice S64x64 ![192, 0] (qv V c) slices_S256x256_o192_0_S64x64))
    (head V c 1 1 (extractStridedSlice S64x64 ![128, 64] (qv V c) slices_S256x256_o128_64_S64x64) (extractStridedSlice S64x64 ![192, 64] (qv V c) slices_S256x256_o192_64_S64x64))
    (head V c 1 2 (extractStridedSlice S64x64 ![128, 128] (qv V c) slices_S256x256_o128_128_S64x64) (extractStridedSlice S64x64 ![192, 128] (qv V c) slices_S256x256_o192_128_S64x64))
    (head V c 1 3 (extractStridedSlice S64x64 ![128, 192] (qv V c) slices_S256x256_o128_192_S64x64) (extractStridedSlice S64x64 ![192, 192] (qv V c) slices_S256x256_o192_192_S64x64))
def att (V : Ins F) (c : Dev nD) (b : Fin 2) : FVec F S1x128x512 .f32 := if b = 0 then att0 V c else att1 V c

/-! ## The all-reduce -/

/-- Exchange `2 n + b`: round `n`, half `b`. -/
def sl (n : ℕ) (b : Fin 2) : Fin 10 := ⟨(2 * n + b.val) % 10, Nat.mod_lt _ (by decide)⟩
def half (s : Fin 10) : Fin 2 := ⟨s.val % 2, Nat.mod_lt _ (by decide)⟩
theorem sl_half : ∀ s : Fin 10, sl (s.val / 2) (half s) = s := by decide

/-- Half `b` of the output of device `c` after `n` rounds: what it had plus what its partner had, rounded for the wire. -/
def ov (V : Ins F) : ℕ → Dev nD → Fin 2 → FVec F S1x128x512 .f32
  | 0, c, b => att V c b
  | n + 1, c, b => k0_pay87 (ov V n c b) (k0_pay85 (ov V n (xp c (sl n b)) b))

/-- What device `c` sends in exchange `s`. -/
def SV (V : Ins F) (c : Dev nD) (s : Fin 10) : FVec F S1x1x128x512 .bf16 := k0_pay85 (ov V (s.val / 2) c (half s))

theorem ov_step (V : Ins F) (c : Dev nD) (s : Fin 10) :
    k0_pay87 (ov V (s.val / 2) c (half s)) (SV V (xp c s) s) = ov V (s.val / 2 + 1) c (half s) := by
  unfold SV; rw [ov, sl_half]

def slotOf (i : S5x2x128x512.Idx) : Fin 10 := ⟨2 * (i 0).val + (i 1).val, by
  have h0 : (i 0).val < 5 := (i 0).isLt
  have h1 : (i 1).val < 2 := (i 1).isLt
  omega⟩
def slotIdx (i : S5x2x128x512.Idx) : S1x1x128x512.Idx := fun a =>
  ⟨(![0, 0, (i 2).val, (i 3).val] : Fin 4 → ℕ) a, by
    have h2 : (i 2).val < 128 := (i 2).isLt
    have h3 : (i 3).val < 512 := (i 3).isLt
    fin_cases a
    · exact Nat.one_pos
    · exact Nat.one_pos
    · exact h2
    · exact h3⟩
theorem mem_slotSet (s : Fin 10) (i : S5x2x128x512.Idx) : i ∈ slotSet s ↔ slotOf i = s := by
  have h1 : (i 1).val < 2 := (i 1).isLt
  unfold slotSet slotOf; rw [Finset.mem_filter]
  constructor
  · intro h; exact Fin.ext (by dsimp only; omega)
  · intro h; have := congrArg Fin.val h; dsimp only at this; exact ⟨Finset.mem_univ _, by omega, by omega⟩

/-- The send slots of device `c`, every exchange under way. -/
def SBf (V : Ins F) (c : Dev nD) : (cc0_scratch2 : Ref sig .tc).ty.Contents (Elt F) := fun i => SV V c (slotOf i) (slotIdx i)
/-- The landing slots of device `c`, every exchange landed. -/
def RBf (V : Ins F) (c : Dev nD) : (cc0_scratch3 : Ref sig .tc).ty.Contents (Elt F) := fun i => SV V (xp c (slotOf i)) (slotOf i) (slotIdx i)

def outIdx (i : S2x128x512.Idx) : S1x128x512.Idx := fun a =>
  ⟨(![0, (i 1).val, (i 2).val] : Fin 3 → ℕ) a, by
    have h1 : (i 1).val < 128 := (i 1).isLt
    have h2 : (i 2).val < 512 := (i 2).isLt
    fin_cases a
    · exact Nat.one_pos
    · exact h1
    · exact h2⟩
/-- The output of device `c` after `m` additions. -/
def OUT (V : Ins F) (c : Dev nD) (m : ℕ) : (cc0_stg4_0 : Ref sig .tc).ty.Contents (Elt F) :=
  fun i => ov V ((m + 1 - (i 0).val) / 2) c (i 0) (outIdx i)

end Cert.KernelIdeal.Pf
-- ==== Proof.KiProto.lean ====
/-
The protocol of the kernel: its 83 semaphore cells per device, the one round each of them has, what each signal and each
transfer hands over, what every device owes at launch, and the levels of the cells.
-/
module

public import proofs.«01_k».proof.Proof.KiAtt

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this kernel's (a barrier cell has 31 duties) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The cells -/

/-- A device's cells: the barrier, 31 send and 31 receive cells of the transfers of keys, 10 and 10 of the exchanges. -/
abbrev CK : Type := Unit ⊕ (Fin 31 ⊕ Fin 31) ⊕ (Fin 10 ⊕ Fin 10)
abbrev kbar : CK := .inl ()
abbrev ksnd (j : Fin 31) : CK := .inr (.inl (.inl j))
abbrev krcv (j : Fin 31) : CK := .inr (.inl (.inr j))
abbrev kas (s : Fin 10) : CK := .inr (.inr (.inl s))
abbrev kar (s : Fin 10) : CK := .inr (.inr (.inr s))

abbrev barS : Sem sig := (SemArray.scalar (sig.barrier 0 rfl) : Sems sig S_).sem
def dq5 (n : ℕ) (h : n < 82) : DmaSem sig := ⟨5 + n, by show 5 + n < 87; omega⟩
/-- The semaphore of a cell. -/
def csem : CK → SemLoc sig
  | .inl _ => .reg barS
  | .inr (.inl (.inl j)) => .dma (dq5 j.val (by omega))
  | .inr (.inl (.inr j)) => .dma (dq5 (31 + j.val) (by omega))
  | .inr (.inr (.inl s)) => .dma (dq5 (62 + s.val) (by omega))
  | .inr (.inr (.inr s)) => .dma (dq5 (72 + s.val) (by omega))
abbrev kcell (c : Dev nD) (k : CK) : GSem nD τ sig := ((c : Thread nD τ), csem k)

/-- Which cell of a device a semaphore is. -/
def dec : SemLoc sig → Option CK
  | .reg _ => some kbar
  | .dma q =>
    if h : q.val < 5 then none
    else if h1 : q.val < 36 then some (ksnd ⟨q.val - 5, by omega⟩)
    else if h2 : q.val < 67 then some (krcv ⟨q.val - 36, by omega⟩)
    else if h3 : q.val < 77 then some (kas ⟨q.val - 67, by omega⟩)
    else if h4 : q.val < 87 then some (kar ⟨q.val - 77, by omega⟩)
    else none

theorem dec_csem : ∀ k : CK, dec (csem k) = some k := by decide +kernel
theorem csem_inj : Function.Injective csem := fun k k' h => Option.some.inj (by rw [← dec_csem, ← dec_csem, h])
theorem kcell_inj {c c' : Dev nD} {k k' : CK} (h : kcell c k = kcell c' k') : c = c' ∧ k = k' :=
  ⟨congrArg (fun g : GSem nD τ sig => g.1.1) h, csem_inj (congrArg Prod.snd h)⟩

/-! ## Amounts -/

theorem inbN (n : ℕ) (h : n ≤ 128) : ∀ a, (![0, 0, 0, 0] : Fin 4 → ℕ) a + (![2, 2, n, 256] : Fin 4 → ℕ) a ≤ S2x2x2816x256.size a := fun a => by
  fin_cases a
  · show 0 + 2 ≤ 2; omega
  · show 0 + 2 ≤ 2; omega
  · show 0 + n ≤ 2816; omega
  · show 0 + 256 ≤ 256; omega

/-- What a transfer of two blocks of keys credits. -/
def N128 : ℕ := (M5.slice (Rect.unit (s := S2x2x2816x256) ![0, 0, 0, 0] S2x2x128x256.size (inbN 128 (by decide))) (fun _ => rfl)).view.dmaCredit
/-- What a transfer of one block of keys credits. -/
def N64 : ℕ := (M5.slice (Rect.unit (s := S2x2x2816x256) ![0, 0, 0, 0] S2x2x64x256.size (inbN 64 (by decide))) (fun _ => rfl)).view.dmaCredit
theorem inbA : ∀ a, (![0, 0, 0, 0] : Fin 4 → ℕ) a + S1x1x128x512.size a ≤ S5x2x128x512.size a := by decide
/-- What a transfer of one exchange credits. -/
def NA : ℕ := ((M8.slice (Rect.unit (s := S5x2x128x512) ![0, 0, 0, 0] S1x1x128x512.size inbA) (fun _ => rfl)).squeeze S128x512 squeezes_S1x1x128x512_S128x512).view.dmaCredit
theorem N128_pos : 0 < N128 := View.dmaCredit_pos _ (by decide)
theorem N64_pos : 0 < N64 := View.dmaCredit_pos _ (by decide)
theorem NA_pos : 0 < NA := View.dmaCredit_pos _ (by decide)

/-- What a transfer of device `c`'s keys credits. -/
def nb (c : Dev nD) : ℕ := if nblk c.val = 2 then N128 else N64
theorem nb_pos (c : Dev nD) : 0 < nb c := by unfold nb; split; exacts [N128_pos, N64_pos]

/-- What one duty of cell `k` of device `c` credits. -/
def amt (c : Dev nD) : CK → ℕ
  | .inl _ => 1
  | .inr (.inl (.inl _)) => nb c
  | .inr (.inl (.inr j)) => nb (un c j)
  | .inr (.inr _) => NA
/-- What the owner of cell `k` of device `c` waits for. -/
def tot (c : Dev nD) : CK → ℕ
  | .inl _ => 31
  | .inr k => amt c (.inr k)

/-! ## The resources handed over -/

abbrev ks (c : Dev nD) (S : Finset S2x2x2816x256.Idx) (f : (cc0_scratch0 : Ref sig .tc).ty.Contents (Elt F)) : sProp 𝕄 :=
  ((c : Thread nD τ).loc cc0_scratch0) ↦[S]{fullShare} f
abbrev kvp (c : Dev nD) (S : Finset S2x2x128x8192.Idx) (f : (cc0_stg2_0 : Ref sig .tc).ty.Contents (Elt F)) : sProp 𝕄 :=
  ((c : Thread nD τ).loc cc0_stg2_0) ↦[S]{fullShare} f
abbrev sbp (c : Dev nD) (S : Finset S5x2x128x512.Idx) (f : (cc0_scratch2 : Ref sig .tc).ty.Contents (Elt F)) : sProp 𝕄 :=
  ((c : Thread nD τ).loc cc0_scratch2) ↦[S]{fullShare} f
abbrev rbp (c : Dev nD) (S : Finset S5x2x128x512.Idx) (f : (cc0_scratch3 : Ref sig .tc).ty.Contents (Elt F)) : sProp 𝕄 :=
  ((c : Thread nD τ).loc cc0_scratch3) ↦[S]{fullShare} f

/-- What the barrier signal `j` that device `o` receives hands it: the rows of the sender's gathered codes that `o`'s keys
    land in, and the landing slots of the exchanges in which the sender is `o`'s partner. -/
def barPay (o : Dev nD) (j : Fin 31) : sProp 𝕄 :=
  iprop((∃ f, ks (un o j) (rowSet o) f) ∗ bigSep Finset.univ fun s : Fin 10 => if jx o s = j then iprop(∃ f, rbp (xp o s) (slotSet s) f) else iprop(emp))

/-- What the duty `d` of cell `k` of device `c` hands over. -/
def pay (V : Ins F) (c : Dev nD) (d : Fin 31) : CK → sProp 𝕄
  | .inl _ => barPay c d
  | .inr (.inl (.inl j)) => kvp c (pieceSet c (sh c j)) (V.kv c)
  | .inr (.inl (.inr j)) => ks c (rowSet (un c j)) (KS V c)
  | .inr (.inr (.inl s)) => sbp c (slotSet s) (SBf V c)
  | .inr (.inr (.inr s)) => rbp c (slotSet s) (RBf V c)

/-- The duties of a cell: 31 of a barrier cell, one of any other. -/
def dut : CK → Finset (Fin 31)
  | .inl _ => Finset.univ
  | .inr _ => {0}

def optDut : Option CK → Finset (Fin 31)
  | some k => dut k
  | none => ∅
def optAmt (c : Dev nD) : Option CK → ℕ
  | some k => amt c k
  | none => 1
def optPay (V : Ins F) (c : Dev nD) (d : Fin 31) : Option CK → sProp 𝕄
  | some k => pay V c d k
  | none => iprop(emp)

theorem amt_pos (c : Dev nD) (k : CK) : 0 < amt c k := by
  rcases k with _ | (j | j) | (s | s)
  · exact Nat.one_pos
  · exact nb_pos c
  · exact nb_pos _
  · exact NA_pos
  · exact NA_pos

/-- Every cell has one round. -/
def Rd (V : Ins F) : Rounds.Schedule (GSem nD τ sig) (Fin 31) 𝕄 where
  duties g r := if r = 0 ∧ g.1.2 = .tc then optDut (dec g.2) else ∅
  unitless _ := False
  amount g _ _ := optAmt g.1.1 (dec g.2)
  payload g _ d := optPay V g.1.1 d (dec g.2)
  amount_pos g _ _ _ := by
    cases h : dec g.2 with
    | none => exact Nat.one_pos
    | some k => exact amt_pos _ k

instance Rd_storable (V : Ins F) (g : GSem nD τ sig) (r : ℕ) (d : Fin 31) : BI.Storable (upEmb : UEmb _ 𝕄) ((Rd V).payload g r d) := by
  show BI.Storable upEmb (optPay V g.1.1 d (dec g.2))
  rcases dec g.2 with _ | _ | (j | j) | (s | s)
  · unfold optPay; infer_instance
  · unfold optPay pay barPay
    have (s : Fin 10) : BI.Storable (upEmb : UEmb _ 𝕄) (if jx g.1.1 s = d then iprop(∃ f, rbp (F := F) (xp g.1.1 s) (slotSet s) f) else iprop(emp)) := by
      split <;> infer_instance
    infer_instance
  · unfold optPay pay; infer_instance
  · unfold optPay pay; infer_instance
  · unfold optPay pay; infer_instance
  · unfold optPay pay; infer_instance

section Sched
variable (V : Ins F) (c : Dev nD) (k : CK)

theorem duties_eq : (Rd V).duties (kcell c k) 0 = dut k := by
  dsimp only [Rd]; rw [if_pos ⟨rfl, rfl⟩]; show optDut (dec (csem k)) = _; rw [dec_csem]; rfl
theorem duties_later (g : GSem nD τ sig) : ∀ r, 1 ≤ r → (Rd V).duties g r = ∅ :=
  fun r hr => by dsimp only [Rd]; rw [if_neg fun h => by omega]
theorem amount_eq (d : Fin 31) : (Rd V).amount (kcell c k) 0 d = amt c k := by
  show optAmt c (dec (csem k)) = _; rw [dec_csem]; rfl
theorem payload_eq (d : Fin 31) : (Rd V).payload (kcell c k) 0 d = pay V c d k := by
  show optPay V c d (dec (csem k)) = _; rw [dec_csem]; rfl
theorem expect_eq : (Rd V).expect (kcell c k) 0 = tot c k := by
  unfold Schedule.expect Schedule.amountOf
  rw [duties_eq, Finset.sum_congr rfl fun d _ => amount_eq V c k d, Finset.sum_const]
  rcases k with _ | k
  · rfl
  · show ({0} : Finset (Fin 31)).card • amt c (.inr k) = _; rw [Finset.card_singleton, one_smul]; rfl

/-- What the wait on a cell gives. -/
def rest : CK → sProp 𝕄
  | .inl _ => bigSep Finset.univ fun j => barPay c j
  | .inr k => pay V c 0 (.inr k)
theorem rest_eq : bigSep ((Rd V).duties (kcell c k) 0 \ ∅) (fun d => (Rd V).payload (kcell c k) 0 d) = rest V c k := by
  rw [Finset.sdiff_empty, duties_eq, bigSep_congr fun d _ => payload_eq V c k d]
  rcases k with _ | k
  · rfl
  · show bigSep {0} _ = _; rw [bigSep_singleton]; rfl
end Sched

/-! ## What is owed, and the levels -/

/-- The terms of `f` from index `m` on. -/
def tail {n : ℕ} (f : Fin n → CellTallies nD τ sig Unit) (m : ℕ) : CellTallies nD τ sig Unit :=
  ∑ j : Fin n, if m ≤ j.val then f j else 0

theorem tail_step {n : ℕ} (f : Fin n → CellTallies nD τ sig Unit) (m : ℕ) (h : m < n) : tail f m = tail f (m + 1) + f ⟨m, h⟩ := by
  unfold tail
  rw [← Finset.add_sum_erase _ (fun j : Fin n => if m ≤ j.val then f j else 0) (Finset.mem_univ (⟨m, h⟩ : Fin n)), ← Finset.add_sum_erase _ (fun j : Fin n => if m + 1 ≤ j.val then f j else 0) (Finset.mem_univ (⟨m, h⟩ : Fin n)),
    if_pos (le_refl m), if_neg (by show ¬ m + 1 ≤ m; omega), zero_add, add_comm]
  congr 1
  refine Finset.sum_congr rfl fun j hj => ?_
  have hne : j.val ≠ m := fun h' => (Finset.mem_erase.mp hj).1 (Fin.ext h')
  by_cases hle : m ≤ j.val
  · rw [if_pos hle, if_pos (by omega)]
  · rw [if_neg hle, if_neg (by omega)]
theorem tail_end {n : ℕ} (f : Fin n → CellTallies nD τ sig Unit) : tail f n = 0 := by
  unfold tail; exact Finset.sum_eq_zero fun j _ => if_neg (by omega)
theorem tail_apply {n : ℕ} (f : Fin n → CellTallies nD τ sig Unit) (m : ℕ) (g : GSem nD τ sig) :
    tail f m g () = ∑ j : Fin n, if m ≤ j.val then f j g () else 0 := by
  unfold tail
  rw [Finset.sum_apply, Finsupp.finset_sum_apply]
  refine Finset.sum_congr rfl fun j _ => ?_
  by_cases h : m ≤ j.val
  · rw [if_pos h, if_pos h]
  · rw [if_neg h, if_neg h]; rfl
theorem tail_pos {n : ℕ} (f : Fin n → CellTallies nD τ sig Unit) (m : ℕ) (g : GSem nD τ sig) (h : 0 < tail f m g ()) :
    ∃ j : Fin n, m ≤ j.val ∧ 0 < f j g () := by
  rw [tail_apply] at h
  obtain ⟨j, -, hj⟩ := Finset.exists_ne_zero_of_sum_ne_zero h.ne'
  by_cases hm : m ≤ j.val
  · rw [if_pos hm] at hj; exact ⟨j, hm, Nat.pos_of_ne_zero hj⟩
  · rw [if_neg hm] at hj; exact absurd rfl hj
theorem tally_pos {g g' : GSem nD τ sig} {n : ℕ} (h : 0 < (tallyAt g' () n : CellTallies nD τ sig Unit) g ()) : g = g' := by
  rw [tallyAt_apply] at h
  by_contra hn; rw [if_neg (fun h' => hn h'.1)] at h; exact absurd h (lt_irrefl 0)

def sigT (c : Dev nD) (j : Fin 31) : CellTallies nD τ sig Unit := tallyAt (kcell (sh c j) kbar) () 1
def sndT (c : Dev nD) (j : Fin 31) : CellTallies nD τ sig Unit := tallyAt (kcell (sh c j) (krcv j)) () (nb c)
def arT (c : Dev nD) (s : Fin 10) : CellTallies nD τ sig Unit := tallyAt (kcell (xp c s) (kar s)) () NA
/-- What device `c` owes after `a` signals, `b` transfers of keys and `e` exchanges. -/
def Ow3 (c : Dev nD) (a b e : ℕ) : CellTallies nD τ sig Unit := tail (sigT c) a + (tail (sndT c) b + tail (arT c) e)
def O₀ (c : Dev nD) : CellTallies nD τ sig Unit := Ow3 c 0 0 0

/-- The level of a cell. -/
def lvl : CK → ℕ
  | .inl _ => 1
  | .inr (.inl (.inl _)) => 0
  | .inr (.inl (.inr _)) => 2
  | .inr (.inr (.inl _)) => 0
  | .inr (.inr (.inr s)) => 3 + s.val
def optLvl : Option CK → ℕ
  | some k => lvl k
  | none => 0
def L (g : GSem nD τ sig) : Finset Unit := if g.1.2 = .tc then {()} else ∅
def lv (g : GSem nD τ sig) (_ : Unit) : ℕ := optLvl (dec g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (kcell c k) () = lvl k := by
  show optLvl (dec (csem k)) = _; rw [dec_csem]; rfl

theorem owed_pos {c : Dev nD} {a b e : ℕ} {g : GSem nD τ sig} (h : 0 < Ow3 c a b e g ()) :
    ∃ (d : Dev nD) (k : CK), g = kcell d k ∧ ((k = kbar ∧ a < 31) ∨ (∃ j, k = krcv j ∧ b < 31) ∨ ∃ s : Fin 10, k = kar s ∧ e ≤ s.val) := by
  unfold Ow3 at h
  rw [Pi.add_apply, Finsupp.add_apply, Pi.add_apply, Finsupp.add_apply] at h
  rcases Nat.eq_zero_or_pos (tail (sigT c) a g ()) with h1 | h1
  · rcases Nat.eq_zero_or_pos (tail (sndT c) b g ()) with h2 | h2
    · obtain ⟨s, hs, hp⟩ := tail_pos _ _ _ (show 0 < tail (arT c) e g () by omega)
      exact ⟨_, _, tally_pos hp, .inr (.inr ⟨s, rfl, hs⟩)⟩
    · obtain ⟨j, hj, hp⟩ := tail_pos _ _ _ h2
      exact ⟨_, _, tally_pos hp, .inr (.inl ⟨j, rfl, by omega⟩)⟩
  · obtain ⟨j, hj, hp⟩ := tail_pos _ _ _ h1
    exact ⟨_, _, tally_pos hp, .inl ⟨rfl, by omega⟩⟩

/-- A wait at level `n` is allowed while everything owed lies above. -/
theorem mayWait_of (c : Dev nD) (sm : SemLoc sig) (n : ℕ) (O : CellTallies nD τ sig Unit) (hn : lv ((c : Thread nD τ), sm) () = n)
    (hO : ∀ g, 0 < O g () → ∃ (d : Dev nD) (k : CK), g = kcell d k ∧ n < lvl k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g hg; exact Finset.mem_singleton_self _)
    (fun p hp => by rw [Finset.mem_singleton.mp hp]; exact hn.le)
    (fun g u hg => by obtain ⟨d, k, rfl, h⟩ := hO g hg; rw [lv_cell]; exact h)

/-- Waits at level 0 are allowed whatever is owed. -/
theorem low_ok (c : Dev nD) (a b e : ℕ) : ∀ g, 0 < Ow3 c a b e g () → ∃ (d : Dev nD) (k : CK), g = kcell d k ∧ 0 < lvl k := fun g hg => by
  obtain ⟨d, k, rfl, ⟨rfl, -⟩ | ⟨j, rfl, -⟩ | ⟨s, rfl, -⟩⟩ := owed_pos hg
  · exact ⟨_, _, rfl, Nat.one_pos⟩
  · exact ⟨_, _, rfl, by show 0 < 2; omega⟩
  · exact ⟨_, _, rfl, by show 0 < 3 + s.val; omega⟩
theorem bar_ok (c : Dev nD) (b e : ℕ) : ∀ g, 0 < Ow3 c 31 b e g () → ∃ (d : Dev nD) (k : CK), g = kcell d k ∧ 1 < lvl k := fun g hg => by
  obtain ⟨d, k, rfl, ⟨rfl, h⟩ | ⟨j, rfl, -⟩ | ⟨s, rfl, -⟩⟩ := owed_pos hg
  · omega
  · exact ⟨_, _, rfl, by show 1 < 2; omega⟩
  · exact ⟨_, _, rfl, by show 1 < 3 + s.val; omega⟩
theorem rcv_ok (c : Dev nD) (e : ℕ) : ∀ g, 0 < Ow3 c 31 31 e g () → ∃ (d : Dev nD) (k : CK), g = kcell d k ∧ 2 < lvl k := fun g hg => by
  obtain ⟨d, k, rfl, ⟨rfl, h⟩ | ⟨j, rfl, h⟩ | ⟨s, rfl, -⟩⟩ := owed_pos hg
  · omega
  · omega
  · exact ⟨_, _, rfl, by show 2 < 3 + s.val; omega⟩
theorem ar_ok (c : Dev nD) (e n : ℕ) (hn : n < e) : ∀ g, 0 < Ow3 c 31 31 e g () → ∃ (d : Dev nD) (k : CK), g = kcell d k ∧ 3 + n < lvl k := fun g hg => by
  obtain ⟨d, k, rfl, ⟨rfl, h⟩ | ⟨j, rfl, h⟩ | ⟨s, rfl, h⟩⟩ := owed_pos hg
  · omega
  · omega
  · exact ⟨_, _, rfl, by show 3 + n < 3 + s.val; omega⟩

/-! ## The invariants of all cells -/

/-- Every cell of every device carries its schedule, and its round 0 is reached. -/
def records (V : Ins F) (K : Dev nD × CK → ℕ) : sProp 𝕄 :=
  iprop((bigSep Finset.univ fun ck : Dev nD × CK => cellInv ER (Rd V) (K ck) (kcell ck.1 ck.2))
    ∗ bigSep Finset.univ fun ck : Dev nD × CK => reached ER (kcell ck.1 ck.2) 0)
instance records_persistent (V : Ins F) (K : Dev nD × CK → ℕ) : BI.Persistent (records V K) := by unfold records; infer_instance
def ctx (V : Ins F) (K : Dev nD × CK → ℕ) : sProp 𝕄 := iprop(records V K ∗ levAts L lv)
instance ctx_persistent (V : Ins F) (K : Dev nD × CK → ℕ) : BI.Persistent (ctx V K) := by unfold ctx; infer_instance

theorem inv_at (V : Ins F) (K : Dev nD × CK → ℕ) (c : Dev nD) (k : CK) : ctx V K ⊢ cellInv ER (Rd V) (K (c, k)) (kcell c k) := by
  unfold ctx records
  iintro ⟨⟨H, -⟩, -⟩
  have h : (bigSep Finset.univ fun ck : Dev nD × CK => (cellInv ER (Rd V) (K ck) (kcell ck.1 ck.2) : sProp 𝕄)) ⊢ cellInv ER (Rd V) (K (c, k)) (kcell c k) :=
    bigSep_elim (Finset.mem_univ (c, k))
  iapply h; iexact H
theorem reached_at (V : Ins F) (K : Dev nD × CK → ℕ) (c : Dev nD) (k : CK) : ctx V K ⊢ reached ER (kcell c k) 0 := by
  unfold ctx records
  iintro ⟨⟨-, H⟩, -⟩
  have h : (bigSep Finset.univ fun ck : Dev nD × CK => (reached ER (kcell ck.1 ck.2) 0 : sProp 𝕄)) ⊢ reached ER (kcell c k) 0 :=
    bigSep_elim (Finset.mem_univ (c, k))
  iapply h; iexact H
theorem lev_at (V : Ins F) (K : Dev nD × CK → ℕ) : ctx V K ⊢ (levAts L lv : sProp 𝕄) := by
  unfold ctx; iintro ⟨-, H⟩; iexact H

end Cert.KernelIdeal.Pf
-- ==== Proof.KiStep.lean ====
/-
One rule per operation of the kernel, each a triple over the protocol's state: signals, waits, transfers, loads and
stores; and the rules that chain them.
-/
module

public import proofs.«01_k».proof.Proof.KiProto

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Chaining -/

/-- A postcondition weakened by what is held. -/
theorem wpc_wand {c : Dev nD} {α : Type} {p : Prog (TpuEff nD τ sig (Elt F) Λ₀ .tc) α} (Q : α → sProp 𝕄) {Q' : α → sProp 𝕄} :
    wpc c p Q ⊢ iprop((∀ a, Q a -∗ Q' a) -∗ wpc c p Q') := wp_wand frame _ _

theorem bindwp {c : Dev nD} {α β : Type} {A : sProp 𝕄} {p : Prog (TpuEff nD τ sig (Elt F) Λ₀ .tc) α}
    {k : α → Prog (TpuEff nD τ sig (Elt F) Λ₀ .tc) β} {Q : β → sProp 𝕄} (h : A ⊢ wpc c p fun a => wpc c (k a) Q) : A ⊢ wpc c (p >>= k) Q := by
  unfold wpc at *; rw [wp_bind]; exact h
theorem ret_of {c : Dev nD} {γ : Type} {D : sProp 𝕄} {a : γ} {R : γ → sProp 𝕄} (h : D ⊢ R a) : D ⊢ wpc c (pure a : Prog (TpuEff nD τ sig (Elt F) Λ₀ .tc) γ) R := by
  unfold wpc
  rw [Prog.pure_eq_ret, wp_ret]
  exact h.trans fupd_intro

/-- One operation, then the rest. -/
theorem step {c : Dev nD} {α β : Type} {C A B : sProp 𝕄} [BI.Persistent C] {p : Prog (TpuEff nD τ sig (Elt F) Λ₀ .tc) α}
    {k : α → Prog (TpuEff nD τ sig (Elt F) Λ₀ .tc) β} {Q : β → sProp 𝕄} (t : iprop(C ∗ A) ⊢ wpc c p fun _ => B) (h : ∀ a, iprop(C ∗ B) ⊢ wpc c (k a) Q) : iprop(C ∗ A) ⊢ wpc c (p >>= k) Q := by
  refine bindwp ?_
  iintro ⟨#HC, HA⟩
  ihave Hw := t $$ [HA]
  · isplitr; · iexact HC
    iexact HA
  iapply (wpc_wand (fun _ => B)) $$ Hw
  iintro %a HB
  iapply (h a)
  isplitr; · iexact HC
  iexact HB
/-- One operation with a known result, then the rest. -/
theorem stepv {c : Dev nD} {α β : Type} {C A B : sProp 𝕄} [BI.Persistent C] {p : Prog (TpuEff nD τ sig (Elt F) Λ₀ .tc) α}
    {k : α → Prog (TpuEff nD τ sig (Elt F) Λ₀ .tc) β} {Q : β → sProp 𝕄} {v : α} (t : iprop(C ∗ A) ⊢ wpc c p fun a => iprop(⌜a = v⌝ ∗ B)) (h : iprop(C ∗ B) ⊢ wpc c (k v) Q) : iprop(C ∗ A) ⊢ wpc c (p >>= k) Q := by
  refine bindwp ?_
  iintro ⟨#HC, HA⟩
  ihave Hw := t $$ [HA]
  · isplitr; · iexact HC
    iexact HA
  iapply (wpc_wand (fun a => iprop(⌜a = v⌝ ∗ B))) $$ Hw
  iintro %a ⟨%ha, HB⟩
  subst ha
  iapply h
  isplitr; · iexact HC
  iexact HB
/-- A triple keeps what it does not touch. -/
theorem framed {c : Dev nD} {β : Type} {C A Fr : sProp 𝕄} {q : Prog (TpuEff nD τ sig (Elt F) Λ₀ .tc) β} {R : β → sProp 𝕄} (t : iprop(C ∗ A) ⊢ wpc c q R) :
    iprop(C ∗ (A ∗ Fr)) ⊢ wpc c q fun a => iprop(R a ∗ Fr) := by
  iintro ⟨HC, HA, HF⟩
  ihave Hw := t $$ [HC HA]
  · isplitl [HC] <;> iassumption
  iapply (wpc_wand (R)) $$ Hw
  iintro %a HB
  isplitl [HB] <;> iassumption
/-- The same on the left, -/
theorem framedl {c : Dev nD} {β : Type} {C A Fr B : sProp 𝕄} {q : Prog (TpuEff nD τ sig (Elt F) Λ₀ .tc) β} (t : iprop(C ∗ A) ⊢ wpc c q fun _ => B) :
    iprop(C ∗ (Fr ∗ A)) ⊢ wpc c q fun _ => iprop(Fr ∗ B) := by
  iintro ⟨HC, HF, HA⟩
  ihave Hw := t $$ [HC HA]
  · isplitl [HC] <;> iassumption
  iapply (wpc_wand (fun _ => B)) $$ Hw
  iintro %a HB
  isplitl [HF] <;> iassumption
/-- and for a known result, on the right -/
theorem framedv {c : Dev nD} {β : Type} {C A Fr B : sProp 𝕄} {v : β} {q : Prog (TpuEff nD τ sig (Elt F) Λ₀ .tc) β} (t : iprop(C ∗ A) ⊢ wpc c q fun a => iprop(⌜a = v⌝ ∗ B)) :
    iprop(C ∗ (A ∗ Fr)) ⊢ wpc c q fun a => iprop(⌜a = v⌝ ∗ (B ∗ Fr)) := by
  iintro ⟨HC, HA, HF⟩
  ihave Hw := t $$ [HC HA]
  · isplitl [HC] <;> iassumption
  iapply (wpc_wand (fun a => iprop(⌜a = v⌝ ∗ B))) $$ Hw
  iintro %a ⟨%h, HB⟩
  isplitr; · (ipureintro; exact h)
  isplitl [HB] <;> iassumption
/-- and on the left. -/
theorem framedvl {c : Dev nD} {β : Type} {C A Fr B : sProp 𝕄} {v : β} {q : Prog (TpuEff nD τ sig (Elt F) Λ₀ .tc) β} (t : iprop(C ∗ A) ⊢ wpc c q fun a => iprop(⌜a = v⌝ ∗ B)) :
    iprop(C ∗ (Fr ∗ A)) ⊢ wpc c q fun a => iprop(⌜a = v⌝ ∗ (Fr ∗ B)) := by
  iintro ⟨HC, HF, HA⟩
  ihave Hw := t $$ [HC HA]
  · isplitl [HC] <;> iassumption
  iapply (wpc_wand (fun a => iprop(⌜a = v⌝ ∗ B))) $$ Hw
  iintro %a ⟨%h, HB⟩
  isplitr; · (ipureintro; exact h)
  isplitl [HF] <;> iassumption
theorem conseq {c : Dev nD} {β : Type} {C A : sProp 𝕄} {q : Prog (TpuEff nD τ sig (Elt F) Λ₀ .tc) β} {A' : sProp 𝕄} {R R' : β → sProp 𝕄} (t : iprop(C ∗ A') ⊢ wpc c q R) (h : A ⊢ A') (h' : ∀ a, R a ⊢ R' a) :
    iprop(C ∗ A) ⊢ wpc c q R' := by
  iintro ⟨HC, HA⟩
  ihave Hw := t $$ [HC HA]
  · isplitl [HC]; · iexact HC
    iapply h; iexact HA
  iapply (wpc_wand (R)) $$ Hw
  iintro %a HB
  iapply (h' a); iexact HB

/-- A weaker precondition. -/
theorem weaken {c : Dev nD} {β : Type} {C A A' : sProp 𝕄} {q : Prog (TpuEff nD τ sig (Elt F) Λ₀ .tc) β} {R : β → sProp 𝕄} (h : A ⊢ A') (t : iprop(C ∗ A') ⊢ wpc c q R) :
    iprop(C ∗ A) ⊢ wpc c q R := conseq t h fun _ => .rfl
/-- A region under a condition, the condition true or false. -/
theorem dite_cases {c : Dev nD} {β : Type} {P : Prop} [Decidable P] {A : sProp 𝕄} {p : P → Prog (TpuEff nD τ sig (Elt F) Λ₀ .tc) β}
    {q : ¬P → Prog (TpuEff nD τ sig (Elt F) Λ₀ .tc) β} {Q : β → sProp 𝕄} (h1 : ∀ h, A ⊢ wpc c (p h) Q) (h2 : ∀ h, A ⊢ wpc c (q h) Q) :
    A ⊢ wpc c (if h : P then p h else q h) Q := by
  by_cases h : P
  · rw [dif_pos h]; exact h1 h
  · rw [dif_neg h]; exact h2 h

/-! ## One element of a separating conjunction over all indices replaced -/

theorem bigSep_upd {n : ℕ} (i : Fin n) {Φ Ψ : Fin n → sProp 𝕄} (h : ∀ j, j ≠ i → Φ j = Ψ j) :
    bigSep Finset.univ Φ ⊢ iprop(Φ i ∗ (Ψ i -∗ bigSep Finset.univ Ψ)) := by
  have e1 : bigSep Finset.univ Φ = iprop(Φ i ∗ bigSep (Finset.univ.erase i) Φ) := BI.bigSep_erase (Finset.mem_univ i)
  have e2 : bigSep Finset.univ Ψ = iprop(Ψ i ∗ bigSep (Finset.univ.erase i) Ψ) := BI.bigSep_erase (Finset.mem_univ i)
  rw [e1, e2, bigSep_congr (Ψ := Ψ) fun j hj => h j (Finset.mem_erase.mp hj).1]
  iintro ⟨H1, H2⟩
  isplitl [H1]; · iexact H1
  iintro H
  isplitl [H] <;> iassumption

/-- The first `m` are done, the others still to do. -/
def prog {n : ℕ} (m : ℕ) (T D : Fin n → sProp 𝕄) : sProp 𝕄 := bigSep Finset.univ fun j => if j.val < m then D j else T j
theorem prog_start {n : ℕ} (T D : Fin n → sProp 𝕄) : prog 0 T D = bigSep Finset.univ T :=
  bigSep_congr fun j _ => if_neg (Nat.not_lt_zero _)
theorem prog_end {n : ℕ} (T D : Fin n → sProp 𝕄) : prog n T D = bigSep Finset.univ D :=
  bigSep_congr fun j _ => if_pos j.isLt
theorem prog_step {n : ℕ} (m : ℕ) (h : m < n) (T D : Fin n → sProp 𝕄) : prog m T D ⊢ iprop(T ⟨m, h⟩ ∗ (D ⟨m, h⟩ -∗ prog (m + 1) T D)) := by
  have := bigSep_upd (⟨m, h⟩ : Fin n) (Φ := fun j => if j.val < m then D j else T j) (Ψ := fun j => if j.val < m + 1 then D j else T j) (fun j hj => by
    have hne : j.val ≠ m := fun h' => hj (Fin.ext h')
    by_cases hlt : j.val < m
    · rw [if_pos hlt, if_pos (by omega)]
    · rw [if_neg hlt, if_neg (by omega)])
  rw [if_neg (lt_irrefl m), if_pos (Nat.lt_succ_self m)] at this
  exact this

/-! ## Signals and waits -/

/-- Device `c` owes `O`. -/
def Ow (c : Dev nD) (O : CellTallies nD τ sig Unit) : sProp 𝕄 := iprop(∃ W, owes (c : Thread nD τ) O W)

section Ops
variable (V : Ins F) (K : Dev nD × CK → ℕ) (c : Dev nD)

/-- A unit of the barrier of `n`, with what duty `j` of it hands over. -/
theorem signal_op (n : Dev nD) (j : Fin 31) (O₀ O : CellTallies nD τ sig Unit) (hO : O₀ = O + tallyAt (kcell n kbar) () 1) :
    iprop(ctx V K ∗ (Ow c O₀ ∗ dutyTok ER (kcell n kbar) 0 j ∗ barPay n j))
      ⊢ wpc c (semSignalWord n barS 1#32) fun _ => Ow c O := by
  unfold semSignalWord Ow
  iintro ⟨#HC, ⟨%W, HO⟩, Ht, Hp⟩
  ihave #HI := (inv_at V K n kbar) $$ HC
  ihave #HR := (reached_at V K n kbar) $$ HC
  iapply (Rounds.wp_signal 𝒱₀ ER (Rd V) (c : Thread nD τ) none (dst := (n : Thread nD τ)) (κ := K (n, kbar))
      (d := j) (by rw [show ((n : Thread nD τ), (SemLoc.reg barS : SemLoc sig)) = kcell n kbar from rfl, duties_eq]; exact Finset.mem_univ _)
      ((amount_eq V n kbar j).trans (show amt n kbar = 1 from rfl)) () O hO) $$ [HO Ht Hp]
  · isplitr; · iexact HI
    isplitl [HO]; · iexact HO
    isplitl [Ht]; · iexact Ht
    isplitl [Hp]; · iapply (Entails.of_eq (show barPay n j = (Rd V).payload ((n : Thread nD τ), SemLoc.reg barS) 0 j from (payload_eq V n kbar j).symm)); iexact Hp
    iexact HR
  iintro HO
  rw [wp_ret]; imodintro
  iexists W; iexact HO

/-- The wait on a cell for all of its round: what the duties hand over, and the cell closed. -/
theorem wait_op (k : CK) (O : CellTallies nD τ sig Unit) (hO : ∀ g, 0 < O g () → ∃ (d : Dev nD) (k' : CK), g = kcell d k' ∧ lvl k < lvl k')
    {w : TpuEff nD τ sig (Elt F) Λ₀ .tc PUnit} {sm : SemLoc sig} {n : ℕ} (hsm : sm = csem k) (hn : n = tot c k)
    (hw : ∀ K : PUnit → sProp 𝕄, wpE (defs₀ (F := F)) 𝒱₀ (c : Thread nD τ) none Set.univ w K = waitSpec (c : Thread nD τ) Set.univ sm n K) :
    iprop(ctx V K ∗ (Ow c O ∗ cred (tallyAt (kcell c k) () (tot c k)) ∗ atPos ER (kcell c k) 0 ∅ 0))
      ⊢ wpc c (Prog.lift w) fun _ => iprop(Ow c O ∗ semVal (kcell c k) 0 ∗ rest V c k) := by
  subst hsm hn
  unfold Ow Prog.lift
  iintro ⟨#HC, ⟨%W, HO⟩, Hc, Ha⟩
  ihave #HI := (inv_at V K c k) $$ HC
  ihave #HL := (lev_at V K) $$ HC
  iapply (Rounds.wp_wait_rest_token 𝒱₀ ER (Rd V) (c : Thread nD τ) none (κ := K (c, k)) hw (Set.mem_univ _) () (O := O) (W := W) (R := 0) (m := 0) (T := ∅)
      (by rw [Nat.zero_add]; exact (expect_eq V c k).symm)) $$ [HO Hc Ha]
  · isplitr; · iexact HI
    isplitl [Hc]; · iexact Hc
    isplitl [HO]; · iexact HO
    isplitr
    · iapply (mayWait_of c (csem k) (lvl k) O (lv_cell c k) hO); iexact HL
    iexact Ha
  iintro ⟨HO, Ha, -, Hp⟩
  ihave Hp' := (Entails.of_eq (rest_eq V c k)) $$ Hp
  imod (Rounds.cell_close ER (Rd V) (Set.mem_univ (K (c, k))) (fun h => h) (R := 0 + 1) (duties_later V (kcell c k))) $$ [Ha] with Hz
  · isplitr; · iexact HI
    iexact Ha
  rw [wp_ret]; imodintro
  isplitl [HO]; · iexists _; iexact HO
  isplitl [Hz]; · iexact Hz
  iexact Hp'

/-- A transfer to device `p`, paying the send duty of cell `k₁` of `c` and the receive duty of cell `k₂` of `p`. -/
theorem send_op {s : Shape} {e : EltTy} (p : Dev nD) (k₁ k₂ : CK) (h₁ : dut k₁ = {0}) (h₂ : dut k₂ = {0}) (n : Dev nD) (hn : n = p)
    {src : Memref sig .tc .vmem s e} {dst : Memref sig .tc .vmem s e} {sS rS : SemLoc sig} (hsS : sS = csem k₁) (hrS : rS = csem k₂)
    {hsc : dst.view.ref.isScScratch = false} {hsrc : src.view.WordExact} {hdst : dst.view.WordExact}
    {hsem : DmaTarget.Typed .vmem rS (.remote (Dev.tc n : Thread nD τ) dst sS hsc)}
    {fs : Buf (Elt F) (src.view.loc (c : Thread nD τ))} {fd : Buf (Elt F) (dst.view.loc (p : Thread nD τ))}
    (N : ℕ) (hN : dst.view.amount rS = N) (hk₁ : amt c k₁ = N) (hk₂ : amt p k₂ = N)
    (O₀ O : CellTallies nD τ sig Unit) (hO : O₀ = O + tallyAt (kcell p k₂) () N)
    (hp₁ : (src.view.loc (c : Thread nD τ) ↦[src.view.set]{fullShare} fs) ⊢ pay V c 0 k₁)
    (hp₂ : (dst.view.loc (p : Thread nD τ) ↦[dst.view.set]{fullShare} (dst.view.write (Elt F) fd (src.view.read (Elt F) fs) Finset.univ)) ⊢ pay V p 0 k₂) :
    iprop(ctx V K ∗ (Ow c O₀ ∗ (src.view.loc (c : Thread nD τ) ↦[src.view.set]{fullShare} fs) ∗ (dst.view.loc (p : Thread nD τ) ↦[dst.view.set]{fullShare} fd)
        ∗ dutyTok ER (kcell c k₁) 0 0 ∗ dutyTok ER (kcell p k₂) 0 0))
      ⊢ wpc c (Prog.lift (.enqueueDma src (.remote (Dev.tc n : Thread nD τ) dst sS hsc) rS hsrc hdst hsem)) fun _ =>
          iprop(Ow c O ∗ cred (tallyAt (kcell c k₁) () N)) := by
  subst hn hsS hrS
  unfold Ow Prog.lift
  iintro ⟨#HC, ⟨%W, HO⟩, Hs, Hd, Ht1, Ht2⟩
  ihave #HI1 := (inv_at V K c k₁) $$ HC
  ihave #HI2 := (inv_at V K n k₂) $$ HC
  ihave #HR1 := (reached_at V K c k₁) $$ HC
  ihave #HR2 := (reached_at V K n k₂) $$ HC
  iapply (Rounds.wp_send_pointsTo 𝒱₀ ER (Rd V) (c : Thread nD τ) none (κ₁ := K (c, k₁)) (κ₂ := K (n, k₂))
    (r₁ := 0) (r₂ := 0) (d₁ := 0) (d₂ := 0) (fd := fd)
    (by rw [duties_eq, h₁]; exact Finset.mem_singleton_self _) (by rw [duties_eq, h₂]; exact Finset.mem_singleton_self _)
    () () N hN ((amount_eq V c k₁ 0).trans hk₁) ((amount_eq V n k₂ 0).trans hk₂) O hO (W := W)
    (by rw [payload_eq]; exact hp₁) (by rw [payload_eq]; exact hp₂)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]; imodintro
  isplitl [HO]; · iexists W; iexact HO
  iexact Hc

/-- A load of elements that are held. -/
theorem load_op {C : sProp 𝕄} {s : Shape} {e : EltTy} {m : Memref sig .tc .vmem s e} {r : LoadRect s} {hl : m.view.LoadsAt r}
    {S : Finset (Idx (m.view.loc (c : Thread nD τ)))} {f : Buf (Elt F) (m.view.loc (c : Thread nD τ))} (hS : m.view.setOn r.set ⊆ S) :
    iprop(C ∗ (m.view.loc (c : Thread nD τ) ↦[S]{fullShare} f))
      ⊢ wpc c (Prog.lift (.load m r hl)) fun a => iprop(⌜a = m.view.readAt (Elt F) r f⌝ ∗ (m.view.loc (c : Thread nD τ) ↦[S]{fullShare} f)) := by
  unfold Prog.lift
  iintro ⟨-, H⟩
  iapply (wp_load 𝒱₀ (c : Thread nD τ) none Set.univ (m := m) hS) $$ H
  iintro H
  rw [wp_ret]; imodintro
  isplitr; · (ipureintro; rfl)
  iexact H

/-- A store to elements that are held. -/
theorem store_op {C : sProp 𝕄} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))} (hS : (m.access r).setOn Finset.univ ⊆ S)
    {g : Buf (Elt F) ((m.access r).loc (c : Thread nD τ))} (hg : ∀ i ∈ S, (m.access r).write (Elt F) f w Finset.univ i = g i) :
    iprop(C ∗ ((m.access r).loc (c : Thread nD τ) ↦[S]{fullShare} f))
      ⊢ wpc c (Prog.lift (.store m r w Finset.univ hx hm)) fun _ => ((m.access r).loc (c : Thread nD τ) ↦[S]{fullShare} g) := by
  unfold Prog.lift
  iintro ⟨-, H⟩
  iapply (wp_store 𝒱₀ (c : Thread nD τ) none Set.univ (m := m) (r := r) (Mk := Finset.univ) hS) $$ H
  iintro H
  rw [wp_ret]; imodintro
  iapply (Entails.of_eq (pointsTo_congr hg)) $$ H
end Ops

end Cert.KernelIdeal.Pf
-- ==== Proof.KiSend.lean ====
/-
The state of a device through the barrier, the copy of its own keys, the transfers of keys and their receipt; one rule
per step.
-/
module

public import proofs.«01_k».proof.Proof.KiStep

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body at this call's buffers and semaphores. -/
abbrev args {R : Sort _} (f : (a0 : Memref sig .tc .vmem S2x128x512 .bf16) → a0.IsWhole → (a1 : Memref sig .tc .vmem S512x256 .bf16) → a1.IsWhole
    → (a2 : Memref sig .tc .vmem S2x2x128x8192 .i8) → a2.IsWhole → (a3 : Memref sig .tc .vmem S256x512 .bf16) → a3.IsWhole
    → (a4 : Memref sig .tc .vmem S2x128x512 .f32) → a4.IsWhole → (a5 : Memref sig .tc .vmem S2x2x2816x256 .i8) → a5.IsWhole
    → (a6 : Memref sig .tc .vmem S2x2x2880x256 .bf16) → a6.IsWhole → (a7 : Memref sig .tc .vmem S5x2x128x512 .bf16) → a7.IsWhole
    → (a8 : Memref sig .tc .vmem S5x2x128x512 .bf16) → a8.IsWhole → DmaSems sig S31 → DmaSems sig S31 → DmaSems sig S5x2 → DmaSems sig S5x2 → R) : R :=
  f M0 (Memref.isWhole_whole _) M1 (Memref.isWhole_whole _) M2 (Memref.isWhole_whole _) M3 (Memref.isWhole_whole _) M4 (Memref.isWhole_whole _)
    M5 (Memref.isWhole_whole _) M6 (Memref.isWhole_whole _) M7 (Memref.isWhole_whole _) M8 (Memref.isWhole_whole _)
    cc0_scratch4 cc0_scratch5 cc0_scratch6 cc0_scratch7

/-! ## Where keys land -/

theorem land (c p : Dev nD) (sz : Fin 4 → ℕ) (hsz : sz = ![2, 2, 64 * nblk c.val, 256]) (oD : Fin 4 → ℕ) (hoD : oD = ![0, 0, 64 * rb c.val, 0])
    (oS : Fin 4 → ℕ) (hoS : oS = ![0, 0, 64 * rlo c.val, 256 * p.val]) (hD : ∀ a, oD a + sz a ≤ S2x2x2816x256.size a) (hS : ∀ a, oS a + sz a ≤ S2x2x128x8192.size a)
    (j : (Rect.unit (s := S2x2x2816x256) oD sz hD).shape.Idx) :
    devOf ((Rect.unit (s := S2x2x2816x256) oD sz hD).emb j) = c
      ∧ ksIdx p ((Rect.unit (s := S2x2x2816x256) oD sz hD).emb j) = (Rect.unit (s := S2x2x128x8192) oS sz hS).emb j := by
  subst hsz hoD hoS
  have hmem : (Rect.unit (s := S2x2x2816x256) ![0, 0, 64 * rb c.val, 0] ![2, 2, 64 * nblk c.val, 256] hD).emb j ∈ rowSet c := by
    rw [← set_row c _ rfl _ rfl hD, ← Rect.map_emb_univ]; exact Finset.mem_map_of_mem _ (Finset.mem_univ j)
  have hv : ∀ a, ((Rect.unit (s := S2x2x2816x256) ![0, 0, 64 * rb c.val, 0] ![2, 2, 64 * nblk c.val, 256] hD).emb j a : ℕ) = (![0, 0, 64 * rb c.val, 0] : Fin 4 → ℕ) a + 1 * (j a).val := fun a => Rect.emb_apply _ j a
  have hw : ∀ a, ((Rect.unit (s := S2x2x128x8192) ![0, 0, 64 * rlo c.val, 256 * p.val] ![2, 2, 64 * nblk c.val, 256] hS).emb j a : ℕ) = (![0, 0, 64 * rlo c.val, 256 * p.val] : Fin 4 → ℕ) a + 1 * (j a).val := fun a => Rect.emb_apply (Rect.unit (s := S2x2x128x8192) _ _ hS) j a
  generalize (Rect.unit (s := S2x2x2816x256) ![0, 0, 64 * rb c.val, 0] ![2, 2, 64 * nblk c.val, 256] hD).emb j = i at hmem hv
  refine ⟨(mem_rowSet c i).mp hmem, funext fun a => Fin.ext ?_⟩
  rw [hw]
  unfold rowSet at hmem; rw [Finset.mem_filter] at hmem
  have h0 : (i 0).val = 0 + 1 * (j 0).val := hv 0
  have h1 : (i 1).val = 0 + 1 * (j 1).val := hv 1
  have h2 : (i 2).val = 64 * rb c.val + 1 * (j 2).val := hv 2
  have h3 : (i 3).val = 0 + 1 * (j 3).val := hv 3
  have hi2 : (i 2).val < 2816 := (i 2).isLt
  have hk := kbOf_mod c ⟨(i 2).val / 64, by omega⟩ hmem.2.1 hmem.2.2
  dsimp only at hk
  fin_cases a
  · show (i 0).val = 0 + 1 * (j 0).val; exact h0
  · show (i 1).val = 0 + 1 * (j 1).val; exact h1
  · show 64 * (kbOf ((i 2).val / 64) % 2) + (i 2).val % 64 = 64 * rlo c.val + 1 * (j 2).val; omega
  · show 256 * p.val + (i 3).val = 256 * p.val + 1 * (j 3).val; omega

theorem cls_lt (d : ℕ) : cls d < 3 := by unfold cls; split <;> [omega; (split <;> omega)]

/-- A transfer of device `c`'s keys credits `nb c`, wherever in the gathered codes it lands, -/
theorem credit_row (c : Dev nD) (sz : Fin 4 → ℕ) (hsz : sz = ![2, 2, 64 * nblk c.val, 256]) (o : Fin 4 → ℕ) (h : ∀ a, o a + sz a ≤ S2x2x2816x256.size a)
    (hst : ∀ a, (Rect.unit (s := S2x2x2816x256) o sz h).stride a = 1) :
    (M5.slice (Rect.unit (s := S2x2x2816x256) o sz h) hst).view.dmaCredit = nb c := by
  subst hsz
  unfold nb
  generalize hn : nblk c.val = n at h hst ⊢
  have h2 : n = 2 ∨ n = 1 := by rw [← hn]; unfold nblk; split <;> simp
  rcases h2 with rfl | rfl
  · rw [if_pos rfl]; rfl
  · rw [if_neg (by decide)]; rfl
/-- and wherever in the sent codes it starts. -/
theorem credit_piece (c : Dev nD) (sz : Fin 4 → ℕ) (hsz : sz = ![2, 2, 64 * nblk c.val, 256]) (o : Fin 4 → ℕ) (h : ∀ a, o a + sz a ≤ S2x2x128x8192.size a)
    (hst : ∀ a, (Rect.unit (s := S2x2x128x8192) o sz h).stride a = 1) :
    (M2.slice (Rect.unit (s := S2x2x128x8192) o sz h) hst).view.dmaCredit = nb c := by
  subst hsz
  unfold nb
  generalize hn : nblk c.val = n at h hst ⊢
  have h2 : n = 2 ∨ n = 1 := by rw [← hn]; unfold nblk; split <;> simp
  rcases h2 with rfl | rfl
  · rw [if_pos rfl]; rfl
  · rw [if_neg (by decide)]; rfl

section Ops
variable (V : Ins F) (K : Dev nD × CK → ℕ) (c : Dev nD)

/-! ## A region of one class of devices -/

theorem branch {α : Type} {C A B Fr : sProp 𝕄} {P : Prop} [Decidable P] {p : P → Prog (TpuEff nD τ sig (Elt F) Λ₀ .tc) α} {kp : Prog (TpuEff nD τ sig (Elt F) Λ₀ .tc) α} {Q : α → sProp 𝕄}
    (k : ℕ) (hP : P ↔ cls c.val = k) (hp : ∀ h : P, (iprop(C ∗ (B ∗ Fr)) ⊢ wpc c kp Q) → iprop(C ∗ (A ∗ Fr)) ⊢ wpc c (p h) Q)
    (hk : iprop(C ∗ ((if cls c.val < k + 1 then B else A) ∗ Fr)) ⊢ wpc c kp Q) :
    iprop(C ∗ ((if cls c.val < k then B else A) ∗ Fr)) ⊢ wpc c (if h : P then p h else kp) Q := by
  refine dite_cases (fun h => ?_) (fun h => ?_)
  · rw [if_neg (by rw [hP.mp h]; omega)]
    rw [if_pos (by rw [hP.mp h]; omega)] at hk
    exact hp h hk
  · have hne : cls c.val ≠ k := fun h' => h (hP.mpr h')
    have e : (if cls c.val < k then B else A) = if cls c.val < k + 1 then B else A := by
      by_cases h1 : cls c.val < k
      · rw [if_pos h1, if_pos (by omega)]
      · rw [if_neg h1, if_neg (by omega)]
    rw [e]; exact hk

/-! ## The barrier's signals -/

/-- After `m` signals. -/
def SigSt (m : ℕ) : sProp 𝕄 :=
  iprop(Ow c (Ow3 c m 0 0) ∗ prog m (fun j : Fin 31 => iprop(dutyTok ER (kcell (sh c j) kbar) 0 j ∗ barPay (sh c j) j)) (fun _ => iprop(emp)))

theorem sig_op (m : ℕ) (hm : m < 31) {n : ℕ} {h : n < nD} (hn : n = (c.val + (m + 1)) % 32) {s : Sem sig} (hs : s = barS) :
    iprop(ctx V K ∗ SigSt c m) ⊢ wpc c (semSignalWord (⟨n, h⟩ : Dev nD) s 1#32) fun _ => SigSt (F := F) c (m + 1) := by
  subst hs
  rw [show (⟨n, h⟩ : Dev nD) = sh c ⟨m, hm⟩ from Fin.ext hn]
  unfold SigSt
  iintro ⟨#HC, Ho, Hp⟩
  ihave Hp := (prog_step m hm _ _) $$ Hp
  icases Hp with ⟨⟨Ht, Hb⟩, Hk⟩
  ihave Hw := (signal_op V K c (sh c ⟨m, hm⟩) ⟨m, hm⟩ (Ow3 c m 0 0) (Ow3 c (m + 1) 0 0)
    (by unfold Ow3; rw [tail_step _ m hm, add_right_comm]; rfl)) $$ [Ho Ht Hb]
  · isplitr; · iexact HC
    isplitl [Ho]; · iexact Ho
    isplitl [Ht] <;> iassumption
  iapply (wpc_wand (fun _ => Ow c (Ow3 c (m + 1) 0 0))) $$ Hw
  iintro %a Ho
  isplitl [Ho]; · iexact Ho
  iapply Hk; ipureintro; trivial

/-! ## The copy of the device's own keys -/

/-- The codes of device `c` that are not sent. -/
def kvR : Finset S2x2x128x8192.Idx := Finset.univ.filter fun i => ∀ j : Fin 31, i ∉ pieceSet c (sh c j)
theorem own_sub : pieceSet c c ⊆ kvR c := fun i hi => Finset.mem_filter.mpr ⟨Finset.mem_univ _, fun j hj =>
  Finset.disjoint_left.mp (pieceSet_disjoint c c (sh c j) (sh_ne c j).symm) hi hj⟩

theorem loc_op {α : Type} {Fr : sProp 𝕄} {kp : Prog (TpuEff nD τ sig (Elt F) Λ₀ .tc) α} {Q : α → sProp 𝕄} {sz : Fin 4 → ℕ} (hsz : sz = ![2, 2, 64 * nblk c.val, 256]) {oS oD : Fin 4 → ℕ} (hoS : oS = ![0, 0, 64 * rlo c.val, 256 * c.val])
    (hoD : oD = ![0, 0, 64 * rb c.val, 0]) {hS : ∀ a, oS a + sz a ≤ S2x2x128x8192.size a} {hD : ∀ a, oD a + sz a ≤ S2x2x2816x256.size a}
    {l1 : M2.view.LoadsAt (Rect.unit (s := S2x2x128x8192) oS sz hS).toLoadRect} {l2 : M5.view.LoadsAt (Rect.unit (s := S2x2x2816x256) oD sz hD).toLoadRect}
    {w : ((⟨4, sz⟩ : Shape).Idx → Elt F .i8) → (⟨4, sz⟩ : Shape).Idx → Elt F .i8} (hw : ∀ v, w v = v)
    {hx : (M5.access (Rect.unit (s := S2x2x2816x256) oD sz hD)).Stores Finset.univ}
    {hm : (Finset.univ : Finset (Rect.unit (s := S2x2x2816x256) oD sz hD).shape.Idx) = Finset.univ ∨ ∀ a, (Rect.unit (s := S2x2x2816x256) oD sz hD).stride a = 1}
    (hk : iprop(ctx V K ∗ ((kvp c (kvR c) (V.kv c) ∗ ks c (rowSet c) (KS V c)) ∗ Fr)) ⊢ wpc c kp Q) :
    iprop(ctx V K ∗ ((kvp c (kvR c) (V.kv c) ∗ ∃ f, ks c (rowSet c) f) ∗ Fr))
      ⊢ wpc c (do
          let v ← Prog.lift (.load M2 (Rect.unit (s := S2x2x128x8192) oS sz hS).toLoadRect l1)
          let _ ← Prog.lift (.load M5 (Rect.unit (s := S2x2x2816x256) oD sz hD).toLoadRect l2)
          Prog.lift (.store M5 (Rect.unit (s := S2x2x2816x256) oD sz hD) (w v) Finset.univ hx hm)
          kp)
        Q := by
  have key (f) : iprop(ctx V K ∗ ((kvp c (kvR c) (V.kv c) ∗ ks c (rowSet c) f) ∗ Fr)) ⊢ wpc c (do
          let v ← Prog.lift (.load M2 (Rect.unit (s := S2x2x128x8192) oS sz hS).toLoadRect l1)
          let _ ← Prog.lift (.load M5 (Rect.unit (s := S2x2x2816x256) oD sz hD).toLoadRect l2)
          Prog.lift (.store M5 (Rect.unit (s := S2x2x2816x256) oD sz hD) (w v) Finset.univ hx hm)
          kp)
        Q := by
    have hset : (Rect.unit (s := S2x2x2816x256) oD sz hD).set = rowSet c := by subst hsz; exact set_row c _ rfl _ hoD hD
    refine stepv (framedv (framedv (load_op c (C := ctx V K) (m := M2) (S := kvR c) (f := V.kv c) ?_))) ?_
    · subst hsz
      refine (subset_of_eq ?_).trans (own_sub c)
      exact (Finset.map_refl).trans (set_piece c c _ rfl _ hoS hS)
    refine stepv (framedv (framedvl (load_op c (C := ctx V K) (m := M5) (S := rowSet c) (f := f) (subset_of_eq ((Finset.map_refl).trans hset))))) ?_
    refine step (framed (framedl (store_op c (C := ctx V K) (m := M5) (r := Rect.unit (s := S2x2x2816x256) oD sz hD) (S := rowSet c) (f := f) (g := KS V c) ?_ ?_))) fun _ => hk
    · exact subset_of_eq ((View.set_slice_whole _ _).trans hset)
    · intro i hi
      rw [← hset, ← Rect.map_emb_univ, Finset.mem_map] at hi
      obtain ⟨j, -, rfl⟩ := hi
      refine (View.write_emb_of_mem (v := M5.access (Rect.unit (s := S2x2x2816x256) oD sz hD)) _ _ (Finset.mem_univ j)).trans ?_
      rw [hw]
      obtain ⟨h1, h2⟩ := land c c sz hsz oD hoD oS hoS hD hS j
      show V.kv c ((Rect.unit (s := S2x2x128x8192) oS sz hS).emb j) = V.kv (devOf _) (ksIdx c _)
      rw [h1, h2]
  iintro ⟨#HC, ⟨Hkv, %f, Hk⟩, HF⟩
  iapply (key f)
  isplitr; · iexact HC
  isplitr [HF]
  · isplitl [Hkv] <;> iassumption
  iexact HF

/-! ## The transfers of keys -/

/-- After `m` transfers. -/
def SendSt (m : ℕ) : sProp 𝕄 :=
  iprop(Ow c (Ow3 c 31 m 0) ∗ prog m (fun j : Fin 31 => iprop(kvp c (pieceSet c (sh c j)) (V.kv c) ∗ (∃ f, ks (sh c j) (rowSet c) f)
      ∗ dutyTok ER (kcell c (ksnd j)) 0 0 ∗ dutyTok ER (kcell (sh c j) (krcv j)) 0 0))
    (fun j => cred (tallyAt (kcell c (ksnd j)) () (nb c))))

theorem keys_op (m : ℕ) (hm : m < 31) {sz : Fin 4 → ℕ} (hsz : sz = ![2, 2, 64 * nblk c.val, 256]) {oS oD : Fin 4 → ℕ}
    (hoS : oS = ![0, 0, 64 * rlo c.val, 256 * (sh c ⟨m, hm⟩).val])
    (hoD : oD = ![0, 0, 64 * rb c.val, 0]) {hS : ∀ a, oS a + sz a ≤ S2x2x128x8192.size a} {hD : ∀ a, oD a + sz a ≤ S2x2x2816x256.size a}
    {n : ℕ} {h : n < nD} (hn : n = (c.val + (m + 1)) % 32) {sS rS : SemLoc sig} (hsS : sS = csem (ksnd ⟨m, hm⟩)) (hrS : rS = csem (krcv ⟨m, hm⟩))
    {hst1 : ∀ a, (Rect.unit (s := S2x2x128x8192) oS sz hS).stride a = 1} {hst2 : ∀ a, (Rect.unit (s := S2x2x2816x256) oD sz hD).stride a = 1}
    {hsc : (M5.slice (Rect.unit (s := S2x2x2816x256) oD sz hD) hst2).view.ref.isScScratch = false}
    {hsrc : (M2.slice (Rect.unit (s := S2x2x128x8192) oS sz hS) hst1).view.WordExact} {hdst : (M5.slice (Rect.unit (s := S2x2x2816x256) oD sz hD) hst2).view.WordExact}
    {hsem : DmaTarget.Typed .vmem rS (.remote (Dev.tc (⟨n, h⟩ : Dev nD) : Thread nD τ) (M5.slice (Rect.unit (s := S2x2x2816x256) oD sz hD) hst2) sS hsc)} :
    iprop(ctx V K ∗ SendSt V c m)
      ⊢ wpc c (Prog.lift (.enqueueDma (M2.slice (Rect.unit (s := S2x2x128x8192) oS sz hS) hst1)
          (.remote (Dev.tc (⟨n, h⟩ : Dev nD) : Thread nD τ) (M5.slice (Rect.unit (s := S2x2x2816x256) oD sz hD) hst2) sS hsc) rS hsrc hdst hsem))
        fun _ => SendSt V c (m + 1) := by
  have hsetD : (M5.slice (Rect.unit (s := S2x2x2816x256) oD sz hD) hst2).view.set = rowSet c := by
    subst hsz; exact (View.set_slice_whole _ _).trans (set_row c _ rfl _ hoD hD)
  have hsetS : (M2.slice (Rect.unit (s := S2x2x128x8192) oS sz hS) hst1).view.set = pieceSet c (sh c ⟨m, hm⟩) := by
    subst hsz; exact (View.set_slice_whole _ _).trans (set_piece c _ _ rfl _ hoS hS)
  have hun : un (sh c ⟨m, hm⟩) ⟨m, hm⟩ = c := un_sh c _
  have hS' : kvp c (pieceSet c (sh c ⟨m, hm⟩)) (V.kv c) = ((M2.slice (Rect.unit (s := S2x2x128x8192) oS sz hS) hst1).view.loc (c : Thread nD τ)
      ↦[(M2.slice (Rect.unit (s := S2x2x128x8192) oS sz hS) hst1).view.set]{fullShare} V.kv c) := by rw [hsetS]
  have hD' (f : (cc0_scratch0 : Ref sig .tc).ty.Contents (Elt F)) : ks (sh c ⟨m, hm⟩) (rowSet c) f = ((M5.slice (Rect.unit (s := S2x2x2816x256) oD sz hD) hst2).view.loc (sh c ⟨m, hm⟩ : Thread nD τ)
      ↦[(M5.slice (Rect.unit (s := S2x2x2816x256) oD sz hD) hst2).view.set]{fullShare} f) := by rw [hsetD]
  have hpay (fd : (cc0_scratch0 : Ref sig .tc).ty.Contents (Elt F)) : ((M5.slice (Rect.unit (s := S2x2x2816x256) oD sz hD) hst2).view.loc (sh c ⟨m, hm⟩ : Thread nD τ)
      ↦[(M5.slice (Rect.unit (s := S2x2x2816x256) oD sz hD) hst2).view.set]{fullShare} ((M5.slice (Rect.unit (s := S2x2x2816x256) oD sz hD) hst2).view.write (Elt F) fd
        ((M2.slice (Rect.unit (s := S2x2x128x8192) oS sz hS) hst1).view.read (Elt F) (V.kv c)) Finset.univ))
      ⊢ pay V (sh c ⟨m, hm⟩) 0 (krcv ⟨m, hm⟩) := by
    show _ ⊢ ks (sh c ⟨m, hm⟩) (rowSet (un (sh c ⟨m, hm⟩) ⟨m, hm⟩)) (KS V (sh c ⟨m, hm⟩))
    rw [hun, ← hD']
    refine Entails.of_eq (pointsTo_congr fun i hi => ?_)
    rw [← hsetD] at hi
    unfold View.set at hi
    rw [Finset.mem_map] at hi
    obtain ⟨j, -, rfl⟩ := hi
    refine (View.write_emb_of_mem (v := (M5.slice (Rect.unit (s := S2x2x2816x256) oD sz hD) hst2).view) _ _ (Finset.mem_univ j)).trans ?_
    obtain ⟨h1, h2⟩ := land c (sh c ⟨m, hm⟩) sz hsz oD hoD oS hoS hD hS j
    show V.kv c ((Rect.unit (s := S2x2x128x8192) oS sz hS).emb j) = V.kv (devOf ((Rect.unit (s := S2x2x2816x256) oD sz hD).emb j)) (ksIdx _ ((Rect.unit (s := S2x2x2816x256) oD sz hD).emb j))
    rw [h1, h2]
  have T (fd : (cc0_scratch0 : Ref sig .tc).ty.Contents (Elt F)) := send_op V K c (sh c ⟨m, hm⟩) (ksnd ⟨m, hm⟩) (krcv ⟨m, hm⟩) rfl rfl ⟨n, h⟩ (Fin.ext hn) hsS hrS
    (src := M2.slice (Rect.unit (s := S2x2x128x8192) oS sz hS) hst1) (dst := M5.slice (Rect.unit (s := S2x2x2816x256) oD sz hD) hst2)
    (hsc := hsc) (hsrc := hsrc) (hdst := hdst) (hsem := hsem) (fs := V.kv c) (fd := fd) (nb c)
    (by subst hrS; exact credit_row c sz hsz oD hD hst2) rfl (congrArg nb hun) (Ow3 c 31 m 0) (Ow3 c 31 (m + 1) 0)
    (by unfold Ow3; rw [tail_step (sndT c) m hm, add_right_comm, ← add_assoc]; rfl)
    (Entails.of_eq hS'.symm) (hpay fd)
  unfold SendSt
  iintro ⟨#HC, Ho, Hp⟩
  ihave Hp := (prog_step m hm _ _) $$ Hp
  icases Hp with ⟨⟨Hs, ⟨%fd, Hd⟩, Ht1, Ht2⟩, Hk⟩
  ihave Hs := (Entails.of_eq hS') $$ Hs
  ihave Hd := (Entails.of_eq (hD' fd)) $$ Hd
  ihave Hw := (T fd) $$ [Ho Hs Hd Ht1 Ht2]
  · isplitr; · iexact HC
    isplitl [Ho]; · iexact Ho
    isplitl [Hs]; · iexact Hs
    isplitl [Hd]; · iexact Hd
    isplitl [Ht1] <;> iassumption
  iapply (wpc_wand (fun _ => iprop(Ow c (Ow3 c 31 (m + 1) 0) ∗ cred (tallyAt (kcell c (ksnd ⟨m, hm⟩)) () (nb c))))) $$ Hw
  iintro %a ⟨Ho, Hc⟩
  isplitl [Ho]; · iexact Ho
  iapply Hk; iexact Hc

/-! ## Their receipt -/

/-- What device `c` needs to wait for the keys of the device `j + 1` places before it, and what the wait gives. -/
def rcvT (j : Fin 31) : sProp 𝕄 := iprop(cred (tallyAt (kcell c (krcv j)) () (nb (un c j))) ∗ atPos ER (kcell c (krcv j)) 0 ∅ 0)
def rcvD (j : Fin 31) : sProp 𝕄 := iprop(semVal (kcell c (krcv j)) 0 ∗ ks c (rowSet (un c j)) (KS V c))
/-- After `m` of the 93 conditional waits: three for each sender, one per class. -/
def RecvSt (m : ℕ) : sProp 𝕄 :=
  iprop(Ow c (Ow3 c 31 31 0) ∗ bigSep Finset.univ fun j : Fin 31 => if 3 * j.val + cls (un c j).val < m then rcvD V c j else rcvT c j)

theorem recv_start : bigSep Finset.univ (fun j : Fin 31 => rcvT (F := F) c j) = bigSep Finset.univ fun j : Fin 31 => if 3 * j.val + cls (un c j).val < 0 then rcvD V c j else rcvT c j :=
  bigSep_congr fun j _ => (if_neg (Nat.not_lt_zero _)).symm
theorem recv_end : bigSep Finset.univ (fun j : Fin 31 => if 3 * j.val + cls (un c j).val < 93 then rcvD V c j else rcvT c j) = bigSep Finset.univ fun j => rcvD V c j :=
  bigSep_congr fun j _ => if_pos (by have := cls_lt (un c j).val; have := j.isLt; omega)

theorem recv_op {α : Type} {Fr : sProp 𝕄} {kp : Prog (TpuEff nD τ sig (Elt F) Λ₀ .tc) α} {Q : α → sProp 𝕄} (m : ℕ) (hm : m < 93) {P : Prop} [Decidable P] (hP : P ↔ cls (un c ⟨m / 3, by omega⟩).val = m % 3) {s : DmaSem sig} (hs : SemLoc.dma s = csem (krcv ⟨m / 3, by omega⟩))
    {sz : Fin 4 → ℕ} (hsz : sz = ![2, 2, 64 * (if m % 3 = 0 then 2 else 1), 256]) {oD : P → Fin 4 → ℕ} {hD : ∀ h : P, ∀ a, oD h a + sz a ≤ S2x2x2816x256.size a}
    {hst : ∀ h : P, ∀ a, (Rect.unit (s := S2x2x2816x256) (oD h) sz (hD h)).stride a = 1}
    {s1 : Shape} {e1 : EltTy} {src : Memref sig .tc .vmem s1 e1} {h1 : src.view.WordExact} {h2 : ∀ h : P, (M5.slice (Rect.unit (s := S2x2x2816x256) (oD h) sz (hD h)) (hst h)).view.WordExact}
    (hk : iprop(ctx V K ∗ (RecvSt V c (m + 1) ∗ Fr)) ⊢ wpc c kp Q) :
    iprop(ctx V K ∗ (RecvSt V c m ∗ Fr))
      ⊢ wpc c (if h : P then (do
            Prog.lift (.waitDma2 s src (M5.slice (Rect.unit (s := S2x2x2816x256) (oD h) sz (hD h)) (hst h)) h1 (h2 h))
            kp) else kp) Q := by
  have hstay (j : Fin 31) (hj : ¬ (3 * j.val + cls (un c j).val = m)) : (if 3 * j.val + cls (un c j).val < m then rcvD V c j else rcvT c j) = if 3 * j.val + cls (un c j).val < m + 1 then rcvD V c j else rcvT c j := by
    by_cases hl : 3 * j.val + cls (un c j).val < m
    · rw [if_pos hl, if_pos (by omega)]
    · rw [if_neg hl, if_neg (by omega)]
  refine dite_cases (fun h => ?_) (fun h => ?_)
  · have hc := hP.mp h
    have hj : m / 3 < 31 := by omega
    have hcr : (M5.slice (Rect.unit (s := S2x2x2816x256) (oD h) sz (hD h)) (hst h)).view.dmaCredit = tot c (krcv ⟨m / 3, by omega⟩) :=
      credit_row (un c ⟨m / 3, by omega⟩) sz (by rw [hsz]; unfold nblk; rw [hc]) _ _ _
    have hup := bigSep_upd (⟨m / 3, by omega⟩ : Fin 31) (Φ := fun j => if 3 * j.val + cls (un c j).val < m then rcvD V c j else rcvT c j)
      (Ψ := fun j => if 3 * j.val + cls (un c j).val < m + 1 then rcvD V c j else rcvT c j) (fun j hj => hstay j fun he => hj (Fin.ext (by
        have := cls_lt (un c j).val; show j.val = m / 3; omega)))
    dsimp only at hup
    rw [if_neg (by rw [hc]; omega), if_pos (by rw [hc]; omega)] at hup
    iintro ⟨#HC, HR, HF⟩
    unfold RecvSt
    icases HR with ⟨Ho, Hp⟩
    ihave Hp := hup $$ Hp
    icases Hp with ⟨Ht, Hk⟩
    unfold rcvT
    icases Ht with ⟨Hc, Ha⟩
    iapply (step (C := ctx V K) (framed (Fr := iprop((rcvD V c ⟨m / 3, by omega⟩ -∗ bigSep Finset.univ fun j : Fin 31 => if 3 * j.val + cls (un c j).val < m + 1 then rcvD V c j else rcvT c j) ∗ Fr)) (wait_op V K c (krcv ⟨m / 3, by omega⟩) (Ow3 c 31 31 0) (rcv_ok c 0) hs hcr (wpE_waitDma2_eq 𝒱₀ (c : Thread nD τ) none Set.univ)))
      (fun _ => weaken ?_ hk)) $$ [Ho Hc Ha Hk HF]
    · unfold RecvSt
      iintro ⟨⟨Ho, Hz, Hr⟩, Hk, HF⟩
      isplitr [HF]; swap; · iexact HF
      isplitl [Ho]; · iexact Ho
      iapply Hk
      unfold rcvD
      isplitl [Hz]; · iexact Hz
      iapply (Entails.of_eq (show rest V c (krcv ⟨m / 3, hj⟩) = ks c (rowSet (un c ⟨m / 3, hj⟩)) (KS V c) from rfl)); iexact Hr
    · isplitr; · iexact HC
      isplitl [Ho Hc Ha]
      · isplitl [Ho]; · iexact Ho
        isplitl [Hc]; · iexact Hc
        iexact Ha
      isplitl [Hk]; · iexact Hk
      iexact HF
  · refine weaken ?_ hk
    unfold RecvSt
    rw [bigSep_congr fun j _ => hstay j fun he => h (hP.mpr (by
      have := cls_lt (un c j).val
      have hj : (⟨m / 3, by omega⟩ : Fin 31) = j := Fin.ext (by show m / 3 = j.val; omega)
      rw [hj]; omega))]

/-! ## The transfers' completion -/

/-- After `m` of the waits for the device's own transfers. -/
def SwSt (m : ℕ) : sProp 𝕄 :=
  iprop(Ow c (Ow3 c 31 31 0) ∗ prog m (fun j : Fin 31 => iprop(cred (tallyAt (kcell c (ksnd j)) () (nb c)) ∗ atPos ER (kcell c (ksnd j)) 0 ∅ 0))
    (fun j => iprop(semVal (kcell c (ksnd j)) 0 ∗ kvp c (pieceSet c (sh c j)) (V.kv c))))

theorem swait_op (m : ℕ) (hm : m < 31) {s : DmaSem sig} (hs : SemLoc.dma s = csem (ksnd ⟨m, hm⟩))
    {sz : Fin 4 → ℕ} (hsz : sz = ![2, 2, 64 * nblk c.val, 256]) {o : Fin 4 → ℕ} {h : ∀ a, o a + sz a ≤ S2x2x128x8192.size a}
    {hst : ∀ a, (Rect.unit (s := S2x2x128x8192) o sz h).stride a = 1}
    {s1 : Shape} {e1 : EltTy} {src : Memref sig .tc .vmem s1 e1} {h1 : src.view.WordExact} {h2 : (M2.slice (Rect.unit (s := S2x2x128x8192) o sz h) hst).view.WordExact} :
    iprop(ctx V K ∗ SwSt V c m)
      ⊢ wpc c (Prog.lift (.waitDma2 s src (M2.slice (Rect.unit (s := S2x2x128x8192) o sz h) hst) h1 h2)) fun _ => SwSt V c (m + 1) := by
  unfold SwSt
  iintro ⟨#HC, Ho, Hp⟩
  ihave Hp := (prog_step m hm _ _) $$ Hp
  icases Hp with ⟨⟨Hc, Ha⟩, Hk⟩
  ihave Hw := (wait_op V K c (ksnd ⟨m, hm⟩) (Ow3 c 31 31 0) (low_ok c 31 31 0) hs (credit_piece c sz hsz o h hst) (wpE_waitDma2_eq 𝒱₀ (c : Thread nD τ) none Set.univ)
    (w := .waitDma2 s src (M2.slice (Rect.unit (s := S2x2x128x8192) o sz h) hst) h1 h2)) $$ [Ho Hc Ha]
  · isplitr; · iexact HC
    isplitl [Ho]; · iexact Ho
    isplitl [Hc]; · iexact Hc
    iexact Ha
  iapply (wpc_wand (fun _ => iprop(Ow c (Ow3 c 31 31 0) ∗ semVal (kcell c (ksnd ⟨m, hm⟩)) 0 ∗ rest V c (ksnd ⟨m, hm⟩)))) $$ Hw
  iintro %a ⟨Ho, Hz, Hr⟩
  isplitl [Ho]; · iexact Ho
  iapply Hk
  isplitl [Hz]; · iexact Hz
  iapply (Entails.of_eq (show rest V c (ksnd ⟨m, hm⟩) = kvp c (pieceSet c (sh c ⟨m, hm⟩)) (V.kv c) from rfl)); iexact Hr
end Ops

end Cert.KernelIdeal.Pf
-- ==== Proof.KiParts.lean ====
/-
The first phases of the kernel: the barrier, the transfers of keys and the first receipt.
-/
module

public import proofs.«01_k».proof.Proof.KiSend
public import Idealize.ShloMosaic.Lib.Pipeline.Value
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- One operation, then a value that depends on nothing more. -/
theorem last {c : Dev nD} {α β : Type} {C A B : sProp 𝕄} [BI.Persistent C] {p : Prog (TpuEff nD τ sig (Elt F) Λ₀ .tc) α} {v : α → β}
    (t : iprop(C ∗ A) ⊢ wpc c p fun _ => B) : iprop(C ∗ A) ⊢ wpc c (p >>= fun a => pure (v a)) fun _ => B :=
  step t fun a => ret_of (by iintro ⟨-, H⟩; iexact H)
/-- Nothing left to do. -/
theorem done {c : Dev nD} {β : Type} {C B : sProp 𝕄} {v : β} : iprop(C ∗ B) ⊢ wpc c (pure v : Prog (TpuEff nD τ sig (Elt F) Λ₀ .tc) β) fun _ => B :=
  ret_of (by iintro ⟨-, H⟩; iexact H)

section Parts
variable (V : Ins F) (K : Dev nD × CK → ℕ) (c : Dev nD)

/-! ## The barrier's signals -/

theorem dev_op {C A : sProp 𝕄} : iprop(C ∗ A) ⊢ wpc c (Prog.lift .deviceId) fun a : Dev nD => iprop(⌜a = c⌝ ∗ A) := by
  unfold wpc Prog.lift
  rw [wp_deviceId, wp_ret]
  iintro ⟨-, H⟩
  imodintro
  isplitr; · (ipureintro; rfl)
  iexact H

theorem part178 : iprop(ctx V K ∗ SigSt c 0) ⊢ wpc c (args (k0_part178 (F := F))) fun a =>
    iprop(⌜a.1 = c ∧ a.2.2.1 = SemArray.scalar (sig.barrier 0 rfl)⌝ ∗ SigSt (F := F) c 5) := by
  rw [k0_part178_eq_skeleton]; unfold args k0_part178_skel
  refine stepv (dev_op c) ?_
  iterate 5 refine step (sig_op V K c _ (by decide) (by clear * - c; revert c; decide +kernel) rfl) fun _ => ?_
  refine ret_of ?_
  iintro ⟨-, H⟩
  isplitr; · (ipureintro; exact ⟨rfl, rfl⟩)
  iexact H

theorem parts179_182 (v2 v24 w v48 w1 v72 w2 v96 w3 : BitVec 32) :
    (iprop(ctx V K ∗ SigSt c 5) ⊢ wpc c (args (k0_part179 (F := F)) c v2 (SemArray.scalar (sig.barrier 0 rfl)) v24 w) fun _ => SigSt (F := F) c 11)
    ∧ (iprop(ctx V K ∗ SigSt c 11) ⊢ wpc c (args (k0_part180 (F := F)) c v2 (SemArray.scalar (sig.barrier 0 rfl)) v48 w1) fun _ => SigSt (F := F) c 17)
    ∧ (iprop(ctx V K ∗ SigSt c 17) ⊢ wpc c (args (k0_part181 (F := F)) c v2 (SemArray.scalar (sig.barrier 0 rfl)) v72 w2) fun _ => SigSt (F := F) c 23)
    ∧ (iprop(ctx V K ∗ SigSt c 23) ⊢ wpc c (args (k0_part182 (F := F)) c v2 (SemArray.scalar (sig.barrier 0 rfl)) v96 w3) fun _ => SigSt (F := F) c 29) := by
  rw [k0_part179_eq_skeleton, k0_part180_eq_skeleton, k0_part181_eq_skeleton, k0_part182_eq_skeleton]
  unfold args k0_part179_skel k0_part180_skel k0_part181_skel k0_part182_skel
  refine ⟨?_, ?_, ?_, ?_⟩ <;>
  · iterate 6 refine step (sig_op V K c _ (by decide) (by clear * - c; revert c; decide +kernel) rfl) fun _ => ?_
    exact done

/-! ## The device's own keys, and the projected queries -/

/-- The device's own codes before (`k = 0`) and after the three conditional copies. -/
def LocSt (k : ℕ) : sProp 𝕄 := if cls c.val < k then iprop(kvp c (kvR c) (V.kv c) ∗ ks c (rowSet c) (KS V c)) else iprop(kvp c (kvR c) (V.kv c) ∗ ∃ f, ks c (rowSet c) f)
abbrev xwp : sProp 𝕄 := iprop((((c : Thread nD τ).loc cc0_stg0_0) ↦[Finset.univ]{fullShare} V.x c) ∗ (((c : Thread nD τ).loc cc0_stg1_0) ↦[Finset.univ]{fullShare} V.wq c))

theorem cls_sz0 {c : Dev nD} (h : cls c.val = 0) : S2x2x128x256.size = ![2, 2, 64 * nblk c.val, 256] := by unfold nblk; rw [if_pos h]
theorem cls_sz1 {c : Dev nD} (h : cls c.val ≠ 0) : S2x2x64x256.size = ![2, 2, 64 * nblk c.val, 256] := by unfold nblk; rw [if_neg h]
theorem cond_cls : ∀ c : Dev nD, (k0_cond1 c = 1#1 ↔ cls c.val = 0) ∧ (k0_cond2 c = 1#1 ↔ cls c.val = 1) ∧ (k0_cond3 c = 1#1 ↔ cls c.val = 2) := by decide +kernel
theorem off_loc : ∀ c : Dev nD, (cls c.val = 0 → k0_off1 c = ![0, 0, 64 * rlo c.val, 256 * c.val] ∧ k0_off2 c = ![0, 0, 64 * rb c.val, 0])
    ∧ (cls c.val = 1 → k0_off3 c = ![0, 0, 64 * rlo c.val, 256 * c.val] ∧ k0_off4 c = ![0, 0, 64 * rb c.val, 0])
    ∧ (cls c.val = 2 → k0_off5 c = ![0, 0, 64 * rlo c.val, 256 * c.val] ∧ k0_off6 c = ![0, 0, 64 * rb c.val, 0]) := by decide +kernel

theorem swapl {A B D : sProp 𝕄} : iprop(A ∗ (B ∗ D)) ⊢ iprop(B ∗ (A ∗ D)) := by
  iintro ⟨HA, HB, HD⟩
  isplitl [HB]; · iexact HB
  isplitl [HA] <;> iassumption

theorem part183 (v2 v120 w : BitVec 32) : iprop(ctx V K ∗ (SigSt c 29 ∗ (LocSt V c 0 ∗ xwp V c)))
    ⊢ wpc c (args (k0_part183 (F := F)) c v2 (SemArray.scalar (sig.barrier 0 rfl)) v120 w) fun a => iprop(⌜a = qv V c⌝ ∗ (SigSt (F := F) c 31 ∗ (LocSt V c 3 ∗ xwp V c))) := by
  rw [k0_part183_eq_skeleton]; unfold args k0_part183_skel
  iterate 2 refine step (framed (sig_op V K c _ (by decide) (by clear * - c; revert c; decide +kernel) rfl)) fun _ => ?_
  unfold LocSt
  refine weaken swapl ?_
  refine branch c 0 (cond_cls c).1 (fun h hk => loc_op V K c (cls_sz0 ((cond_cls c).1.mp h)) ((off_loc c).1 ((cond_cls c).1.mp h)).1 ((off_loc c).1 ((cond_cls c).1.mp h)).2 (fun v => shapeCast_shapeCast v _ _) hk) ?_
  refine branch c 1 (cond_cls c).2.1 (fun h hk => loc_op V K c (cls_sz1 (by rw [(cond_cls c).2.1.mp h]; decide)) ((off_loc c).2.1 ((cond_cls c).2.1.mp h)).1 ((off_loc c).2.1 ((cond_cls c).2.1.mp h)).2 (fun v => shapeCast_shapeCast v _ _) hk) ?_
  refine branch c 2 (cond_cls c).2.2 (fun h hk => loc_op V K c (cls_sz1 (by rw [(cond_cls c).2.2.mp h]; decide)) ((off_loc c).2.2 ((cond_cls c).2.2.mp h)).1 ((off_loc c).2.2 ((cond_cls c).2.2.mp h)).2 (fun v => shapeCast_shapeCast v _ _) hk) ?_
  refine weaken swapl ?_
  refine stepv (framedvl (framedvl (framedv (load_op c (m := M0) (f := V.x c) (Finset.subset_univ _))))) ?_
  refine stepv (framedvl (framedvl (framedvl (load_op c (m := M1) (f := V.wq c) (Finset.subset_univ _))))) ?_
  refine ret_of ?_
  iintro ⟨-, H⟩
  isplitr
  · ipureintro
    exact congrArg₂ k0_pay4 (Memref.readAt_unit_zero _ _ (by decide) _ _) (Memref.readAt_unit_zero _ _ (by decide) _ _)
  iexact H

/-! ## The barrier, the transfers of keys, and the first receipt -/

/-- Where the keys sent come from, and where they land, by class. -/
theorem off7_eq : ∀ c : Dev nD, k0_cond4 c = 1#1 → k0_off7 c = ![0, 0, 64 * rb c.val, 0] := by decide +kernel
theorem off8_eq : ∀ (c : Dev nD) (j : Fin 31), k0_cond4 c = 1#1 → k0_off8 c (BitVec.ofNat 32 (j.val + 1)) = ![0, 0, 64 * rlo c.val, 256 * (sh c j).val] := by decide +kernel
theorem off9_eq : ∀ c : Dev nD, k0_cond5 c = 1#1 → k0_off9 c = ![0, 0, 64 * rb c.val, 0] := by decide +kernel
theorem off10_eq : ∀ (c : Dev nD) (j : Fin 31), k0_cond5 c = 1#1 → k0_off10 c (BitVec.ofNat 32 (j.val + 1)) = ![0, 0, 64 * rlo c.val, 256 * (sh c j).val] := by decide +kernel
theorem off11_eq : ∀ c : Dev nD, k0_cond6 c = 1#1 → k0_off11 c = ![0, 0, 64 * rb c.val, 0] := by decide +kernel
theorem off12_eq : ∀ (c : Dev nD) (j : Fin 31), k0_cond6 c = 1#1 → k0_off12 c (BitVec.ofNat 32 (j.val + 1)) = ![0, 0, 64 * rlo c.val, 256 * (sh c j).val] := by decide +kernel
theorem cond4_cls : ∀ c : Dev nD, k0_cond4 c = 1#1 ↔ cls c.val = 0 := by decide +kernel
theorem cond5_cls : ∀ c : Dev nD, k0_cond5 c = 1#1 ↔ cls c.val = 1 := by decide +kernel
theorem cond6_cls : ∀ c : Dev nD, k0_cond6 c = 1#1 ↔ cls c.val = 2 := by decide +kernel

/-- What is left of the barrier and the transfers once the keys are on their way. -/
def Sent : sProp 𝕄 := iprop(semVal (kcell c kbar) 0 ∗ (bigSep Finset.univ fun s : Fin 10 => iprop(∃ f, rbp (xp c s) (slotSet s) f))
  ∗ bigSep Finset.univ fun j : Fin 31 => cred (tallyAt (kcell c (ksnd j)) () (nb c)))
/-- What the barrier and the transfers need. -/
def PreA : sProp 𝕄 := iprop((cred (tallyAt (kcell c kbar) () (tot c kbar)) ∗ atPos ER (kcell c kbar) 0 ∅ 0)
  ∗ (bigSep Finset.univ fun j : Fin 31 => iprop(kvp c (pieceSet c (sh c j)) (V.kv c) ∗ dutyTok ER (kcell c (ksnd j)) 0 0 ∗ dutyTok ER (kcell (sh c j) (krcv j)) 0 0))
  ∗ bigSep Finset.univ fun j : Fin 31 => rcvT c j)

/-- A separating conjunction dealt by a function: each member goes to the one `j` the function sends it to. -/
theorem deal {n k : ℕ} (f : Fin n → Fin k) (Φ : Fin n → sProp 𝕄) :
    bigSep Finset.univ Φ = bigSep Finset.univ fun j => bigSep Finset.univ fun i => if f i = j then Φ i else iprop(emp) := by
  have e : (Finset.univ.filter fun j : Fin k => j ∈ Finset.image f Finset.univ) = Finset.image f Finset.univ := by ext; simp
  rw [bigSep_fiberwise Finset.univ f Φ, ← e, bigSep_filter]
  refine bigSep_congr fun j _ => ?_
  rw [show (bigSep Finset.univ fun i => if f i = j then Φ i else iprop(emp)) = bigSep (Finset.univ.filter fun i => f i = j) Φ from (bigSep_filter _ _ _).symm]
  split
  · rfl
  · rename_i h
    rw [show (Finset.univ.filter fun i => f i = j) = ∅ from Finset.filter_eq_empty_iff.mpr fun i _ hi => h (Finset.mem_image.mpr ⟨i, Finset.mem_univ _, hi⟩)]
    exact bigSep_empty.symm

/-- The landing slots the barrier hands over, one sum over the senders' slots. -/
theorem bar_slots : (bigSep Finset.univ fun j : Fin 31 => barPay (F := F) c j) = iprop((bigSep Finset.univ fun j : Fin 31 => iprop(∃ f, ks (sh c j) (rowSet c) f))
    ∗ bigSep Finset.univ fun s : Fin 10 => iprop(∃ f, rbp (xp c s) (slotSet s) f)) := by
  unfold barPay
  rw [bigSep_sep', ← deal (jx c) fun s => iprop(∃ f, rbp (xp c s) (slotSet s) f)]
  congr 1
  exact (bigSep_univ_equiv Fin.revPerm fun j : Fin 31 => iprop(∃ f, ks (F := F) (un c j) (rowSet c) f)).trans (bigSep_congr fun j _ => by rw [Fin.revPerm_apply, un_rev])

theorem start_sends : iprop((Ow c (Ow3 c 31 0 0) ∗ semVal (kcell c kbar) 0 ∗ rest V c kbar)
      ∗ (bigSep Finset.univ fun j : Fin 31 => iprop(kvp c (pieceSet c (sh c j)) (V.kv c) ∗ dutyTok ER (kcell c (ksnd j)) 0 0 ∗ dutyTok ER (kcell (sh c j) (krcv j)) 0 0))
      ∗ bigSep Finset.univ fun j : Fin 31 => rcvT c j)
    ⊢ iprop(SendSt V c 0 ∗ ((semVal (kcell c kbar) 0 ∗ bigSep Finset.univ fun s : Fin 10 => iprop(∃ f, rbp (xp c s) (slotSet s) f)) ∗ bigSep Finset.univ fun j : Fin 31 => rcvT c j)) := by
  unfold SendSt
  rw [prog_start, show rest V c kbar = _ from bar_slots (F := F) c]
  simp only [bigSep_sep']
  iintro ⟨⟨Ho, Hz, Hk, Hs⟩, ⟨Hp, Ht1, Ht2⟩, Hr⟩
  isplitr [Hz Hs Hr]
  · isplitl [Ho]; · iexact Ho
    isplitl [Hp]; · iexact Hp
    isplitl [Hk]; · iexact Hk
    isplitl [Ht1] <;> iassumption
  isplitr [Hr]
  · isplitl [Hz] <;> iassumption
  iexact Hr

theorem end_sends : iprop(SendSt V c 31 ∗ ((semVal (kcell c kbar) 0 ∗ bigSep Finset.univ fun s : Fin 10 => iprop(∃ f, rbp (xp c s) (slotSet s) f)) ∗ bigSep Finset.univ fun j : Fin 31 => rcvT c j))
    ⊢ iprop(RecvSt V c 0 ∗ Sent (F := F) c) := by
  unfold SendSt RecvSt Sent
  rw [prog_end, ← recv_start]
  iintro ⟨⟨Ho, Hc⟩, ⟨Hz, Hs⟩, Hr⟩
  isplitl [Ho Hr]
  · isplitl [Ho] <;> iassumption
  isplitl [Hz]; · iexact Hz
  isplitl [Hs] <;> iassumption

theorem part184 (v2 : BitVec 32) : iprop(ctx V K ∗ (Ow c (Ow3 c 31 0 0) ∗ PreA V c)) ⊢ wpc c (args (k0_part184 (F := F)) c v2 (SemArray.scalar (sig.barrier 0 rfl))) fun _ => iprop(RecvSt V c 1 ∗ Sent (F := F) c) := by
  rw [k0_part184_eq_skeleton]; unfold args k0_part184_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel
  refine weaken (A' := iprop((Ow c (Ow3 c 31 0 0) ∗ cred (tallyAt (kcell c kbar) () (tot c kbar)) ∗ atPos ER (kcell c kbar) 0 ∅ 0) ∗ ((bigSep Finset.univ fun j : Fin 31 => iprop(kvp c (pieceSet c (sh c j)) (V.kv c) ∗ dutyTok ER (kcell c (ksnd j)) 0 0 ∗ dutyTok ER (kcell (sh c j) (krcv j)) 0 0))
      ∗ bigSep Finset.univ fun j : Fin 31 => rcvT c j))) ?_ ?_
  · unfold PreA
    iintro ⟨Ho, ⟨H1, H2⟩, H3, H4⟩
    isplitl [Ho H1 H2]
    · isplitl [Ho]; · iexact Ho
      isplitl [H1] <;> iassumption
    isplitl [H3] <;> iassumption
  refine step (framed (wait_op V K c kbar (Ow3 c 31 0 0) (bar_ok c 0 0) rfl rfl (wpE_semWait_eq 𝒱₀ (c : Thread nD τ) none Set.univ))) fun _ => weaken (start_sends V c) ?_
  refine branch c 0 (cond4_cls c) (A := SendSt V c 0) (B := SendSt V c 31) (fun h hk => ?_) ?_
  · iterate 31 refine step (framed (last (keys_op V K c _ (by decide) (cls_sz0 ((cond4_cls c).mp h)) (off8_eq c ⟨_, by decide⟩ h) (off7_eq c h) (by clear * - c; revert c; decide +kernel) rfl rfl))) fun _ => ?_
    exact hk
  refine branch c 1 (cond5_cls c) (A := SendSt V c 0) (B := SendSt V c 31) (fun h hk => ?_) ?_
  · iterate 31 refine step (framed (last (keys_op V K c _ (by decide) (cls_sz1 (by rw [(cond5_cls c).mp h]; decide)) (off10_eq c ⟨_, by decide⟩ h) (off9_eq c h) (by clear * - c; revert c; decide +kernel) rfl rfl))) fun _ => ?_
    exact hk
  refine branch c 2 (cond6_cls c) (A := SendSt V c 0) (B := SendSt V c 31) (fun h hk => ?_) ?_
  · iterate 31 refine step (framed (last (keys_op V K c _ (by decide) (cls_sz1 (by rw [(cond6_cls c).mp h]; decide)) (off12_eq c ⟨_, by decide⟩ h) (off11_eq c h) (by clear * - c; revert c; decide +kernel) rfl rfl))) fun _ => ?_
    exact hk
  refine weaken (A' := iprop(RecvSt V c 0 ∗ Sent (F := F) c)) ((Entails.of_eq ?_).trans (end_sends V c)) ?_
  · rw [if_pos (show cls c.val < 2 + 1 from cls_lt _)]
  exact recv_op V K c _ (by decide) (by clear * - c; revert c; decide +kernel) rfl rfl done

end Parts

end Cert.KernelIdeal.Pf
-- ==== Proof.KiDq.lean ====
/-
The dequantisation of the gathered codes: one load and one store.
-/
module

public import proofs.«01_k».proof.Proof.KiParts
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ops
variable (V : Ins F) (K : Dev nD × CK → ℕ) (c : Dev nD)

/-! ## The codes dequantised -/

abbrev kgp (f : (cc0_scratch1 : Ref sig .tc).ty.Contents (Elt F)) : sProp 𝕄 := (((c : Thread nD τ).loc cc0_scratch1) ↦[Finset.univ]{fullShare} f)
/-- The first `m` blocks dequantised, the others as they were. -/
def kgf (m : ℕ) (g : (cc0_scratch1 : Ref sig .tc).ty.Contents (Elt F)) : (cc0_scratch1 : Ref sig .tc).ty.Contents (Elt F) := fun i => if (i 2).val / 64 < m then KG V c i else g i
/-- All codes gathered, the first `m` blocks dequantised. -/
def DqSt (m : ℕ) : sProp 𝕄 := iprop(ks c Finset.univ (KS V c) ∗ ∃ g, kgp c (kgf V c m g))

theorem dq_load (m : ℕ) {C : sProp 𝕄} {r : LoadRect S2x2x2816x256} {hl : M5.view.LoadsAt r} :
    iprop(C ∗ DqSt V c m) ⊢ wpc c (Prog.lift (.load M5 r hl)) fun a => iprop(⌜a = M5.view.readAt (Elt F) r (KS V c)⌝ ∗ DqSt V c m) :=
  framedv (load_op c (m := M5) (S := Finset.univ) (f := KS V c) (Finset.subset_univ _))
theorem dq_dead (m : ℕ) {C : sProp 𝕄} {r : LoadRect S2x2x2880x256} {hl : M6.view.LoadsAt r} :
    iprop(C ∗ DqSt V c m) ⊢ wpc c (Prog.lift (.load M6 r hl)) fun _ => DqSt V c m := by
  unfold DqSt
  iintro ⟨HC, Hk, %g, Hg⟩
  ihave Hw := (load_op c (C := C) (m := M6) (r := r) (hl := hl) (S := Finset.univ) (f := kgf V c m g) (Finset.subset_univ _)) $$ [HC Hg]
  · isplitl [HC] <;> iassumption
  iapply (wpc_wand (fun a => iprop(⌜a = M6.view.readAt (Elt F) r (kgf V c m g)⌝ ∗ kgp c (kgf V c m g)))) $$ Hw
  iintro %a ⟨-, Hg⟩
  isplitl [Hk]; · iexact Hk
  iexists g; iexact Hg

theorem dq_store (m : ℕ) (hm : m < 45) {C : sProp 𝕄} {o6 o5 : Fin 4 → ℕ} (h6 : o6 = ![0, 0, 64 * m, 0]) (h5 : o5 = ![0, 0, 64 * gBlk m, 0])
    {hD : ∀ a, o6 a + S2x2x64x256.size a ≤ S2x2x2880x256.size a} {hS : ∀ a, o5 a + S2x2x64x256.size a ≤ S2x2x2816x256.size a}
    {hx : (M6.access (Rect.unit (s := S2x2x2880x256) o6 S2x2x64x256.size hD)).Stores Finset.univ}
    {hu : (Finset.univ : Finset (Rect.unit (s := S2x2x2880x256) o6 S2x2x64x256.size hD).shape.Idx) = Finset.univ ∨ ∀ a, (Rect.unit (s := S2x2x2880x256) o6 S2x2x64x256.size hD).stride a = 1}
    {w : S2x2x64x256.Idx → Elt F .bf16} (hw : w = fun j => dq (KS V c ((Rect.unit (s := S2x2x2816x256) o5 S2x2x64x256.size hS).emb j))) :
    iprop(C ∗ DqSt V c m) ⊢ wpc c (Prog.lift (.store M6 (Rect.unit (s := S2x2x2880x256) o6 S2x2x64x256.size hD) w Finset.univ hx hu)) fun _ => DqSt V c (m + 1) := by
  have hv (j : S2x2x64x256.Idx) (a : Fin 4) : ((Rect.unit (s := S2x2x2880x256) o6 S2x2x64x256.size hD).emb j a : ℕ) = o6 a + 1 * (j a).val := Rect.emb_apply (Rect.unit (s := S2x2x2880x256) o6 S2x2x64x256.size hD) j a
  have hv5 (j : S2x2x64x256.Idx) (a : Fin 4) : ((Rect.unit (s := S2x2x2816x256) o5 S2x2x64x256.size hS).emb j a : ℕ) = o5 a + 1 * (j a).val := Rect.emb_apply (Rect.unit (s := S2x2x2816x256) o5 S2x2x64x256.size hS) j a
  have key (g : (cc0_scratch1 : Ref sig .tc).ty.Contents (Elt F)) : ∀ i ∈ (Finset.univ : Finset S2x2x2880x256.Idx),
      (M6.access (Rect.unit (s := S2x2x2880x256) o6 S2x2x64x256.size hD)).write (Elt F) (kgf V c m g) w Finset.univ i = kgf V c (m + 1) g i := by
    intro i _
    by_cases hi : i ∈ (Rect.unit (s := S2x2x2880x256) o6 S2x2x64x256.size hD).set
    · rw [← Rect.map_emb_univ, Finset.mem_map] at hi
      obtain ⟨j, -, rfl⟩ := hi
      refine (View.write_emb_of_mem (v := M6.access (Rect.unit (s := S2x2x2880x256) o6 S2x2x64x256.size hD)) _ _ (Finset.mem_univ j)).trans ?_
      have j2 : (j 2).val < 64 := (j 2).isLt
      have e2 : ((Rect.unit (s := S2x2x2880x256) o6 S2x2x64x256.size hD).emb j 2 : ℕ) = 64 * m + 1 * (j 2).val := (hv j 2).trans (congrArg (· + 1 * (j 2).val) (by rw [h6]; rfl))
      have hd : ((Rect.unit (s := S2x2x2880x256) o6 S2x2x64x256.size hD).emb j 2 : ℕ) / 64 = m := by omega
      have hr : ((Rect.unit (s := S2x2x2880x256) o6 S2x2x64x256.size hD).emb j 2 : ℕ) % 64 = (j 2).val := by omega
      unfold kgf
      rw [if_pos (by rw [hd]; omega), hw]
      unfold KG
      dsimp only
      refine congrArg (fun t => dq (KS V c t)) (funext fun a => Fin.ext ((hv5 j a).trans ?_))
      have q0 := hv j 0; have q1 := hv j 1; have q3 := hv j 3
      rw [congrFun h6 0] at q0; rw [congrFun h6 1] at q1; rw [congrFun h6 3] at q3
      rw [congrFun h5 a]
      fin_cases a
      · exact q0.symm
      · exact q1.symm
      · show 64 * gBlk m + 1 * (j 2).val = 64 * gBlk (((Rect.unit (s := S2x2x2880x256) o6 S2x2x64x256.size hD).emb j 2 : ℕ) / 64) + ((Rect.unit (s := S2x2x2880x256) o6 S2x2x64x256.size hD).emb j 2 : ℕ) % 64
        rw [hd, hr]; omega
      · exact q3.symm
    · refine (View.write_of_not_mem (v := M6.access (Rect.unit (s := S2x2x2880x256) o6 S2x2x64x256.size hD)) _ _ _ ?_).trans ?_
      · intro hc; exact hi ((show (M6.access (Rect.unit (s := S2x2x2880x256) o6 S2x2x64x256.size hD)).setOn Finset.univ = (Rect.unit (s := S2x2x2880x256) o6 S2x2x64x256.size hD).set from View.set_slice_whole _ _) ▸ hc)
      · unfold kgf
        have hne : (i 2).val / 64 ≠ m := fun he => hi (by
          rw [Rect.mem_set_unit, h6]
          have i0 : (i 0).val < 2 := (i 0).isLt
          have i1 : (i 1).val < 2 := (i 1).isLt
          have i3 : (i 3).val < 256 := (i 3).isLt
          intro a; fin_cases a
          · show 0 ≤ (i 0).val ∧ (i 0).val < 0 + 2; omega
          · show 0 ≤ (i 1).val ∧ (i 1).val < 0 + 2; omega
          · show 64 * m ≤ (i 2).val ∧ (i 2).val < 64 * m + 64; omega
          · show 0 ≤ (i 3).val ∧ (i 3).val < 0 + 256; omega)
        by_cases hl : (i 2).val / 64 < m
        · rw [if_pos hl, if_pos (by omega)]
        · rw [if_neg hl, if_neg (by omega)]
  unfold DqSt
  iintro ⟨HC, Hk, %g, Hg⟩
  ihave Hw := (store_op c (C := C) (m := M6) (r := Rect.unit (s := S2x2x2880x256) o6 S2x2x64x256.size hD) (w := w) (hx := hx) (hm := hu) (S := Finset.univ) (f := kgf V c m g) (Finset.subset_univ _) (key g)) $$ [HC Hg]
  · isplitl [HC] <;> iassumption
  iapply (wpc_wand (fun _ => kgp c (kgf V c (m + 1) g))) $$ Hw
  iintro %a Hg
  isplitl [Hk]; · iexact Hk
  iexists g; iexact Hg

/-- All dequantised. -/
theorem dq_all : DqSt V c 45 ⊢ iprop(ks c Finset.univ (KS V c) ∗ kgp c (KG V c)) := by
  unfold DqSt
  iintro ⟨Hk, %g, Hg⟩
  isplitl [Hk]; · iexact Hk
  iapply (Entails.of_eq (congrArg (kgp c) (show kgf V c 45 g = KG V c from funext fun i => if_pos (by have h2 : (i 2).val < 2880 := (i 2).isLt; omega)))) $$ Hg

theorem inbB (m : ℕ) (hm : m < 45) : ∀ a, (![0, 0, 64 * gBlk m, 0] : Fin 4 → ℕ) a + S2x2x64x256.size a ≤ S2x2x2816x256.size a := fun a => by
  have := gBlk_lt ⟨m, hm⟩
  dsimp only at this
  fin_cases a
  · show 0 + 2 ≤ 2; omega
  · show 0 + 2 ≤ 2; omega
  · show 64 * gBlk m + 64 ≤ 2816; omega
  · show 0 + 256 ≤ 256; omega
/-- Block `m` of the gathered codes, in the order they are dequantised. -/
abbrev blk (m : ℕ) (hm : m < 45) : Vec F S2x2x64x256 .i8 :=
  M5.view.readAt (Elt F) (Rect.unit (s := S2x2x2816x256) ![0, 0, 64 * gBlk m, 0] S2x2x64x256.size (inbB m hm)).toLoadRect (KS V c)

/-- The gathered codes and what they dequantise to. -/
abbrev AtSt : sProp 𝕄 := iprop(ks c Finset.univ (KS V c) ∗ kgp c (KG V c))

/-- One operation whose value is known in part, then the rest. -/
theorem stepx {c : Dev nD} {α β : Type} (φ : α → Prop) {C A B : sProp 𝕄} [BI.Persistent C] {p : Prog (TpuEff nD τ sig (Elt F) Λ₀ .tc) α}
    {k : α → Prog (TpuEff nD τ sig (Elt F) Λ₀ .tc) β} {Q : β → sProp 𝕄} (t : iprop(C ∗ A) ⊢ wpc c p fun a => iprop(⌜φ a⌝ ∗ B)) (h : ∀ a, φ a → iprop(C ∗ B) ⊢ wpc c (k a) Q) : iprop(C ∗ A) ⊢ wpc c (p >>= k) Q := by
  refine bindwp ?_
  iintro ⟨#HC, HA⟩
  ihave Hw := t $$ [HA]
  · isplitr; · iexact HC
    iexact HA
  iapply (wpc_wand (fun a => iprop(⌜φ a⌝ ∗ B))) $$ Hw
  iintro %a ⟨%ha, HB⟩
  iapply (h a ha)
  isplitr; · iexact HC
  iexact HB
end Ops

end Cert.KernelIdeal.Pf
-- ==== Proof.KiAo.lean ====
/-
The attention: its loads and stores.
-/
module

public import proofs.«01_k».proof.Proof.KiDq
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Att
variable (V : Ins F) (K : Dev nD × CK → ℕ) (c : Dev nD)

/-! ## The attention -/

abbrev outp (f : (cc0_stg4_0 : Ref sig .tc).ty.Contents (Elt F)) : sProp 𝕄 := (((c : Thread nD τ).loc cc0_stg4_0) ↦[Finset.univ]{fullShare} f)
abbrev wop : sProp 𝕄 := (((c : Thread nD τ).loc cc0_stg3_0) ↦[Finset.univ]{fullShare} V.wo c)
/-- The first `a` halves of the output written. -/
def outf (a : ℕ) (g : (cc0_stg4_0 : Ref sig .tc).ty.Contents (Elt F)) : (cc0_stg4_0 : Ref sig .tc).ty.Contents (Elt F) := fun i => if (i 0).val < a then OUT V c 0 i else g i
def OutSt (a : ℕ) : sProp 𝕄 := iprop(∃ g, outp c (outf V c a g))
/-- The keys and values dequantised, the output weights, and `a` halves of the output. -/
def Att (a : ℕ) : sProp 𝕄 := iprop(AtSt V c ∗ (wop V c ∗ OutSt V c a))

theorem at_load (a : ℕ) {C : sProp 𝕄} {r : LoadRect S2x2x2880x256} {hl : M6.view.LoadsAt r} :
    iprop(C ∗ Att V c a) ⊢ wpc c (Prog.lift (.load M6 r hl)) fun x => iprop(⌜x = M6.view.readAt (Elt F) r (KG V c)⌝ ∗ Att V c a) :=
  framedv (framedvl (load_op c (m := M6) (S := Finset.univ) (f := KG V c) (Finset.subset_univ _)))
theorem at_wo (a : ℕ) {C : sProp 𝕄} {h : ∀ a, (![0, 0] : Fin 2 → ℕ) a + S256x512.size a ≤ S256x512.size a} {hl : M3.view.LoadsAt (Rect.unit (s := S256x512) ![0, 0] S256x512.size h).toLoadRect} :
    iprop(C ∗ Att V c a) ⊢ wpc c (Prog.lift (.load M3 (Rect.unit (s := S256x512) ![0, 0] S256x512.size h).toLoadRect hl)) fun x => iprop(⌜x = V.wo c⌝ ∗ Att V c a) := by
  have t := framedvl (Fr := AtSt V c) (framedv (Fr := OutSt V c a) (load_op c (C := C) (m := M3) (hl := hl) (S := Finset.univ) (f := V.wo c) (Finset.subset_univ _)))
  rw [show M3.view.readAt (Elt F) (Rect.unit (s := S256x512) ![0, 0] S256x512.size h).toLoadRect (V.wo c) = V.wo c from Memref.readAt_unit_zero _ _ (by decide) _ _] at t
  exact t

theorem out_emb (b : Fin 2) {o : Fin 3 → ℕ} (ho : o = ![b.val, 0, 0]) (h : ∀ a, o a + S1x128x512.size a ≤ S2x128x512.size a) (j : S1x128x512.Idx) :
    (Rect.unit (s := S2x128x512) o S1x128x512.size h).emb j 0 = b ∧ outIdx ((Rect.unit (s := S2x128x512) o S1x128x512.size h).emb j) = j := by
  have hv (a : Fin 3) : ((Rect.unit (s := S2x128x512) o S1x128x512.size h).emb j a : ℕ) = o a + 1 * (j a).val := Rect.emb_apply (Rect.unit (s := S2x128x512) o S1x128x512.size h) j a
  have j0 : (j 0).val < 1 := (j 0).isLt
  have q0 := hv 0; have q1 := hv 1; have q2 := hv 2
  rw [congrFun ho 0] at q0; rw [congrFun ho 1] at q1; rw [congrFun ho 2] at q2
  change _ = b.val + _ at q0
  change _ = 0 + _ at q1
  change _ = 0 + _ at q2
  refine ⟨Fin.ext (by rw [q0]; omega), funext fun a => Fin.ext ?_⟩
  unfold outIdx
  fin_cases a
  · show 0 = (j 0).val; omega
  · show ((Rect.unit (s := S2x128x512) o S1x128x512.size h).emb j 1 : ℕ) = (j 1).val; omega
  · show ((Rect.unit (s := S2x128x512) o S1x128x512.size h).emb j 2 : ℕ) = (j 2).val; omega
theorem out_set (b : Fin 2) {o : Fin 3 → ℕ} (ho : o = ![b.val, 0, 0]) (h : ∀ a, o a + S1x128x512.size a ≤ S2x128x512.size a) (i : S2x128x512.Idx) :
    i ∈ (Rect.unit (s := S2x128x512) o S1x128x512.size h).set ↔ i 0 = b := by
  subst ho
  rw [Rect.mem_set_unit]
  have h0 : (i 0).val < 2 := (i 0).isLt
  have h1 : (i 1).val < 128 := (i 1).isLt
  have h2 : (i 2).val < 512 := (i 2).isLt
  constructor
  · intro hh; have := hh 0
    change b.val ≤ (i 0).val ∧ (i 0).val < b.val + 1 at this
    exact Fin.ext (by omega)
  · rintro rfl a; fin_cases a
    · show (i 0).val ≤ (i 0).val ∧ (i 0).val < (i 0).val + 1; omega
    · show 0 ≤ (i 1).val ∧ (i 1).val < 0 + 128; omega
    · show 0 ≤ (i 2).val ∧ (i 2).val < 0 + 512; omega

/-- A store of one half of the output. -/
theorem out_write (b : Fin 2) {o : Fin 3 → ℕ} (ho : o = ![b.val, 0, 0]) (h : ∀ a, o a + S1x128x512.size a ≤ S2x128x512.size a)
    (f g : (cc0_stg4_0 : Ref sig .tc).ty.Contents (Elt F)) (w : S1x128x512.Idx → Elt F .f32)
    (h1 : ∀ i : S2x128x512.Idx, i 0 = b → w (outIdx i) = g i) (h2 : ∀ i : S2x128x512.Idx, i 0 ≠ b → f i = g i) :
    ∀ i ∈ (Finset.univ : Finset S2x128x512.Idx), (M4.access (Rect.unit (s := S2x128x512) o S1x128x512.size h)).write (Elt F) f w Finset.univ i = g i := by
  intro i _
  by_cases hi : i ∈ (Rect.unit (s := S2x128x512) o S1x128x512.size h).set
  · have hb := (out_set b ho h i).mp hi
    rw [← Rect.map_emb_univ, Finset.mem_map] at hi
    obtain ⟨j, -, rfl⟩ := hi
    refine (View.write_emb_of_mem (v := M4.access (Rect.unit (s := S2x128x512) o S1x128x512.size h)) _ _ (Finset.mem_univ j)).trans ?_
    rw [← h1 _ hb, (out_emb b ho h j).2]
    rfl
  · refine (View.write_of_not_mem (v := M4.access (Rect.unit (s := S2x128x512) o S1x128x512.size h)) _ _ _ ?_).trans (h2 i fun hb => hi ((out_set b ho h i).mpr hb))
    intro hc; exact hi ((show (M4.access (Rect.unit (s := S2x128x512) o S1x128x512.size h)).setOn Finset.univ = (Rect.unit (s := S2x128x512) o S1x128x512.size h).set from View.set_slice_whole _ _) ▸ hc)

theorem at_dead (a : ℕ) {C : sProp 𝕄} {r : LoadRect S2x128x512} {hl : M4.view.LoadsAt r} :
    iprop(C ∗ Att V c a) ⊢ wpc c (Prog.lift (.load M4 r hl)) fun _ => Att V c a := by
  refine framedl (framedl ?_)
  unfold OutSt
  iintro ⟨HC, %g, Hg⟩
  ihave Hw := (load_op c (C := C) (m := M4) (r := r) (hl := hl) (S := Finset.univ) (f := outf V c a g) (Finset.subset_univ _)) $$ [HC Hg]
  · isplitl [HC] <;> iassumption
  iapply (wpc_wand (fun x => iprop(⌜x = M4.view.readAt (Elt F) r (outf V c a g)⌝ ∗ outp c (outf V c a g)))) $$ Hw
  iintro %x ⟨-, Hg⟩
  iexists g; iexact Hg
theorem at_store (a : ℕ) (ha : a < 2) {C : sProp 𝕄} {o : Fin 3 → ℕ} (ho : o = ![a, 0, 0]) {h : ∀ a, o a + S1x128x512.size a ≤ S2x128x512.size a}
    {hx : (M4.access (Rect.unit (s := S2x128x512) o S1x128x512.size h)).Stores Finset.univ}
    {hu : (Finset.univ : Finset (Rect.unit (s := S2x128x512) o S1x128x512.size h).shape.Idx) = Finset.univ ∨ ∀ a, (Rect.unit (s := S2x128x512) o S1x128x512.size h).stride a = 1}
    {w : S1x128x512.Idx → Elt F .f32} (hw : w = att V c ⟨a, ha⟩) :
    iprop(C ∗ Att V c a) ⊢ wpc c (Prog.lift (.store M4 (Rect.unit (s := S2x128x512) o S1x128x512.size h) w Finset.univ hx hu)) fun _ => Att V c (a + 1) := by
  refine framedl (framedl ?_)
  unfold OutSt
  iintro ⟨HC, %g, Hg⟩
  ihave Hw := (store_op c (C := C) (m := M4) (r := Rect.unit (s := S2x128x512) o S1x128x512.size h) (w := w) (hx := hx) (hm := hu) (S := Finset.univ) (f := outf V c a g) (g := outf V c (a + 1) g) (Finset.subset_univ _)
      (out_write ⟨a, ha⟩ ho h _ _ w (fun i hi => by
        unfold outf; rw [if_pos (by rw [hi]; exact Nat.lt_succ_self a), hw]
        unfold OUT
        rw [show (0 + 1 - (i 0).val) / 2 = 0 by omega, hi]
        rfl) (fun i hi => by
        unfold outf
        have hne : (i 0).val ≠ a := fun h' => hi (Fin.ext h')
        by_cases hl : (i 0).val < a
        · rw [if_pos hl, if_pos (by omega)]
        · rw [if_neg hl, if_neg (by omega)]))) $$ [HC Hg]
  · isplitl [HC] <;> iassumption
  iapply (wpc_wand (fun _ => outp c (outf V c (a + 1) g))) $$ Hw
  iintro %x Hg
  iexists g; iexact Hg
theorem out_done : OutSt V c 2 ⊢ outp c (OUT V c 0) := by
  unfold OutSt
  iintro ⟨%g, Hg⟩
  iapply (Entails.of_eq (congrArg (outp c) (show outf V c 2 g = OUT V c 0 from funext fun i => if_pos (i 0).isLt))) $$ Hg
end Att

end Cert.KernelIdeal.Pf
-- ==== Proof.KiAp.lean ====
/-
The attention, part by part.
-/
module

public import proofs.«01_k».proof.Proof.KiAo
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Att
variable (V : Ins F) (K : Dev nD × CK → ℕ) (c : Dev nD)

theorem part216 : iprop(ctx V K ∗ Att V c 0) ⊢ wpc c (args (k0_part216 (F := F)) (qv V c) ((k0_pay56 (rd0 V c 0 0 0)))) fun a => iprop(⌜a = (k0_pay57 (qv V c) ((k0_pay56 (rd0 V c 0 0 0))) (rd0 V c 1 0 0) (rd1 V c 0 0 0) (rd1 V c 1 0 0))⌝ ∗ Att V c 0) := by
  rw [k0_part216_eq_skeleton]; unfold args k0_part216_skel
  refine stepv (at_load V c _) ?_
  refine stepv (at_load V c _) ?_
  refine stepv (at_load V c _) ?_
  refine ret_of ?_
  iintro ⟨-, H⟩
  isplitr; · (ipureintro; rfl)
  iexact H

theorem part217 : iprop(ctx V K ∗ Att V c 0) ⊢ wpc c (args (k0_part217 (F := F)) (qv V c)) fun a => iprop(⌜a = ⟨k0_pay58 (qv V c) (rd0 V c 0 0 1) (rd0 V c 1 0 1), k0_pay59 (rd1 V c 1 0 1), k0_pay60 (qv V c) (rd1 V c 0 0 1)⟩⌝ ∗ Att V c 0) := by
  rw [k0_part217_eq_skeleton]; unfold args k0_part217_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part218 : iprop(ctx V K ∗ Att V c 0) ⊢ wpc c (args (k0_part218 (F := F)) (qv V c) (k0_pay58 (qv V c) (rd0 V c 0 0 1) (rd0 V c 1 0 1)) (k0_pay59 (rd1 V c 1 0 1)) (k0_pay60 (qv V c) (rd1 V c 0 0 1))) fun a => iprop(⌜a = ⟨k0_pay61 (k0_pay58 (qv V c) (rd0 V c 0 0 1) (rd0 V c 1 0 1)) (k0_pay59 (rd1 V c 1 0 1)) (k0_pay60 (qv V c) (rd1 V c 0 0 1)), k0_pay62 (qv V c) (rd0 V c 0 0 2) (rd0 V c 1 0 2), k0_pay63 (rd1 V c 1 0 2), k0_pay64 (qv V c) (rd1 V c 0 0 2)⟩⌝ ∗ Att V c 0) := by
  rw [k0_part218_eq_skeleton]; unfold args k0_part218_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part219 : iprop(ctx V K ∗ Att V c 0) ⊢ wpc c (args (k0_part219 (F := F)) (qv V c) (k0_pay62 (qv V c) (rd0 V c 0 0 2) (rd0 V c 1 0 2)) (k0_pay63 (rd1 V c 1 0 2)) (k0_pay64 (qv V c) (rd1 V c 0 0 2))) fun a => iprop(⌜a = ⟨k0_pay65 (k0_pay62 (qv V c) (rd0 V c 0 0 2) (rd0 V c 1 0 2)) (k0_pay63 (rd1 V c 1 0 2)) (k0_pay64 (qv V c) (rd1 V c 0 0 2)), k0_pay66 (qv V c) (rd0 V c 0 0 3) (rd0 V c 1 0 3), k0_pay67 (rd1 V c 1 0 3), k0_pay68 (qv V c) (rd1 V c 0 0 3)⟩⌝ ∗ Att V c 0) := by
  rw [k0_part219_eq_skeleton]; unfold args k0_part219_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part220 : iprop(ctx V K ∗ Att V c 0) ⊢ wpc c (args (k0_part220 (F := F)) (qv V c) ((k0_pay57 (qv V c) ((k0_pay56 (rd0 V c 0 0 0))) (rd0 V c 1 0 0) (rd1 V c 0 0 0) (rd1 V c 1 0 0))) (k0_pay61 (k0_pay58 (qv V c) (rd0 V c 0 0 1) (rd0 V c 1 0 1)) (k0_pay59 (rd1 V c 1 0 1)) (k0_pay60 (qv V c) (rd1 V c 0 0 1))) (k0_pay65 (k0_pay62 (qv V c) (rd0 V c 0 0 2) (rd0 V c 1 0 2)) (k0_pay63 (rd1 V c 1 0 2)) (k0_pay64 (qv V c) (rd1 V c 0 0 2))) (k0_pay66 (qv V c) (rd0 V c 0 0 3) (rd0 V c 1 0 3)) (k0_pay67 (rd1 V c 1 0 3)) (k0_pay68 (qv V c) (rd1 V c 0 0 3))) fun a => iprop(⌜a = ⟨k0_pay70 (rd0 V c 1 1 0), k0_pay71 (qv V c) (rd0 V c 0 1 0), (constant S64x64 .f32 0x00000000#32)⟩⌝ ∗ Att V c 1) := by
  rw [k0_part220_eq_skeleton]; unfold args k0_part220_skel
  refine stepv (at_wo V c _) ?_
  refine step (at_dead V c _) fun _ => ?_
  refine step (at_store V c _ (by decide) rfl rfl) fun _ => ?_
  refine stepv (at_load V c _) ?_
  refine stepv (at_load V c _) ?_
  refine ret_of ?_
  iintro ⟨-, H⟩
  isplitr; · (ipureintro; rfl)
  iexact H

theorem part221 : iprop(ctx V K ∗ Att V c 1) ⊢ wpc c (args (k0_part221 (F := F)) (qv V c) (k0_pay70 (rd0 V c 1 1 0)) (k0_pay71 (qv V c) (rd0 V c 0 1 0)) ((constant S64x64 .f32 0x00000000#32))) fun a => iprop(⌜a = ⟨k0_pay72 (qv V c) (k0_pay70 (rd0 V c 1 1 0)) (k0_pay71 (qv V c) (rd0 V c 0 1 0)) ((constant S64x64 .f32 0x00000000#32)) (rd1 V c 0 1 0) (rd1 V c 1 1 0), k0_pay73 (rd0 V c 1 1 1), k0_pay74 (qv V c) (rd0 V c 0 1 1), k0_pay75 (qv V c) (rd0 V c 0 1 1)⟩⌝ ∗ Att V c 1) := by
  rw [k0_part221_eq_skeleton]; unfold args k0_part221_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part222 : iprop(ctx V K ∗ Att V c 1) ⊢ wpc c (args (k0_part222 (F := F)) (qv V c) (k0_pay73 (rd0 V c 1 1 1)) (k0_pay74 (qv V c) (rd0 V c 0 1 1)) (k0_pay75 (qv V c) (rd0 V c 0 1 1))) fun a => iprop(⌜a = ⟨k0_pay76 (qv V c) (k0_pay73 (rd0 V c 1 1 1)) (k0_pay74 (qv V c) (rd0 V c 0 1 1)) (k0_pay75 (qv V c) (rd0 V c 0 1 1)) (rd1 V c 0 1 1) (rd1 V c 1 1 1), k0_pay77 (rd0 V c 1 1 2), k0_pay78 (qv V c) (rd0 V c 0 1 2), k0_pay79 (qv V c) (rd0 V c 0 1 2)⟩⌝ ∗ Att V c 1) := by
  rw [k0_part222_eq_skeleton]; unfold args k0_part222_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part223 : iprop(ctx V K ∗ Att V c 1) ⊢ wpc c (args (k0_part223 (F := F)) (qv V c) (k0_pay77 (rd0 V c 1 1 2)) (k0_pay78 (qv V c) (rd0 V c 0 1 2)) (k0_pay79 (qv V c) (rd0 V c 0 1 2))) fun a => iprop(⌜a = ⟨k0_pay80 (qv V c) (k0_pay77 (rd0 V c 1 1 2)) (k0_pay78 (qv V c) (rd0 V c 0 1 2)) (k0_pay79 (qv V c) (rd0 V c 0 1 2)) (rd1 V c 0 1 2) (rd1 V c 1 1 2), k0_pay81 (rd0 V c 1 1 3), k0_pay82 (qv V c) (rd0 V c 0 1 3), (Scalar.ofBits .f32 0x3E000000#32)⟩⌝ ∗ Att V c 1) := by
  rw [k0_part223_eq_skeleton]; unfold args k0_part223_skel
  refine stepv (at_load V c _) ?_
  refine stepv (at_load V c _) ?_
  refine stepv (at_load V c _) ?_
  refine stepv (at_load V c _) ?_
  refine ret_of ?_
  iintro ⟨-, H⟩
  isplitr; · (ipureintro; rfl)
  iexact H

theorem part224 : iprop(ctx V K ∗ Att V c 1) ⊢ wpc c (args (k0_part224 (F := F)) (qv V c) (k0_pay72 (qv V c) (k0_pay70 (rd0 V c 1 1 0)) (k0_pay71 (qv V c) (rd0 V c 0 1 0)) ((constant S64x64 .f32 0x00000000#32)) (rd1 V c 0 1 0) (rd1 V c 1 1 0)) (k0_pay76 (qv V c) (k0_pay73 (rd0 V c 1 1 1)) (k0_pay74 (qv V c) (rd0 V c 0 1 1)) (k0_pay75 (qv V c) (rd0 V c 0 1 1)) (rd1 V c 0 1 1) (rd1 V c 1 1 1)) (k0_pay80 (qv V c) (k0_pay77 (rd0 V c 1 1 2)) (k0_pay78 (qv V c) (rd0 V c 0 1 2)) (k0_pay79 (qv V c) (rd0 V c 0 1 2)) (rd1 V c 0 1 2) (rd1 V c 1 1 2)) (k0_pay81 (rd0 V c 1 1 3)) (k0_pay82 (qv V c) (rd0 V c 0 1 3)) ((Scalar.ofBits .f32 0x3E000000#32))) fun a => iprop(⌜a = (k0_pay83 (qv V c) (k0_pay72 (qv V c) (k0_pay70 (rd0 V c 1 1 0)) (k0_pay71 (qv V c) (rd0 V c 0 1 0)) ((constant S64x64 .f32 0x00000000#32)) (rd1 V c 0 1 0) (rd1 V c 1 1 0)) (k0_pay76 (qv V c) (k0_pay73 (rd0 V c 1 1 1)) (k0_pay74 (qv V c) (rd0 V c 0 1 1)) (k0_pay75 (qv V c) (rd0 V c 0 1 1)) (rd1 V c 0 1 1) (rd1 V c 1 1 1)) (k0_pay80 (qv V c) (k0_pay77 (rd0 V c 1 1 2)) (k0_pay78 (qv V c) (rd0 V c 0 1 2)) (k0_pay79 (qv V c) (rd0 V c 0 1 2)) (rd1 V c 0 1 2) (rd1 V c 1 1 2)) (k0_pay81 (rd0 V c 1 1 3)) (k0_pay82 (qv V c) (rd0 V c 0 1 3)) ((Scalar.ofBits .f32 0x3E000000#32)) (rd1 V c 0 1 3) (rd1 V c 1 1 3) (V.wo c))⌝ ∗ Att V c 1) := by
  rw [k0_part224_eq_skeleton]; unfold args k0_part224_skel
  refine stepv (at_load V c _) ?_
  refine stepv (at_load V c _) ?_
  refine stepv (at_wo V c _) ?_
  refine ret_of ?_
  iintro ⟨-, H⟩
  isplitr; · (ipureintro; rfl)
  iexact H

/-- What is held back for the second half of the output. -/
abbrev yv : FVec F S128x512 .f32 := ((k0_pay83 (qv V c) (k0_pay72 (qv V c) (k0_pay70 (rd0 V c 1 1 0)) (k0_pay71 (qv V c) (rd0 V c 0 1 0)) ((constant S64x64 .f32 0x00000000#32)) (rd1 V c 0 1 0) (rd1 V c 1 1 0)) (k0_pay76 (qv V c) (k0_pay73 (rd0 V c 1 1 1)) (k0_pay74 (qv V c) (rd0 V c 0 1 1)) (k0_pay75 (qv V c) (rd0 V c 0 1 1)) (rd1 V c 0 1 1) (rd1 V c 1 1 1)) (k0_pay80 (qv V c) (k0_pay77 (rd0 V c 1 1 2)) (k0_pay78 (qv V c) (rd0 V c 0 1 2)) (k0_pay79 (qv V c) (rd0 V c 0 1 2)) (rd1 V c 0 1 2) (rd1 V c 1 1 2)) (k0_pay81 (rd0 V c 1 1 3)) (k0_pay82 (qv V c) (rd0 V c 0 1 3)) ((Scalar.ofBits .f32 0x3E000000#32)) (rd1 V c 0 1 3) (rd1 V c 1 1 3) (V.wo c)))
theorem yv_eq : k0_pay84 (yv V c) = att V c 1 := rfl
end Att

end Cert.KernelIdeal.Pf
-- ==== Proof.KiAr.lean ====
/-
The ten exchanges of partial outputs: what is held between them, and each kind of step.
-/
module

public import proofs.«01_k».proof.Proof.KiAo
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ar
variable (V : Ins F) (K : Dev nD × CK → ℕ) (c : Dev nD)

/-! ## Where the slots lie -/

theorem slot_emb (s : Fin 10) {o : Fin 4 → ℕ} (ho : o = ![s.val / 2, s.val % 2, 0, 0]) (h : ∀ a, o a + S1x1x128x512.size a ≤ S5x2x128x512.size a) (j : S1x1x128x512.Idx) :
    slotOf ((Rect.unit (s := S5x2x128x512) o S1x1x128x512.size h).emb j) = s ∧ slotIdx ((Rect.unit (s := S5x2x128x512) o S1x1x128x512.size h).emb j) = j := by
  have hv (a : Fin 4) : ((Rect.unit (s := S5x2x128x512) o S1x1x128x512.size h).emb j a : ℕ) = o a + 1 * (j a).val := Rect.emb_apply (Rect.unit (s := S5x2x128x512) o S1x1x128x512.size h) j a
  have j0 : (j 0).val < 1 := (j 0).isLt
  have j1 : (j 1).val < 1 := (j 1).isLt
  have q0 := hv 0; have q1 := hv 1; have q2 := hv 2; have q3 := hv 3
  rw [congrFun ho 0] at q0; rw [congrFun ho 1] at q1; rw [congrFun ho 2] at q2; rw [congrFun ho 3] at q3
  change _ = s.val / 2 + _ at q0
  change _ = s.val % 2 + _ at q1
  change _ = 0 + _ at q2
  change _ = 0 + _ at q3
  refine ⟨Fin.ext ?_, funext fun a => Fin.ext ?_⟩
  · show 2 * ((Rect.unit (s := S5x2x128x512) o S1x1x128x512.size h).emb j 0 : ℕ) + ((Rect.unit (s := S5x2x128x512) o S1x1x128x512.size h).emb j 1 : ℕ) = s.val
    rw [q0, q1]; omega
  unfold slotIdx
  fin_cases a
  · show 0 = (j 0).val; omega
  · show 0 = (j 1).val; omega
  · show ((Rect.unit (s := S5x2x128x512) o S1x1x128x512.size h).emb j 2 : ℕ) = (j 2).val; omega
  · show ((Rect.unit (s := S5x2x128x512) o S1x1x128x512.size h).emb j 3 : ℕ) = (j 3).val; omega

/-! ## What is held between the exchanges -/

/-- What one exchange needs besides its filled slot. -/
def Lk (s : Fin 10) : sProp 𝕄 := iprop((∃ f, rbp (xp c s) (slotSet s) f) ∗ dutyTok ER (kcell c (kas s)) 0 0 ∗ dutyTok ER (kcell (xp c s) (kar s)) 0 0)
/-- One send slot: free, filled, or under way. -/
def SLs (st sn : ℕ) (s : Fin 10) : sProp 𝕄 :=
  if s.val < sn then cred (tallyAt (kcell c (kas s)) () NA)
  else if s.val < st then iprop(sbp c (slotSet s) (SBf V c) ∗ Lk c s) else iprop((∃ f, sbp c (slotSet s) f) ∗ Lk c s)
/-- The send slots with `st` filled and `sn` sent. -/
def SL (st sn : ℕ) : sProp 𝕄 := bigSep Finset.univ fun s : Fin 10 => SLs V c st sn s
def RWt (s : Fin 10) : sProp 𝕄 := iprop(cred (tallyAt (kcell c (kar s)) () NA) ∗ atPos ER (kcell c (kar s)) 0 ∅ 0)
def RWd (s : Fin 10) : sProp 𝕄 := iprop(semVal (kcell c (kar s)) 0 ∗ rbp c (slotSet s) (RBf V c))
/-- The landing slots, `w` of them landed. -/
def RW (w : ℕ) : sProp 𝕄 := prog w (RWt c) (RWd V c)
/-- Between the exchanges: `st` slots filled, `sn` sent, `w` landed, `ad` added to the output. -/
def Ar (st sn w ad : ℕ) : sProp 𝕄 := iprop(Ow c (Ow3 c 31 31 sn) ∗ (outp c (OUT V c ad) ∗ (SL V c st sn ∗ RW V c w)))

/-! ## The steps -/

theorem ar_dead {st sn w ad : ℕ} {C : sProp 𝕄} {r : LoadRect S2x128x512} {hl : M4.view.LoadsAt r} :
    iprop(C ∗ Ar V c st sn w ad) ⊢ wpc c (Prog.lift (.load M4 r hl)) fun _ => Ar V c st sn w ad :=
  conseq (framedvl (framedv (load_op c (C := C) (m := M4) (r := r) (hl := hl) (S := Finset.univ) (f := OUT V c ad) (Finset.subset_univ _)))) .rfl fun x => by
    iintro ⟨-, H⟩
    unfold Ar
    iexact H

theorem ar_out (t : Fin 10) {st sn w ad : ℕ} (had : (ad + 1 - t.val % 2) / 2 = t.val / 2) {C : sProp 𝕄} {o : Fin 3 → ℕ} (ho : o = ![t.val % 2, 0, 0]) {h : ∀ a, o a + S1x128x512.size a ≤ S2x128x512.size a}
    {hl : M4.view.LoadsAt (Rect.unit (s := S2x128x512) o S1x128x512.size h).toLoadRect} :
    iprop(C ∗ Ar V c st sn w ad) ⊢ wpc c (Prog.lift (.load M4 (Rect.unit (s := S2x128x512) o S1x128x512.size h).toLoadRect hl)) fun x =>
      iprop(⌜x = ov V (t.val / 2) c (half t)⌝ ∗ Ar V c st sn w ad) := by
  have hr : M4.view.readAt (Elt F) (Rect.unit (s := S2x128x512) o S1x128x512.size h).toLoadRect (OUT V c ad) = ov V (t.val / 2) c (half t) := funext fun j => by
    obtain ⟨e1, e2⟩ := out_emb (half t) (ho.trans rfl) h j
    show ov V ((ad + 1 - ((Rect.unit (s := S2x128x512) o S1x128x512.size h).emb j 0).val) / 2) c ((Rect.unit (s := S2x128x512) o S1x128x512.size h).emb j 0) (outIdx ((Rect.unit (s := S2x128x512) o S1x128x512.size h).emb j)) = _
    refine (congrArg₂ (fun (b' : Fin 2) (j' : S1x128x512.Idx) => ov V ((ad + 1 - b'.val) / 2) c b' j') e1 e2).trans ?_
    show ov V ((ad + 1 - t.val % 2) / 2) c (half t) j = _
    rw [had]
  have t' := framedvl (Fr := Ow c (Ow3 c 31 31 sn)) (framedv (Fr := iprop(SL V c st sn ∗ RW V c w)) (load_op c (C := C) (m := M4) (r := (Rect.unit (s := S2x128x512) o S1x128x512.size h).toLoadRect) (hl := hl) (S := Finset.univ) (f := OUT V c ad) (Finset.subset_univ _)))
  rw [hr] at t'
  exact t'

theorem ar_outw (s : Fin 10) {st sn w : ℕ} {C : sProp 𝕄} {o : Fin 3 → ℕ} (ho : o = ![s.val % 2, 0, 0]) {h : ∀ a, o a + S1x128x512.size a ≤ S2x128x512.size a}
    {hx : (M4.access (Rect.unit (s := S2x128x512) o S1x128x512.size h)).Stores Finset.univ}
    {hu : (Finset.univ : Finset (Rect.unit (s := S2x128x512) o S1x128x512.size h).shape.Idx) = Finset.univ ∨ ∀ a, (Rect.unit (s := S2x128x512) o S1x128x512.size h).stride a = 1}
    {x : S1x128x512.Idx → Elt F .f32} (hw : x = ov V (s.val / 2 + 1) c (half s)) :
    iprop(C ∗ Ar V c st sn w s.val) ⊢ wpc c (Prog.lift (.store M4 (Rect.unit (s := S2x128x512) o S1x128x512.size h) x Finset.univ hx hu)) fun _ => Ar V c st sn w (s.val + 1) :=
  framedl (framed (store_op c (C := C) (m := M4) (r := Rect.unit (s := S2x128x512) o S1x128x512.size h) (w := x) (hx := hx) (hm := hu) (S := Finset.univ) (f := OUT V c s.val) (g := OUT V c (s.val + 1)) (Finset.subset_univ _)
      (out_write (half s) (ho.trans rfl) h _ _ x (fun i hi => by
        unfold OUT; rw [hi, hw]
        show ov V (s.val / 2 + 1) c (half s) (outIdx i) = ov V ((s.val + 1 + 1 - s.val % 2) / 2) c (half s) (outIdx i)
        rw [show (s.val + 1 + 1 - s.val % 2) / 2 = s.val / 2 + 1 by omega]) (fun i hi => by
        unfold OUT
        have hne : ¬ ((i 0).val = s.val % 2) := fun h' => hi (Fin.ext h')
        have h2 : (i 0).val < 2 := (i 0).isLt
        rw [show (s.val + 1 + 1 - (i 0).val) / 2 = (s.val + 1 - (i 0).val) / 2 by omega]))))

theorem sl_same (t : Fin 10) {st sn st' sn' : ℕ} (h : ∀ j : Fin 10, j ≠ t → SLs V c st sn j = SLs V c st' sn' j) :
    SL V c st sn ⊢ iprop(SLs V c st sn t ∗ (SLs V c st' sn' t -∗ SL V c st' sn')) := bigSep_upd t h
theorem sls_free {st sn : ℕ} (t : Fin 10) (h1 : st ≤ t.val) (h2 : sn ≤ t.val) : SLs V c st sn t = iprop((∃ f, sbp c (slotSet t) f) ∗ Lk c t) := by
  unfold SLs; rw [if_neg (by omega), if_neg (by omega)]
theorem sls_full {st sn : ℕ} (t : Fin 10) (h1 : t.val < st) (h2 : sn ≤ t.val) : SLs V c st sn t = iprop(sbp c (slotSet t) (SBf V c) ∗ Lk c t) := by
  unfold SLs; rw [if_neg (by omega), if_pos h1]
theorem sls_sent {st sn : ℕ} (t : Fin 10) (h2 : t.val < sn) : SLs V c st sn t = cred (tallyAt (kcell c (kas t)) () NA) := by
  unfold SLs; rw [if_pos h2]

theorem sb_set (t : Fin 10) {o : Fin 4 → ℕ} (ho : o = ![t.val / 2, t.val % 2, 0, 0]) {h : ∀ a, o a + S1x1x128x512.size a ≤ S5x2x128x512.size a} :
    M7.view.setOn (Rect.unit (s := S5x2x128x512) o S1x1x128x512.size h).toLoadRect.set ⊆ slotSet t :=
  subset_of_eq ((Finset.map_refl).trans (set_slot t o ho h))
theorem rb_set (t : Fin 10) {o : Fin 4 → ℕ} (ho : o = ![t.val / 2, t.val % 2, 0, 0]) {h : ∀ a, o a + S1x1x128x512.size a ≤ S5x2x128x512.size a} :
    M8.view.setOn (Rect.unit (s := S5x2x128x512) o S1x1x128x512.size h).toLoadRect.set ⊆ slotSet t :=
  subset_of_eq ((Finset.map_refl).trans (set_slot t o ho h))

theorem ar_sbd (t : Fin 10) {st sn w ad : ℕ} (h1 : st ≤ t.val) (h2 : sn ≤ t.val) {C : sProp 𝕄} {o : Fin 4 → ℕ} (ho : o = ![t.val / 2, t.val % 2, 0, 0]) {h : ∀ a, o a + S1x1x128x512.size a ≤ S5x2x128x512.size a}
    {hl : M7.view.LoadsAt (Rect.unit (s := S5x2x128x512) o S1x1x128x512.size h).toLoadRect} :
    iprop(C ∗ Ar V c st sn w ad) ⊢ wpc c (Prog.lift (.load M7 (Rect.unit (s := S5x2x128x512) o S1x1x128x512.size h).toLoadRect hl)) fun _ => Ar V c st sn w ad := by
  refine framedl (framedl (framed ?_))
  iintro ⟨HC, Hs⟩
  ihave Hs := (sl_same V c t (fun j _ => rfl)) $$ Hs
  icases Hs with ⟨Ht, Hk⟩
  ihave Ht := (Entails.of_eq (sls_free V c t h1 h2)) $$ Ht
  icases Ht with ⟨⟨%f, Hf⟩, HL⟩
  ihave Hw := (load_op c (C := C) (m := M7) (r := (Rect.unit (s := S5x2x128x512) o S1x1x128x512.size h).toLoadRect) (hl := hl) (S := slotSet t) (f := f) (sb_set t ho)) $$ [HC Hf]
  · isplitl [HC] <;> iassumption
  iapply (wpc_wand (fun x => iprop(⌜x = M7.view.readAt (Elt F) (Rect.unit (s := S5x2x128x512) o S1x1x128x512.size h).toLoadRect f⌝ ∗ sbp c (slotSet t) f))) $$ Hw
  iintro %x ⟨-, Hf⟩
  iapply Hk
  iapply (Entails.of_eq (sls_free V c t h1 h2).symm)
  isplitl [Hf]
  · iexists f; iexact Hf
  iexact HL

theorem ar_sbw (t : Fin 10) {sn w ad : ℕ} (h2 : sn ≤ t.val) {C : sProp 𝕄} {o : Fin 4 → ℕ} (ho : o = ![t.val / 2, t.val % 2, 0, 0]) {h : ∀ a, o a + S1x1x128x512.size a ≤ S5x2x128x512.size a}
    {hx : (M7.access (Rect.unit (s := S5x2x128x512) o S1x1x128x512.size h)).Stores Finset.univ}
    {hu : (Finset.univ : Finset (Rect.unit (s := S5x2x128x512) o S1x1x128x512.size h).shape.Idx) = Finset.univ ∨ ∀ a, (Rect.unit (s := S5x2x128x512) o S1x1x128x512.size h).stride a = 1}
    {x : S1x1x128x512.Idx → Elt F .bf16} (hw : x = SV V c t) :
    iprop(C ∗ Ar V c t.val sn w ad) ⊢ wpc c (Prog.lift (.store M7 (Rect.unit (s := S5x2x128x512) o S1x1x128x512.size h) x Finset.univ hx hu)) fun _ => Ar V c (t.val + 1) sn w ad := by
  have hset := set_slot t o ho h
  refine framedl (framedl (framed ?_))
  iintro ⟨HC, Hs⟩
  ihave Hs := (sl_same V c (st' := t.val + 1) (sn' := sn) t (fun j hj => by
    have hne : ¬ (j.val = t.val) := fun h' => hj (Fin.ext h')
    unfold SLs
    by_cases ha : j.val < t.val
    · rw [if_pos ha, if_pos (show j.val < t.val + 1 by omega)]
    · rw [if_neg ha, if_neg (show ¬ j.val < t.val + 1 by omega)])) $$ Hs
  icases Hs with ⟨Ht, Hk⟩
  ihave Ht := (Entails.of_eq (sls_free V c t (le_refl _) h2)) $$ Ht
  icases Ht with ⟨⟨%f, Hf⟩, HL⟩
  ihave Hw := (store_op c (C := C) (m := M7) (r := Rect.unit (s := S5x2x128x512) o S1x1x128x512.size h) (w := x) (hx := hx) (hm := hu) (S := slotSet t) (f := f) (g := SBf V c)
    (subset_of_eq ((View.set_slice_whole _ _).trans hset)) (fun i hi => by
      rw [← hset, ← Rect.map_emb_univ, Finset.mem_map] at hi
      obtain ⟨j, -, rfl⟩ := hi
      refine (View.write_emb_of_mem (v := M7.access (Rect.unit (s := S5x2x128x512) o S1x1x128x512.size h)) _ _ (Finset.mem_univ j)).trans ?_
      obtain ⟨e1, e2⟩ := slot_emb t ho h j
      refine Eq.trans ?_ (congrArg₂ (fun (s' : Fin 10) (j' : S1x1x128x512.Idx) => SV V c s' j') e1 e2).symm
      rw [hw]; rfl)) $$ [HC Hf]
  · isplitl [HC] <;> iassumption
  iapply (wpc_wand (fun _ => sbp c (slotSet t) (SBf V c))) $$ Hw
  iintro %x Hf
  iapply Hk
  iapply (Entails.of_eq (sls_full V c t (Nat.lt_succ_self _) h2).symm)
  isplitl [Hf] <;> iassumption

theorem ar_rb (s : Fin 10) {st sn w ad : ℕ} (hlt : s.val < w) {C : sProp 𝕄} {o : Fin 4 → ℕ} (ho : o = ![s.val / 2, s.val % 2, 0, 0]) {h : ∀ a, o a + S1x1x128x512.size a ≤ S5x2x128x512.size a}
    {hl : M8.view.LoadsAt (Rect.unit (s := S5x2x128x512) o S1x1x128x512.size h).toLoadRect} :
    iprop(C ∗ Ar V c st sn w ad) ⊢ wpc c (Prog.lift (.load M8 (Rect.unit (s := S5x2x128x512) o S1x1x128x512.size h).toLoadRect hl)) fun x =>
      iprop(⌜x = SV V (xp c s) s⌝ ∗ Ar V c st sn w ad) := by
  have hr : M8.view.readAt (Elt F) (Rect.unit (s := S5x2x128x512) o S1x1x128x512.size h).toLoadRect (RBf V c) = SV V (xp c s) s := funext fun j => by
    obtain ⟨e1, e2⟩ := slot_emb s ho h j
    exact congrArg₂ (fun (s' : Fin 10) (j' : S1x1x128x512.Idx) => SV V (xp c s') s' j') e1 e2
  refine framedvl (framedvl (framedvl ?_))
  unfold RW prog
  iintro ⟨HC, Hs⟩
  ihave Hs := (bigSep_upd s (Φ := fun j : Fin 10 => if j.val < w then RWd V c j else RWt c j) (Ψ := fun j : Fin 10 => if j.val < w then RWd V c j else RWt c j) (fun j _ => rfl)) $$ Hs
  icases Hs with ⟨Ht, Hk⟩
  ihave Ht := (Entails.of_eq (if_pos hlt)) $$ Ht
  unfold RWd
  icases Ht with ⟨Hz, Hf⟩
  ihave Hw := (load_op c (C := C) (m := M8) (r := (Rect.unit (s := S5x2x128x512) o S1x1x128x512.size h).toLoadRect) (hl := hl) (S := slotSet s) (f := RBf V c) (rb_set s ho)) $$ [HC Hf]
  · isplitl [HC] <;> iassumption
  iapply (wpc_wand (fun x => iprop(⌜x = M8.view.readAt (Elt F) (Rect.unit (s := S5x2x128x512) o S1x1x128x512.size h).toLoadRect (RBf V c)⌝ ∗ rbp c (slotSet s) (RBf V c)))) $$ Hw
  iintro %x ⟨%hx, Hf⟩
  isplitr
  · ipureintro; exact hx.trans hr
  iapply Hk
  iapply (Entails.of_eq (if_pos hlt).symm)
  isplitl [Hz] <;> iassumption

theorem ar_wait (s : Fin 10) {st sn ad : ℕ} (hlt : s.val < sn) {sm : DmaSem sig} (hs : SemLoc.dma sm = csem (kar s)) {o : Fin 4 → ℕ} {h : ∀ a, o a + S1x1x128x512.size a ≤ S5x2x128x512.size a}
    {hst : ∀ a, (Rect.unit (s := S5x2x128x512) o S1x1x128x512.size h).stride a = 1}
    {s1 : Shape} {e1 : EltTy} {src : Memref sig .tc .vmem s1 e1} {h1 : src.view.WordExact} {h2 : ((M8.slice (Rect.unit (s := S5x2x128x512) o S1x1x128x512.size h) hst).squeeze S128x512 squeezes_S1x1x128x512_S128x512).view.WordExact} :
    iprop(ctx V K ∗ Ar V c st sn s.val ad)
      ⊢ wpc c (Prog.lift (.waitDma2 sm src ((M8.slice (Rect.unit (s := S5x2x128x512) o S1x1x128x512.size h) hst).squeeze S128x512 squeezes_S1x1x128x512_S128x512) h1 h2)) fun _ => Ar V c st sn (s.val + 1) ad := by
  unfold Ar RW
  iintro ⟨#HC, Ho, Hout, Hsl, Hp⟩
  ihave Hp := (prog_step s.val s.isLt _ _) $$ Hp
  unfold RWt
  icases Hp with ⟨⟨Hc, Ha⟩, Hk⟩
  ihave Hw := (wait_op V K c (kar s) (Ow3 c 31 31 sn) (ar_ok c sn s.val hlt) hs (show _ = tot c (kar s) from rfl) (wpE_waitDma2_eq 𝒱₀ (c : Thread nD τ) none Set.univ)
    (w := .waitDma2 sm src ((M8.slice (Rect.unit (s := S5x2x128x512) o S1x1x128x512.size h) hst).squeeze S128x512 squeezes_S1x1x128x512_S128x512) h1 h2)) $$ [Ho Hc Ha]
  · isplitr; · iexact HC
    isplitl [Ho]; · iexact Ho
    isplitl [Hc]; · iexact Hc
    iexact Ha
  iapply (wpc_wand (fun _ => iprop(Ow c (Ow3 c 31 31 sn) ∗ semVal (kcell c (kar s)) 0 ∗ rest V c (kar s)))) $$ Hw
  iintro %a ⟨Ho, Hz, Hr⟩
  isplitl [Ho]; · iexact Ho
  isplitl [Hout]; · iexact Hout
  isplitl [Hsl]; · iexact Hsl
  iapply Hk
  unfold RWd
  isplitl [Hz]; · iexact Hz
  iapply (Entails.of_eq (show rest V c (kar s) = rbp c (slotSet s) (RBf V c) from rfl)); iexact Hr

theorem ar_send (t : Fin 10) {st w ad : ℕ} (hlt : t.val < st) {o : Fin 4 → ℕ} (ho : o = ![t.val / 2, t.val % 2, 0, 0])
    {hS hD : ∀ a, o a + S1x1x128x512.size a ≤ S5x2x128x512.size a}
    {n : ℕ} {h : n < nD} (hn : n = (xp c t).val) {sS rS : SemLoc sig} (hsS : sS = csem (kas t)) (hrS : rS = csem (kar t))
    {hst1 : ∀ a, (Rect.unit (s := S5x2x128x512) o S1x1x128x512.size hS).stride a = 1} {hst2 : ∀ a, (Rect.unit (s := S5x2x128x512) o S1x1x128x512.size hD).stride a = 1}
    {hsc : ((M8.slice (Rect.unit (s := S5x2x128x512) o S1x1x128x512.size hD) hst2).squeeze S128x512 squeezes_S1x1x128x512_S128x512).view.ref.isScScratch = false}
    {hsrc : ((M7.slice (Rect.unit (s := S5x2x128x512) o S1x1x128x512.size hS) hst1).squeeze S128x512 squeezes_S1x1x128x512_S128x512).view.WordExact}
    {hdst : ((M8.slice (Rect.unit (s := S5x2x128x512) o S1x1x128x512.size hD) hst2).squeeze S128x512 squeezes_S1x1x128x512_S128x512).view.WordExact}
    {hsem : DmaTarget.Typed .vmem rS (.remote (Dev.tc (⟨n, h⟩ : Dev nD) : Thread nD τ) ((M8.slice (Rect.unit (s := S5x2x128x512) o S1x1x128x512.size hD) hst2).squeeze S128x512 squeezes_S1x1x128x512_S128x512) sS hsc)} :
    iprop(ctx V K ∗ Ar V c st t.val w ad)
      ⊢ wpc c (Prog.lift (.enqueueDma ((M7.slice (Rect.unit (s := S5x2x128x512) o S1x1x128x512.size hS) hst1).squeeze S128x512 squeezes_S1x1x128x512_S128x512)
          (.remote (Dev.tc (⟨n, h⟩ : Dev nD) : Thread nD τ) ((M8.slice (Rect.unit (s := S5x2x128x512) o S1x1x128x512.size hD) hst2).squeeze S128x512 squeezes_S1x1x128x512_S128x512) sS hsc) rS hsrc hdst hsem))
        fun _ => Ar V c st (t.val + 1) w ad := by
  have hset := set_slot t o ho hS
  have hsetD : ((M8.slice (Rect.unit (s := S5x2x128x512) o S1x1x128x512.size hD) hst2).squeeze S128x512 squeezes_S1x1x128x512_S128x512).view.set = slotSet t :=
    (Memref.set_view_squeeze _ _).trans ((View.set_slice_whole _ _).trans hset)
  have hsetS : ((M7.slice (Rect.unit (s := S5x2x128x512) o S1x1x128x512.size hS) hst1).squeeze S128x512 squeezes_S1x1x128x512_S128x512).view.set = slotSet t :=
    (Memref.set_view_squeeze _ _).trans ((View.set_slice_whole _ _).trans hset)
  have hS' : sbp c (slotSet t) (SBf V c) = (((M7.slice (Rect.unit (s := S5x2x128x512) o S1x1x128x512.size hS) hst1).squeeze S128x512 squeezes_S1x1x128x512_S128x512).view.loc (c : Thread nD τ)
      ↦[((M7.slice (Rect.unit (s := S5x2x128x512) o S1x1x128x512.size hS) hst1).squeeze S128x512 squeezes_S1x1x128x512_S128x512).view.set]{fullShare} SBf V c) := by rw [hsetS]
  have hD' (p : Dev nD) (f : (cc0_scratch3 : Ref sig .tc).ty.Contents (Elt F)) : rbp p (slotSet t) f = (((M8.slice (Rect.unit (s := S5x2x128x512) o S1x1x128x512.size hD) hst2).squeeze S128x512 squeezes_S1x1x128x512_S128x512).view.loc (p : Thread nD τ)
      ↦[((M8.slice (Rect.unit (s := S5x2x128x512) o S1x1x128x512.size hD) hst2).squeeze S128x512 squeezes_S1x1x128x512_S128x512).view.set]{fullShare} f) := by rw [hsetD]
  have hpay (fd : (cc0_scratch3 : Ref sig .tc).ty.Contents (Elt F)) : (((M8.slice (Rect.unit (s := S5x2x128x512) o S1x1x128x512.size hD) hst2).squeeze S128x512 squeezes_S1x1x128x512_S128x512).view.loc (xp c t : Thread nD τ)
      ↦[((M8.slice (Rect.unit (s := S5x2x128x512) o S1x1x128x512.size hD) hst2).squeeze S128x512 squeezes_S1x1x128x512_S128x512).view.set]{fullShare} (((M8.slice (Rect.unit (s := S5x2x128x512) o S1x1x128x512.size hD) hst2).squeeze S128x512 squeezes_S1x1x128x512_S128x512).view.write (Elt F) fd
        (((M7.slice (Rect.unit (s := S5x2x128x512) o S1x1x128x512.size hS) hst1).squeeze S128x512 squeezes_S1x1x128x512_S128x512).view.read (Elt F) (SBf V c)) Finset.univ))
      ⊢ pay V (xp c t) 0 (kar t) := by
    show _ ⊢ rbp (xp c t) (slotSet t) (RBf V (xp c t))
    rw [hD' (xp c t) (RBf V (xp c t))]
    refine Entails.of_eq (pointsTo_congr fun i hi => ?_)
    have he : slotOf i = t := (mem_slotSet t i).mp (hsetD ▸ hi)
    unfold View.set at hi
    rw [Finset.mem_map] at hi
    obtain ⟨j, -, rfl⟩ := hi
    refine (View.write_emb_of_mem (v := ((M8.slice (Rect.unit (s := S5x2x128x512) o S1x1x128x512.size hD) hst2).squeeze S128x512 squeezes_S1x1x128x512_S128x512).view) _ _ (Finset.mem_univ j)).trans ?_
    show SV V c (slotOf (((M8.slice (Rect.unit (s := S5x2x128x512) o S1x1x128x512.size hD) hst2).squeeze S128x512 squeezes_S1x1x128x512_S128x512).view.emb j)) (slotIdx (((M8.slice (Rect.unit (s := S5x2x128x512) o S1x1x128x512.size hD) hst2).squeeze S128x512 squeezes_S1x1x128x512_S128x512).view.emb j))
      = SV V (xp (xp c t) (slotOf (((M8.slice (Rect.unit (s := S5x2x128x512) o S1x1x128x512.size hD) hst2).squeeze S128x512 squeezes_S1x1x128x512_S128x512).view.emb j))) (slotOf (((M8.slice (Rect.unit (s := S5x2x128x512) o S1x1x128x512.size hD) hst2).squeeze S128x512 squeezes_S1x1x128x512_S128x512).view.emb j)) (slotIdx (((M8.slice (Rect.unit (s := S5x2x128x512) o S1x1x128x512.size hD) hst2).squeeze S128x512 squeezes_S1x1x128x512_S128x512).view.emb j))
    rw [he, xp_xp]
  have T (fd : (cc0_scratch3 : Ref sig .tc).ty.Contents (Elt F)) := send_op V K c (xp c t) (kas t) (kar t) rfl rfl ⟨n, h⟩ (Fin.ext hn) hsS hrS
    (src := (M7.slice (Rect.unit (s := S5x2x128x512) o S1x1x128x512.size hS) hst1).squeeze S128x512 squeezes_S1x1x128x512_S128x512) (dst := (M8.slice (Rect.unit (s := S5x2x128x512) o S1x1x128x512.size hD) hst2).squeeze S128x512 squeezes_S1x1x128x512_S128x512)
    (hsc := hsc) (hsrc := hsrc) (hdst := hdst) (hsem := hsem) (fs := SBf V c) (fd := fd) NA
    (by subst hrS; rfl) rfl rfl (Ow3 c 31 31 t.val) (Ow3 c 31 31 (t.val + 1))
    (by unfold Ow3; rw [tail_step (arT c) t.val t.isLt, ← add_assoc, ← add_assoc, ← add_assoc]; rfl)
    (Entails.of_eq hS'.symm) (hpay fd)
  have hup := sl_same V c (st := st) (sn := t.val) (st' := st) (sn' := t.val + 1) t (fun j hj => by
    have hne : ¬ (j.val = t.val) := fun h' => hj (Fin.ext h')
    unfold SLs
    by_cases ha : j.val < t.val
    · rw [if_pos ha, if_pos (show j.val < t.val + 1 by omega)]
    · rw [if_neg ha, if_neg (show ¬ j.val < t.val + 1 by omega)])
  rw [sls_full V c t hlt (le_refl _), sls_sent V c t (Nat.lt_succ_self _)] at hup
  unfold Ar
  iintro ⟨#HC, Ho, Hout, Hp, Hrw⟩
  ihave Hp := hup $$ Hp
  unfold Lk
  icases Hp with ⟨⟨Hs, ⟨%fd, Hd⟩, Ht1, Ht2⟩, Hk⟩
  ihave Hs := (Entails.of_eq hS') $$ Hs
  ihave Hd := (Entails.of_eq (hD' (xp c t) fd)) $$ Hd
  ihave Hw := (T fd) $$ [Ho Hs Hd Ht1 Ht2]
  · isplitr; · iexact HC
    isplitl [Ho]; · iexact Ho
    isplitl [Hs]; · iexact Hs
    isplitl [Hd]; · iexact Hd
    isplitl [Ht1] <;> iassumption
  iapply (wpc_wand (fun _ => iprop(Ow c (Ow3 c 31 31 (t.val + 1)) ∗ cred (tallyAt (kcell c (kas t)) () NA)))) $$ Hw
  iintro %a ⟨Ho, Hc⟩
  isplitl [Ho]; · iexact Ho
  isplitl [Hout]; · iexact Hout
  isplitr [Hrw]; swap; · iexact Hrw
  iapply Hk; iexact Hc

/-! ## The exchanges' completion -/

/-- After `m` of the waits for the device's own exchanges. -/
def WsSt (m : ℕ) : sProp 𝕄 :=
  iprop(Ow c (Ow3 c 31 31 10) ∗ prog m (fun s : Fin 10 => iprop(cred (tallyAt (kcell c (kas s)) () NA) ∗ atPos ER (kcell c (kas s)) 0 ∅ 0))
    (fun s => iprop(semVal (kcell c (kas s)) 0 ∗ sbp c (slotSet s) (SBf V c))))
theorem ws_op (m : ℕ) (hm : m < 10) {sm : DmaSem sig} (hs : SemLoc.dma sm = csem (kas ⟨m, hm⟩)) {o : Fin 4 → ℕ} {h : ∀ a, o a + S1x1x128x512.size a ≤ S5x2x128x512.size a}
    {hst : ∀ a, (Rect.unit (s := S5x2x128x512) o S1x1x128x512.size h).stride a = 1}
    {s1 : Shape} {e1 : EltTy} {src : Memref sig .tc .vmem s1 e1} {h1 : src.view.WordExact} {h2 : ((M7.slice (Rect.unit (s := S5x2x128x512) o S1x1x128x512.size h) hst).squeeze S128x512 squeezes_S1x1x128x512_S128x512).view.WordExact} :
    iprop(ctx V K ∗ WsSt V c m)
      ⊢ wpc c (Prog.lift (.waitDma2 sm src ((M7.slice (Rect.unit (s := S5x2x128x512) o S1x1x128x512.size h) hst).squeeze S128x512 squeezes_S1x1x128x512_S128x512) h1 h2)) fun _ => WsSt V c (m + 1) := by
  unfold WsSt
  iintro ⟨#HC, Ho, Hp⟩
  ihave Hp := (prog_step m hm _ _) $$ Hp
  icases Hp with ⟨⟨Hc, Ha⟩, Hk⟩
  ihave Hw := (wait_op V K c (kas ⟨m, hm⟩) (Ow3 c 31 31 10) (low_ok c 31 31 10) hs (show _ = tot c (kas ⟨m, hm⟩) from rfl) (wpE_waitDma2_eq 𝒱₀ (c : Thread nD τ) none Set.univ)
    (w := .waitDma2 sm src ((M7.slice (Rect.unit (s := S5x2x128x512) o S1x1x128x512.size h) hst).squeeze S128x512 squeezes_S1x1x128x512_S128x512) h1 h2)) $$ [Ho Hc Ha]
  · isplitr; · iexact HC
    isplitl [Ho]; · iexact Ho
    isplitl [Hc]; · iexact Hc
    iexact Ha
  iapply (wpc_wand (fun _ => iprop(Ow c (Ow3 c 31 31 10) ∗ semVal (kcell c (kas ⟨m, hm⟩)) 0 ∗ rest V c (kas ⟨m, hm⟩)))) $$ Hw
  iintro %a ⟨Ho, Hz, Hr⟩
  isplitl [Ho]; · iexact Ho
  iapply Hk
  isplitl [Hz]; · iexact Hz
  iapply (Entails.of_eq (show rest V c (kas ⟨m, hm⟩) = sbp c (slotSet ⟨m, hm⟩) (SBf V c) from rfl)); iexact Hr
end Ar

end Cert.KernelIdeal.Pf
-- ==== Proof.KiAx.lean ====
/-
The exchanges, part by part.
-/
module

public import proofs.«01_k».proof.Proof.KiAr
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (V : Ins F) (K : Dev nD × CK → ℕ) (c : Dev nD)

/-! ## The same, each state named by its counts -/

theorem xout (t : Fin 10) (st sn w ad : ℕ) (had : (ad + 1 - t.val % 2) / 2 = t.val / 2) {C : sProp 𝕄} {o : Fin 3 → ℕ} (ho : o = ![t.val % 2, 0, 0]) {h : ∀ a, o a + S1x128x512.size a ≤ S2x128x512.size a}
    {hl : M4.view.LoadsAt (Rect.unit (s := S2x128x512) o S1x128x512.size h).toLoadRect} :
    iprop(C ∗ Ar V c st sn w ad) ⊢ wpc c (Prog.lift (.load M4 (Rect.unit (s := S2x128x512) o S1x128x512.size h).toLoadRect hl)) fun x =>
      iprop(⌜x = ov V (t.val / 2) c (half t)⌝ ∗ Ar V c st sn w ad) := ar_out V c t had ho
theorem xoutw (s : Fin 10) (st sn w ad ad' : ℕ) (h1 : ad = s.val) (h2 : ad' = s.val + 1) {C : sProp 𝕄} {o : Fin 3 → ℕ} (ho : o = ![s.val % 2, 0, 0]) {h : ∀ a, o a + S1x128x512.size a ≤ S2x128x512.size a}
    {hx : (M4.access (Rect.unit (s := S2x128x512) o S1x128x512.size h)).Stores Finset.univ}
    {hu : (Finset.univ : Finset (Rect.unit (s := S2x128x512) o S1x128x512.size h).shape.Idx) = Finset.univ ∨ ∀ a, (Rect.unit (s := S2x128x512) o S1x128x512.size h).stride a = 1}
    {x : S1x128x512.Idx → Elt F .f32} (hw : x = ov V (s.val / 2 + 1) c (half s)) :
    iprop(C ∗ Ar V c st sn w ad) ⊢ wpc c (Prog.lift (.store M4 (Rect.unit (s := S2x128x512) o S1x128x512.size h) x Finset.univ hx hu)) fun _ => Ar V c st sn w ad' := by
  subst h1 h2; exact ar_outw V c s ho hw
theorem xsbw (t : Fin 10) (st st' sn w ad : ℕ) (h1 : st = t.val) (h1' : st' = t.val + 1) (h2 : sn ≤ t.val) {C : sProp 𝕄} {o : Fin 4 → ℕ} (ho : o = ![t.val / 2, t.val % 2, 0, 0]) {h : ∀ a, o a + S1x1x128x512.size a ≤ S5x2x128x512.size a}
    {hx : (M7.access (Rect.unit (s := S5x2x128x512) o S1x1x128x512.size h)).Stores Finset.univ}
    {hu : (Finset.univ : Finset (Rect.unit (s := S5x2x128x512) o S1x1x128x512.size h).shape.Idx) = Finset.univ ∨ ∀ a, (Rect.unit (s := S5x2x128x512) o S1x1x128x512.size h).stride a = 1}
    {x : S1x1x128x512.Idx → Elt F .bf16} (hw : x = SV V c t) :
    iprop(C ∗ Ar V c st sn w ad) ⊢ wpc c (Prog.lift (.store M7 (Rect.unit (s := S5x2x128x512) o S1x1x128x512.size h) x Finset.univ hx hu)) fun _ => Ar V c st' sn w ad := by
  subst h1 h1'; exact ar_sbw V c t h2 ho hw
theorem xwait (s : Fin 10) (st sn w w' ad : ℕ) (h1' : w = s.val) (h2' : w' = s.val + 1) (hlt : s.val < sn) {sm : DmaSem sig} (hs : SemLoc.dma sm = csem (kar s)) {o : Fin 4 → ℕ} {h : ∀ a, o a + S1x1x128x512.size a ≤ S5x2x128x512.size a}
    {hst : ∀ a, (Rect.unit (s := S5x2x128x512) o S1x1x128x512.size h).stride a = 1}
    {s1 : Shape} {e1 : EltTy} {src : Memref sig .tc .vmem s1 e1} {h1 : src.view.WordExact} {h2 : ((M8.slice (Rect.unit (s := S5x2x128x512) o S1x1x128x512.size h) hst).squeeze S128x512 squeezes_S1x1x128x512_S128x512).view.WordExact} :
    iprop(ctx V K ∗ Ar V c st sn w ad)
      ⊢ wpc c (Prog.lift (.waitDma2 sm src ((M8.slice (Rect.unit (s := S5x2x128x512) o S1x1x128x512.size h) hst).squeeze S128x512 squeezes_S1x1x128x512_S128x512) h1 h2)) fun _ => Ar V c st sn w' ad := by
  subst h1' h2'; exact ar_wait V K c s hlt hs
theorem xsend (t : Fin 10) (st sn sn' w ad : ℕ) (h1' : sn = t.val) (h2' : sn' = t.val + 1) (hlt : t.val < st) {o : Fin 4 → ℕ} (ho : o = ![t.val / 2, t.val % 2, 0, 0])
    {hS hD : ∀ a, o a + S1x1x128x512.size a ≤ S5x2x128x512.size a}
    {n : ℕ} {h : n < nD} (hn : n = (xp c t).val) {sS rS : SemLoc sig} (hsS : sS = csem (kas t)) (hrS : rS = csem (kar t))
    {hst1 : ∀ a, (Rect.unit (s := S5x2x128x512) o S1x1x128x512.size hS).stride a = 1} {hst2 : ∀ a, (Rect.unit (s := S5x2x128x512) o S1x1x128x512.size hD).stride a = 1}
    {hsc : ((M8.slice (Rect.unit (s := S5x2x128x512) o S1x1x128x512.size hD) hst2).squeeze S128x512 squeezes_S1x1x128x512_S128x512).view.ref.isScScratch = false}
    {hsrc : ((M7.slice (Rect.unit (s := S5x2x128x512) o S1x1x128x512.size hS) hst1).squeeze S128x512 squeezes_S1x1x128x512_S128x512).view.WordExact}
    {hdst : ((M8.slice (Rect.unit (s := S5x2x128x512) o S1x1x128x512.size hD) hst2).squeeze S128x512 squeezes_S1x1x128x512_S128x512).view.WordExact}
    {hsem : DmaTarget.Typed .vmem rS (.remote (Dev.tc (⟨n, h⟩ : Dev nD) : Thread nD τ) ((M8.slice (Rect.unit (s := S5x2x128x512) o S1x1x128x512.size hD) hst2).squeeze S128x512 squeezes_S1x1x128x512_S128x512) sS hsc)} :
    iprop(ctx V K ∗ Ar V c st sn w ad)
      ⊢ wpc c (Prog.lift (.enqueueDma ((M7.slice (Rect.unit (s := S5x2x128x512) o S1x1x128x512.size hS) hst1).squeeze S128x512 squeezes_S1x1x128x512_S128x512)
          (.remote (Dev.tc (⟨n, h⟩ : Dev nD) : Thread nD τ) ((M8.slice (Rect.unit (s := S5x2x128x512) o S1x1x128x512.size hD) hst2).squeeze S128x512 squeezes_S1x1x128x512_S128x512) sS hsc) rS hsrc hdst hsem))
        fun _ => Ar V c st sn' w ad := by
  subst h1' h2'; exact ar_send V K c t hlt ho hn hsS hrS

theorem part226 (v2 : BitVec 32) (v1422 : BitVec 32) : iprop(ctx V K ∗ Ar V c 1 0 0 0) ⊢ wpc c (args (k0_part226 (F := F)) c v2 v1422) fun _ => Ar V c 2 2 0 0 := by
  rw [k0_part226_eq_skeleton]; unfold args k0_part226_skel
  refine step (xsend V K c 0 1 0 1 0 0 rfl rfl (by decide) rfl (by clear * - c; revert c; decide +kernel) rfl rfl) fun _ => ?_
  refine stepv (xout V c 1 1 1 0 0 rfl rfl) ?_
  refine step (ar_sbd V c 1 (by decide) (by decide) rfl) fun _ => ?_
  refine step (xsbw V c 1 1 2 1 0 0 rfl rfl (by decide) rfl rfl) fun _ => ?_
  refine step (xsend V K c 1 2 1 2 0 0 rfl rfl (by decide) rfl (by clear * - c; revert c; decide +kernel) rfl rfl) fun _ => ?_
  exact done
theorem part227 (v2 : BitVec 32) (v1449 : BitVec 32) : iprop(ctx V K ∗ Ar V c 2 2 0 0) ⊢ wpc c (args (k0_part227 (F := F)) v2 v1449) fun _ => Ar V c 3 2 1 1 := by
  rw [k0_part227_eq_skeleton]; unfold args k0_part227_skel
  refine step (xwait V K c 0 2 2 0 1 0 rfl rfl (by decide) rfl) fun _ => ?_
  refine stepv (xout V c 0 2 2 1 0 rfl rfl) ?_
  refine stepv (ar_rb V c 0 (by decide) rfl) ?_
  refine step (ar_dead V c) fun _ => ?_
  refine step (xoutw V c 0 2 2 1 0 1 rfl rfl rfl (ov_step V c 0)) fun _ => ?_
  refine stepv (xout V c 2 2 2 1 1 rfl rfl) ?_
  refine step (ar_sbd V c 2 (by decide) (by decide) rfl) fun _ => ?_
  refine step (xsbw V c 2 2 3 2 1 1 rfl rfl (by decide) rfl rfl) fun _ => ?_
  exact done
theorem part228 (v2 : BitVec 32) (v1473 : BitVec 32) : iprop(ctx V K ∗ Ar V c 3 2 1 1) ⊢ wpc c (args (k0_part228 (F := F)) c v2 v1473) fun a => iprop(⌜a = (k0_pay89 (ov V (((1 : Fin 10)).val / 2) c (half 1)) (SV V (xp c 1) 1))⌝ ∗ Ar V c 3 3 2 1) := by
  rw [k0_part228_eq_skeleton]; unfold args k0_part228_skel
  refine step (xsend V K c 2 3 2 3 1 1 rfl rfl (by decide) rfl (by clear * - c; revert c; decide +kernel) rfl rfl) fun _ => ?_
  refine step (xwait V K c 1 3 3 1 2 1 rfl rfl (by decide) rfl) fun _ => ?_
  refine stepv (xout V c 1 3 3 2 1 rfl rfl) ?_
  refine stepv (ar_rb V c 1 (by decide) rfl) ?_
  refine ret_of ?_
  iintro ⟨-, H⟩
  isplitr; · (ipureintro; rfl)
  iexact H
theorem part229 (v2 : BitVec 32) : iprop(ctx V K ∗ Ar V c 3 3 2 1) ⊢ wpc c (args (k0_part229 (F := F)) c v2 ((k0_pay89 (ov V (((1 : Fin 10)).val / 2) c (half 1)) (SV V (xp c 1) 1)))) fun _ => Ar V c 4 4 2 2 := by
  rw [k0_part229_eq_skeleton]; unfold args k0_part229_skel
  refine step (ar_dead V c) fun _ => ?_
  refine step (xoutw V c 1 3 3 2 1 2 rfl rfl rfl (ov_step V c 1)) fun _ => ?_
  refine stepv (xout V c 3 3 3 2 2 rfl rfl) ?_
  refine step (ar_sbd V c 3 (by decide) (by decide) rfl) fun _ => ?_
  refine step (xsbw V c 3 3 4 3 2 2 rfl rfl (by decide) rfl rfl) fun _ => ?_
  refine step (xsend V K c 3 4 3 4 2 2 rfl rfl (by decide) rfl (by clear * - c; revert c; decide +kernel) rfl rfl) fun _ => ?_
  exact done
theorem part230 (v2 : BitVec 32) (v1520 : BitVec 32) : iprop(ctx V K ∗ Ar V c 4 4 2 2) ⊢ wpc c (args (k0_part230 (F := F)) v2 v1520) fun _ => Ar V c 5 4 3 3 := by
  rw [k0_part230_eq_skeleton]; unfold args k0_part230_skel
  refine step (xwait V K c 2 4 4 2 3 2 rfl rfl (by decide) rfl) fun _ => ?_
  refine stepv (xout V c 2 4 4 3 2 rfl rfl) ?_
  refine stepv (ar_rb V c 2 (by decide) rfl) ?_
  refine step (ar_dead V c) fun _ => ?_
  refine step (xoutw V c 2 4 4 3 2 3 rfl rfl rfl (ov_step V c 2)) fun _ => ?_
  refine stepv (xout V c 4 4 4 3 3 rfl rfl) ?_
  refine step (ar_sbd V c 4 (by decide) (by decide) rfl) fun _ => ?_
  refine step (xsbw V c 4 4 5 4 3 3 rfl rfl (by decide) rfl rfl) fun _ => ?_
  exact done
theorem part231 (v2 : BitVec 32) (v1544 : BitVec 32) (c0_i32_1355 : BitVec 32) : iprop(ctx V K ∗ Ar V c 5 4 3 3) ⊢ wpc c (args (k0_part231 (F := F)) c v2 v1544 c0_i32_1355) fun _ => Ar V c 5 5 4 4 := by
  rw [k0_part231_eq_skeleton]; unfold args k0_part231_skel
  refine step (xsend V K c 4 5 4 5 3 3 rfl rfl (by decide) rfl (by clear * - c; revert c; decide +kernel) rfl rfl) fun _ => ?_
  refine step (xwait V K c 3 5 5 3 4 3 rfl rfl (by decide) rfl) fun _ => ?_
  refine stepv (xout V c 3 5 5 4 3 rfl rfl) ?_
  refine stepv (ar_rb V c 3 (by decide) rfl) ?_
  refine step (ar_dead V c) fun _ => ?_
  refine step (xoutw V c 3 5 5 4 3 4 rfl rfl rfl (ov_step V c 3)) fun _ => ?_
  exact done
theorem part232 (v2 : BitVec 32) : iprop(ctx V K ∗ Ar V c 5 5 4 4) ⊢ wpc c (args (k0_part232 (F := F)) c v2) fun _ => Ar V c 6 6 4 4 := by
  rw [k0_part232_eq_skeleton]; unfold args k0_part232_skel
  refine stepv (xout V c 5 5 5 4 4 rfl rfl) ?_
  refine step (ar_sbd V c 5 (by decide) (by decide) rfl) fun _ => ?_
  refine step (xsbw V c 5 5 6 5 4 4 rfl rfl (by decide) rfl rfl) fun _ => ?_
  refine step (xsend V K c 5 6 5 6 4 4 rfl rfl (by decide) rfl (by clear * - c; revert c; decide +kernel) rfl rfl) fun _ => ?_
  exact done
theorem part233 (v2 : BitVec 32) : iprop(ctx V K ∗ Ar V c 6 6 4 4) ⊢ wpc c (args (k0_part233 (F := F)) v2) fun _ => Ar V c 7 6 5 5 := by
  rw [k0_part233_eq_skeleton]; unfold args k0_part233_skel
  refine step (xwait V K c 4 6 6 4 5 4 rfl rfl (by decide) rfl) fun _ => ?_
  refine stepv (xout V c 4 6 6 5 4 rfl rfl) ?_
  refine stepv (ar_rb V c 4 (by decide) rfl) ?_
  refine step (ar_dead V c) fun _ => ?_
  refine step (xoutw V c 4 6 6 5 4 5 rfl rfl rfl (ov_step V c 4)) fun _ => ?_
  refine stepv (xout V c 6 6 6 5 5 rfl rfl) ?_
  refine step (ar_sbd V c 6 (by decide) (by decide) rfl) fun _ => ?_
  refine step (xsbw V c 6 6 7 6 5 5 rfl rfl (by decide) rfl rfl) fun _ => ?_
  exact done
theorem part234 (v2 : BitVec 32) : iprop(ctx V K ∗ Ar V c 7 6 5 5) ⊢ wpc c (args (k0_part234 (F := F)) c v2) fun a => iprop(⌜a = (k0_pay99 (ov V (((7 : Fin 10)).val / 2) c (half 7)))⌝ ∗ Ar V c 7 7 6 6) := by
  rw [k0_part234_eq_skeleton]; unfold args k0_part234_skel
  refine step (xsend V K c 6 7 6 7 5 5 rfl rfl (by decide) rfl (by clear * - c; revert c; decide +kernel) rfl rfl) fun _ => ?_
  refine step (xwait V K c 5 7 7 5 6 5 rfl rfl (by decide) rfl) fun _ => ?_
  refine stepv (xout V c 5 7 7 6 5 rfl rfl) ?_
  refine stepv (ar_rb V c 5 (by decide) rfl) ?_
  refine step (ar_dead V c) fun _ => ?_
  refine step (xoutw V c 5 7 7 6 5 6 rfl rfl rfl (ov_step V c 5)) fun _ => ?_
  refine stepv (xout V c 7 7 7 6 6 rfl rfl) ?_
  refine ret_of ?_
  iintro ⟨-, H⟩
  isplitr; · (ipureintro; rfl)
  iexact H
theorem part235 (v2 : BitVec 32) : iprop(ctx V K ∗ Ar V c 7 7 6 6) ⊢ wpc c (args (k0_part235 (F := F)) c v2 ((k0_pay99 (ov V (((7 : Fin 10)).val / 2) c (half 7))))) fun _ => Ar V c 8 8 7 6 := by
  rw [k0_part235_eq_skeleton]; unfold args k0_part235_skel
  refine step (ar_sbd V c 7 (by decide) (by decide) rfl) fun _ => ?_
  refine step (xsbw V c 7 7 8 7 6 6 rfl rfl (by decide) rfl rfl) fun _ => ?_
  refine step (xsend V K c 7 8 7 8 6 6 rfl rfl (by decide) rfl (by clear * - c; revert c; decide +kernel) rfl rfl) fun _ => ?_
  refine step (xwait V K c 6 8 8 6 7 6 rfl rfl (by decide) rfl) fun _ => ?_
  exact done
theorem part236 (v2 : BitVec 32) : iprop(ctx V K ∗ Ar V c 8 8 7 6) ⊢ wpc c (args (k0_part236 (F := F)) c v2) fun _ => Ar V c 9 9 7 7 := by
  rw [k0_part236_eq_skeleton]; unfold args k0_part236_skel
  refine stepv (xout V c 6 8 8 7 6 rfl rfl) ?_
  refine stepv (ar_rb V c 6 (by decide) rfl) ?_
  refine step (ar_dead V c) fun _ => ?_
  refine step (xoutw V c 6 8 8 7 6 7 rfl rfl rfl (ov_step V c 6)) fun _ => ?_
  refine stepv (xout V c 8 8 8 7 7 rfl rfl) ?_
  refine step (ar_sbd V c 8 (by decide) (by decide) rfl) fun _ => ?_
  refine step (xsbw V c 8 8 9 8 7 7 rfl rfl (by decide) rfl rfl) fun _ => ?_
  refine step (xsend V K c 8 9 8 9 7 7 rfl rfl (by decide) rfl (by clear * - c; revert c; decide +kernel) rfl rfl) fun _ => ?_
  exact done
theorem part237 (v2 : BitVec 32) (v1694 : BitVec 32) : iprop(ctx V K ∗ Ar V c 9 9 7 7) ⊢ wpc c (args (k0_part237 (F := F)) v2 v1694) fun _ => Ar V c 10 9 8 8 := by
  rw [k0_part237_eq_skeleton]; unfold args k0_part237_skel
  refine step (xwait V K c 7 9 9 7 8 7 rfl rfl (by decide) rfl) fun _ => ?_
  refine stepv (xout V c 7 9 9 8 7 rfl rfl) ?_
  refine stepv (ar_rb V c 7 (by decide) rfl) ?_
  refine step (ar_dead V c) fun _ => ?_
  refine step (xoutw V c 7 9 9 8 7 8 rfl rfl rfl (ov_step V c 7)) fun _ => ?_
  refine stepv (xout V c 9 9 9 8 8 rfl rfl) ?_
  refine step (ar_sbd V c 9 (by decide) (by decide) rfl) fun _ => ?_
  refine step (xsbw V c 9 9 10 9 8 8 rfl rfl (by decide) rfl rfl) fun _ => ?_
  exact done
theorem part238 (v2 : BitVec 32) (v1718 : BitVec 32) : iprop(ctx V K ∗ Ar V c 10 9 8 8) ⊢ wpc c (args (k0_part238 (F := F)) c v2 v1718) fun a => iprop(⌜a = ⟨k0_pay105 (ov V (((8 : Fin 10)).val / 2) c (half 8)), k0_pay106 (SV V (xp c 8) 8)⟩⌝ ∗ Ar V c 10 10 9 8) := by
  rw [k0_part238_eq_skeleton]; unfold args k0_part238_skel
  refine step (xsend V K c 9 10 9 10 8 8 rfl rfl (by decide) rfl (by clear * - c; revert c; decide +kernel) rfl rfl) fun _ => ?_
  refine step (xwait V K c 8 10 10 8 9 8 rfl rfl (by decide) rfl) fun _ => ?_
  refine stepv (xout V c 8 10 10 9 8 rfl rfl) ?_
  refine stepv (ar_rb V c 8 (by decide) rfl) ?_
  refine ret_of ?_
  iintro ⟨-, H⟩
  isplitr; · (ipureintro; rfl)
  iexact H
theorem part239 (v2 : BitVec 32) : iprop(ctx V K ∗ Ar V c 10 10 9 8) ⊢ wpc c (args (k0_part239 (F := F)) v2 (k0_pay105 (ov V (((8 : Fin 10)).val / 2) c (half 8))) (k0_pay106 (SV V (xp c 8) 8))) fun _ => Ar V c 10 10 10 10 := by
  rw [k0_part239_eq_skeleton]; unfold args k0_part239_skel
  refine step (ar_dead V c) fun _ => ?_
  refine step (xoutw V c 8 10 10 9 8 9 rfl rfl rfl (ov_step V c 8)) fun _ => ?_
  refine step (xwait V K c 9 10 10 9 10 9 rfl rfl (by decide) rfl) fun _ => ?_
  refine stepv (xout V c 9 10 10 10 9 rfl rfl) ?_
  refine stepv (ar_rb V c 9 (by decide) rfl) ?_
  refine step (ar_dead V c) fun _ => ?_
  refine step (xoutw V c 9 10 10 10 9 10 rfl rfl rfl (ov_step V c 9)) fun _ => ?_
  exact done
theorem part240 : iprop(ctx V K ∗ WsSt V c 0) ⊢ wpc c (args (k0_part240 (F := F))) fun _ => WsSt V c 3 := by
  rw [k0_part240_eq_skeleton]; unfold args k0_part240_skel
  refine step (ws_op V K c 0 (by decide) rfl) fun _ => ?_
  refine step (ws_op V K c 1 (by decide) rfl) fun _ => ?_
  refine step (ws_op V K c 2 (by decide) rfl) fun _ => ?_
  exact done
theorem part241 : iprop(ctx V K ∗ WsSt V c 3) ⊢ wpc c (args (k0_part241 (F := F))) fun _ => WsSt V c 6 := by
  rw [k0_part241_eq_skeleton]; unfold args k0_part241_skel
  refine step (ws_op V K c 3 (by decide) rfl) fun _ => ?_
  refine step (ws_op V K c 4 (by decide) rfl) fun _ => ?_
  refine step (ws_op V K c 5 (by decide) rfl) fun _ => ?_
  exact done
theorem part242 : iprop(ctx V K ∗ WsSt V c 6) ⊢ wpc c (args (k0_part242 (F := F))) fun _ => WsSt V c 9 := by
  rw [k0_part242_eq_skeleton]; unfold args k0_part242_skel
  refine step (ws_op V K c 6 (by decide) rfl) fun _ => ?_
  refine step (ws_op V K c 7 (by decide) rfl) fun _ => ?_
  refine step (ws_op V K c 8 (by decide) rfl) fun _ => ?_
  exact done
end Parts

end Cert.KernelIdeal.Pf
-- ==== Proof.KiSw.lean ====
/-
The second half of the output, the waits on the keys sent, and the first exchange staged.
-/
module

public import proofs.«01_k».proof.Proof.KiAp
public import proofs.«01_k».proof.Proof.KiAx
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (V : Ins F) (K : Dev nD × CK → ℕ) (c : Dev nD)

theorem cond100_cls : ∀ c : Dev nD, k0_cond100 c = 1#1 ↔ cls c.val = 0 := by decide +kernel
theorem cond101_cls : ∀ c : Dev nD, k0_cond101 c = 1#1 ↔ cls c.val = 1 := by decide +kernel
theorem cond102_cls : ∀ c : Dev nD, k0_cond102 c = 1#1 ↔ cls c.val = 2 := by decide +kernel

/-- One wait on a send semaphore, the only one of its part; -/
theorem one {α β : Type} {C A B Fr : sProp 𝕄} [BI.Persistent C] {p : Prog (TpuEff nD τ sig (Elt F) Λ₀ .tc) PUnit} {v : PUnit → α}
    {k : α → Prog (TpuEff nD τ sig (Elt F) Λ₀ .tc) β} {Q : β → sProp 𝕄} (t : iprop(C ∗ A) ⊢ wpc c p fun _ => B) (h : ∀ a, iprop(C ∗ (B ∗ Fr)) ⊢ wpc c (k a) Q) :
    iprop(C ∗ (A ∗ Fr)) ⊢ wpc c ((p >>= fun a => pure (v a)) >>= k) Q := step (framed (last t)) h
/-- two in one part. -/
theorem two {α β : Type} {C A B D Fr : sProp 𝕄} [BI.Persistent C] {p : Prog (TpuEff nD τ sig (Elt F) Λ₀ .tc) PUnit} {p' : PUnit → Prog (TpuEff nD τ sig (Elt F) Λ₀ .tc) PUnit} {v : PUnit → PUnit → α}
    {k : α → Prog (TpuEff nD τ sig (Elt F) Λ₀ .tc) β} {Q : β → sProp 𝕄} (t : iprop(C ∗ A) ⊢ wpc c p fun _ => B) (t' : ∀ a, iprop(C ∗ B) ⊢ wpc c (p' a) fun _ => D) (h : ∀ a, iprop(C ∗ (D ∗ Fr)) ⊢ wpc c (k a) Q) :
    iprop(C ∗ (A ∗ Fr)) ⊢ wpc c ((p >>= fun a => p' a >>= fun b => pure (v a b)) >>= k) Q := step (framed (step t fun a => last (t' a))) h

/-- The waits on the keys sent, done. -/
def SwD : sProp 𝕄 := bigSep Finset.univ fun j : Fin 31 => iprop(semVal (kcell c (ksnd j)) 0 ∗ kvp c (pieceSet c (sh c j)) (V.kv c))
theorem sw_done : SwSt V c 31 ⊢ iprop(Ow c (Ow3 c 31 31 0) ∗ SwD V c) := by
  unfold SwSt SwD
  rw [prog_end]

/-- Part 225: the second half of the output, the waits on the keys sent, and the first exchange staged. -/
theorem part225 (v2 : BitVec 32) : iprop(ctx V K ∗ (SwSt V c 0 ∗ (Att V c 1 ∗ (SL V c 0 0 ∗ RW V c 0)))) ⊢ wpc c (args (k0_part225 (F := F)) c v2 (yv V c)) fun _ => iprop(Ar V c 1 0 0 0 ∗ (AtSt V c ∗ (wop V c ∗ SwD V c))) := by
  rw [k0_part225_eq_skeleton]; unfold args k0_part225_skel
  rw [k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
  unfold k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel k0_part128_skel k0_part129_skel k0_part130_skel k0_part131_skel k0_part132_skel k0_part133_skel k0_part134_skel k0_part135_skel k0_part136_skel k0_part137_skel k0_part138_skel k0_part139_skel k0_part140_skel k0_part141_skel k0_part142_skel k0_part143_skel k0_part144_skel k0_part145_skel k0_part146_skel k0_part147_skel k0_part148_skel k0_part149_skel k0_part150_skel k0_part151_skel k0_part152_skel k0_part153_skel k0_part154_skel k0_part155_skel k0_part156_skel k0_part157_skel k0_part158_skel k0_part159_skel k0_part160_skel k0_part161_skel k0_part162_skel k0_part163_skel k0_part164_skel k0_part165_skel k0_part166_skel k0_part167_skel k0_part168_skel k0_part169_skel k0_part170_skel k0_part171_skel k0_part172_skel k0_part173_skel k0_part174_skel k0_part175_skel k0_part176_skel k0_part177_skel
  refine step (framedl (framed (at_dead V c 1))) fun _ => ?_
  refine step (framedl (framed (at_store V c 1 (by decide) rfl (yv_eq V c)))) fun _ => ?_
  refine branch c 0 (cond100_cls c) (A := SwSt V c 0) (B := SwSt V c 31) (fun h hk => ?_) ?_
  · iterate 10 refine one c (swait_op V K c _ (by decide) rfl (cls_sz0 ((cond100_cls c).mp h))) fun _ => ?_
    iterate 1 refine two c (swait_op V K c _ (by decide) rfl (cls_sz0 ((cond100_cls c).mp h))) (fun _ => swait_op V K c _ (by decide) rfl (cls_sz0 ((cond100_cls c).mp h))) fun _ => ?_
    iterate 10 refine one c (swait_op V K c _ (by decide) rfl (cls_sz0 ((cond100_cls c).mp h))) fun _ => ?_
    iterate 1 refine two c (swait_op V K c _ (by decide) rfl (cls_sz0 ((cond100_cls c).mp h))) (fun _ => swait_op V K c _ (by decide) rfl (cls_sz0 ((cond100_cls c).mp h))) fun _ => ?_
    iterate 6 refine one c (swait_op V K c _ (by decide) rfl (cls_sz0 ((cond100_cls c).mp h))) fun _ => ?_
    refine step (framed (swait_op V K c _ (by decide) rfl (cls_sz0 ((cond100_cls c).mp h)))) fun _ => hk
  refine branch c 1 (cond101_cls c) (A := SwSt V c 0) (B := SwSt V c 31) (fun h hk => ?_) ?_
  · iterate 10 refine one c (swait_op V K c _ (by decide) rfl (cls_sz1 (by rw [(cond101_cls c).mp h]; decide))) fun _ => ?_
    iterate 1 refine two c (swait_op V K c _ (by decide) rfl (cls_sz1 (by rw [(cond101_cls c).mp h]; decide))) (fun _ => swait_op V K c _ (by decide) rfl (cls_sz1 (by rw [(cond101_cls c).mp h]; decide))) fun _ => ?_
    iterate 10 refine one c (swait_op V K c _ (by decide) rfl (cls_sz1 (by rw [(cond101_cls c).mp h]; decide))) fun _ => ?_
    iterate 1 refine two c (swait_op V K c _ (by decide) rfl (cls_sz1 (by rw [(cond101_cls c).mp h]; decide))) (fun _ => swait_op V K c _ (by decide) rfl (cls_sz1 (by rw [(cond101_cls c).mp h]; decide))) fun _ => ?_
    iterate 6 refine one c (swait_op V K c _ (by decide) rfl (cls_sz1 (by rw [(cond101_cls c).mp h]; decide))) fun _ => ?_
    refine step (framed (swait_op V K c _ (by decide) rfl (cls_sz1 (by rw [(cond101_cls c).mp h]; decide)))) fun _ => hk
  refine branch c 2 (cond102_cls c) (A := SwSt V c 0) (B := SwSt V c 31) (fun h hk => ?_) ?_
  · iterate 10 refine one c (swait_op V K c _ (by decide) rfl (cls_sz1 (by rw [(cond102_cls c).mp h]; decide))) fun _ => ?_
    iterate 1 refine two c (swait_op V K c _ (by decide) rfl (cls_sz1 (by rw [(cond102_cls c).mp h]; decide))) (fun _ => swait_op V K c _ (by decide) rfl (cls_sz1 (by rw [(cond102_cls c).mp h]; decide))) fun _ => ?_
    iterate 10 refine one c (swait_op V K c _ (by decide) rfl (cls_sz1 (by rw [(cond102_cls c).mp h]; decide))) fun _ => ?_
    iterate 1 refine two c (swait_op V K c _ (by decide) rfl (cls_sz1 (by rw [(cond102_cls c).mp h]; decide))) (fun _ => swait_op V K c _ (by decide) rfl (cls_sz1 (by rw [(cond102_cls c).mp h]; decide))) fun _ => ?_
    iterate 6 refine one c (swait_op V K c _ (by decide) rfl (cls_sz1 (by rw [(cond102_cls c).mp h]; decide))) fun _ => ?_
    refine step (framed (swait_op V K c _ (by decide) rfl (cls_sz1 (by rw [(cond102_cls c).mp h]; decide)))) fun _ => hk
  refine weaken (A' := iprop(Ar V c 0 0 0 0 ∗ (AtSt V c ∗ (wop V c ∗ SwD V c)))) ?_ ?_
  · rw [if_pos (show cls c.val < 2 + 1 from cls_lt _)]
    unfold Att Ar
    iintro ⟨Hs, ⟨Ha, Hw, Ho⟩, Hl, Hr⟩
    ihave Hs := (sw_done V c) $$ Hs
    icases Hs with ⟨Hx, Hd⟩
    ihave Ho := (out_done V c) $$ Ho
    isplitl [Hx Ho Hl Hr]
    · isplitl [Hx]; · iexact Hx
      isplitl [Ho]; · iexact Ho
      isplitl [Hl] <;> iassumption
    isplitl [Ha]; · iexact Ha
    isplitl [Hw] <;> iassumption
  refine stepv (framedv (xout V c 0 0 0 0 0 rfl rfl)) ?_
  refine step (framed (ar_sbd V c 0 (le_refl _) (le_refl _) rfl)) fun _ => ?_
  refine step (framed (xsbw V c 0 0 1 0 0 0 rfl rfl (le_refl _) rfl rfl)) fun _ => ?_
  exact done
end Parts

end Cert.KernelIdeal.Pf
-- ==== Proof.KiDp.lean ====
/-
The dequantisation, part by part.
-/
module

public import proofs.«01_k».proof.Proof.KiDq
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Recv
variable (V : Ins F) (K : Dev nD × CK → ℕ) (c : Dev nD)
theorem part204  : iprop(ctx V K ∗ DqSt V c 3) ⊢ wpc c (args (k0_part204 (F := F)) ) fun a => iprop(⌜a = (k0_pay11 (blk V c 6 (by decide)))⌝ ∗ DqSt V c 6) := by
  rw [k0_part204_eq_skeleton]; unfold args k0_part204_skel
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part205  : iprop(ctx V K ∗ DqSt V c 6) ⊢ wpc c (args (k0_part205 (F := F)) ((k0_pay11 (blk V c 6 (by decide))))) fun a => DqSt V c 10 := by
  rw [k0_part205_eq_skeleton]; unfold args k0_part205_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  exact done

theorem part206  : iprop(ctx V K ∗ DqSt V c 10) ⊢ wpc c (args (k0_part206 (F := F)) ) fun a => iprop(⌜a = (k0_pay19 (blk V c 13 (by decide)))⌝ ∗ DqSt V c 13) := by
  rw [k0_part206_eq_skeleton]; unfold args k0_part206_skel
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part207  : iprop(ctx V K ∗ DqSt V c 13) ⊢ wpc c (args (k0_part207 (F := F)) ((k0_pay19 (blk V c 13 (by decide))))) fun a => DqSt V c 17 := by
  rw [k0_part207_eq_skeleton]; unfold args k0_part207_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  exact done

theorem part208  : iprop(ctx V K ∗ DqSt V c 17) ⊢ wpc c (args (k0_part208 (F := F)) ) fun a => iprop(⌜a = (k0_pay27 (blk V c 20 (by decide)))⌝ ∗ DqSt V c 20) := by
  rw [k0_part208_eq_skeleton]; unfold args k0_part208_skel
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part209  : iprop(ctx V K ∗ DqSt V c 20) ⊢ wpc c (args (k0_part209 (F := F)) ((k0_pay27 (blk V c 20 (by decide))))) fun a => DqSt V c 24 := by
  rw [k0_part209_eq_skeleton]; unfold args k0_part209_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  exact done

theorem part210  : iprop(ctx V K ∗ DqSt V c 24) ⊢ wpc c (args (k0_part210 (F := F)) ) fun a => iprop(⌜a = (k0_pay35 (blk V c 27 (by decide)))⌝ ∗ DqSt V c 27) := by
  rw [k0_part210_eq_skeleton]; unfold args k0_part210_skel
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part211  : iprop(ctx V K ∗ DqSt V c 27) ⊢ wpc c (args (k0_part211 (F := F)) ((k0_pay35 (blk V c 27 (by decide))))) fun a => DqSt V c 31 := by
  rw [k0_part211_eq_skeleton]; unfold args k0_part211_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  exact done

theorem part212  : iprop(ctx V K ∗ DqSt V c 31) ⊢ wpc c (args (k0_part212 (F := F)) ) fun a => iprop(⌜a = (k0_pay43 (blk V c 34 (by decide)))⌝ ∗ DqSt V c 34) := by
  rw [k0_part212_eq_skeleton]; unfold args k0_part212_skel
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part213  : iprop(ctx V K ∗ DqSt V c 34) ⊢ wpc c (args (k0_part213 (F := F)) ((k0_pay43 (blk V c 34 (by decide))))) fun a => iprop(⌜a = (blk V c 38 (by decide))⌝ ∗ DqSt V c 38) := by
  rw [k0_part213_eq_skeleton]; unfold args k0_part213_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine ret_of ?_
  iintro ⟨-, H⟩
  isplitr; · (ipureintro; rfl)
  iexact H

theorem part214  : iprop(ctx V K ∗ DqSt V c 38) ⊢ wpc c (args (k0_part214 (F := F)) ((blk V c 38 (by decide)))) fun a => iprop(⌜a.1 = k0_pay51 (blk V c 41 (by decide))⌝ ∗ DqSt V c 41) := by
  rw [k0_part214_eq_skeleton]; unfold args k0_part214_skel
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine ret_of ?_
  iintro ⟨-, H⟩
  isplitr; · (ipureintro; rfl)
  iexact H
theorem part215 (v1047 : Vec F S2x2x64x256 .bf16) : iprop(ctx V K ∗ DqSt V c 41) ⊢ wpc c (args (k0_part215 (F := F)) (k0_pay51 (blk V c 41 (by decide))) v1047) fun a => iprop(⌜a = (k0_pay56 (rd0 V c 0 0 0))⌝ ∗ AtSt V c) := by
  rw [k0_part215_eq_skeleton]; unfold args k0_part215_skel
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine stepv (dq_load V c _) ?_
  refine step (dq_dead V c _) fun _ => ?_
  refine step (dq_store V c _ (by decide) rfl rfl (shapeCast_self _ _)) fun _ => ?_
  refine weaken (dq_all V c) ?_
  refine stepv (framedvl (load_op c (m := M6) (f := KG V c) (Finset.subset_univ _))) ?_
  refine ret_of ?_
  iintro ⟨-, H⟩
  isplitr; · (ipureintro; rfl)
  iexact H
end Recv

end Cert.KernelIdeal.Pf
-- ==== Proof.KiRc.lean ====
/-
The receipt of the keys, part by part.
-/
module

public import proofs.«01_k».proof.Proof.KiParts
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Recv
variable (V : Ins F) (K : Dev nD × CK → ℕ) (c : Dev nD)
/-- A triple, folded. -/
structure Tri (A : sProp 𝕄) (c : Dev nD) {α : Type} (p : Prog (TpuEff nD τ sig (Elt F) Λ₀ .tc) α) (Q : α → sProp 𝕄) : Prop where
  out : A ⊢ wpc c p Q

/-- One conditional wait for a sender's keys. -/
theorem recv_t {α : Type} {Fr : sProp 𝕄} {kp : Prog (TpuEff nD τ sig (Elt F) Λ₀ .tc) α} {Q : α → sProp 𝕄} (m : ℕ) (hm : m < 93) {P : Prop} [Decidable P] (hP : P ↔ cls (un c ⟨m / 3, by omega⟩).val = m % 3) {s : DmaSem sig} (hs : SemLoc.dma s = csem (krcv ⟨m / 3, by omega⟩))
    {sz : Fin 4 → ℕ} (hsz : sz = ![2, 2, 64 * (if m % 3 = 0 then 2 else 1), 256]) {oD : P → Fin 4 → ℕ} {hD : ∀ h : P, ∀ a, oD h a + sz a ≤ S2x2x2816x256.size a}
    {hst : ∀ h : P, ∀ a, (Rect.unit (s := S2x2x2816x256) (oD h) sz (hD h)).stride a = 1}
    {s1 : Shape} {e1 : EltTy} {src : Memref sig .tc .vmem s1 e1} {h1 : src.view.WordExact} {h2 : ∀ h : P, (M5.slice (Rect.unit (s := S2x2x2816x256) (oD h) sz (hD h)) (hst h)).view.WordExact}
    (hk : Tri iprop(ctx V K ∗ (RecvSt V c (m + 1) ∗ Fr)) c kp Q) :
    Tri iprop(ctx V K ∗ (RecvSt V c m ∗ Fr)) c (if h : P then (do
            Prog.lift (.waitDma2 s src (M5.slice (Rect.unit (s := S2x2x2816x256) (oD h) sz (hD h)) (hst h)) h1 (h2 h))
            kp) else kp) Q := ⟨recv_op V K c m hm hP hs hsz hk.out⟩

theorem part185 {Fr : sProp 𝕄} (v2 : BitVec 32) (v169 : BitVec 32) : iprop(ctx V K ∗ (RecvSt V c 1 ∗ Fr)) ⊢ wpc c (args (k0_part185 (F := F)) c v2 v169) fun _ => iprop(RecvSt V c 6 ∗ Fr) := by
  rw [k0_part185_eq_skeleton]; unfold args k0_part185_skel
  refine Tri.out ?_
  iterate 5 refine recv_t V K c _ (by decide) (by clear * - c; revert c; decide +kernel) rfl rfl ?_
  exact ⟨done⟩
theorem part186 {Fr : sProp 𝕄} (v2 : BitVec 32) (v207 : BitVec 32) (v212 : BitVec 32) (c0_i32_185 : BitVec 32) : iprop(ctx V K ∗ (RecvSt V c 6 ∗ Fr)) ⊢ wpc c (args (k0_part186 (F := F)) c v2 v207 v212 c0_i32_185) fun _ => iprop(RecvSt V c 12 ∗ Fr) := by
  rw [k0_part186_eq_skeleton]; unfold args k0_part186_skel
  refine Tri.out ?_
  iterate 6 refine recv_t V K c _ (by decide) (by clear * - c; revert c; decide +kernel) rfl rfl ?_
  exact ⟨done⟩
theorem part187 {Fr : sProp 𝕄} (v2 : BitVec 32) (v243 : BitVec 32) (c5_i32_208 : BitVec 32) : iprop(ctx V K ∗ (RecvSt V c 12 ∗ Fr)) ⊢ wpc c (args (k0_part187 (F := F)) c v2 v243 c5_i32_208) fun _ => iprop(RecvSt V c 16 ∗ Fr) := by
  rw [k0_part187_eq_skeleton]; unfold args k0_part187_skel
  refine Tri.out ?_
  iterate 4 refine recv_t V K c _ (by decide) (by clear * - c; revert c; decide +kernel) rfl rfl ?_
  exact ⟨done⟩
theorem part188 {Fr : sProp 𝕄} (v2 : BitVec 32) (v264 : BitVec 32) : iprop(ctx V K ∗ (RecvSt V c 16 ∗ Fr)) ⊢ wpc c (args (k0_part188 (F := F)) c v2 v264) fun _ => iprop(RecvSt V c 21 ∗ Fr) := by
  rw [k0_part188_eq_skeleton]; unfold args k0_part188_skel
  refine Tri.out ?_
  iterate 5 refine recv_t V K c _ (by decide) (by clear * - c; revert c; decide +kernel) rfl rfl ?_
  exact ⟨done⟩
theorem part189 {Fr : sProp 𝕄} (v2 : BitVec 32) (v302 : BitVec 32) (v307 : BitVec 32) (c0_i32_255 : BitVec 32) : iprop(ctx V K ∗ (RecvSt V c 21 ∗ Fr)) ⊢ wpc c (args (k0_part189 (F := F)) c v2 v302 v307 c0_i32_255) fun _ => iprop(RecvSt V c 27 ∗ Fr) := by
  rw [k0_part189_eq_skeleton]; unfold args k0_part189_skel
  refine Tri.out ?_
  iterate 6 refine recv_t V K c _ (by decide) (by clear * - c; revert c; decide +kernel) rfl rfl ?_
  exact ⟨done⟩
theorem part190 {Fr : sProp 𝕄} (v2 : BitVec 32) (v338 : BitVec 32) (c10_i32_278 : BitVec 32) : iprop(ctx V K ∗ (RecvSt V c 27 ∗ Fr)) ⊢ wpc c (args (k0_part190 (F := F)) c v2 v338 c10_i32_278) fun _ => iprop(RecvSt V c 31 ∗ Fr) := by
  rw [k0_part190_eq_skeleton]; unfold args k0_part190_skel
  refine Tri.out ?_
  iterate 4 refine recv_t V K c _ (by decide) (by clear * - c; revert c; decide +kernel) rfl rfl ?_
  exact ⟨done⟩
theorem part191 {Fr : sProp 𝕄} (v2 : BitVec 32) (v359 : BitVec 32) : iprop(ctx V K ∗ (RecvSt V c 31 ∗ Fr)) ⊢ wpc c (args (k0_part191 (F := F)) c v2 v359) fun _ => iprop(RecvSt V c 36 ∗ Fr) := by
  rw [k0_part191_eq_skeleton]; unfold args k0_part191_skel
  refine Tri.out ?_
  iterate 5 refine recv_t V K c _ (by decide) (by clear * - c; revert c; decide +kernel) rfl rfl ?_
  exact ⟨done⟩
theorem part192 {Fr : sProp 𝕄} (v2 : BitVec 32) (v397 : BitVec 32) (v402 : BitVec 32) (c0_i32_325 : BitVec 32) : iprop(ctx V K ∗ (RecvSt V c 36 ∗ Fr)) ⊢ wpc c (args (k0_part192 (F := F)) c v2 v397 v402 c0_i32_325) fun _ => iprop(RecvSt V c 42 ∗ Fr) := by
  rw [k0_part192_eq_skeleton]; unfold args k0_part192_skel
  refine Tri.out ?_
  iterate 6 refine recv_t V K c _ (by decide) (by clear * - c; revert c; decide +kernel) rfl rfl ?_
  exact ⟨done⟩
theorem part193 {Fr : sProp 𝕄} (v2 : BitVec 32) (v433 : BitVec 32) (c15_i32_348 : BitVec 32) : iprop(ctx V K ∗ (RecvSt V c 42 ∗ Fr)) ⊢ wpc c (args (k0_part193 (F := F)) c v2 v433 c15_i32_348) fun _ => iprop(RecvSt V c 46 ∗ Fr) := by
  rw [k0_part193_eq_skeleton]; unfold args k0_part193_skel
  refine Tri.out ?_
  iterate 4 refine recv_t V K c _ (by decide) (by clear * - c; revert c; decide +kernel) rfl rfl ?_
  exact ⟨done⟩
theorem part194 {Fr : sProp 𝕄} (v2 : BitVec 32) (v454 : BitVec 32) : iprop(ctx V K ∗ (RecvSt V c 46 ∗ Fr)) ⊢ wpc c (args (k0_part194 (F := F)) c v2 v454) fun _ => iprop(RecvSt V c 51 ∗ Fr) := by
  rw [k0_part194_eq_skeleton]; unfold args k0_part194_skel
  refine Tri.out ?_
  iterate 5 refine recv_t V K c _ (by decide) (by clear * - c; revert c; decide +kernel) rfl rfl ?_
  exact ⟨done⟩
theorem part195 {Fr : sProp 𝕄} (v2 : BitVec 32) (v492 : BitVec 32) (v497 : BitVec 32) (c0_i32_395 : BitVec 32) : iprop(ctx V K ∗ (RecvSt V c 51 ∗ Fr)) ⊢ wpc c (args (k0_part195 (F := F)) c v2 v492 v497 c0_i32_395) fun _ => iprop(RecvSt V c 57 ∗ Fr) := by
  rw [k0_part195_eq_skeleton]; unfold args k0_part195_skel
  refine Tri.out ?_
  iterate 6 refine recv_t V K c _ (by decide) (by clear * - c; revert c; decide +kernel) rfl rfl ?_
  exact ⟨done⟩
theorem part196 {Fr : sProp 𝕄} (v2 : BitVec 32) (v528 : BitVec 32) (c20_i32_418 : BitVec 32) : iprop(ctx V K ∗ (RecvSt V c 57 ∗ Fr)) ⊢ wpc c (args (k0_part196 (F := F)) c v2 v528 c20_i32_418) fun _ => iprop(RecvSt V c 61 ∗ Fr) := by
  rw [k0_part196_eq_skeleton]; unfold args k0_part196_skel
  refine Tri.out ?_
  iterate 4 refine recv_t V K c _ (by decide) (by clear * - c; revert c; decide +kernel) rfl rfl ?_
  exact ⟨done⟩
theorem part197 {Fr : sProp 𝕄} (v2 : BitVec 32) (v549 : BitVec 32) : iprop(ctx V K ∗ (RecvSt V c 61 ∗ Fr)) ⊢ wpc c (args (k0_part197 (F := F)) c v2 v549) fun _ => iprop(RecvSt V c 66 ∗ Fr) := by
  rw [k0_part197_eq_skeleton]; unfold args k0_part197_skel
  refine Tri.out ?_
  iterate 5 refine recv_t V K c _ (by decide) (by clear * - c; revert c; decide +kernel) rfl rfl ?_
  exact ⟨done⟩
theorem part198 {Fr : sProp 𝕄} (v2 : BitVec 32) (v587 : BitVec 32) (v592 : BitVec 32) (c0_i32_465 : BitVec 32) : iprop(ctx V K ∗ (RecvSt V c 66 ∗ Fr)) ⊢ wpc c (args (k0_part198 (F := F)) c v2 v587 v592 c0_i32_465) fun _ => iprop(RecvSt V c 72 ∗ Fr) := by
  rw [k0_part198_eq_skeleton]; unfold args k0_part198_skel
  refine Tri.out ?_
  iterate 6 refine recv_t V K c _ (by decide) (by clear * - c; revert c; decide +kernel) rfl rfl ?_
  exact ⟨done⟩
theorem part199 {Fr : sProp 𝕄} (v2 : BitVec 32) (v623 : BitVec 32) (c25_i32_488 : BitVec 32) : iprop(ctx V K ∗ (RecvSt V c 72 ∗ Fr)) ⊢ wpc c (args (k0_part199 (F := F)) c v2 v623 c25_i32_488) fun _ => iprop(RecvSt V c 76 ∗ Fr) := by
  rw [k0_part199_eq_skeleton]; unfold args k0_part199_skel
  refine Tri.out ?_
  iterate 4 refine recv_t V K c _ (by decide) (by clear * - c; revert c; decide +kernel) rfl rfl ?_
  exact ⟨done⟩
theorem part200 {Fr : sProp 𝕄} (v2 : BitVec 32) (v644 : BitVec 32) : iprop(ctx V K ∗ (RecvSt V c 76 ∗ Fr)) ⊢ wpc c (args (k0_part200 (F := F)) c v2 v644) fun _ => iprop(RecvSt V c 81 ∗ Fr) := by
  rw [k0_part200_eq_skeleton]; unfold args k0_part200_skel
  refine Tri.out ?_
  iterate 5 refine recv_t V K c _ (by decide) (by clear * - c; revert c; decide +kernel) rfl rfl ?_
  exact ⟨done⟩
theorem part201 {Fr : sProp 𝕄} (v2 : BitVec 32) (v682 : BitVec 32) (v687 : BitVec 32) (c0_i32_535 : BitVec 32) : iprop(ctx V K ∗ (RecvSt V c 81 ∗ Fr)) ⊢ wpc c (args (k0_part201 (F := F)) c v2 v682 v687 c0_i32_535) fun _ => iprop(RecvSt V c 87 ∗ Fr) := by
  rw [k0_part201_eq_skeleton]; unfold args k0_part201_skel
  refine Tri.out ?_
  iterate 6 refine recv_t V K c _ (by decide) (by clear * - c; revert c; decide +kernel) rfl rfl ?_
  exact ⟨done⟩
theorem part202 {Fr : sProp 𝕄} (v2 : BitVec 32) (v718 : BitVec 32) (c30_i32_558 : BitVec 32) : iprop(ctx V K ∗ (RecvSt V c 87 ∗ Fr)) ⊢ wpc c (args (k0_part202 (F := F)) c v2 v718 c30_i32_558) fun _ => iprop(RecvSt V c 91 ∗ Fr) := by
  rw [k0_part202_eq_skeleton]; unfold args k0_part202_skel
  refine Tri.out ?_
  iterate 4 refine recv_t V K c _ (by decide) (by clear * - c; revert c; decide +kernel) rfl rfl ?_
  exact ⟨done⟩
end Recv

end Cert.KernelIdeal.Pf
-- ==== Proof.KiGa.lean ====
/-
The codes gathered.
-/
module

public import proofs.«01_k».proof.Proof.KiDq
public import proofs.«01_k».proof.Proof.KiRc
@[expose] public section

set_option maxRecDepth 16384
set_option maxHeartbeats 400000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Recv
variable (V : Ins F) (K : Dev nD × CK → ℕ) (c : Dev nD)

theorem un_surj : ∀ c d : Dev nD, d ≠ c → ∃ j : Fin 31, un c j = d := by decide +kernel
theorem un_ne (j : Fin 31) : un c j ≠ c := by rw [← Fin.rev_rev j, un_rev]; exact sh_ne c _
theorem un_inj : Function.Injective (un c) := fun j j' h => by
  rw [← Fin.rev_rev j, ← Fin.rev_rev j', un_rev, un_rev] at h
  exact Fin.rev_injective (sh_inj c h)

/-- The gathered codes, the device's own rows and the rows of each of the others. -/
theorem ks_own (f : (cc0_scratch0 : Ref sig .tc).ty.Contents (Elt F)) : ks c Finset.univ f = iprop(ks c (rowSet c) f ∗ bigSep Finset.univ fun j : Fin 31 => ks c (rowSet (un c j)) f) := by
  have e : (Finset.univ : Finset S2x2x2816x256.Idx) = rowSet c ∪ (Finset.univ : Finset (Fin 31)).biUnion fun j => rowSet (un c j) := by
    ext i; simp only [Finset.mem_univ, true_iff, Finset.mem_union, Finset.mem_biUnion, true_and]
    by_cases h : devOf i = c
    · exact .inl ((mem_rowSet c i).mpr h)
    · obtain ⟨j, hj⟩ := un_surj c _ h
      exact .inr ⟨j, (mem_rowSet _ i).mpr hj.symm⟩
  have e2 := pointsTo_biUnion (ℓ := (c : Thread nD τ).loc cc0_scratch0) (q := fullShare) (f := f) (Val := Elt F) (Ix := Unit) (Name := ℕ) (U := UU) (Lvl := ℕ) Finset.univ (fun j : Fin 31 => rowSet (un c j)) fun j _ j' _ h => rowSet_disjoint _ _ fun h' => h (un_inj c h')
  unfold ks
  rw [e]
  refine Eq.trans ?_ (congrArg (fun X : sProp 𝕄 => iprop(((c : Thread nD τ).loc cc0_scratch0 ↦[rowSet c]{fullShare} f) ∗ X)) e2)
  exact Entails.antisymm (pointsTo_union ((Finset.disjoint_biUnion_right _ _ _).mpr fun j _ => rowSet_disjoint _ _ (un_ne c j).symm)).1
    (pointsTo_union ((Finset.disjoint_biUnion_right _ _ _).mpr fun j _ => rowSet_disjoint _ _ (un_ne c j).symm)).2

/-- The receive semaphores closed. -/
def RcvZ : sProp 𝕄 := iprop(Ow c (Ow3 c 31 31 0) ∗ bigSep Finset.univ fun j : Fin 31 => semVal (kcell c (krcv j)) 0)
theorem gathered : iprop(RecvSt V c 93 ∗ (ks c (rowSet c) (KS V c) ∗ ∃ g, kgp c g)) ⊢ iprop(DqSt V c 0 ∗ RcvZ (F := F) c) := by
  unfold RecvSt DqSt RcvZ
  rw [recv_end, ks_own]
  unfold rcvD
  rw [bigSep_sep']
  iintro ⟨⟨Ho, Hz, Hk⟩, Hc, %g, Hg⟩
  isplitl [Hc Hk Hg]
  · isplitl [Hc Hk]
    · isplitl [Hc] <;> iassumption
    iexists g
    iapply (Entails.of_eq (congrArg (kgp c) (show g = kgf V c 0 g from funext fun i => (if_neg (Nat.not_lt_zero _)).symm))) $$ Hg
  isplitl [Ho] <;> iassumption

theorem part203 (v739 : BitVec 32) : iprop(ctx V K ∗ (RecvSt V c 91 ∗ (ks c (rowSet c) (KS V c) ∗ ∃ g, kgp c g))) ⊢ wpc c (args (k0_part203 (F := F)) c v739) fun _ => iprop(DqSt V c 3 ∗ RcvZ (F := F) c) := by
  rw [k0_part203_eq_skeleton]; unfold args k0_part203_skel
  refine Tri.out ?_
  iterate 2 refine recv_t V K c _ (by decide) (by clear * - c; revert c; decide +kernel) rfl rfl ?_
  refine ⟨weaken (gathered V c) ?_⟩
  refine stepv (framedv (dq_load V c _)) ?_
  refine step (framed (dq_dead V c _)) fun _ => ?_
  refine step (framed (dq_store V c _ (by decide) rfl rfl (shapeCast_self _ _))) fun _ => ?_
  refine stepv (framedv (dq_load V c _)) ?_
  refine step (framed (dq_dead V c _)) fun _ => ?_
  refine step (framed (dq_store V c _ (by decide) rfl rfl (shapeCast_self _ _))) fun _ => ?_
  refine stepv (framedv (dq_load V c _)) ?_
  refine step (framed (dq_dead V c _)) fun _ => ?_
  refine step (framed (dq_store V c _ (by decide) rfl rfl (shapeCast_self _ _))) fun _ => ?_
  exact done

end Recv

end Cert.KernelIdeal.Pf
-- ==== Proof.KiBa.lean ====
/-
The body of one device: its parts in sequence.
-/
module

public import proofs.«01_k».proof.Proof.KiSw
public import proofs.«01_k».proof.Proof.KiAx
public import proofs.«01_k».proof.Proof.KiDp
public import proofs.«01_k».proof.Proof.KiGa
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A step's triple under a frame, its fact kept in front. -/
theorem framedx {c : Dev nD} {β : Type} {C A Fr B : sProp 𝕄} {φ : β → Prop} {q : Prog (TpuEff nD τ sig (Elt F) Λ₀ .tc) β} (t : iprop(C ∗ A) ⊢ wpc c q fun a => iprop(⌜φ a⌝ ∗ B)) :
    iprop(C ∗ (A ∗ Fr)) ⊢ wpc c q fun a => iprop(⌜φ a⌝ ∗ (B ∗ Fr)) := by
  refine conseq (framed t) .rfl fun a => ?_
  iintro ⟨⟨H1, H2⟩, H3⟩
  isplitl [H1]; · iexact H1
  isplitl [H2] <;> iassumption

theorem bs_mono {I : Type} [DecidableEq I] {S : Finset I} {Φ Ψ : I → sProp 𝕄} (h : ∀ i ∈ S, (Φ i ⊢ Ψ i)) : bigSep S Φ ⊢ bigSep S Ψ := BI.bigSep_mono h

section Body
variable (V : Ins F) (K : Dev nD × CK → ℕ) (c : Dev nD)

/-- The send slots with any contents, and the tokens of the exchanges. -/
def SLp : sProp 𝕄 := bigSep Finset.univ fun s : Fin 10 => iprop((∃ f, sbp c (slotSet s) f) ∗ dutyTok ER (kcell c (kas s)) 0 0 ∗ dutyTok ER (kcell (xp c s) (kar s)) 0 0)
def AtS : sProp 𝕄 := bigSep Finset.univ fun j : Fin 31 => atPos ER (kcell c (ksnd j)) 0 ∅ 0
def AtA : sProp 𝕄 := bigSep Finset.univ fun s : Fin 10 => atPos ER (kcell c (kas s)) 0 ∅ 0
/-- What waits until the exchanges. -/
def Fr1 : sProp 𝕄 := iprop(SLp (F := F) c ∗ (RW V c 0 ∗ (AtS (F := F) c ∗ AtA (F := F) c)))
/-- What waits until the attention. -/
def Fr2 : sProp 𝕄 := iprop((∃ g, kgp (F := F) c g) ∗ (wop V c ∗ (OutSt V c 0 ∗ Fr1 V c)))
/-- What a device's body starts from. -/
def Bd0 : sProp 𝕄 := iprop(SigSt (F := F) c 0 ∗ ((LocSt V c 0 ∗ xwp V c) ∗ (PreA V c ∗ Fr2 V c)))
/-- What no step touches any more. -/
def Left : sProp 𝕄 := iprop((semVal (kcell c kbar) 0 ∗ (bigSep Finset.univ fun j : Fin 31 => semVal (kcell c (krcv j)) 0)) ∗ ((kvp c (kvR c) (V.kv c) ∗ xwp V c) ∗ AtA (F := F) c))
def Tail : sProp 𝕄 := iprop((AtSt V c ∗ (wop V c ∗ SwD V c)) ∗ Left V c)
def Fr3 : sProp 𝕄 := iprop((kvp c (kvR c) (V.kv c) ∗ xwp V c) ∗ Fr1 V c)

theorem bd_sig : iprop(SigSt (F := F) c 29 ∗ ((LocSt V c 0 ∗ xwp V c) ∗ (PreA V c ∗ Fr2 V c))) ⊢ iprop((SigSt (F := F) c 29 ∗ (LocSt V c 0 ∗ xwp V c)) ∗ (PreA V c ∗ Fr2 V c)) := by
  iintro ⟨H1, H2, H3⟩
  isplitr [H3]
  · isplitl [H1] <;> iassumption
  iexact H3
theorem bd_pre : iprop((SigSt (F := F) c 31 ∗ (LocSt V c 3 ∗ xwp V c)) ∗ (PreA V c ∗ Fr2 V c)) ⊢ iprop((Ow c (Ow3 c 31 0 0) ∗ PreA V c) ∗ ((LocSt V c 3 ∗ xwp V c) ∗ Fr2 V c)) := by
  unfold SigSt
  iintro ⟨⟨⟨Ho, -⟩, H2⟩, H3, H4⟩
  isplitl [Ho H3]
  · isplitl [Ho] <;> iassumption
  isplitl [H2] <;> iassumption
theorem bd_rcv : iprop((RecvSt V c 1 ∗ Sent (F := F) c) ∗ ((LocSt V c 3 ∗ xwp V c) ∗ Fr2 V c)) ⊢ iprop(RecvSt V c 1 ∗ (Sent (F := F) c ∗ ((LocSt V c 3 ∗ xwp V c) ∗ Fr2 V c))) := by
  iintro ⟨⟨H1, H2⟩, H3⟩
  isplitl [H1]; · iexact H1
  isplitl [H2] <;> iassumption
theorem bd_gat : iprop(RecvSt V c 91 ∗ (Sent (F := F) c ∗ ((LocSt V c 3 ∗ xwp V c) ∗ Fr2 V c)))
    ⊢ iprop((RecvSt V c 91 ∗ (ks c (rowSet c) (KS V c) ∗ ∃ g, kgp (F := F) c g)) ∗ (Sent (F := F) c ∗ ((wop V c ∗ OutSt V c 0) ∗ Fr3 V c))) := by
  unfold LocSt Fr2 Fr3
  rw [if_pos (cls_lt _)]
  iintro ⟨H1, Hs, ⟨⟨Hk, Hr⟩, Hx⟩, Hg, Hw, Ho, Hf⟩
  isplitl [H1 Hr Hg]
  · isplitl [H1]; · iexact H1
    isplitl [Hr] <;> iassumption
  isplitl [Hs]; · iexact Hs
  isplitl [Hw Ho]
  · isplitl [Hw] <;> iassumption
  isplitr [Hf]
  · isplitl [Hk] <;> iassumption
  iexact Hf
theorem bd_dq : iprop((DqSt V c 3 ∗ RcvZ (F := F) c) ∗ (Sent (F := F) c ∗ ((wop V c ∗ OutSt V c 0) ∗ Fr3 V c)))
    ⊢ iprop(DqSt V c 3 ∗ (RcvZ (F := F) c ∗ (Sent (F := F) c ∗ ((wop V c ∗ OutSt V c 0) ∗ Fr3 V c)))) := by
  iintro ⟨⟨H1, H2⟩, H3⟩
  isplitl [H1]; · iexact H1
  isplitl [H2] <;> iassumption
theorem bd_att : iprop(AtSt V c ∗ (RcvZ (F := F) c ∗ (Sent (F := F) c ∗ ((wop V c ∗ OutSt V c 0) ∗ Fr3 V c))))
    ⊢ iprop(Att V c 0 ∗ (RcvZ (F := F) c ∗ (Sent (F := F) c ∗ Fr3 V c))) := by
  unfold Att
  iintro ⟨H1, H2, H3, H4, H5⟩
  isplitl [H1 H4]
  · isplitl [H1] <;> iassumption
  isplitl [H2]; · iexact H2
  isplitl [H3] <;> iassumption

theorem sl_start : iprop((bigSep Finset.univ fun s : Fin 10 => iprop(∃ f, rbp (F := F) (xp c s) (slotSet s) f)) ∗ SLp (F := F) c) ⊢ SL V c 0 0 := by
  unfold SLp SL
  rw [← bigSep_sep']
  refine bs_mono fun s _ => ?_
  unfold SLs Lk
  rw [if_neg (Nat.not_lt_zero _), if_neg (Nat.not_lt_zero _)]
  iintro ⟨H1, H2, H3⟩
  isplitl [H2]; · iexact H2
  isplitl [H1] <;> iassumption
theorem sw_start : iprop(Ow c (Ow3 c 31 31 0) ∗ (bigSep Finset.univ fun j : Fin 31 => cred (tallyAt (kcell c (ksnd j)) () (nb c))) ∗ AtS (F := F) c) ⊢ SwSt V c 0 := by
  unfold AtS SwSt
  rw [prog_start, bigSep_sep']
theorem bd_sw : iprop(Att V c 1 ∗ (RcvZ (F := F) c ∗ (Sent (F := F) c ∗ Fr3 V c)))
    ⊢ iprop((SwSt V c 0 ∗ (Att V c 1 ∗ (SL V c 0 0 ∗ RW V c 0))) ∗ Left V c) := by
  unfold RcvZ Sent Fr3 Fr1 Left
  iintro ⟨Ha, ⟨Ho, Hz⟩, ⟨Hb, Hr, Hc⟩, Hk, Hp, Hw, Hs, Ht⟩
  isplitl [Ha Ho Hr Hc Hp Hw Hs]
  · isplitl [Ho Hc Hs]
    · iapply (sw_start V c)
      isplitl [Ho]; · iexact Ho
      isplitl [Hc] <;> iassumption
    isplitl [Ha]; · iexact Ha
    isplitr [Hw]
    · iapply (sl_start V c)
      isplitl [Hr] <;> iassumption
    iexact Hw
  isplitl [Hb Hz]
  · isplitl [Hb] <;> iassumption
  isplitl [Hk] <;> iassumption
theorem bd_ar : iprop((Ar V c 1 0 0 0 ∗ (AtSt V c ∗ (wop V c ∗ SwD V c))) ∗ Left V c) ⊢ iprop(Ar V c 1 0 0 0 ∗ Tail V c) := by
  unfold Tail
  iintro ⟨⟨H1, H2⟩, H3⟩
  isplitl [H1]; · iexact H1
  isplitl [H2] <;> iassumption

/-- All that is left when the exchanges are done, next to the sends. -/
def FinR : sProp 𝕄 := iprop((outp c (OUT V c 10) ∗ RW V c 10) ∗ ((AtSt V c ∗ (wop V c ∗ SwD V c))
  ∗ ((semVal (kcell c kbar) 0 ∗ (bigSep Finset.univ fun j : Fin 31 => semVal (kcell c (krcv j)) 0)) ∗ (kvp c (kvR c) (V.kv c) ∗ xwp V c))))
/-- What a device's body ends in. -/
def Bd1 : sProp 𝕄 := iprop(WsSt V c 10 ∗ FinR V c)
theorem ws_start : iprop(SL V c 10 10 ∗ AtA (F := F) c) ⊢ iprop(prog 0 (fun s : Fin 10 => iprop(cred (tallyAt (kcell c (kas s)) () NA) ∗ atPos ER (kcell c (kas s)) 0 ∅ 0))
    (fun s => iprop(semVal (kcell c (kas s)) 0 ∗ sbp c (slotSet s) (SBf V c)))) := by
  unfold SL AtA
  rw [prog_start, ← bigSep_sep']
  refine bs_mono fun s _ => ?_
  unfold SLs
  rw [if_pos s.isLt]
theorem bd_ws : iprop(Ar V c 10 10 10 10 ∗ Tail V c) ⊢ iprop(WsSt V c 0 ∗ FinR V c) := by
  unfold Ar Tail Left WsSt FinR
  iintro ⟨⟨Ho, Hu, Hl, Hw⟩, Ha, Hz, Hk, Ht⟩
  isplitl [Ho Hl Ht]
  · isplitl [Ho]; · iexact Ho
    iapply (ws_start V c)
    isplitl [Hl] <;> iassumption
  isplitl [Hu Hw]
  · isplitl [Hu] <;> iassumption
  isplitl [Ha]; · iexact Ha
  isplitl [Hz] <;> iassumption

end Body

end Cert.KernelIdeal.Pf
-- ==== Proof.KiBb.lean ====
/-
The body of one device: its parts in sequence, from the first state to the last.
-/
module

public import proofs.«01_k».proof.Proof.KiBa
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (V : Ins F) (K : Dev nD × CK → ℕ) (c : Dev nD)

/-- From the signals to the end of the exchanges but the last. -/
theorem part243 : iprop(ctx V K ∗ Bd0 V c) ⊢ wpc c (args (k0_part243 (F := F))) fun a => iprop(⌜a.1 = c⌝ ∗ (Ar V c 10 9 8 8 ∗ Tail V c)) := by
  rw [k0_part243_eq_skeleton]; unfold args k0_part243_skel
  unfold Bd0
  refine stepx (fun a : (Σ' (d0 : Dev nD) (v2 : BitVec 32) (v3 : Sems sig S_) (v24 : BitVec 32), BitVec 32) => a.1 = c ∧ a.2.2.1 = SemArray.scalar (sig.barrier 0 rfl))
    (B := iprop(SigSt (F := F) c 5 ∗ ((LocSt V c 0 ∗ xwp V c) ∗ (PreA V c ∗ Fr2 V c)))) (by with_reducible exact framedx (part178 V K c)) ?_
  rintro ⟨d0, v2, v3, v24, c32_i32_20⟩ ⟨h1, h2⟩
  replace h1 : c = d0 := h1.symm
  replace h2 : v3 = SemArray.scalar (sig.barrier 0 rfl) := h2
  subst h1 h2
  refine step (framed (parts179_182 V K c v2 v24 c32_i32_20 0#32 0#32 0#32 0#32 0#32 0#32).1) ?_
  rintro ⟨v48, c32_i32_44⟩
  refine step (framed (parts179_182 V K c v2 0#32 0#32 v48 c32_i32_44 0#32 0#32 0#32 0#32).2.1) ?_
  rintro ⟨v72, c32_i32_68⟩
  refine step (framed (parts179_182 V K c v2 0#32 0#32 0#32 0#32 v72 c32_i32_68 0#32 0#32).2.2.1) ?_
  rintro ⟨v96, c32_i32_92⟩
  refine step (framed (parts179_182 V K c v2 0#32 0#32 0#32 0#32 0#32 0#32 v96 c32_i32_92).2.2.2) ?_
  rintro ⟨v120, c32_i32_116⟩
  refine weaken (bd_sig V c) ?_
  refine stepv (framedv (part183 V K c v2 v120 c32_i32_116)) ?_
  refine weaken (bd_pre V c) ?_
  refine step (framed (part184 V K c v2)) ?_
  intro v169
  refine weaken (bd_rcv V c) ?_
  refine step (part185 V K c v2 v169) ?_
  rintro ⟨v207, v212, c0_i32_185⟩
  refine step (part186 V K c v2 v207 v212 c0_i32_185) ?_
  rintro ⟨v243, c5_i32_208⟩
  refine step (part187 V K c v2 v243 c5_i32_208) ?_
  intro v264
  refine step (part188 V K c v2 v264) ?_
  rintro ⟨v302, v307, c0_i32_255⟩
  refine step (part189 V K c v2 v302 v307 c0_i32_255) ?_
  rintro ⟨v338, c10_i32_278⟩
  refine step (part190 V K c v2 v338 c10_i32_278) ?_
  intro v359
  refine step (part191 V K c v2 v359) ?_
  rintro ⟨v397, v402, c0_i32_325⟩
  refine step (part192 V K c v2 v397 v402 c0_i32_325) ?_
  rintro ⟨v433, c15_i32_348⟩
  refine step (part193 V K c v2 v433 c15_i32_348) ?_
  intro v454
  refine step (part194 V K c v2 v454) ?_
  rintro ⟨v492, v497, c0_i32_395⟩
  refine step (part195 V K c v2 v492 v497 c0_i32_395) ?_
  rintro ⟨v528, c20_i32_418⟩
  refine step (part196 V K c v2 v528 c20_i32_418) ?_
  intro v549
  refine step (part197 V K c v2 v549) ?_
  rintro ⟨v587, v592, c0_i32_465⟩
  refine step (part198 V K c v2 v587 v592 c0_i32_465) ?_
  rintro ⟨v623, c25_i32_488⟩
  refine step (part199 V K c v2 v623 c25_i32_488) ?_
  intro v644
  refine step (part200 V K c v2 v644) ?_
  rintro ⟨v682, v687, c0_i32_535⟩
  refine step (part201 V K c v2 v682 v687 c0_i32_535) ?_
  rintro ⟨v718, c30_i32_558⟩
  refine step (part202 V K c v2 v718 c30_i32_558) ?_
  intro v739
  refine weaken (bd_gat V c) ?_
  refine step (framed (part203 V K c v739)) ?_
  intro _
  refine weaken (bd_dq V c) ?_
  refine stepv (framedv (part204 V K c)) ?_
  refine step (framed (part205 V K c)) ?_
  intro _
  refine stepv (framedv (part206 V K c)) ?_
  refine step (framed (part207 V K c)) ?_
  intro _
  refine stepv (framedv (part208 V K c)) ?_
  refine step (framed (part209 V K c)) ?_
  intro _
  refine stepv (framedv (part210 V K c)) ?_
  refine step (framed (part211 V K c)) ?_
  intro _
  refine stepv (framedv (part212 V K c)) ?_
  refine stepv (framedv (part213 V K c)) ?_
  refine stepx (fun a : (Σ' (v1046 : FVec F S2x2x64x256 .bf16), Vec F S2x2x64x256 .bf16) => a.1 = k0_pay51 (blk V c 41 (by decide)))
    (B := iprop(DqSt V c 41 ∗ (RcvZ (F := F) c ∗ (Sent (F := F) c ∗ ((wop V c ∗ OutSt V c 0) ∗ Fr3 V c))))) (by with_reducible exact framedx (part214 V K c)) ?_
  rintro ⟨v1046, v1047⟩ h3
  replace h3 : v1046 = k0_pay51 (blk V c 41 (by decide)) := h3
  subst h3
  refine stepv (framedv (part215 V K c v1047)) ?_
  refine weaken (bd_att V c) ?_
  refine stepv (framedv (part216 V K c)) ?_
  refine stepv (framedv (part217 V K c)) ?_
  refine stepv (framedv (part218 V K c)) ?_
  refine stepv (framedv (part219 V K c)) ?_
  refine stepv (framedv (part220 V K c)) ?_
  refine stepv (framedv (part221 V K c)) ?_
  refine stepv (framedv (part222 V K c)) ?_
  refine stepv (framedv (part223 V K c)) ?_
  refine stepv (framedv (part224 V K c)) ?_
  refine weaken (bd_sw V c) ?_
  refine step (framed (part225 V K c v2)) ?_
  intro v1422
  refine weaken (bd_ar V c) ?_
  refine step (framed (part226 V K c v2 v1422)) ?_
  intro v1449
  refine step (framed (part227 V K c v2 v1449)) ?_
  intro v1473
  refine stepv (framedv (part228 V K c v2 v1473)) ?_
  refine step (framed (part229 V K c v2)) ?_
  intro v1520
  refine step (framed (part230 V K c v2 v1520)) ?_
  rintro ⟨v1544, c0_i32_1355⟩
  refine step (framed (part231 V K c v2 v1544 c0_i32_1355)) ?_
  intro _
  refine step (framed (part232 V K c v2)) ?_
  intro _
  refine step (framed (part233 V K c v2)) ?_
  intro _
  refine stepv (framedv (part234 V K c v2)) ?_
  refine step (framed (part235 V K c v2)) ?_
  intro _
  refine step (framed (part236 V K c v2)) ?_
  intro v1694
  refine step (framed (part237 V K c v2 v1694)) ?_
  intro v1718
  refine ret_of ?_
  iintro ⟨-, H⟩
  isplitr
  · ipureintro; rfl
  iexact H

/-- The whole body of one device: from what the launch hands it to what it hands back. -/
theorem body_spec : iprop(ctx V K ∗ Bd0 V c) ⊢ wpc c (args (cc0_body (F := F))) fun _ => Bd1 V c := by
  rw [cc0_body_eq_skeleton]; unfold args cc0_body_skel Bd1
  refine stepx (fun a : (Σ' (d0 : Dev nD) (v2 : BitVec 32), BitVec 32) => a.1 = c) (B := iprop(Ar V c 10 9 8 8 ∗ Tail V c)) (by with_reducible exact part243 V K c) ?_
  rintro ⟨d0, v2, v1718⟩ h1
  replace h1 : c = d0 := h1.symm
  subst h1
  refine stepv (framedv (part238 V K c v2 v1718)) ?_
  refine step (framed (part239 V K c v2)) fun _ => ?_
  refine weaken (bd_ws V c) ?_
  refine step (framed (part240 V K c)) fun _ => ?_
  refine step (framed (part241 V K c)) fun _ => ?_
  refine step (framed (part242 V K c)) fun _ => ?_
  refine framed (last (ws_op V K c 9 (by decide) rfl))
end Body

end Cert.KernelIdeal.Pf
-- ==== Proof.KiRes.lean ====
/-
The body of one device: what the launch hands it, and what it hands back.
-/
module

public import proofs.«01_k».proof.Proof.KiBa
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Split
variable (V : Ins F) (c : Dev nD)

/-! ## The buffers split at the start and joined at the end -/

/-- The gathered codes: the device's own rows, and the rows of each device it signals. -/
theorem ks_deal : iprop(∃ f, ks (F := F) c Finset.univ f) ⊢ iprop((∃ f, ks (F := F) c (rowSet c) f) ∗ bigSep Finset.univ fun j : Fin 31 => iprop(∃ f, ks (F := F) c (rowSet (sh c j)) f)) := by
  iintro ⟨%f, H⟩
  ihave H := (Entails.of_eq (ks_own (F := F) c f)) $$ H
  icases H with ⟨H1, H2⟩
  isplitl [H1]; · iexists f; iexact H1
  ihave H2 := (Entails.of_eq ((bigSep_univ_equiv Fin.revPerm fun j : Fin 31 => ks (F := F) c (rowSet (un c j)) f).trans (bigSep_congr fun j _ => by rw [Fin.revPerm_apply, un_rev]))) $$ H2
  have h : (bigSep Finset.univ fun j : Fin 31 => ks (F := F) c (rowSet (sh c j)) f) ⊢ bigSep Finset.univ fun j : Fin 31 => iprop(∃ f, ks (F := F) c (rowSet (sh c j)) f) :=
    bs_mono fun j _ => by iintro H; iexists f; iexact H
  iapply h; iexact H2

/-- The codes: the pieces that go out, and the rest. -/
theorem kv_deal (f : (cc0_stg2_0 : Ref sig .tc).ty.Contents (Elt F)) : kvp (F := F) c Finset.univ f = iprop((bigSep Finset.univ fun j : Fin 31 => kvp c (pieceSet c (sh c j)) f) ∗ kvp c (kvR c) f) := by
  have hd : Disjoint ((Finset.univ : Finset (Fin 31)).biUnion fun j => pieceSet c (sh c j)) (kvR c) := by
    rw [Finset.disjoint_left]; intro i hi hk
    obtain ⟨j, -, hj⟩ := Finset.mem_biUnion.mp hi
    exact (Finset.mem_filter.mp hk).2 j hj
  have e : (Finset.univ : Finset S2x2x128x8192.Idx) = ((Finset.univ : Finset (Fin 31)).biUnion fun j => pieceSet c (sh c j)) ∪ kvR c := by
    ext i; simp only [Finset.mem_univ, true_iff, Finset.mem_union, Finset.mem_biUnion, true_and]
    by_cases h : ∃ j : Fin 31, i ∈ pieceSet c (sh c j)
    · exact .inl h
    · exact .inr (Finset.mem_filter.mpr ⟨Finset.mem_univ _, fun j hj => h ⟨j, hj⟩⟩)
  have e2 := pointsTo_biUnion (ℓ := (c : Thread nD τ).loc cc0_stg2_0) (q := fullShare) (f := f) (Val := Elt F) (Ix := Unit) (Name := ℕ) (U := UU) (Lvl := ℕ) Finset.univ (fun j : Fin 31 => pieceSet c (sh c j)) fun j _ j' _ h => pieceSet_disjoint _ _ _ fun h' => h (sh_inj c h')
  unfold kvp
  rw [e]
  refine Eq.trans ?_ (congrArg (fun X : sProp 𝕄 => iprop(X ∗ ((c : Thread nD τ).loc cc0_stg2_0 ↦[kvR c]{fullShare} f))) e2)
  exact Entails.antisymm (pointsTo_union hd).1 (pointsTo_union hd).2

theorem sb_slots (f : (cc0_scratch2 : Ref sig .tc).ty.Contents (Elt F)) : sbp (F := F) c Finset.univ f = bigSep Finset.univ fun s : Fin 10 => sbp c (slotSet s) f := by
  have e2 := pointsTo_biUnion (ℓ := (c : Thread nD τ).loc cc0_scratch2) (q := fullShare) (f := f) (Val := Elt F) (Ix := Unit) (Name := ℕ) (U := UU) (Lvl := ℕ) Finset.univ slotSet fun s _ s' _ h => slotSet_disjoint _ _ h
  rw [slotSet_cover] at e2
  exact e2
theorem rb_slots (f : (cc0_scratch3 : Ref sig .tc).ty.Contents (Elt F)) : rbp (F := F) c Finset.univ f = bigSep Finset.univ fun s : Fin 10 => rbp c (slotSet s) f := by
  have e2 := pointsTo_biUnion (ℓ := (c : Thread nD τ).loc cc0_scratch3) (q := fullShare) (f := f) (Val := Elt F) (Ix := Unit) (Name := ℕ) (U := UU) (Lvl := ℕ) Finset.univ slotSet fun s _ s' _ h => slotSet_disjoint _ _ h
  rw [slotSet_cover] at e2
  exact e2
theorem sb_deal : iprop(∃ f, sbp (F := F) c Finset.univ f) ⊢ bigSep Finset.univ fun s : Fin 10 => iprop(∃ f, sbp (F := F) c (slotSet s) f) := by
  iintro ⟨%f, H⟩
  ihave H := (Entails.of_eq (sb_slots (F := F) c f)) $$ H
  have h : (bigSep Finset.univ fun s : Fin 10 => sbp (F := F) c (slotSet s) f) ⊢ bigSep Finset.univ fun s : Fin 10 => iprop(∃ f, sbp (F := F) c (slotSet s) f) :=
    bs_mono fun j _ => by iintro H; iexists f; iexact H
  iapply h; iexact H
theorem rb_deal : iprop(∃ f, rbp (F := F) c Finset.univ f) ⊢ bigSep Finset.univ fun s : Fin 10 => iprop(∃ f, rbp (F := F) c (slotSet s) f) := by
  iintro ⟨%f, H⟩
  ihave H := (Entails.of_eq (rb_slots (F := F) c f)) $$ H
  have h : (bigSep Finset.univ fun s : Fin 10 => rbp (F := F) c (slotSet s) f) ⊢ bigSep Finset.univ fun s : Fin 10 => iprop(∃ f, rbp (F := F) c (slotSet s) f) :=
    bs_mono fun j _ => by iintro H; iexists f; iexact H
  iapply h; iexact H

/-- What the signals hand over: the rows and the landing slots, each with the signal to the device it is for. -/
theorem bar_deal : iprop((bigSep Finset.univ fun j : Fin 31 => iprop(∃ f, ks (F := F) c (rowSet (sh c j)) f)) ∗ (bigSep Finset.univ fun s : Fin 10 => iprop(∃ f, rbp (F := F) c (slotSet s) f)))
    ⊢ bigSep Finset.univ fun j : Fin 31 => barPay (F := F) (sh c j) j := by
  rw [deal (jy c) fun s => iprop(∃ f, rbp (F := F) c (slotSet s) f), ← bigSep_sep']
  refine bs_mono fun j _ => Entails.of_eq ?_
  unfold barPay
  rw [un_sh]
  congr 1
  refine bigSep_congr fun s _ => ?_
  by_cases h : jy c s = j
  · have h' := (jx_sh c s j).mpr h
    rw [if_pos h, if_pos h']
    have e : xp (sh c j) s = c := by rw [← un_jx, h', un_sh]
    rw [e]
  · rw [if_neg h, if_neg fun h' => h ((jx_sh c s j).mp h')]

/-! ## What a device starts from -/

/-- The tokens of the duties device `c` pays. -/
def payToks : sProp 𝕄 :=
  iprop((bigSep Finset.univ fun j : Fin 31 => dutyTok ER (kcell (sh c j) kbar) 0 j)
    ∗ ((bigSep Finset.univ fun j : Fin 31 => dutyTok ER (kcell c (ksnd j)) 0 0) ∗ (bigSep Finset.univ fun j : Fin 31 => dutyTok ER (kcell (sh c j) (krcv j)) 0 0))
    ∗ ((bigSep Finset.univ fun s : Fin 10 => dutyTok ER (kcell c (kas s)) 0 0) ∗ (bigSep Finset.univ fun s : Fin 10 => dutyTok ER (kcell (xp c s) (kar s)) 0 0)))
/-- Its positions in the rounds of its cells. -/
def ats : sProp 𝕄 := bigSep Finset.univ fun k : CK => atPos ER (kcell c k) 0 ∅ 0
/-- The credit it waits with. -/
def creds : sProp 𝕄 :=
  iprop(cred (tallyAt (kcell c kbar) () 31) ∗ (bigSep Finset.univ fun j : Fin 31 => cred (tallyAt (kcell c (krcv j)) () (nb (un c j))))
    ∗ (bigSep Finset.univ fun s : Fin 10 => cred (tallyAt (kcell c (kar s)) () NA)))
/-- Its scratch buffers at any contents. -/
def scr : sProp 𝕄 := iprop((∃ f, ks (F := F) c Finset.univ f) ∗ (∃ g, kgp (F := F) c g) ∗ (∃ f, sbp (F := F) c Finset.univ f) ∗ (∃ f, rbp (F := F) c Finset.univ f))
/-- Its windows, the output's at any contents. -/
def winA : sProp 𝕄 := iprop(xwp V c ∗ kvp c Finset.univ (V.kv c) ∗ wop V c ∗ ∃ g, outp (F := F) c g)

theorem bigSep_unit (Φ : Unit → sProp 𝕄) : bigSep Finset.univ Φ = Φ () := by
  rw [show (Finset.univ : Finset Unit) = {()} from rfl, bigSep_singleton]
theorem ats_eq : ats (F := F) c = iprop(atPos ER (kcell c kbar) 0 ∅ 0
    ∗ ((bigSep Finset.univ fun j : Fin 31 => atPos ER (kcell c (ksnd j)) 0 ∅ 0) ∗ (bigSep Finset.univ fun j : Fin 31 => atPos ER (kcell c (krcv j)) 0 ∅ 0))
    ∗ ((bigSep Finset.univ fun s : Fin 10 => atPos ER (kcell c (kas s)) 0 ∅ 0) ∗ (bigSep Finset.univ fun s : Fin 10 => atPos ER (kcell c (kar s)) 0 ∅ 0))) := by
  unfold ats
  rw [bigSep_univ_sum, bigSep_univ_sum, bigSep_univ_sum, bigSep_univ_sum, bigSep_unit]
  rfl

/-- The body's first state out of the launch's. -/
theorem enter : iprop(Ow (F := F) c (O₀ c) ∗ payToks (F := F) c ∗ ats (F := F) c ∗ creds (F := F) c ∗ scr (F := F) c ∗ winA V c) ⊢ Bd0 V c := by
  rw [ats_eq]
  unfold payToks creds scr winA Bd0 SigSt LocSt PreA Fr2 Fr1 SLp AtS AtA RW OutSt RWt rcvT O₀
  rw [if_neg (Nat.not_lt_zero _), prog_start, prog_start, show tot c kbar = 31 from rfl]
  simp only [bigSep_sep']
  iintro ⟨Ho, ⟨Tb, ⟨Ts, Tr⟩, Ta, Tx⟩, ⟨Ab, ⟨As, Ar⟩, Aa, Ax⟩, ⟨Cb, Cr, Cx⟩, ⟨Hk, Hg, Hs, Hr⟩, Hx, Hv, Hw, Hu⟩
  ihave Hk := (ks_deal (F := F) c) $$ Hk
  icases Hk with ⟨Hown, Hk⟩
  ihave Hr := (rb_deal (F := F) c) $$ Hr
  ihave Hb := (bar_deal (F := F) c) $$ [Hk Hr]
  · isplitl [Hk] <;> iassumption
  ihave Hs := (sb_deal (F := F) c) $$ Hs
  ihave Hv := (Entails.of_eq (kv_deal (F := F) c (V.kv c))) $$ Hv
  icases Hv with ⟨Hp, Hv⟩
  isplitl [Ho Tb Hb]
  · isplitl [Ho]; · iexact Ho
    isplitl [Tb] <;> iassumption
  isplitl [Hv Hown Hx]
  · isplitr [Hx]
    · isplitl [Hv]; · iexact Hv
      iexact Hown
    iexact Hx
  isplitl [Cb Ab Hp Ts Tr Cr Ar]
  · isplitl [Cb Ab]
    · isplitl [Cb] <;> iassumption
    isplitl [Hp Ts Tr]
    · isplitl [Hp]; · iexact Hp
      isplitl [Ts] <;> iassumption
    isplitl [Cr] <;> iassumption
  isplitl [Hg]; · iexact Hg
  isplitl [Hw]; · iexact Hw
  isplitl [Hu]
  · icases Hu with ⟨%g, Hu⟩
    iexists g
    ihave Hu := (Entails.of_eq (show outp (F := F) c g = outp c (outf V c 0 g) from rfl)) $$ Hu
    iexact Hu
  isplitl [Hs Ta Tx]
  · isplitl [Hs]; · iexact Hs
    isplitl [Ta] <;> iassumption
  isplitl [Cx Ax]
  · isplitl [Cx] <;> iassumption
  isplitl [As] <;> iassumption

/-! ## What it ends in -/

/-- Its windows, the output's written. -/
def winB : sProp 𝕄 := iprop(xwp V c ∗ kvp c Finset.univ (V.kv c) ∗ wop V c ∗ outp (F := F) c (OUT V c 10))
/-- Its own semaphores at zero. -/
def zeros : sProp 𝕄 := bigSep Finset.univ fun k : (Fin 31 ⊕ Fin 31) ⊕ (Fin 10 ⊕ Fin 10) => semVal (kcell c (.inr k)) 0
theorem zeros_eq : zeros (F := F) c = iprop(((bigSep Finset.univ fun j : Fin 31 => semVal (kcell c (ksnd j)) 0) ∗ (bigSep Finset.univ fun j : Fin 31 => semVal (kcell c (krcv j)) 0))
    ∗ ((bigSep Finset.univ fun s : Fin 10 => semVal (kcell c (kas s)) 0) ∗ (bigSep Finset.univ fun s : Fin 10 => semVal (kcell c (kar s)) 0))) := by
  unfold zeros
  rw [bigSep_univ_sum, bigSep_univ_sum, bigSep_univ_sum]
  rfl

theorem owe_end : Ow3 c 31 31 10 = 0 := by unfold Ow3; rw [tail_end, tail_end, tail_end, add_zero, add_zero]

/-- The body's last state gives back the windows, the scratch buffers and every semaphore at zero. -/
theorem leave : Bd1 V c ⊢ iprop(Ow (F := F) c 0 ∗ winB V c ∗ semVal (kcell c kbar) 0 ∗ zeros (F := F) c ∗ scr (F := F) c) := by
  rw [zeros_eq]
  unfold Bd1 WsSt FinR RW SwD AtSt winB scr RWd
  rw [prog_end, prog_end, owe_end]
  simp only [bigSep_sep']
  iintro ⟨⟨Ho, Za, Hs⟩, ⟨Hu, Zx, Hr⟩, ⟨⟨Hk, Hg⟩, Hw, Zs, Hp⟩, ⟨Zb, Zr⟩, Hv, Hx⟩
  isplitl [Ho]; · iexact Ho
  isplitl [Hx Hp Hv Hw Hu]
  · isplitl [Hx]; · iexact Hx
    isplitl [Hp Hv]
    · iapply (Entails.of_eq (kv_deal (F := F) c (V.kv c)).symm)
      isplitl [Hp] <;> iassumption
    isplitl [Hw] <;> iassumption
  isplitl [Zb]; · iexact Zb
  isplitl [Za Zx Zs Zr]
  · isplitl [Zs Zr]
    · isplitl [Zs] <;> iassumption
    isplitl [Za] <;> iassumption
  isplitl [Hk]; · iexists (KS V c); iexact Hk
  isplitl [Hg]; · iexists (KG V c); iexact Hg
  isplitl [Hs]
  · iexists (SBf V c); iapply (Entails.of_eq (sb_slots (F := F) c (SBf V c)).symm); iexact Hs
  iexists (RBf V c); iapply (Entails.of_eq (rb_slots (F := F) c (RBf V c)).symm); iexact Hr
end Split

end Cert.KernelIdeal.Pf
-- ==== Proof.KiCr.lean ====
/-
The launch: the credit, the tokens and the cells' invariants.
-/
module

public import proofs.«01_k».proof.Proof.KiRes
public import proofs.«01_k».proof.Proof.Gen.KernelIdeal.Launch
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

theorem at_cell (d c : Dev nD) (k k' : CK) (n : ℕ) : (tallyAt (kcell d k') () n : CellTallies nD τ sig Unit) (kcell c k) () = if d = c ∧ k' = k then n else 0 := by
  rw [tallyAt_apply]
  by_cases h : d = c ∧ k' = k
  · obtain ⟨rfl, rfl⟩ := h
    rw [if_pos ⟨rfl, rfl⟩, if_pos ⟨rfl, rfl⟩]
  · rw [if_neg h, if_neg fun h' => h (by obtain ⟨h1, h2⟩ := kcell_inj h'.1; exact ⟨h1.symm, h2.symm⟩)]
/-- What device `d` owes cell `k` of device `c`. -/
theorem owed_at (d c : Dev nD) (k : CK) : O₀ d (kcell c k) () = (∑ j : Fin 31, if sh d j = c ∧ kbar = k then 1 else 0)
    + ((∑ j : Fin 31, if sh d j = c ∧ krcv j = k then nb d else 0) + ∑ s : Fin 10, if xp d s = c ∧ kar s = k then NA else 0) := by
  unfold O₀ Ow3
  rw [Pi.add_apply, Finsupp.add_apply, Pi.add_apply, Finsupp.add_apply, tail_apply, tail_apply, tail_apply]
  refine congrArg₂ _ (Finset.sum_congr rfl fun j _ => ?_) (congrArg₂ _ (Finset.sum_congr rfl fun j _ => ?_) (Finset.sum_congr rfl fun j _ => ?_))
  · rw [if_pos (Nat.zero_le _)]; exact at_cell _ _ _ _ _
  · rw [if_pos (Nat.zero_le _)]; exact at_cell _ _ _ _ _
  · rw [if_pos (Nat.zero_le _)]; exact at_cell _ _ _ _ _
theorem sh_iff (d c : Dev nD) (j : Fin 31) : sh d j = c ↔ d = un c j := ⟨fun h => by rw [← h, un_sh], fun h => by rw [h, sh_un]⟩
theorem xp_iff (d c : Dev nD) (s : Fin 10) : xp d s = c ↔ d = xp c s := ⟨fun h => by rw [← h, xp_xp], fun h => by rw [h, xp_xp]⟩
theorem krcv_iff (j j' : Fin 31) : krcv j = krcv j' ↔ j = j' := ⟨fun h => by injection h with h; injection h with h; injection h, fun h => h ▸ rfl⟩
theorem kar_iff (j j' : Fin 10) : kar j = kar j' ↔ j = j' := ⟨fun h => by injection h with h; injection h with h; injection h, fun h => h ▸ rfl⟩

theorem owed_bar (c : Dev nD) : (∑ d : Dev nD, O₀ d (kcell c kbar) ()) = 31 := by
  have e : ∀ d : Dev nD, O₀ d (kcell c kbar) () = ∑ j : Fin 31, if d = un c j then 1 else 0 := fun d => by
    rw [owed_at, Finset.sum_eq_zero (s := Finset.univ) (f := fun j : Fin 31 => if sh d j = c ∧ krcv j = kbar then nb d else 0) fun j _ => if_neg (fun h => by cases h.2),
      Finset.sum_eq_zero (s := Finset.univ) (f := fun s : Fin 10 => if xp d s = c ∧ kar s = kbar then NA else 0) fun j _ => if_neg (fun h => by cases h.2)]
    rw [add_zero, add_zero]
    refine Finset.sum_congr rfl fun j _ => ?_
    by_cases h : sh d j = c
    · rw [if_pos ⟨h, rfl⟩, if_pos ((sh_iff d c j).mp h)]
    · rw [if_neg fun h' => h h'.1, if_neg fun h' => h ((sh_iff d c j).mpr h')]
  rw [Finset.sum_congr rfl fun d _ => e d, Finset.sum_comm, Finset.sum_congr rfl fun j _ => Finset.sum_ite_eq' Finset.univ (un c j) fun _ => 1]
  simp
theorem owed_rcv (c : Dev nD) (j0 : Fin 31) : (∑ d : Dev nD, O₀ d (kcell c (krcv j0)) ()) = nb (un c j0) := by
  have e : ∀ d : Dev nD, O₀ d (kcell c (krcv j0)) () = if d = un c j0 then nb d else 0 := fun d => by
    rw [owed_at, Finset.sum_eq_zero (s := Finset.univ) (f := fun j : Fin 31 => if sh d j = c ∧ kbar = krcv j0 then 1 else 0) fun j _ => if_neg (fun h => by cases h.2),
      Finset.sum_eq_zero (s := Finset.univ) (f := fun s : Fin 10 => if xp d s = c ∧ kar s = krcv j0 then NA else 0) fun j _ => if_neg (fun h => by cases h.2),
      Finset.sum_eq_single j0 (fun j _ hj => if_neg fun h => hj ((krcv_iff _ _).mp h.2)) (fun h => absurd (Finset.mem_univ _) h)]
    rw [zero_add, add_zero]
    by_cases h : sh d j0 = c
    · rw [if_pos ⟨h, rfl⟩, if_pos ((sh_iff d c j0).mp h)]
    · rw [if_neg fun h' => h h'.1, if_neg fun h' => h ((sh_iff d c j0).mpr h')]
  rw [Finset.sum_congr rfl fun d _ => e d, Finset.sum_ite_eq' Finset.univ (un c j0) fun d => nb d, if_pos (Finset.mem_univ _)]
theorem owed_ar (c : Dev nD) (s0 : Fin 10) : (∑ d : Dev nD, O₀ d (kcell c (kar s0)) ()) = NA := by
  have e : ∀ d : Dev nD, O₀ d (kcell c (kar s0)) () = if d = xp c s0 then NA else 0 := fun d => by
    rw [owed_at, Finset.sum_eq_zero (s := Finset.univ) (f := fun j : Fin 31 => if sh d j = c ∧ kbar = kar s0 then 1 else 0) fun j _ => if_neg (fun h => by cases h.2),
      Finset.sum_eq_zero (s := Finset.univ) (f := fun j : Fin 31 => if sh d j = c ∧ krcv j = kar s0 then nb d else 0) fun j _ => if_neg (fun h => by cases h.2),
      Finset.sum_eq_single s0 (fun j _ hj => if_neg fun h => hj ((kar_iff _ _).mp h.2)) (fun h => absurd (Finset.mem_univ _) h)]
    rw [zero_add, zero_add]
    by_cases h : xp d s0 = c
    · rw [if_pos ⟨h, rfl⟩, if_pos ((xp_iff d c s0).mp h)]
    · rw [if_neg fun h' => h h'.1, if_neg fun h' => h ((xp_iff d c s0).mpr h')]
  rw [Finset.sum_congr rfl fun d _ => e d, Finset.sum_ite_eq' Finset.univ (xp c s0) fun _ => NA, if_pos (Finset.mem_univ _)]

theorem launch_at (c : Dev nD) (k : CK) (n : ℕ) (h : (∑ d : Dev nD, O₀ d (kcell c k) ()) = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

/-- A conjunction over the cells of a device, kind by kind. -/
theorem cells_split (Φ : CK → sProp 𝕄) : bigSep Finset.univ Φ = iprop(Φ kbar ∗ ((bigSep Finset.univ fun j : Fin 31 => Φ (ksnd j)) ∗ (bigSep Finset.univ fun j : Fin 31 => Φ (krcv j)))
    ∗ ((bigSep Finset.univ fun s : Fin 10 => Φ (kas s)) ∗ (bigSep Finset.univ fun s : Fin 10 => Φ (kar s)))) := by
  rw [bigSep_univ_sum, bigSep_univ_sum, bigSep_univ_sum, bigSep_univ_sum, bigSep_unit]
  rfl
theorem cells_one (Φ : CK → sProp 𝕄) : bigSep Finset.univ Φ = iprop(Φ kbar ∗ bigSep Finset.univ fun k : (Fin 31 ⊕ Fin 31) ⊕ (Fin 10 ⊕ Fin 10) => Φ (.inr k)) := by
  rw [bigSep_univ_sum, bigSep_unit]
  rfl

/-- The launch's credit to a device is the credit it waits with. -/
theorem creds_intro (c : Dev nD) : (Pipeline.launchCred O₀ c : sProp 𝕄) ⊢ creds (F := F) c := by
  unfold Pipeline.launchCred creds
  refine (bigSep_subset (Finset.subset_univ (Finset.univ.map ⟨csem, csem_inj⟩))).trans ?_
  rw [bigSep_map]
  have e : (bigSep Finset.univ fun k : CK => cred (tallyOn (kcell c k) (launchCredit (Pipeline.owing O₀) 0 (kcell c k)))) ⊢ creds (F := F) c := by
    unfold creds
    rw [cells_split, launch_at c kbar _ (owed_bar c),
      bigSep_congr (s := Finset.univ) fun (j : Fin 31) _ => congrArg cred (launch_at c (krcv j) _ (owed_rcv c j)),
      bigSep_congr (s := Finset.univ) fun (s : Fin 10) _ => congrArg cred (launch_at c (kar s) _ (owed_ar c s))]
    iintro ⟨H1, ⟨-, H2⟩, -, H3⟩
    isplitl [H1]; · iexact H1
    isplitl [H2] <;> iassumption
  unfold creds at e
  exact e

/-! ## The cells and the tokens -/

/-- The cells of all devices. -/
def kcells : Finset (GSem nD τ sig) := Finset.univ.map ⟨fun ck : Dev nD × CK => kcell ck.1 ck.2, fun a b h => Prod.ext (kcell_inj h).1 (kcell_inj h).2⟩
/-- A device's duties: 31 of its barrier cell, one of each other cell. -/
abbrev TK : Type := Fin 31 ⊕ (Fin 31 ⊕ Fin 31) ⊕ (Fin 10 ⊕ Fin 10)
def tokK : TK → CK × Fin 31
  | .inl j => (kbar, j)
  | .inr k => (.inr k, 0)
theorem tokK_inj : Function.Injective tokK := by
  rintro (j | k) (j' | k') h
  · exact congrArg Sum.inl (congrArg Prod.snd h)
  · exact absurd (congrArg Prod.fst h) (fun h' => by cases h')
  · exact absurd (congrArg Prod.fst h) (fun h' => by cases h')
  · exact congrArg Sum.inr (by have := congrArg Prod.fst h; injection this)
def tokOf (ct : Dev nD × TK) : GSem nD τ sig × ℕ × Fin 31 := (kcell ct.1 (tokK ct.2).1, 0, (tokK ct.2).2)
theorem tokOf_inj : Function.Injective tokOf := fun a b h => by
  have h1 := kcell_inj (congrArg Prod.fst h)
  have h2 : (tokK a.2).2 = (tokK b.2).2 := congrArg (fun x : GSem nD τ sig × ℕ × Fin 31 => x.2.2) h
  exact Prod.ext h1.1 (tokK_inj (Prod.ext h1.2 h2))
def ktoks : Finset (GSem nD τ sig × ℕ × Fin 31) := Finset.univ.map ⟨tokOf, tokOf_inj⟩

/-- The tokens of the duties of device `c`'s own cells. -/
def toks (c : Dev nD) : sProp 𝕄 :=
  iprop((bigSep Finset.univ fun j : Fin 31 => dutyTok ER (kcell c kbar) 0 j)
    ∗ ((bigSep Finset.univ fun j : Fin 31 => dutyTok ER (kcell c (ksnd j)) 0 0) ∗ (bigSep Finset.univ fun j : Fin 31 => dutyTok ER (kcell c (krcv j)) 0 0))
    ∗ ((bigSep Finset.univ fun s : Fin 10 => dutyTok ER (kcell c (kas s)) 0 0) ∗ (bigSep Finset.univ fun s : Fin 10 => dutyTok ER (kcell c (kar s)) 0 0)))

theorem bigSep_swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), ← bigSep_univ_prod (fun ba : B × A => Φ ba.2 ba.1)]
  exact bigSep_univ_equiv (Equiv.prodComm B A) (fun ab : A × B => Φ ab.1 ab.2)
theorem bigSep_turn {A B : Type} [Fintype A] [Fintype B] [DecidableEq A] [DecidableEq B] (e : B → A ≃ A) (Φ : A → B → sProp 𝕄) :
    (bigSep Finset.univ fun a => bigSep Finset.univ fun b => Φ a b) = bigSep Finset.univ fun a => bigSep Finset.univ fun b => Φ (e b a) b := by
  rw [bigSep_swap, bigSep_swap fun a b => Φ (e b a) b]
  exact bigSep_congr fun b _ => bigSep_univ_equiv (e b) fun a => Φ a b

/-- The tokens go to the devices that pay with them. -/
theorem toks_around : (bigSep Finset.univ fun c : Dev nD => toks (F := F) c) ⊢ bigSep Finset.univ fun c : Dev nD => payToks (F := F) c := by
  unfold toks payToks
  simp only [bigSep_sep']
  rw [bigSep_turn ring fun (c : Dev nD) (j : Fin 31) => (dutyTok ER (kcell c kbar) 0 j : sProp 𝕄),
    bigSep_turn ring fun (c : Dev nD) (j : Fin 31) => (dutyTok ER (kcell c (krcv j)) 0 0 : sProp 𝕄),
    bigSep_turn swap fun (c : Dev nD) (s : Fin 10) => (dutyTok ER (kcell c (kar s)) 0 0 : sProp 𝕄)]
  exact .rfl

section Glob
variable (V : Ins F)

/-- What the launch's ghost state deals a device. -/
def G (c : Dev nD) : sProp 𝕄 :=
  iprop((bigSep Finset.univ fun k : CK => roundState ER (Rd V) (kcell c k) 0)
    ∗ (bigSep Finset.univ fun k : CK => iprop(atPos ER (kcell c k) 0 ∅ 0 ∗ reached ER (kcell c k) 0)) ∗ toks (F := F) c)
/-- What it becomes once the cells' invariants are in place. -/
def G' (c : Dev nD) : sProp 𝕄 := iprop(∃ K, records V K ∗ (payToks (F := F) c ∗ ats (F := F) c))

theorem fund_cells : BI.own (ER (initOf kcells ktoks)) ⊢ (|==> bigSep Finset.univ (G V) : sProp 𝕄) := by
  have hX (Φ : GSem nD τ sig → sProp 𝕄) : bigSep kcells Φ = bigSep Finset.univ fun c : Dev nD => bigSep Finset.univ fun k : CK => Φ (kcell c k) := by
    unfold kcells; rw [bigSep_map, bigSep_univ_prod]; rfl
  have hT : bigSep ktoks (fun x => (dutyTok ER x.1 x.2.1 x.2.2 : sProp 𝕄)) = bigSep Finset.univ fun c : Dev nD => toks (F := F) c := by
    unfold ktoks; rw [bigSep_map, bigSep_univ_prod]
    refine bigSep_congr fun c _ => ?_
    unfold toks
    rw [bigSep_univ_sum, bigSep_univ_sum, bigSep_univ_sum, bigSep_univ_sum]; rfl
  iintro HX
  imod (Rounds.fund ER (Rd V) kcells ktoks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores. -/
abbrev osem : ((Fin 31 ⊕ Fin 31) ⊕ (Fin 10 ⊕ Fin 10)) → SemLoc sig := fun k => csem (.inr k)

theorem ownSems0_eq (c : Dev nD) : (Pipeline.ownSems0 (Ix := Unit) (Name := ℕ) (U := UU) (Lvl := ℕ) (Val := Elt F) (τ := τ) osem c : sProp 𝕄) = zeros (F := F) c := rfl
theorem unscopedSems0_eq (c : Dev nD) : (unscopedSems0 c : sProp 𝕄) = semVal (kcell c kbar) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, cells_one (fun k : CK => (semVal (kcell c k) 0 : sProp 𝕄))]
  unfold zeros
  iintro ⟨H1, H2⟩
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (Rd V) κ (kcell c k)))
          ∗ (bigSep Finset.univ fun k : CK => iprop(atPos ER (kcell c k) 0 ∅ 0 ∗ reached ER (kcell c k) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell c k) 0) ∗ bigSep Finset.univ fun k : CK => roundState ER (Rd V) (kcell c k) 0)
      ⊢ (|={Set.univ}=> bigSep Finset.univ fun k : CK => iprop(∃ κ : ℕ, cellInv ER (Rd V) κ (kcell c k)) : sProp 𝕄) from by
        rw [← bigSep_sep']
        exact (bs_mono fun k _ => (Rounds.body_intro ER (Rd V) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bs_mono h)

theorem regroup :
    (bigSep Finset.univ fun c : Dev nD => iprop((bigSep Finset.univ fun k : CK => iprop(∃ κ : ℕ, cellInv ER (Rd V) κ (kcell c k)))
          ∗ (bigSep Finset.univ fun k : CK => iprop(atPos ER (kcell c k) 0 ∅ 0 ∗ reached ER (kcell c k) 0)) ∗ toks (F := F) c) : sProp 𝕄)
      ⊢ bigSep Finset.univ (G' V) := by
  rw [bigSep_sep', bigSep_sep', ← bigSep_univ_prod (fun ck : Dev nD × CK => iprop(∃ κ : ℕ, cellInv ER (Rd V) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄))]
  iintro ⟨HI, ⟨Hat, #HR⟩, Htok⟩
  ihave HK := (BI.bigSep_exists_pi Finset.univ (fun (ck : Dev nD × CK) (κ : ℕ) => (cellInv ER (Rd V) κ (kcell ck.1 ck.2) : sProp 𝕄))) $$ HI
  icases HK with ⟨%K, #HI⟩
  ihave Htk := (toks_around (F := F)) $$ Htok
  iapply (bigSep_with (R := records V K) (Φ := fun c : Dev nD => iprop(payToks (F := F) c ∗ ats (F := F) c)) fun c _ => by
    unfold G'
    iintro H; iexists K; iexact H)
  isplitr
  · unfold records; isplitl; · iexact HI
    iexact HR
  · iapply (Entails.of_eq (bigSep_sep' Finset.univ (fun c : Dev nD => payToks (F := F) c) (fun c : Dev nD => ats (F := F) c)).symm)
    isplitl [Htk]; · iexact Htk
    unfold ats
    iexact Hat

/-- All devices' semaphores at once become the cells' invariants. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bs_mono fun c _ => core_alloc V c).trans (bigSep_fupd _ _)).trans (BI.fupd_mono (regroup V))
end Glob

end Cert.KernelIdeal.Pf
-- ==== Proof.KiRun.lean ====
/-
The launch on 32 devices: every run ends, with every array at the contents the body computes.
-/
module

public import proofs.«01_k».proof.Proof.KiBb
public import proofs.«01_k».proof.Proof.KiCr
public import proofs.«01_k».proof.Proof.Gen.KernelIdeal.Points
public import Idealize.ShloMosaic.Lib.Pipeline.CollectiveSegs
@[expose] public section

set_option maxRecDepth 16384
set_option maxHeartbeats 4000000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : (ℓ : Loc nD τ sig) → Buf (Elt F) ℓ) (ρ : Dev nD → PrngReg)

/-! ## The proof data of the one pipeline -/

/-- The launch's memory: every counter at zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the four operands hold, device by device. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  kv c := (win0_2.blk (0 : Fin 1)).view.read (Elt F) (m ((c : Thread nD τ).loc main_arg2))
  wo c := (win0_3.blk (0 : Fin 1)).view.read (Elt F) (m ((c : Thread nD τ).loc main_arg3))

/-- What a device starts from, besides its buffers. -/
def start (c : Dev nD) : sProp 𝕄 := iprop(G' (ins m) c ∗ creds (F := F) c ∗ levAts L lv)
def Φ₀ (c : Dev nD) : sProp 𝕄 := iprop(start m c ∗ scr (F := F) c)
/-- What it ends in: its counters at zero, its scratch buffers at any contents. -/
def Φ₁ (c : Dev nD) : sProp 𝕄 := iprop(semVal (kcell c kbar) 0 ∗ zeros (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).kv c
    | ⟨3, _⟩ => (ins m).wo c
    | ⟨4, _⟩ => OUT (ins m) c 10
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body's obligation -/

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 ((ins m).x c) ∗ stg c cc0_stg1_0 ((ins m).wq c) ∗ stg c cc0_stg2_0 ((ins m).kv c) ∗ stg c cc0_stg3_0 ((ins m).wo c)
    ∗ stg c cc0_stg4_0 (OUT (ins m) c 10))

theorem before0 (c : Dev nD) (d) : (dats m ρ 0 c).before (0 : Fin 5) t₀ d = (ins m).x c := by
  unfold Dat.before; rw [if_pos (fetch0_0 t₀)]; rfl
theorem before1 (c : Dev nD) (d) : (dats m ρ 0 c).before (1 : Fin 5) t₀ d = (ins m).wq c := by
  unfold Dat.before; rw [if_pos (fetch0_1 t₀)]; rfl
theorem before2 (c : Dev nD) (d) : (dats m ρ 0 c).before (2 : Fin 5) t₀ d = (ins m).kv c := by
  unfold Dat.before; rw [if_pos (fetch0_2 t₀)]; rfl
theorem before3 (c : Dev nD) (d) : (dats m ρ 0 c).before (3 : Fin 5) t₀ d = (ins m).wo c := by
  unfold Dat.before; rw [if_pos (fetch0_3 t₀)]; rfl

/-- What the body starts from, and the facts it uses, out of what the launch hands it. -/
theorem pre_enter (c : Dev nD) : bodyPre m ρ c ⊢ iprop(∃ K, ctx (ins m) K ∗ Bd0 (ins m) c) := by
  unfold bodyPre Φ₀ start G' ctx
  simp only [before0, before1, before2, before3]
  iintro ⟨⟨⟨⟨%K, Hrec, Htok, Hat⟩, Hcr, Hlev⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩⟩
  subst h0 h1 h2 h3
  unfold Dat.owesAt Pipeline.owesWithin
  icases Ho with ⟨%W, %hW, HO⟩
  rw [show (dats m ρ 0 c).owed t₀.castSucc = O₀ c from rfl]
  iexists K
  isplitl [Hrec Hlev]
  · isplitl [Hrec] <;> iassumption
  iapply (enter (ins m) c)
  isplitl [HO]; · (unfold Ow; iexists W; iexact HO)
  isplitl [Htok]; · iexact Htok
  isplitl [Hat]; · iexact Hat
  isplitl [Hcr]; · iexact Hcr
  isplitl [Hscr]; · iexact Hscr
  unfold winA
  isplitl [H0 H1]
  · isplitl [H0] <;> iassumption
  isplitl [H2]; · iexact H2
  isplitl [H3]; · iexact H3
  iexists g4; iexact H4

/-- What the body hands back, out of what it ends in. -/
theorem leave_post (c : Dev nD) : Bd1 (ins m) c ⊢ bodyPost m ρ c := by
  refine (leave (ins m) c).trans ?_
  unfold bodyPost Φ₁ winB Ow Dat.owesAt Pipeline.owesWithin
  rw [show (dats m ρ 0 c).owed t₀.succ = 0 from rfl]
  iintro ⟨⟨%W, HO⟩, ⟨⟨H0, H1⟩, H2, H3, H4⟩, Hb, Hz, Hs⟩
  isplitl [Hb Hz Hs]
  · isplitl [Hb]; · iexact Hb
    isplitl [Hz] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The body from what the launch hands it to what the launch takes back. -/
theorem body_run (c : Dev nD) : bodyPre m ρ c ⊢ wpc c (args (cc0_body (F := F))) fun _ => bodyPost m ρ c := by
  refine (pre_enter m ρ c).trans ?_
  iintro ⟨%K, H⟩
  ihave Hw := (body_spec (ins m) K c) $$ H
  iapply (wpc_wand (fun _ => Bd1 (ins m) c)) $$ Hw
  iintro %a H
  iapply (leave_post m ρ c); iexact H

theorem body_obligation (c : Dev nD) : BodyObligation (dats (F := F) m ρ 0 c) (defs₀ (F := F)) 𝒱₀ () Set.univ := fun t => by
  rw [fin_N t]
  rw [bigSep_W, bigSep_W]
  simp only [owns_whole]
  exact body_run m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  exact .rfl

theorem stage_low (c : Dev nD) (w : Fin cfg0.W) (s : Fin (cfg0.win w).nbuf) : lv ((c : Thread nD τ), .dma ((cfg0.win w).sem s)) () = 0 := by
  revert c; fin_cases w <;> fin_cases s <;> decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 _ (stage_low c w s) (low_ok c 0 0 0)
    · show (levAts L lv : sProp 𝕄) ⊢ MayWait (c : Thread nD τ) _ () 0
      rw [MayWait_zero]; iintro -; iempintro

/-! ## The run -/

def u₀ : UU := (initOf (Pipeline.cells cfgs cellOf_inj) (Pipeline.launchToks cfgs cellOf_inj), initOf kcells ktoks)

def finalA (c : Dev nD) (w : Fin cfg0.W) : Buf (Elt F) ((cfg0.win w).arr.view.loc (c : Thread nD τ)) := (dats m ρ 0 c).arrAt w cfg0.N

/-- Every device's five arrays hold what the proof data say. -/
def QC : PUnit × MemSt nD τ sig (Elt F) → Prop := fun r =>
  ∀ c : Dev nD, ∀ w : Fin cfg0.W, r.2.mem ((cfg0.win w).arr.view.loc (c : Thread nD τ)) = finalA m ρ c w

/-- At 32 devices, for any float values, from any memory with zero counters: every weakly fair execution of the kernel
    terminates, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_cells (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final0 (c : Dev nD) : finalA m ρ c (0 : Fin 5) = m ((c : Thread nD τ).loc main_arg0) := (dats (F := F) m ρ 0 c).arrAt_in (0 : Fin 5) rfl _
theorem final1 (c : Dev nD) : finalA m ρ c (1 : Fin 5) = m ((c : Thread nD τ).loc main_arg1) := (dats (F := F) m ρ 0 c).arrAt_in (1 : Fin 5) rfl _
theorem final2 (c : Dev nD) : finalA m ρ c (2 : Fin 5) = m ((c : Thread nD τ).loc main_arg2) := (dats (F := F) m ρ 0 c).arrAt_in (2 : Fin 5) rfl _
theorem final3 (c : Dev nD) : finalA m ρ c (3 : Fin 5) = m ((c : Thread nD τ).loc main_arg3) := (dats (F := F) m ρ 0 c).arrAt_in (3 : Fin 5) rfl _

/-- The run terminates, leaves the four operands as they were, and every counter at zero. -/
theorem quiet : θ_run (defs (F := F)) (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run defs (onTc (τ := τ) (main (F := F))) (s₀ m ρ)).mono (fun r h => ⟨fun c => ⟨(h.1 c 0).trans (final0 m ρ c), (h.1 c 1).trans (final1 m ρ c),
    (h.1 c 2).trans (final2 m ρ c), (h.1 c 3).trans (final3 m ρ c)⟩, h.2⟩) (run_main m ρ)
end Run

end Cert.KernelIdeal.Pf
-- ==== Proof.Soft.lean ====
/-
The softmax of a row of extended reals, over a set of keys and over all keys with those outside the set at minus infinity.
-/
module

public import Idealize.ShloMosaic.Lib.Pointwise

@[expose] public section

noncomputable section

namespace Cert.Pf

open Idealize.ShloMosaic

/-- The factor of the scores, 0.125. -/
def eighth : EReal := Ideal.ofBits .f32 0x3E000000#32
/-- The value of an int8 code. -/
def dqv (z : BitVec 8) : EReal := ((z.toInt : ℝ) : EReal) * Ideal.ofBits .bf16 0x3D01#16

theorem negInf : Ideal.ofBits .f32 0xFF800000#32 = (⊥ : EReal) := by simp [Ideal.ofBits, Ideal.ieee]

/-- The values `v` weighted by the softmax of the scores `s`. -/
def soft {N : ℕ} (s v : Fin N → EReal) : EReal :=
  ∑ j, Ideal.div (Ideal.exp (s j - Finset.univ.sup s)) (∑ j', Ideal.exp (s j' - Finset.univ.sup s)) * v j

/-- The same over the keys `p` only, written over all of them. -/
def softOn {M : ℕ} (p : Fin M → Bool) (s v : Fin M → EReal) : EReal :=
  ∑ j, v j * (if p j = true then
    Ideal.div (Ideal.exp ((if p j = true then s j else ⊥) - Finset.univ.sup fun j => if p j = true then s j else ⊥))
      (∑ j', Ideal.exp ((if p j' = true then s j' else ⊥) - Finset.univ.sup fun j => if p j = true then s j else ⊥)) else 0)

theorem soft_eq {N M : ℕ} (g : Fin N → Fin M) (hg : Function.Injective g) (p : Fin M → Bool)
    (hp : ∀ j, p j = true ↔ ∃ r, g r = j) (s v : Fin M → EReal) :
    soft (fun r => s (g r)) (fun r => v (g r)) = softOn p s v := by
  have hpg : ∀ r, p (g r) = true := fun r => (hp _).mpr ⟨r, rfl⟩
  have hsup : (Finset.univ.sup fun j => if p j = true then s j else ⊥) = Finset.univ.sup fun r => s (g r) := by
    apply le_antisymm
    · apply Finset.sup_le
      intro j _
      split
      · next h =>
        obtain ⟨r, rfl⟩ := (hp j).mp h
        exact Finset.le_sup (f := fun r => s (g r)) (Finset.mem_univ r)
      · exact bot_le
    · apply Finset.sup_le
      intro r _
      have := Finset.le_sup (f := fun j => if p j = true then s j else ⊥) (Finset.mem_univ (g r))
      simpa only [hpg r, if_true] using this
  unfold soft softOn
  rw [hsup]
  generalize Finset.univ.sup (fun r => s (g r)) = M0
  have hsum : (∑ j', Ideal.exp ((if p j' = true then s j' else ⊥) - M0)) = ∑ r, Ideal.exp (s (g r) - M0) := by
    symm
    apply Fintype.sum_of_injective g hg
    · intro j hj
      have : ¬ p j = true := fun h => hj ((hp j).mp h)
      rw [if_neg this, EReal.bot_sub]; rfl
    · intro r; rw [if_pos (hpg r)]
  rw [hsum]
  generalize (∑ r, Ideal.exp (s (g r) - M0)) = Z
  apply Fintype.sum_of_injective g hg
  · intro j hj
    have : ¬ p j = true := fun h => hj ((hp j).mp h)
    rw [if_neg this, mul_zero]
  · intro r; rw [if_pos (hpg r), if_pos (hpg r), mul_comm]

end Cert.Pf
-- ==== Proof.KvA.lean ====
/-
The values of the kernel at an index: the queries, the attended values of a head, the partial output of a device.
-/
module

public import proofs.«01_k».proof.Proof.KiAtt
public import proofs.«01_k».proof.Proof.Soft
public import Idealize.ShloMosaic.Lib.Pointwise
public import Idealize.ShloMosaic.Lib.IdealHost

@[expose] public section

set_option maxRecDepth 16384
set_option maxHeartbeats 4000000

noncomputable section

namespace Cert.KernelIdeal.Pf

open Cert.Pf Cert.KernelIdeal Cert.KernelIdeal.Gen
open Idealize.ShloMosaic Idealize.ShloMosaic.TcCoe Idealize.SL.Sem

theorem seg0_apply (q : FVec Ideal S64x64 .bf16) (k v : Vec Ideal S1x1x1408x64 .bf16) (r d : Fin 64) :
    seg0 (F := Ideal) q k v (ix2 r d) = soft (fun j => (∑ d', q (ix2 r d') * k (ix4 0 0 j d')) * eighth) (fun j => v (ix4 0 0 j d)) := by
  pointwise [seg0]
  rw [negInf]; rfl
theorem seg1_apply (q : FVec Ideal S64x64 .bf16) (k v : Vec Ideal S1x1x1472x64 .bf16) (r d : Fin 64) :
    seg1 (F := Ideal) q k v (ix2 r d) = soft (fun j => (∑ d', q (ix2 r d') * k (ix4 0 0 j d')) * eighth) (fun j => v (ix4 0 0 j d)) := by
  pointwise [seg1]
  rw [negInf]; rfl

variable (V : Ins Ideal)

theorem proj_q (x : FVec Ideal S2x128x512 .bf16) (wq : FVec Ideal S512x256 .bf16) (R n : Fin 256) :
    k0_pay4 (F := Ideal) x wq (ix2 R n) = ∑ k, x (ix3 ⟨R.val / 128, by omega⟩ ⟨R.val % 128, by omega⟩ k) * wq (ix2 k n) := by
  pointwise [k0_pay4]

/-- The row of all 4096 keys that row `r` of the 2880 gathered ones is. -/
def keyRow (r : Fin 2880) : Fin 4096 := ⟨64 * kbOf (gBlk (r.val / 64)) + r.val % 64, by
  have := kbOf_lt ⟨_, gBlk_lt ⟨r.val / 64, by omega⟩⟩; dsimp only at this; omega⟩

theorem KG_apply (c : Dev nD) (t b : Fin 2) (r : Fin 2880) (n : Fin 256) :
    KG V c (ix4 t b r n) = dqv (V.kv ⟨(keyRow r).val / 128, by show _ < 32; omega⟩
      (ix4 t b ⟨(keyRow r).val % 128, by omega⟩ ⟨256 * c.val + n.val, by have : c.val < 32 := c.isLt; omega⟩)) := by
  have hr : (64 * gBlk (r.val / 64) + r.val % 64) / 64 = gBlk (r.val / 64) := by omega
  have hm : (64 * gBlk (r.val / 64) + r.val % 64) % 64 = r.val % 64 := by omega
  have hd : devOf (kgIdx (ix4 t b r n)) = ⟨(keyRow r).val / 128, by show _ < 32; omega⟩ := Fin.ext (by
    show kbOf ((64 * gBlk (r.val / 64) + r.val % 64) / 64) / 2 = (64 * kbOf (gBlk (r.val / 64)) + r.val % 64) / 128
    rw [hr]; omega)
  show dqv (V.kv (devOf (kgIdx (ix4 t b r n))) (ksIdx c (kgIdx (ix4 t b r n)))) = _
  rw [hd]
  congr 2
  funext a; refine Fin.ext ?_
  fin_cases a
  · rfl
  · rfl
  · show 64 * (kbOf ((64 * gBlk (r.val / 64) + r.val % 64) / 64) % 2) + (64 * gBlk (r.val / 64) + r.val % 64) % 64 = (64 * kbOf (gBlk (r.val / 64)) + r.val % 64) % 128
    rw [hr, hm]; omega
  · rfl

theorem rd0_apply (c : Dev nD) (t b : Fin 2) (h : Fin 4) (j : Fin 1408) (d : Fin 64) :
    rd0 V c t b h (ix4 0 0 j d) = KG V c (ix4 t b ⟨j.val, by omega⟩ ⟨64 * h.val + d.val, by omega⟩) := by
  refine congrArg (KG V c) (funext fun a => Fin.ext ?_)
  fin_cases a
  · show t.val + 0 * 1 = t.val; omega
  · show b.val + 0 * 1 = b.val; omega
  · show 0 + 1 * j.val = j.val; omega
  · show 64 * h.val + 1 * d.val = 64 * h.val + d.val; omega
theorem rd1_apply (c : Dev nD) (t b : Fin 2) (h : Fin 4) (j : Fin 1472) (d : Fin 64) :
    rd1 V c t b h (ix4 0 0 j d) = KG V c (ix4 t b ⟨1408 + j.val, by omega⟩ ⟨64 * h.val + d.val, by omega⟩) := by
  refine congrArg (KG V c) (funext fun a => Fin.ext ?_)
  fin_cases a
  · show t.val + 0 * 1 = t.val; omega
  · show b.val + 0 * 1 = b.val; omega
  · show 1408 + 1 * j.val = 1408 + j.val; omega
  · show 64 * h.val + 1 * d.val = 64 * h.val + d.val; omega

theorem head_apply (c : Dev nD) (b : Fin 2) (h : Fin 4) (q0 q1 : FVec Ideal S64x64 .bf16) (i : Fin 128) (d : Fin 64) :
    head V c b h q0 q1 (ix2 i d) = if hi : i.val < 64 then seg0 q0 (rd0 V c 0 b h) (rd0 V c 1 b h) (ix2 ⟨i.val, hi⟩ d)
      else seg1 q1 (rd1 V c 0 b h) (rd1 V c 1 b h) (ix2 ⟨i.val - 64, by omega⟩ d) := by
  pointwise [head]

theorem proj_apply (wo : FVec Ideal S256x512 .bf16) (hd : Fin 4 → FVec Ideal S128x64 .f32) (i : Fin 128) (e : Fin 512) :
    proj (F := Ideal) wo (hd 0) (hd 1) (hd 2) (hd 3) (ix3 0 i e)
      = ∑ n : Fin 256, hd ⟨n.val / 64, by omega⟩ (ix2 i ⟨n.val % 64, by omega⟩) * wo (ix2 n e) := by
  pointwise [proj]
  refine Finset.sum_congr rfl fun n _ => congrArg (· * _) ?_
  have key : ∀ (k : Fin 4) (r : Fin 64), n.val = 64 * k.val + r.val →
      hd k (ix2 i r) = hd ⟨n.val / 64, by omega⟩ (ix2 i ⟨n.val % 64, by omega⟩) := by
    intro k r h
    have h1 : (⟨n.val / 64, by omega⟩ : Fin 4) = k := Fin.ext (by dsimp only; omega)
    have h2 : (⟨n.val % 64, by omega⟩ : Fin 64) = r := Fin.ext (by dsimp only; omega)
    rw [h1, h2]
  have hn := n.isLt
  split
  · exact key 0 _ (by simp)
  · split
    · exact key 1 _ (by show n.val = 64 * 1 + (n.val - 64); omega)
    · split
      · exact key 2 _ (by show n.val = 64 * 2 + (n.val - 64 - 64); omega)
      · exact key 3 _ (by show n.val = 64 * 3 + (n.val - 64 - 64 - 64); omega)

end Cert.KernelIdeal.Pf
-- ==== Proof.RvA.lean ====
/-
The reference, step by step: its result as a composition of named steps, and the mask and the dequantised keys and
values at an index.
-/
module

public import proofs.«01_k».proof.Proof.Gen.ReferenceIdeal.Run
public import Idealize.ShloMosaic.Lib.Pointwise
public import Idealize.ShloMosaic.Lib.IdealHost

@[expose] public section

set_option maxRecDepth 16384
set_option maxHeartbeats 4000000

noncomputable section

namespace Cert.ReferenceIdeal.Pf

open Cert.ReferenceIdeal Cert.ReferenceIdeal.Gen Idealize.ShloMosaic Idealize.ShloMosaic.TcCoe Idealize.SL.Sem

/-- The block of 64 rows that each query lies in. -/
def qblk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))
/-- The block of 64 rows that each key lies in. -/
def kblk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))
def qb2 : IVec S128x4096 32 := broadcastInDim S128x4096 ![0, 1] bcast_S128x1_S128x4096_0_1 (broadcastInDim S128x1 ![0] bcast_S128_S128x1_0 qblk)
def kb1 : IVec S1x4096 32 := broadcastInDim S1x4096 ![1] bcast_S4096_S1x4096_1 kblk
def kb2 : IVec S128x4096 32 := broadcastInDim S128x4096 ![0, 1] bcast_S1x4096_S128x4096_0_1 kb1
def three : IVec S_ 32 :=
  select (cmpi .eq (id (constantI S_ 32 3#32)) (constantI S_ 32 0#32)) (constantI S_ 32 1#32) (id (constantI S_ 32 3#32))
def rem3 (s : IVec S128x4096 32) : IVec S128x4096 32 := Host.remsi s (broadcastInDim S128x4096 ![] bcast_S_S128x4096 three)
/-- The sum of the two blocks modulo 3. -/
def mod3 (r : IVec S128x4096 32) : IVec S128x4096 32 :=
  select (andi (cmpi .ne (cmpi .slt r (broadcastInDim S128x4096 ![] bcast_S_S128x4096 (constantI S_ 32 0#32)))
        (broadcastInDim S128x4096 ![] bcast_S_S128x4096 (cmpi .slt three (constantI S_ 32 0#32))))
      (cmpi .ne r (broadcastInDim S128x4096 ![] bcast_S_S128x4096 (constantI S_ 32 0#32))))
    (addi r (broadcastInDim S128x4096 ![] bcast_S_S128x4096 three)) r
/-- Which keys each query attends to. -/
def mask : IVec S128x4096 1 :=
  ori (ori (cmpi .eq qb2 kb2)
      (broadcastInDim S128x4096 ![0, 1] bcast_S1x4096_S128x4096_0_1 (cmpi .eq kb1 (broadcastInDim S1x4096 ![] bcast_S_S1x4096 (constantI S_ 32 0#32)))))
    (cmpi .eq (mod3 (rem3 (addi qb2 kb2))) (broadcastInDim S128x4096 ![] bcast_S_S128x4096 (constantI S_ 32 0#32)))

variable (x : FVec Ideal S2x128x512 .bf16) (wq : FVec Ideal S512x8192 .bf16) (kv : IVec S2x2x4096x8192 8) (wo : FVec Ideal S8192x512 .bf16)

def deq : FVec Ideal S2x2x4096x8192 .bf16 :=
  mulf (sitofp .bf16 (extsi 32 kv natLt_8_32)) (broadcastInDim S2x2x4096x8192 ![] bcast_S_S2x2x4096x8192 (constant S_ .bf16 0x3D01#16))
def keys : FVec Ideal S2x4096x128x64 .bf16 :=
  shapeCast _ (shapeCast _ (extractStridedSlice S1x2x4096x8192 ![0, 0, 0, 0] (deq kv) slices_S2x2x4096x8192_S1x2x4096x8192_0_0_0_0) shapeCasts_S1x2x4096x8192_S2x4096x8192) shapeCasts_S2x4096x8192_S2x4096x128x64
def vals : FVec Ideal S2x4096x128x64 .bf16 :=
  shapeCast _ (shapeCast _ (extractStridedSlice S1x2x4096x8192 ![1, 0, 0, 0] (deq kv) slices_S2x2x4096x8192_S1x2x4096x8192_1_0_0_0) shapeCasts_S1x2x4096x8192_S2x4096x8192) shapeCasts_S2x4096x8192_S2x4096x128x64
def qrs : FVec Ideal S2x128x128x64 .bf16 :=
  shapeCast _ (truncf .bf16 (Host.dotGeneral dot_S2x128x512_S512x8192_S2x128x8192_2_0_01_1_n_n none x wq) bitsLt_bf16_f32) shapeCasts_S2x128x8192_S2x128x128x64
/-- The scores, minus infinity at the keys left out. -/
def scores (q : FVec Ideal S2x128x128x64 .bf16) (k : FVec Ideal S2x4096x128x64 .bf16) (mk : IVec S128x4096 1) : FVec Ideal S2x128x128x4096 .f32 :=
  select (broadcastInDim S2x128x128x4096 ![0, 1, 2, 3] bcast_S1x1x128x4096_S2x128x128x4096_0_1_2_3 (broadcastInDim S1x1x128x4096 ![2, 3] bcast_S128x4096_S1x1x128x4096_2_3 mk))
    (mulf (extf .f32 (truncf .bf16 (Host.dotGeneral dot_S2x128x128x64_S2x4096x128x64_S2x128x128x4096_3_3_1_1_02_02 none q k) bitsLt_bf16_f32) bitsLt_bf16_f32)
      (broadcastInDim S2x128x128x4096 ![] bcast_S_S2x128x128x4096 (constant S_ .f32 0x3E000000#32)))
    (broadcastInDim S2x128x128x4096 ![] bcast_S_S2x128x128x4096 (id (constant S_ .f32 0xFF800000#32)))
/-- The exponentials of the scores less their row's greatest. -/
def exps (s : FVec Ideal S2x128x128x4096 .f32) : FVec Ideal S2x128x128x4096 .f32 :=
  Host.exp (subf s (broadcastInDim S2x128x128x4096 ![0, 1, 2, 3] bcast_S2x128x128x1_S2x128x128x4096_0_1_2_3 (broadcastInDim S2x128x128x1 ![0, 1, 2] bcast_S2x128x128_S2x128x128x1_0_1_2
    (Host.reduce FloatOps.maximumf s (constant S_ .f32 0xFF800000#32) reducesTo_S2x128x128x4096_S2x128x128_d3 h_S_))))
def keep (mk : IVec S128x4096 1) : IVec S128 1 := Host.reduce IntOp.ori mk (constantI S_ 1 0#1) reducesTo_S128x4096_S128_d1 h_S_
/-- The row sums. -/
def sums (e : FVec Ideal S2x128x128x4096 .f32) (mk : IVec S128x4096 1) : FVec Ideal S2x128x128x1 .f32 :=
  select (broadcastInDim S2x128x128x1 ![0, 1, 2, 3] bcast_S1x1x128x1_S2x128x128x1_0_1_2_3 (broadcastInDim S1x1x128x1 ![2] bcast_S128_S1x1x128x1_2 (keep mk)))
    (broadcastInDim S2x128x128x1 ![0, 1, 2] bcast_S2x128x128_S2x128x128x1_0_1_2 (Host.reduceAdd e (constant S_ .f32 0x00000000#32) reducesTo_S2x128x128x4096_S2x128x128_d3 h_S_))
    (broadcastInDim S2x128x128x1 ![] bcast_S_S2x128x128x1 (id (constant S_ .f32 0x3F800000#32)))
/-- The weights. -/
def wts (e : FVec Ideal S2x128x128x4096 .f32) (z : FVec Ideal S2x128x128x1 .f32) (mk : IVec S128x4096 1) : FVec Ideal S2x128x128x4096 .f32 :=
  select (broadcastInDim S2x128x128x4096 ![0, 1, 2, 3] bcast_S1x1x128x4096_S2x128x128x4096_0_1_2_3 (broadcastInDim S1x1x128x4096 ![2, 3] bcast_S128x4096_S1x1x128x4096_2_3 mk))
    (Host.divf e (broadcastInDim S2x128x128x4096 ![0, 1, 2, 3] bcast_S2x128x128x1_S2x128x128x4096_0_1_2_3 z))
    (broadcastInDim S2x128x128x4096 ![] bcast_S_S2x128x128x4096 (id (constant S_ .f32 0x00000000#32)))
/-- The attended values of all heads side by side. -/
def ctx (v : FVec Ideal S2x4096x128x64 .bf16) (w : FVec Ideal S2x128x128x4096 .f32) : FVec Ideal S2x128x8192 .f32 :=
  shapeCast _ (transpose S2x128x128x64 [0, 3, 1, 2] (Host.dotGeneral dot_S2x4096x128x64_S2x128x128x4096_S2x128x64x128_1_3_3_2_02_01 none (extf .f32 v bitsLt_bf16_f32) w)
    transposes_S2x128x64x128_S2x128x128x64_0_3_1_2) shapeCasts_S2x128x128x64_S2x128x8192
def sc : FVec Ideal S2x128x128x4096 .f32 := scores (qrs x wq) (keys kv) mask
def ctxOf : FVec Ideal S2x128x8192 .f32 :=
  ctx (vals kv) (wts (exps (sc x wq kv)) (sums (exps (sc x wq kv)) mask) mask)
/-- The reference's result. -/
def out : FVec Ideal S2x128x512 .f32 :=
  Host.dotGeneral dot_S2x128x8192_S8192x512_S2x128x512_2_0_01_1_n_n none (ctxOf x wq kv) (extf .f32 wo bitsLt_bf16_f32)

theorem res_eq (m : (ℓ : Loc nD τ sig) → Buf (Elt Ideal) ℓ) (c : Dev nD) :
    Value.res_main_v59 (F := Ideal) m c = out (m ((c.tc : Thread nD τ).loc main_arg0)) (m ((c.tc : Thread nD τ).loc main_arg1))
      (m ((c.tc : Thread nD τ).loc main_arg2)) (m ((c.tc : Thread nD τ).loc main_arg3)) := by
  unfold Value.res_main_v59; rfl

theorem qblk_apply (i : Fin 128) : qblk (ix1 i) = BitVec.ofNat 32 (i.val / 64) := by
  pointwise [qblk]
  revert i; decide +kernel
theorem kblk_apply (j : Fin 4096) : kblk (ix1 j) = BitVec.ofNat 32 (j.val / 64) := by
  pointwise [kblk]
  revert j; decide +kernel

end Cert.ReferenceIdeal.Pf
-- ==== Proof.RvB.lean ====
/-
The reference at an index: the weights of a query are the softmax of its scores over the keys it attends to.
-/
module

public import proofs.«01_k».proof.Proof.RvA
public import proofs.«01_k».proof.Proof.Soft

@[expose] public section

set_option maxRecDepth 16384
set_option maxHeartbeats 4000000

noncomputable section

namespace Cert.ReferenceIdeal.Pf

open Cert.Pf Cert.ReferenceIdeal Cert.ReferenceIdeal.Gen Idealize.ShloMosaic Idealize.ShloMosaic.TcCoe Idealize.SL.Sem

/-- Whether query row `i` attends to key row `j`. -/
def attends (i j : ℕ) : Bool := decide (i / 64 = j / 64 ∨ j / 64 = 0 ∨ (i / 64 + j / 64) % 3 = 0)

theorem mask_apply (i : Fin 128) (j : Fin 4096) : mask (ix2 i j) = BitVec.ofBool (attends i.val j.val) := by
  pointwise [mask, mod3, rem3, qb2, kb2, kb1, three, qblk_apply, kblk_apply]
  unfold attends
  have ha : i.val / 64 < 2 := by omega
  have hb : j.val / 64 < 64 := by omega
  generalize i.val / 64 = a at ha ⊢
  generalize j.val / 64 = b at hb ⊢
  interval_cases a <;> interval_cases b <;> rfl

variable (x : FVec Ideal S2x128x512 .bf16) (wq : FVec Ideal S512x8192 .bf16) (kv : IVec S2x2x4096x8192 8) (wo : FVec Ideal S8192x512 .bf16)

theorem keys_apply (b : Fin 2) (j : Fin 4096) (h : Fin 128) (d : Fin 64) :
    keys kv (ix4 b j h d) = dqv (kv (ix4 0 b j ⟨h.val * 64 + d.val, by omega⟩)) := by
  pointwise [keys, deq]
  exact congrArg (fun z : ℤ => ((z : ℝ) : EReal) * _) (BitVec.toInt_signExtend_of_le (by decide))
theorem vals_apply (b : Fin 2) (j : Fin 4096) (h : Fin 128) (d : Fin 64) :
    vals kv (ix4 b j h d) = dqv (kv (ix4 1 b j ⟨h.val * 64 + d.val, by omega⟩)) := by
  pointwise [vals, deq]
  exact congrArg (fun z : ℤ => ((z : ℝ) : EReal) * _) (BitVec.toInt_signExtend_of_le (by decide))
theorem qrs_apply (b : Fin 2) (i h : Fin 128) (d : Fin 64) :
    qrs x wq (ix4 b i h d) = ∑ k, x (ix3 b i k) * wq (ix2 k ⟨h.val * 64 + d.val, by omega⟩) := by
  pointwise [qrs]
theorem scores_apply (q : FVec Ideal S2x128x128x64 .bf16) (k : FVec Ideal S2x4096x128x64 .bf16) (b : Fin 2) (h i : Fin 128) (j : Fin 4096) :
    scores q k mask (ix4 b h i j) = if attends i.val j.val = true then (∑ d, q (ix4 b i h d) * k (ix4 b j h d)) * eighth else ⊥ := by
  pointwise [scores, mask_apply]
  exact congrArg (fun z => if attends i.val j.val = true then _ else z) negInf
theorem exps_apply (s : FVec Ideal S2x128x128x4096 .f32) (b : Fin 2) (h i : Fin 128) (j : Fin 4096) :
    exps s (ix4 b h i j) = Ideal.exp (s (ix4 b h i j) - Finset.univ.sup fun j' => s (ix4 b h i j')) := by
  pointwise [exps]
  rw [negInf]; rfl
theorem ori_one : ∀ y : BitVec 1, IntOp.ori 1#1 y = 1#1 := by decide
theorem keep_apply (i : Fin 128) : keep mask (ix1 i) = 1#1 := by
  pointwise [keep]
  rw [← Finset.insert_erase (Finset.mem_univ (0 : Fin 4096)), Finset.fold_insert (Finset.notMem_erase _ _), mask_apply,
    show attends i.val (0 : Fin 4096).val = true from decide_eq_true (Or.inr (Or.inl rfl))]
  exact ori_one _
theorem sums_apply (e : FVec Ideal S2x128x128x4096 .f32) (b : Fin 2) (h i : Fin 128) :
    sums e mask (ix4 b h i 0) = ∑ j, e (ix4 b h i j) := by
  pointwise [sums, keep_apply]
theorem wts_apply (e : FVec Ideal S2x128x128x4096 .f32) (z : FVec Ideal S2x128x128x1 .f32) (b : Fin 2) (h i : Fin 128) (j : Fin 4096) :
    wts e z mask (ix4 b h i j) = if attends i.val j.val = true then Ideal.div (e (ix4 b h i j)) (z (ix4 b h i 0)) else 0 := by
  pointwise [wts, mask_apply]
  exact congrArg (fun z => if attends i.val j.val = true then _ else z) Ideal.ofBits_zero_f32
theorem ctx_apply (v : FVec Ideal S2x4096x128x64 .bf16) (w : FVec Ideal S2x128x128x4096 .f32) (b : Fin 2) (i : Fin 128) (n : Fin 8192) :
    ctx v w (ix3 b i n) = ∑ j, v (ix4 b j ⟨n.val / 64, by omega⟩ ⟨n.val % 64, by omega⟩) * w (ix4 b ⟨n.val / 64, by omega⟩ i j) := by
  pointwise [ctx]

/-- Query row `i` of head `n / 64` against key row `j`. -/
def scoreAt (b : Fin 2) (i : Fin 128) (n : Fin 8192) (j : Fin 4096) : EReal :=
  (∑ d : Fin 64, (∑ k, x (ix3 b i k) * wq (ix2 k ⟨n.val / 64 * 64 + d.val, by omega⟩))
    * dqv (kv (ix4 0 b j ⟨n.val / 64 * 64 + d.val, by omega⟩))) * eighth

theorem ctxOf_apply (b : Fin 2) (i : Fin 128) (n : Fin 8192) :
    ctxOf x wq kv (ix3 b i n) = softOn (fun j => attends i.val j.val) (scoreAt x wq kv b i n) (fun j => dqv (kv (ix4 1 b j n))) := by
  have hs : ∀ j, sc x wq kv (ix4 b ⟨n.val / 64, by omega⟩ i j) = if attends i.val j.val = true then scoreAt x wq kv b i n j else ⊥ := by
    intro j
    unfold sc scoreAt; rw [scores_apply]; simp only [qrs_apply, keys_apply]
  unfold ctxOf; rw [ctx_apply]
  unfold softOn
  refine Finset.sum_congr rfl fun j _ => ?_
  rw [vals_apply, wts_apply, sums_apply]
  simp only [exps_apply, hs]
  congr 4
  exact Fin.ext (by dsimp only; omega)

theorem out_apply (b : Fin 2) (i : Fin 128) (e : Fin 512) :
    out x wq kv wo (ix3 b i e) = ∑ n, softOn (fun j => attends i.val j.val) (scoreAt x wq kv b i n) (fun j => dqv (kv (ix4 1 b j n)))
      * wo (ix2 n e) := by
  pointwise [out]
  exact Finset.sum_congr rfl fun n _ => congrArg (· * _) (ctxOf_apply x wq kv b i n)

end Cert.ReferenceIdeal.Pf
-- ==== Proof.KvB.lean ====
/-
The partial output of a device, in terms of the whole arrays: the heads of the device, each the softmax over the keys that
the reference's mask keeps, times the device's rows of the output weights.
-/
module

public import proofs.«01_k».proof.Proof.KvA
public import proofs.«01_k».proof.Proof.RvB

@[expose] public section

set_option maxRecDepth 16384
set_option maxHeartbeats 4000000

noncomputable section

namespace Cert.KernelIdeal.Pf

open Cert.Pf Cert.KernelIdeal Cert.KernelIdeal.Gen
open Cert.ReferenceIdeal.Pf (attends scoreAt)
open Idealize.ShloMosaic Idealize.ShloMosaic.TcCoe Idealize.SL.Sem

/-! ## Which keys the two segments are -/

theorem blk0 : ∀ k : Fin 22, kbOf (gBlk k.val) = 3 * k.val := by decide
theorem blk1 : ∀ k : Fin 23, kbOf (gBlk (22 + k.val)) = if k.val ≤ 1 then k.val else 3 * k.val - 4 := by decide

def key0 (j : Fin 1408) : Fin 4096 := keyRow ⟨j.val, by omega⟩
def key1 (j : Fin 1472) : Fin 4096 := keyRow ⟨1408 + j.val, by omega⟩

theorem key0_val (j : Fin 1408) : (key0 j).val = 64 * (3 * (j.val / 64)) + j.val % 64 := by
  have := blk0 ⟨j.val / 64, by omega⟩
  dsimp only at this
  show 64 * kbOf (gBlk (j.val / 64)) + j.val % 64 = _
  rw [this]
theorem key1_val (j : Fin 1472) : (key1 j).val = 64 * (if j.val / 64 ≤ 1 then j.val / 64 else 3 * (j.val / 64) - 4) + j.val % 64 := by
  have := blk1 ⟨j.val / 64, by omega⟩
  dsimp only at this
  show 64 * kbOf (gBlk ((1408 + j.val) / 64)) + (1408 + j.val) % 64 = _
  rw [show (1408 + j.val) / 64 = 22 + j.val / 64 by omega, this, show (1408 + j.val) % 64 = j.val % 64 by omega]

theorem key0_inj : Function.Injective key0 := fun a b h => Fin.ext (by
  have h := congrArg Fin.val h; rw [key0_val, key0_val] at h; omega)
theorem key1_inj : Function.Injective key1 := fun a b h => Fin.ext (by
  have h := congrArg Fin.val h; rw [key1_val, key1_val] at h; split at h <;> split at h <;> omega)

theorem key0_range (i : ℕ) (hi : i < 64) (j : Fin 4096) : attends i j.val = true ↔ ∃ r, key0 r = j := by
  have hj := j.isLt
  unfold attends; rw [decide_eq_true_eq]
  constructor
  · intro h
    refine ⟨⟨64 * (j.val / 64 / 3) + j.val % 64, by omega⟩, Fin.ext ?_⟩
    rw [key0_val]; dsimp only; omega
  · rintro ⟨r, rfl⟩
    rw [key0_val]; omega
theorem key1_range (i : ℕ) (h0 : 64 ≤ i) (hi : i < 128) (j : Fin 4096) : attends i j.val = true ↔ ∃ r, key1 r = j := by
  have hj := j.isLt
  unfold attends; rw [decide_eq_true_eq]
  constructor
  · intro h
    by_cases hs : j.val / 64 ≤ 1
    · refine ⟨⟨j.val, by omega⟩, Fin.ext ?_⟩
      rw [key1_val, if_pos (by dsimp only; omega)]; dsimp only; omega
    · refine ⟨⟨64 * ((j.val / 64 + 4) / 3) + j.val % 64, by omega⟩, Fin.ext ?_⟩
      rw [key1_val, if_neg (by dsimp only; omega)]; dsimp only; omega
  · rintro ⟨r, rfl⟩
    rw [key1_val]; split <;> omega

/-! ## The arrays of the devices are blocks of the whole arrays -/

variable (x : FVec Ideal S2x128x512 .bf16) (wq : FVec Ideal ⟨2, ![512, 8192]⟩ .bf16) (kv : IVec ⟨4, ![2, 2, 4096, 8192]⟩ 8)
  (wo : FVec Ideal ⟨2, ![8192, 512]⟩ .bf16)

/-- Column `n` of device `c` among all 8192. -/
def colOf (c : Dev nD) (n : Fin 256) : Fin 8192 := ⟨256 * c.val + n.val, by have : c.val < 32 := c.isLt; omega⟩
/-- Row `r` of device `c` among all 4096. -/
def rowOf (c : Dev nD) (r : Fin 128) : Fin 4096 := ⟨128 * c.val + r.val, by have : c.val < 32 := c.isLt; omega⟩

/-- The devices hold `x` whole and their blocks of the other arrays. -/
structure Holds (V : Ins Ideal) : Prop where
  x : ∀ c, V.x c = x
  wq : ∀ c (k : Fin 512) (n : Fin 256), V.wq c (ix2 k n) = wq (ix2 k (colOf c n))
  kv : ∀ c (t b : Fin 2) (r : Fin 128) (n : Fin 8192), V.kv c (ix4 t b r n) = kv (ix4 t b (rowOf c r) n)
  wo : ∀ c (n : Fin 256) (e : Fin 512), V.wo c (ix2 n e) = wo (ix2 (colOf c n) e)

variable {x wq kv wo} {V : Ins Ideal} (H : Holds x wq kv wo V)
include H

theorem qv_at (c : Dev nD) (b : Fin 2) (i : Fin 128) (n : Fin 256) :
    qv V c (ix2 ⟨128 * b.val + i.val, by omega⟩ n) = ∑ k, x (ix3 b i k) * wq (ix2 k (colOf c n)) := by
  refine (proj_q _ _ _ _).trans (Finset.sum_congr rfl fun k _ => ?_)
  rw [H.x c]
  refine congr (congrArg HMul.hMul (congrArg x ?_)) (H.wq c k n)
  rw [show (⟨(128 * b.val + i.val) / 128, by omega⟩ : Fin 2) = b from Fin.ext (by dsimp only; omega),
    show (⟨(128 * b.val + i.val) % 128, by omega⟩ : Fin 128) = i from Fin.ext (by dsimp only; omega)]

theorem KG_at (c : Dev nD) (t b : Fin 2) (r : Fin 2880) (n : Fin 256) :
    KG V c (ix4 t b r n) = dqv (kv (ix4 t b (keyRow r) (colOf c n))) := by
  rw [KG_apply]
  refine congrArg dqv ((H.kv _ _ _ _ _).trans ?_)
  rw [show rowOf ⟨(keyRow r).val / 128, by show _ < 32; omega⟩ ⟨(keyRow r).val % 128, by omega⟩ = keyRow r from
    Fin.ext (by show 128 * ((keyRow r).val / 128) + (keyRow r).val % 128 = _; omega)]
  rfl

/-- One head of a device: the reference's softmax at the head's columns. -/
theorem head_at (c : Dev nD) (b : Fin 2) (h : Fin 4) (q0 q1 : FVec Ideal S64x64 .bf16)
    (h0 : ∀ r d : Fin 64, q0 (ix2 r d) = qv V c (ix2 ⟨128 * b.val + r.val, by omega⟩ ⟨64 * h.val + d.val, by omega⟩))
    (h1 : ∀ r d : Fin 64, q1 (ix2 r d) = qv V c (ix2 ⟨128 * b.val + (64 + r.val), by omega⟩ ⟨64 * h.val + d.val, by omega⟩))
    (i : Fin 128) (d : Fin 64) :
    head V c b h q0 q1 (ix2 i d) = softOn (fun j => attends i.val j.val) (scoreAt x wq kv b i (colOf c ⟨64 * h.val + d.val, by omega⟩))
      (fun j => dqv (kv (ix4 1 b j (colOf c ⟨64 * h.val + d.val, by omega⟩)))) := by
  have hcol : ∀ d' : Fin 64, (⟨(colOf c ⟨64 * h.val + d.val, by omega⟩).val / 64 * 64 + d'.val, by
      have := (colOf c ⟨64 * h.val + d.val, by omega⟩).isLt; omega⟩ : Fin 8192) = colOf c ⟨64 * h.val + d'.val, by omega⟩ := fun d' =>
    Fin.ext (by show (256 * c.val + (64 * h.val + d.val)) / 64 * 64 + d'.val = 256 * c.val + (64 * h.val + d'.val); omega)
  rw [head_apply]
  split
  · next hi =>
    rw [seg0_apply, ← soft_eq key0 key0_inj _ (key0_range i.val hi)]
    congr 1
    · funext j
      unfold scoreAt
      refine congrArg (· * eighth) (Finset.sum_congr rfl fun d' _ => ?_)
      rw [hcol, h0, rd0_apply, KG_at H]
      exact congrArg (· * _) (qv_at H c b i _)
    · funext j
      rw [rd0_apply, KG_at H]; rfl
  · next hi =>
    rw [seg1_apply, ← soft_eq key1 key1_inj _ (key1_range i.val (by omega) i.isLt)]
    congr 1
    · funext j
      unfold scoreAt
      refine congrArg (· * eighth) (Finset.sum_congr rfl fun d' _ => ?_)
      rw [hcol, h1, rd1_apply, KG_at H]
      refine congrArg (· * _) (.trans ?_ (qv_at H c b i _))
      exact congrArg (fun r => qv V c (ix2 r _)) (Fin.ext (by show 128 * b.val + (64 + (i.val - 64)) = 128 * b.val + i.val; omega))
    · funext j
      rw [rd1_apply, KG_at H]; rfl

/-- What device `c` adds to element `(b, i, e)` of the result. -/
theorem att_at (c : Dev nD) (b : Fin 2) (i : Fin 128) (e : Fin 512) :
    att V c b (ix3 0 i e) = ∑ n : Fin 256, softOn (fun j => attends i.val j.val) (scoreAt x wq kv b i (colOf c n))
      (fun j => dqv (kv (ix4 1 b j (colOf c n)))) * wo (ix2 (colOf c n) e) := by
  have key : ∀ (hd : Fin 4 → FVec Ideal S128x64 .f32),
      (∀ (h : Fin 4) (d : Fin 64), hd h (ix2 i d) = softOn (fun j => attends i.val j.val) (scoreAt x wq kv b i (colOf c ⟨64 * h.val + d.val, by omega⟩))
        (fun j => dqv (kv (ix4 1 b j (colOf c ⟨64 * h.val + d.val, by omega⟩))))) →
      proj (F := Ideal) (V.wo c) (hd 0) (hd 1) (hd 2) (hd 3) (ix3 0 i e) = ∑ n : Fin 256, softOn (fun j => attends i.val j.val) (scoreAt x wq kv b i (colOf c n))
        (fun j => dqv (kv (ix4 1 b j (colOf c n)))) * wo (ix2 (colOf c n) e) := fun hd hh => by
    refine (proj_apply _ _ _ _).trans (Finset.sum_congr rfl fun n _ => ?_)
    rw [hh]
    have : (⟨64 * (n.val / 64) + n.val % 64, by omega⟩ : Fin 256) = n := Fin.ext (by dsimp only; omega)
    exact congr (congrArg HMul.hMul (by rw [this])) (H.wo c n e)
  unfold att
  split
  · next hb =>
    subst hb
    unfold att0
    refine key ![_, _, _, _] fun h d => ?_
    fin_cases h
    all_goals
      refine head_at H c 0 _ _ _ (fun r d => ?_) (fun r d => ?_) i d
      all_goals pointwise
  · next hb =>
    obtain rfl : b = 1 := by omega
    unfold att1
    refine key ![_, _, _, _] fun h d => ?_
    fin_cases h
    all_goals
      refine head_at H c 1 _ _ _ (fun r d => ?_) (fun r d => ?_) i d
      · pointwise
      · pointwise
        exact congrArg (fun r => qv V c (ix2 r _)) (Fin.ext (by dsimp only; omega))

end Cert.KernelIdeal.Pf
-- ==== Proof.KvC.lean ====
/-
The all-reduce adds the partial outputs of all 32 devices: what every device ends with is the reference's output.
-/
module

public import proofs.«01_k».proof.Proof.KvB

@[expose] public section

set_option maxRecDepth 16384
set_option maxHeartbeats 4000000

noncomputable section

namespace Cert.KernelIdeal.Pf

open Cert.Pf Cert.KernelIdeal Cert.KernelIdeal.Gen
open Cert.ReferenceIdeal.Pf (attends scoreAt)
open Idealize.ShloMosaic Idealize.ShloMosaic.TcCoe Idealize.SL.Sem

/-! ## Whose partial outputs a device has added up -/

/-- The devices whose partial output is in half `b` of device `c` after `n` rounds. -/
def part : ℕ → Dev nD → Fin 2 → Finset (Dev nD)
  | 0, c, _ => {c}
  | n + 1, c, b => part n c b ∪ part n (xp c (sl n b)) b

theorem part_disj : ∀ (n : Fin 5) (c : Dev nD) (b : Fin 2), Disjoint (part n.val c b) (part n.val (xp c (sl n.val b)) b) := by decide +kernel
theorem part_all : ∀ (c : Dev nD) (b : Fin 2), part 5 c b = Finset.univ := by decide +kernel

theorem add_at (a z : FVec Ideal S1x128x512 .f32) (i : Fin 128) (e : Fin 512) :
    k0_pay87 a (k0_pay85 z) (ix3 0 i e) = a (ix3 0 i e) + z (ix3 0 i e) := by
  pointwise [k0_pay87, k0_pay85]

theorem ov_part (V : Ins Ideal) (b : Fin 2) (i : Fin 128) (e : Fin 512) : ∀ (n : ℕ), n ≤ 5 → ∀ c : Dev nD,
    ov V n c b (ix3 0 i e) = ∑ d ∈ part n c b, att V d b (ix3 0 i e)
  | 0, _, c => by
    show att V c b (ix3 0 i e) = _
    rw [part, Finset.sum_singleton]
  | n + 1, h, c => by
    rw [ov, add_at, ov_part V b i e n (by omega), ov_part V b i e n (by omega), part]
    exact (Finset.sum_union (part_disj ⟨n, by omega⟩ c b)).symm

theorem ov_all (V : Ins Ideal) (c : Dev nD) (b : Fin 2) (i : Fin 128) (e : Fin 512) :
    ov V 5 c b (ix3 0 i e) = ∑ d : Dev nD, att V d b (ix3 0 i e) := by
  rw [ov_part V b i e 5 le_rfl, part_all]

theorem outIdx_ix3 (b : Fin 2) (i : Fin 128) (e : Fin 512) : outIdx (ix3 b i e) = ix3 0 i e := by
  funext a; fin_cases a <;> rfl

/-! ## The columns of the devices are all the columns -/

theorem sum_cols (f : Fin 8192 → EReal) : ∑ c : Dev nD, ∑ n : Fin 256, f (colOf c n) = ∑ k, f k := by
  rw [← Fintype.sum_prod_type' (f := fun (c : Dev nD) (n : Fin 256) => f (colOf c n))]
  refine Fintype.sum_equiv (finProdFinEquiv (m := 32) (n := 256)) _ _ fun p => congrArg f (Fin.ext ?_)
  show 256 * p.1.val + p.2.val = p.2.val + 256 * p.1.val
  omega

variable {x : FVec Ideal S2x128x512 .bf16} {wq : FVec Ideal ⟨2, ![512, 8192]⟩ .bf16} {kv : IVec ⟨4, ![2, 2, 4096, 8192]⟩ 8}
  {wo : FVec Ideal ⟨2, ![8192, 512]⟩ .bf16} {V : Ins Ideal} (H : Holds x wq kv wo V)
include H

/-- Every device ends with the reference's output. -/
theorem OUT_eq (c : Dev nD) : OUT V c 10 = Cert.ReferenceIdeal.Pf.out x wq kv wo := by
  funext y
  obtain ⟨b, i, e, rfl⟩ : ∃ (b : Fin 2) (i : Fin 128) (e : Fin 512), y = ix3 b i e := ⟨y 0, y 1, y 2, eq_ix3 y⟩
  refine Eq.trans ?_ (Cert.ReferenceIdeal.Pf.out_apply x wq kv wo b i e).symm
  show ov V ((10 + 1 - b.val) / 2) c b (outIdx (ix3 b i e)) = _
  rw [outIdx_ix3, show (10 + 1 - b.val) / 2 = 5 by omega, ov_all]
  refine (Finset.sum_congr rfl fun d _ => att_at H d b i e).trans ?_
  exact sum_cols (fun k => softOn (fun j => attends i.val j.val) (scoreAt x wq kv b i k) (fun j => dqv (kv (ix4 1 b j k))) * wo (ix2 k e))

end Cert.KernelIdeal.Pf
-- ==== Proof.KvD.lean ====
/-
The kernel on 32 devices and the reference on one end with the same output.
-/
module

public import proofs.«01_k».proof.Defs
public import proofs.«01_k».proof.Proof.KvC
public import proofs.«01_k».proof.Proof.KiRun
public import proofs.«01_k».proof.Proof.Gen.ReferenceIdeal
public import proofs.«01_k».proof.Proof.Gen.ReferenceIdeal.Run
public import Idealize.ShloMosaic.Lib.Pipeline.Value

@[expose] public section

set_option maxRecDepth 16384
set_option maxHeartbeats 4000000

noncomputable section

namespace Cert.KernelIdeal.Pf

open Cert.Pf Cert.KernelIdeal Cert.KernelIdeal.Gen
open Idealize.ShloMosaic Idealize.ShloMosaic.TcCoe Idealize.ShloMosaic.Pipeline Idealize.SL.Sem

/-! ## The one block of every operand is the whole array -/

section Whole
variable {F : FTy → Type} [FloatOps F]

theorem read0 (f : FVec F S2x128x512 .bf16) : (win0_0.blk (0 : Fin 1)).view.read (Elt F) f = f := by
  funext y; rw [View.read_apply]
  exact congrArg f (funext fun a => Fin.ext (win0_0.rect_emb_val_of_index_zero (0 : Fin 1) a rfl y))
theorem read1 (f : FVec F S512x256 .bf16) : (win0_1.blk (0 : Fin 1)).view.read (Elt F) f = f := by
  funext y; rw [View.read_apply]
  exact congrArg f (funext fun a => Fin.ext (win0_1.rect_emb_val_of_index_zero (0 : Fin 1) a rfl y))
theorem read2 (f : IVec S2x2x128x8192 8) : (win0_2.blk (0 : Fin 1)).view.read (Elt F) f = f := by
  funext y; rw [View.read_apply]
  exact congrArg f (funext fun a => Fin.ext (win0_2.rect_emb_val_of_index_zero (0 : Fin 1) a rfl y))
theorem read3 (f : FVec F S256x512 .bf16) : (win0_3.blk (0 : Fin 1)).view.read (Elt F) f = f := by
  funext y; rw [View.read_apply]
  exact congrArg f (funext fun a => Fin.ext (win0_3.rect_emb_val_of_index_zero (0 : Fin 1) a rfl y))
theorem emb4 (y : S2x128x512.Idx) : (win0_4.blk (0 : Fin 1)).view.emb y = y :=
  funext fun a => Fin.ext (win0_4.rect_emb_val_of_index_zero (0 : Fin 1) a rfl y)
theorem read4 (f : FVec F S2x128x512 .f32) : (win0_4.blk (0 : Fin 1)).view.read (Elt F) f = f := by
  funext y; rw [View.read_apply]
  exact congrArg f (emb4 y)

/-- What the output array holds after the run. -/
theorem final4 (m : (ℓ : Loc nD τ sig) → Buf (Elt F) ℓ) (ρ : Dev nD → PrngReg) (c : Dev nD) :
    finalA m ρ c (4 : Fin 5) = OUT (ins m) c 10 := by
  refine (dats (F := F) m ρ 0 c).arrAt_eq_of_cover (4 : Fin 5) (OUT (ins m) c 10) (fun t _ => ?_) (fun i => ⟨t₀, flush0_4 t₀, ?_⟩)
  · rw [fin_N t]
    exact (read4 (F := F) (OUT (ins m) c 10)).symm
  · exact (emb4 i) ▸ ((win0_4.blk (0 : Fin 1)).view.emb_mem_set i)
end Whole

/-! ## The claim -/

theorem holds (m : (ℓ : Loc nD τ sig) → Buf (Elt Ideal) ℓ) {x : FVec Ideal S2x128x512 .bf16} {wq : FVec Ideal ⟨2, ![512, 8192]⟩ .bf16}
    {kv : IVec ⟨4, ![2, 2, 4096, 8192]⟩ 8} {wo : FVec Ideal ⟨2, ![8192, 512]⟩ .bf16}
    (h : ∀ c : Dev nD, m ((c.tc : Thread nD τ).loc main_arg0) = x
      ∧ m ((c.tc : Thread nD τ).loc main_arg1) = Layout.block ⟨2, ![512, 256]⟩ ⟨2, ![512, 8192]⟩ 1 32 c wq
      ∧ m ((c.tc : Thread nD τ).loc main_arg2) = Layout.block ⟨4, ![2, 2, 128, 8192]⟩ ⟨4, ![2, 2, 4096, 8192]⟩ 2 32 c kv
      ∧ m ((c.tc : Thread nD τ).loc main_arg3) = Layout.block ⟨2, ![256, 512]⟩ ⟨2, ![8192, 512]⟩ 0 32 c wo) :
    Holds x wq kv wo (ins m) where
  x c := (read0 (F := Ideal) _).trans (h c).1
  wq c k n := by
    refine (congrFun ((read1 (F := Ideal) _).trans (h c).2.1) (ix2 k n)).trans (congrArg wq (funext fun a => Fin.ext ?_))
    fin_cases a
    · rfl
    · show c.val * 256 + n.val = 256 * c.val + n.val; omega
  kv c t b r n := by
    refine (congrFun ((read2 (F := Ideal) _).trans (h c).2.2.1) (ix4 t b r n)).trans (congrArg kv (funext fun a => Fin.ext ?_))
    fin_cases a
    · rfl
    · rfl
    · show c.val * 128 + r.val = 128 * c.val + r.val; omega
    · rfl
  wo c n e := by
    refine (congrFun ((read3 (F := Ideal) _).trans (h c).2.2.2) (ix2 n e)).trans (congrArg wo (funext fun a => Fin.ext ?_))
    fin_cases a
    · show c.val * 256 + n.val = 256 * c.val + n.val; omega
    · rfl

/-- Every device's output is the reference's. -/
theorem algebraic [Cert.ReferenceIdeal.Facts] : Cert.algebraic_KernelIdeal_ReferenceIdeal := fun m g m' g' _ h =>
  ⟨Cert.ReferenceIdeal.Value.res_main_v59 m' 0,
    (θ_run defs (onTc (τ := τ) (main (F := Ideal))) (s₀ m g)).mono (fun r hr c =>
      ⟨(((hr.1 c 4).trans (final4 m g c)).trans (OUT_eq (holds m h) c)).trans (Cert.ReferenceIdeal.Pf.res_eq m' 0).symm,
        (hr.1 c 0).trans (final0 m g c), (hr.1 c 1).trans (final1 m g c), (hr.1 c 2).trans (final2 m g c), (hr.1 c 3).trans (final3 m g c)⟩) (run_main m g),
    (θ_run Cert.ReferenceIdeal.defs _ _).mono (fun _ hr => hr 0) (Cert.ReferenceIdeal.Value.run (F := Ideal) m' g')⟩

end Cert.KernelIdeal.Pf
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KiRun
public import proofs.«01_k».proof.Proof.KvD
public import Idealize.ShloMosaic.Adequacy
public import Idealize.ShloMosaic.Init

@[expose] public section

noncomputable section

namespace Cert.Proof

open Idealize.ShloMosaic Idealize.SL.Sem Cert.Kernel

/-- The reference runs, leaves its arguments as they were, and every counter at zero. -/
theorem reference_frame [Cert.ReferenceIdeal.Facts] : Cert.quiescent_ReferenceIdeal := fun m g _ =>
  (θ_run Cert.ReferenceIdeal.defs _ _).mono (fun _ h => ⟨fun c => (h c).2, sem_eq_zero_of_no_sems rfl _⟩) (Cert.ReferenceIdeal.Value.run (F := Ideal) m g)

/-- Every claim of this certificate. -/
theorem claim : Cert.Claim := ⟨Cert.Kernel.Gen.facts, Cert.KernelIdeal.Gen.facts, Cert.ReferenceIdeal.Gen.facts,
  fun m g _ => Cert.Kernel.Pf.quiet (F := Bits) m g,
  fun m g _ => Cert.KernelIdeal.Pf.quiet (F := Ideal) m g,
  reference_frame, trivial, Cert.KernelIdeal.Pf.algebraic⟩

end Cert.Proof

end
